-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Gateup [hPre_tables : Cert.Pre_tables.Facts] (m : (ℓ : Loc Cert.Gateup.nD Cert.Gateup.τ Cert.Gateup.sig) → Buf (Elt Bits) ℓ) : Prop :=
  ∀ c : Dev Cert.Gateup.nD,
    (Cert.Pre_tables.fn (F := Bits) (m ((c.tc : Thread Cert.Gateup.nD Cert.Gateup.τ).loc Cert.Gateup.main_arg0)) (m ((c.tc : Thread Cert.Gateup.nD Cert.Gateup.τ).loc Cert.Gateup.main_arg1)) (m ((c.tc : Thread Cert.Gateup.nD Cert.Gateup.τ).loc Cert.Gateup.main_arg2)) (m ((c.tc : Thread Cert.Gateup.nD Cert.Gateup.τ).loc Cert.Gateup.main_arg3)) (m ((c.tc : Thread Cert.Gateup.nD Cert.Gateup.τ).loc Cert.Gateup.main_arg4))) = (fun _ => 1#1)

def Pre_GateupIdeal [hPre_tables : Cert.Pre_tables.Facts] (m : (ℓ : Loc Cert.GateupIdeal.nD Cert.GateupIdeal.τ Cert.GateupIdeal.sig) → Buf (Elt Ideal) ℓ) : Prop :=
  ∀ c : Dev Cert.GateupIdeal.nD,
    (Cert.Pre_tables.fn (F := Ideal) (m ((c.tc : Thread Cert.GateupIdeal.nD Cert.GateupIdeal.τ).loc Cert.GateupIdeal.main_arg0)) (m ((c.tc : Thread Cert.GateupIdeal.nD Cert.GateupIdeal.τ).loc Cert.GateupIdeal.main_arg1)) (m ((c.tc : Thread Cert.GateupIdeal.nD Cert.GateupIdeal.τ).loc Cert.GateupIdeal.main_arg2)) (m ((c.tc : Thread Cert.GateupIdeal.nD Cert.GateupIdeal.τ).loc Cert.GateupIdeal.main_arg3)) (m ((c.tc : Thread Cert.GateupIdeal.nD Cert.GateupIdeal.τ).loc Cert.GateupIdeal.main_arg4))) = (fun _ => 1#1)

def Pre_GateupRefIdeal (m : (ℓ : Loc Cert.GateupRefIdeal.nD Cert.GateupRefIdeal.τ Cert.GateupRefIdeal.sig) → Buf (Elt Ideal) ℓ) : Prop :=
  True

def Pre_GateupRefIdeal_tables [hPre_tables : Cert.Pre_tables.Facts] (m : (ℓ : Loc Cert.GateupRefIdeal.nD Cert.GateupRefIdeal.τ Cert.GateupRefIdeal.sig) → Buf (Elt Ideal) ℓ) : Prop :=
  ∀ c : Dev Cert.GateupRefIdeal.nD,
    (Cert.Pre_tables.fn (F := Ideal) (m ((c.tc : Thread Cert.GateupRefIdeal.nD Cert.GateupRefIdeal.τ).loc Cert.GateupRefIdeal.main_arg0)) (m ((c.tc : Thread Cert.GateupRefIdeal.nD Cert.GateupRefIdeal.τ).loc Cert.GateupRefIdeal.main_arg1)) (m ((c.tc : Thread Cert.GateupRefIdeal.nD Cert.GateupRefIdeal.τ).loc Cert.GateupRefIdeal.main_arg2)) (m ((c.tc : Thread Cert.GateupRefIdeal.nD Cert.GateupRefIdeal.τ).loc Cert.GateupRefIdeal.main_arg3)) (m ((c.tc : Thread Cert.GateupRefIdeal.nD Cert.GateupRefIdeal.τ).loc Cert.GateupRefIdeal.main_arg4))) = (fun _ => 1#1)

def Pre_Down [hPre_tables_down : Cert.Pre_tables_down.Facts] (m : (ℓ : Loc Cert.Down.nD Cert.Down.τ Cert.Down.sig) → Buf (Elt Bits) ℓ) : Prop :=
  ∀ c : Dev Cert.Down.nD,
    (Cert.Pre_tables_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_tables_down : Cert.Pre_tables_down.Facts] (m : (ℓ : Loc Cert.DownIdeal.nD Cert.DownIdeal.τ Cert.DownIdeal.sig) → Buf (Elt Ideal) ℓ) : Prop :=
  ∀ c : Dev Cert.DownIdeal.nD,
    (Cert.Pre_tables_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_tables_down [hPre_tables_down : Cert.Pre_tables_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_tables_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_DenseDown (m : (ℓ : Loc Cert.DenseDown.nD Cert.DenseDown.τ Cert.DenseDown.sig) → Buf (Elt Bits) ℓ) : Prop :=
  True

def Pre_DenseDownIdeal (m : (ℓ : Loc Cert.DenseDownIdeal.nD Cert.DenseDownIdeal.τ Cert.DenseDownIdeal.sig) → Buf (Elt Ideal) ℓ) : Prop :=
  True

def Pre_DenseDownRefIdeal (m : (ℓ : Loc Cert.DenseDownRefIdeal.nD Cert.DenseDownRefIdeal.τ Cert.DenseDownRefIdeal.sig) → Buf (Elt Ideal) ℓ) : Prop :=
  True

def Pre_ProjectAB (m : (ℓ : Loc Cert.ProjectAB.nD Cert.ProjectAB.τ Cert.ProjectAB.sig) → Buf (Elt Bits) ℓ) : Prop :=
  True

def Pre_ProjectABIdeal (m : (ℓ : Loc Cert.ProjectABIdeal.nD Cert.ProjectABIdeal.τ Cert.ProjectABIdeal.sig) → Buf (Elt Ideal) ℓ) : Prop :=
  True

def Pre_ProjectABRefIdeal (m : (ℓ : Loc Cert.ProjectABRefIdeal.nD Cert.ProjectABRefIdeal.τ Cert.ProjectABRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesRefIdeal (m : (ℓ : Loc Cert.QueriesRefIdeal.nD Cert.QueriesRefIdeal.τ Cert.QueriesRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesRefIdeal (m : (ℓ : Loc Cert.ValuesRefIdeal.nD Cert.ValuesRefIdeal.τ Cert.ValuesRefIdeal.sig) → Buf (Elt Ideal) ℓ) : Prop :=
  True

def Pre_KeysNew (m : (ℓ : Loc Cert.KeysNew.nD Cert.KeysNew.τ Cert.KeysNew.sig) → Buf (Elt Bits) ℓ) : Prop :=
  True

def Pre_KeysNewIdeal (m : (ℓ : Loc Cert.KeysNewIdeal.nD Cert.KeysNewIdeal.τ Cert.KeysNewIdeal.sig) → Buf (Elt Ideal) ℓ) : Prop :=
  True

def Pre_KeysNewRefIdeal (m : (ℓ : Loc Cert.KeysNewRefIdeal.nD Cert.KeysNewRefIdeal.τ Cert.KeysNewRefIdeal.sig) → Buf (Elt Ideal) ℓ) : Prop :=
  True

def Pre_ValuesNew (m : (ℓ : Loc Cert.ValuesNew.nD Cert.ValuesNew.τ Cert.ValuesNew.sig) → Buf (Elt Bits) ℓ) : Prop :=
  True

def Pre_ValuesNewIdeal (m : (ℓ : Loc Cert.ValuesNewIdeal.nD Cert.ValuesNewIdeal.τ Cert.ValuesNewIdeal.sig) → Buf (Elt Ideal) ℓ) : Prop :=
  True

def Pre_ValuesNewRefIdeal (m : (ℓ : Loc Cert.ValuesNewRefIdeal.nD Cert.ValuesNewRefIdeal.τ Cert.ValuesNewRefIdeal.sig) → Buf (Elt Ideal) ℓ) : Prop :=
  True

def Pre_Logf (m : (ℓ : Loc Cert.Logf.nD Cert.Logf.τ Cert.Logf.sig) → Buf (Elt Bits) ℓ) : Prop :=
  True

def Pre_LogfIdeal (m : (ℓ : Loc Cert.LogfIdeal.nD Cert.LogfIdeal.τ Cert.LogfIdeal.sig) → Buf (Elt Ideal) ℓ) : Prop :=
  True

def Pre_LogfRefIdeal (m : (ℓ : Loc Cert.LogfRefIdeal.nD Cert.LogfRefIdeal.τ Cert.LogfRefIdeal.sig) → Buf (Elt Ideal) ℓ) : Prop :=
  True

def Pre_YPrompt (m : (ℓ : Loc Cert.YPrompt.nD Cert.YPrompt.τ Cert.YPrompt.sig) → Buf (Elt Bits) ℓ) : Prop :=
  True

def Pre_YPromptIdeal (m : (ℓ : Loc Cert.YPromptIdeal.nD Cert.YPromptIdeal.τ Cert.YPromptIdeal.sig) → Buf (Elt Ideal) ℓ) : Prop :=
  True

def Pre_YPromptRefIdeal (m : (ℓ : Loc Cert.YPromptRefIdeal.nD Cert.YPromptRefIdeal.τ Cert.YPromptRefIdeal.sig) → Buf (Elt Ideal) ℓ) : Prop :=
  True

def Pre_YSample (m : (ℓ : Loc Cert.YSample.nD Cert.YSample.τ Cert.YSample.sig) → Buf (Elt Bits) ℓ) : Prop :=
  True

def Pre_YSampleIdeal (m : (ℓ : Loc Cert.YSampleIdeal.nD Cert.YSampleIdeal.τ Cert.YSampleIdeal.sig) → Buf (Elt Ideal) ℓ) : Prop :=
  True

def Pre_YSampleRefIdeal (m : (ℓ : Loc Cert.YSampleRefIdeal.nD Cert.YSampleRefIdeal.τ Cert.YSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gateup [hGateup : Cert.Gateup.Facts] [hPre_tables : Cert.Pre_tables.Facts] : Prop :=
  ∀ (m : (ℓ : Loc Cert.Gateup.nD Cert.Gateup.τ Cert.Gateup.sig) → Buf (Elt Bits) ℓ) (g : Dev Cert.Gateup.nD → PrngReg), Pre_Gateup m →
    θ_run (Cert.Gateup.defs (F := Bits)) (onTc (τ := Cert.Gateup.τ) (Cert.Gateup.main (F := Bits))) ⟨m, fun _ => 0, g⟩ (fun r => (∀ c : Dev Cert.Gateup.nD,
      r.2.mem ((c.tc : Thread Cert.Gateup.nD Cert.Gateup.τ).loc Cert.Gateup.main_arg0) = m ((c.tc : Thread Cert.Gateup.nD Cert.Gateup.τ).loc Cert.Gateup.main_arg0)
      ∧ r.2.mem ((c.tc : Thread Cert.Gateup.nD Cert.Gateup.τ).loc Cert.Gateup.main_arg1) = m ((c.tc : Thread Cert.Gateup.nD Cert.Gateup.τ).loc Cert.Gateup.main_arg1)
      ∧ r.2.mem ((c.tc : Thread Cert.Gateup.nD Cert.Gateup.τ).loc Cert.Gateup.main_arg2) = m ((c.tc : Thread Cert.Gateup.nD Cert.Gateup.τ).loc Cert.Gateup.main_arg2)
      ∧ r.2.mem ((c.tc : Thread Cert.Gateup.nD Cert.Gateup.τ).loc Cert.Gateup.main_arg3) = m ((c.tc : Thread Cert.Gateup.nD Cert.Gateup.τ).loc Cert.Gateup.main_arg3)
      ∧ r.2.mem ((c.tc : Thread Cert.Gateup.nD Cert.Gateup.τ).loc Cert.Gateup.main_arg4) = m ((c.tc : Thread Cert.Gateup.nD Cert.Gateup.τ).loc Cert.Gateup.main_arg4))
      ∧ r.2.sem = fun _ => 0)

def quiescent_GateupIdeal [hGateupIdeal : Cert.GateupIdeal.Facts] [hPre_tables : Cert.Pre_tables.Facts] : Prop :=
  ∀ (m : (ℓ : Loc Cert.GateupIdeal.nD Cert.GateupIdeal.τ Cert.GateupIdeal.sig) → Buf (Elt Ideal) ℓ) (g : Dev Cert.GateupIdeal.nD → PrngReg), Pre_GateupIdeal m →
    θ_run (Cert.GateupIdeal.defs (F := Ideal)) (onTc (τ := Cert.GateupIdeal.τ) (Cert.GateupIdeal.main (F := Ideal))) ⟨m, fun _ => 0, g⟩ (fun r => (∀ c : Dev Cert.GateupIdeal.nD,
      r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
      ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
      ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
      ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3)
      ∧ r.2.mem ((c.tc : Thread Cert.GateupIdeal.nD Cert.GateupIdeal.τ).loc Cert.GateupIdeal.main_arg4) = m ((c.tc : Thread Cert.GateupIdeal.nD Cert.GateupIdeal.τ).loc Cert.GateupIdeal.main_arg4))
      ∧ r.2.sem = fun _ => 0)

def quiescent_GateupRefIdeal [hGateupRefIdeal : Cert.GateupRefIdeal.Facts] : Prop :=
  ∀ (m : (ℓ : Loc Cert.GateupRefIdeal.nD Cert.GateupRefIdeal.τ Cert.GateupRefIdeal.sig) → Buf (Elt Ideal) ℓ) (g : Dev Cert.GateupRefIdeal.nD → PrngReg), Pre_GateupRefIdeal m →
    θ_run (Cert.GateupRefIdeal.defs (F := Ideal)) (onTc (τ := Cert.GateupRefIdeal.τ) (Cert.GateupRefIdeal.main (F := Ideal))) ⟨m, fun _ => 0, g⟩ (fun r => (∀ c : Dev Cert.GateupRefIdeal.nD,
      r.2.mem ((c.tc : Thread Cert.GateupRefIdeal.nD Cert.GateupRefIdeal.τ).loc Cert.GateupRefIdeal.main_arg0) = m ((c.tc : Thread Cert.GateupRefIdeal.nD Cert.GateupRefIdeal.τ).loc Cert.GateupRefIdeal.main_arg0)
      ∧ r.2.mem ((c.tc : Thread Cert.GateupRefIdeal.nD Cert.GateupRefIdeal.τ).loc Cert.GateupRefIdeal.main_arg1) = m ((c.tc : Thread Cert.GateupRefIdeal.nD Cert.GateupRefIdeal.τ).loc Cert.GateupRefIdeal.main_arg1)
      ∧ r.2.mem ((c.tc : Thread Cert.GateupRefIdeal.nD Cert.GateupRefIdeal.τ).loc Cert.GateupRefIdeal.main_arg2) = m ((c.tc : Thread Cert.GateupRefIdeal.nD Cert.GateupRefIdeal.τ).loc Cert.GateupRefIdeal.main_arg2)
      ∧ r.2.mem ((c.tc : Thread Cert.GateupRefIdeal.nD Cert.GateupRefIdeal.τ).loc Cert.GateupRefIdeal.main_arg3) = m ((c.tc : Thread Cert.GateupRefIdeal.nD Cert.GateupRefIdeal.τ).loc Cert.GateupRefIdeal.main_arg3)
      ∧ r.2.mem ((c.tc : Thread Cert.GateupRefIdeal.nD Cert.GateupRefIdeal.τ).loc Cert.GateupRefIdeal.main_arg4) = m ((c.tc : Thread Cert.GateupRefIdeal.nD Cert.GateupRefIdeal.τ).loc Cert.GateupRefIdeal.main_arg4))
      ∧ r.2.sem = fun _ => 0)

def quiescent_GateupRefIdeal_pre_tables [hGateupRefIdeal : Cert.GateupRefIdeal.Facts] [hPre_tables : Cert.Pre_tables.Facts] : Prop :=
  ∀ (m : (ℓ : Loc Cert.GateupRefIdeal.nD Cert.GateupRefIdeal.τ Cert.GateupRefIdeal.sig) → Buf (Elt Ideal) ℓ) (g : Dev Cert.GateupRefIdeal.nD → PrngReg), Pre_GateupRefIdeal_tables m →
    θ_run (Cert.GateupRefIdeal.defs (F := Ideal)) (onTc (τ := Cert.GateupRefIdeal.τ) (Cert.GateupRefIdeal.main (F := Ideal))) ⟨m, fun _ => 0, g⟩ (fun r => (∀ c : Dev Cert.GateupRefIdeal.nD,
      r.2.mem ((c.tc : Thread Cert.GateupRefIdeal.nD Cert.GateupRefIdeal.τ).loc Cert.GateupRefIdeal.main_arg0) = m ((c.tc : Thread Cert.GateupRefIdeal.nD Cert.GateupRefIdeal.τ).loc Cert.GateupRefIdeal.main_arg0)
      ∧ r.2.mem ((c.tc : Thread Cert.GateupRefIdeal.nD Cert.GateupRefIdeal.τ).loc Cert.GateupRefIdeal.main_arg1) = m ((c.tc : Thread Cert.GateupRefIdeal.nD Cert.GateupRefIdeal.τ).loc Cert.GateupRefIdeal.main_arg1)
      ∧ r.2.mem ((c.tc : Thread Cert.GateupRefIdeal.nD Cert.GateupRefIdeal.τ).loc Cert.GateupRefIdeal.main_arg2) = m ((c.tc : Thread Cert.GateupRefIdeal.nD Cert.GateupRefIdeal.τ).loc Cert.GateupRefIdeal.main_arg2)
      ∧ r.2.mem ((c.tc : Thread Cert.GateupRefIdeal.nD Cert.GateupRefIdeal.τ).loc Cert.GateupRefIdeal.main_arg3) = m ((c.tc : Thread Cert.GateupRefIdeal.nD Cert.GateupRefIdeal.τ).loc Cert.GateupRefIdeal.main_arg3)
      ∧ r.2.mem ((c.tc : Thread Cert.GateupRefIdeal.nD Cert.GateupRefIdeal.τ).loc Cert.GateupRefIdeal.main_arg4) = m ((c.tc : Thread Cert.GateupRefIdeal.nD Cert.GateupRefIdeal.τ).loc Cert.GateupRefIdeal.main_arg4))
      ∧ r.2.sem = fun _ => 0)

def quiescent_Down [hDown : Cert.Down.Facts] [hPre_tables_down : Cert.Pre_tables_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_tables_down : Cert.Pre_tables_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_tables_down [hDownRefIdeal : Cert.DownRefIdeal.Facts] [hPre_tables_down : Cert.Pre_tables_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_tables_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2))
      ∧ r.2.sem = fun _ => 0)

def quiescent_DenseDown [hDenseDown : Cert.DenseDown.Facts] : Prop :=
  ∀ (m : (ℓ : Loc Cert.DenseDown.nD Cert.DenseDown.τ Cert.DenseDown.sig) → Buf (Elt Bits) ℓ) (g : Dev Cert.DenseDown.nD → PrngReg), Pre_DenseDown m →
    θ_run (Cert.DenseDown.defs (F := Bits)) (onTc (τ := Cert.DenseDown.τ) (Cert.DenseDown.main (F := Bits))) ⟨m, fun _ => 0, g⟩ (fun r => (∀ c : Dev Cert.DenseDown.nD,
      r.2.mem ((c.tc : Thread Cert.DenseDown.nD Cert.DenseDown.τ).loc Cert.DenseDown.main_arg0) = m ((c.tc : Thread Cert.DenseDown.nD Cert.DenseDown.τ).loc Cert.DenseDown.main_arg0)
      ∧ r.2.mem ((c.tc : Thread Cert.DenseDown.nD Cert.DenseDown.τ).loc Cert.DenseDown.main_arg1) = m ((c.tc : Thread Cert.DenseDown.nD Cert.DenseDown.τ).loc Cert.DenseDown.main_arg1)
      ∧ r.2.mem ((c.tc : Thread Cert.DenseDown.nD Cert.DenseDown.τ).loc Cert.DenseDown.main_arg2) = m ((c.tc : Thread Cert.DenseDown.nD Cert.DenseDown.τ).loc Cert.DenseDown.main_arg2)
      ∧ r.2.mem ((c.tc : Thread Cert.DenseDown.nD Cert.DenseDown.τ).loc Cert.DenseDown.main_arg3) = m ((c.tc : Thread Cert.DenseDown.nD Cert.DenseDown.τ).loc Cert.DenseDown.main_arg3))
      ∧ r.2.sem = fun _ => 0)

def quiescent_DenseDownIdeal [hDenseDownIdeal : Cert.DenseDownIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg), Pre_DenseDownIdeal m →
    θ_run (Cert.DenseDownIdeal.defs (F := Ideal)) (onTc (τ := Cert.DenseDownIdeal.τ) (Cert.DenseDownIdeal.main (F := Ideal))) ⟨m, fun _ => 0, g⟩ (fun r => (∀ c : Dev Cert.DenseDownIdeal.nD,
      r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
      ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
      ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
      ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3))
      ∧ r.2.sem = fun _ => 0)

def quiescent_DenseDownRefIdeal [hDenseDownRefIdeal : Cert.DenseDownRefIdeal.Facts] : Prop :=
  ∀ (m : (ℓ : Loc Cert.DenseDownRefIdeal.nD Cert.DenseDownRefIdeal.τ Cert.DenseDownRefIdeal.sig) → Buf (Elt Ideal) ℓ) (g : Dev Cert.DenseDownRefIdeal.nD → PrngReg), Pre_DenseDownRefIdeal m →
    θ_run (Cert.DenseDownRefIdeal.defs (F := Ideal)) (onTc (τ := Cert.DenseDownRefIdeal.τ) (Cert.DenseDownRefIdeal.main (F := Ideal))) ⟨m, fun _ => 0, g⟩ (fun r => (∀ c : Dev Cert.DenseDownRefIdeal.nD,
      r.2.mem ((c.tc : Thread Cert.DenseDownRefIdeal.nD Cert.DenseDownRefIdeal.τ).loc Cert.DenseDownRefIdeal.main_arg0) = m ((c.tc : Thread Cert.DenseDownRefIdeal.nD Cert.DenseDownRefIdeal.τ).loc Cert.DenseDownRefIdeal.main_arg0)
      ∧ r.2.mem ((c.tc : Thread Cert.DenseDownRefIdeal.nD Cert.DenseDownRefIdeal.τ).loc Cert.DenseDownRefIdeal.main_arg1) = m ((c.tc : Thread Cert.DenseDownRefIdeal.nD Cert.DenseDownRefIdeal.τ).loc Cert.DenseDownRefIdeal.main_arg1)
      ∧ r.2.mem ((c.tc : Thread Cert.DenseDownRefIdeal.nD Cert.DenseDownRefIdeal.τ).loc Cert.DenseDownRefIdeal.main_arg2) = m ((c.tc : Thread Cert.DenseDownRefIdeal.nD Cert.DenseDownRefIdeal.τ).loc Cert.DenseDownRefIdeal.main_arg2)
      ∧ r.2.mem ((c.tc : Thread Cert.DenseDownRefIdeal.nD Cert.DenseDownRefIdeal.τ).loc Cert.DenseDownRefIdeal.main_arg3) = m ((c.tc : Thread Cert.DenseDownRefIdeal.nD Cert.DenseDownRefIdeal.τ).loc Cert.DenseDownRefIdeal.main_arg3))
      ∧ r.2.sem = fun _ => 0)

def quiescent_ProjectAB [hProjectAB : Cert.ProjectAB.Facts] : Prop :=
  ∀ (m : (ℓ : Loc Cert.ProjectAB.nD Cert.ProjectAB.τ Cert.ProjectAB.sig) → Buf (Elt Bits) ℓ) (g : Dev Cert.ProjectAB.nD → PrngReg), Pre_ProjectAB m →
    θ_run (Cert.ProjectAB.defs (F := Bits)) (onTc (τ := Cert.ProjectAB.τ) (Cert.ProjectAB.main (F := Bits))) ⟨m, fun _ => 0, g⟩ (fun r => (∀ c : Dev Cert.ProjectAB.nD,
      r.2.mem ((c.tc : Thread Cert.ProjectAB.nD Cert.ProjectAB.τ).loc Cert.ProjectAB.main_arg0) = m ((c.tc : Thread Cert.ProjectAB.nD Cert.ProjectAB.τ).loc Cert.ProjectAB.main_arg0)
      ∧ r.2.mem ((c.tc : Thread Cert.ProjectAB.nD Cert.ProjectAB.τ).loc Cert.ProjectAB.main_arg1) = m ((c.tc : Thread Cert.ProjectAB.nD Cert.ProjectAB.τ).loc Cert.ProjectAB.main_arg1)
      ∧ r.2.mem ((c.tc : Thread Cert.ProjectAB.nD Cert.ProjectAB.τ).loc Cert.ProjectAB.main_arg2) = m ((c.tc : Thread Cert.ProjectAB.nD Cert.ProjectAB.τ).loc Cert.ProjectAB.main_arg2)
      ∧ r.2.mem ((c.tc : Thread Cert.ProjectAB.nD Cert.ProjectAB.τ).loc Cert.ProjectAB.main_arg3) = m ((c.tc : Thread Cert.ProjectAB.nD Cert.ProjectAB.τ).loc Cert.ProjectAB.main_arg3)
      ∧ r.2.mem ((c.tc : Thread Cert.ProjectAB.nD Cert.ProjectAB.τ).loc Cert.ProjectAB.main_arg4) = m ((c.tc : Thread Cert.ProjectAB.nD Cert.ProjectAB.τ).loc Cert.ProjectAB.main_arg4)
      ∧ r.2.mem ((c.tc : Thread Cert.ProjectAB.nD Cert.ProjectAB.τ).loc Cert.ProjectAB.main_arg5) = m ((c.tc : Thread Cert.ProjectAB.nD Cert.ProjectAB.τ).loc Cert.ProjectAB.main_arg5))
      ∧ r.2.sem = fun _ => 0)

def quiescent_ProjectABIdeal [hProjectABIdeal : Cert.ProjectABIdeal.Facts] : Prop :=
  ∀ (m : (ℓ : Loc Cert.ProjectABIdeal.nD Cert.ProjectABIdeal.τ Cert.ProjectABIdeal.sig) → Buf (Elt Ideal) ℓ) (g : Dev Cert.ProjectABIdeal.nD → PrngReg), Pre_ProjectABIdeal m →
    θ_run (Cert.ProjectABIdeal.defs (F := Ideal)) (onTc (τ := Cert.ProjectABIdeal.τ) (Cert.ProjectABIdeal.main (F := Ideal))) ⟨m, fun _ => 0, g⟩ (fun r => (∀ c : Dev Cert.ProjectABIdeal.nD,
      r.2.mem ((c.tc : Thread Cert.ProjectABIdeal.nD Cert.ProjectABIdeal.τ).loc Cert.ProjectABIdeal.main_arg0) = m ((c.tc : Thread Cert.ProjectABIdeal.nD Cert.ProjectABIdeal.τ).loc Cert.ProjectABIdeal.main_arg0)
      ∧ r.2.mem ((c.tc : Thread Cert.ProjectABIdeal.nD Cert.ProjectABIdeal.τ).loc Cert.ProjectABIdeal.main_arg1) = m ((c.tc : Thread Cert.ProjectABIdeal.nD Cert.ProjectABIdeal.τ).loc Cert.ProjectABIdeal.main_arg1)
      ∧ r.2.mem ((c.tc : Thread Cert.ProjectABIdeal.nD Cert.ProjectABIdeal.τ).loc Cert.ProjectABIdeal.main_arg2) = m ((c.tc : Thread Cert.ProjectABIdeal.nD Cert.ProjectABIdeal.τ).loc Cert.ProjectABIdeal.main_arg2)
      ∧ r.2.mem ((c.tc : Thread Cert.ProjectABIdeal.nD Cert.ProjectABIdeal.τ).loc Cert.ProjectABIdeal.main_arg3) = m ((c.tc : Thread Cert.ProjectABIdeal.nD Cert.ProjectABIdeal.τ).loc Cert.ProjectABIdeal.main_arg3)
      ∧ r.2.mem ((c.tc : Thread Cert.ProjectABIdeal.nD Cert.ProjectABIdeal.τ).loc Cert.ProjectABIdeal.main_arg4) = m ((c.tc : Thread Cert.ProjectABIdeal.nD Cert.ProjectABIdeal.τ).loc Cert.ProjectABIdeal.main_arg4)
      ∧ r.2.mem ((c.tc : Thread Cert.ProjectABIdeal.nD Cert.ProjectABIdeal.τ).loc Cert.ProjectABIdeal.main_arg5) = m ((c.tc : Thread Cert.ProjectABIdeal.nD Cert.ProjectABIdeal.τ).loc Cert.ProjectABIdeal.main_arg5))
      ∧ r.2.sem = fun _ => 0)

def quiescent_ProjectABRefIdeal [hProjectABRefIdeal : Cert.ProjectABRefIdeal.Facts] : Prop :=
  ∀ (m : (ℓ : Loc Cert.ProjectABRefIdeal.nD Cert.ProjectABRefIdeal.τ Cert.ProjectABRefIdeal.sig) → Buf (Elt Ideal) ℓ) (g : Dev Cert.ProjectABRefIdeal.nD → PrngReg), Pre_ProjectABRefIdeal m →
    θ_run (Cert.ProjectABRefIdeal.defs (F := Ideal)) (onTc (τ := Cert.ProjectABRefIdeal.τ) (Cert.ProjectABRefIdeal.main (F := Ideal))) ⟨m, fun _ => 0, g⟩ (fun r => (∀ c : Dev Cert.ProjectABRefIdeal.nD,
      r.2.mem ((c.tc : Thread Cert.ProjectABRefIdeal.nD Cert.ProjectABRefIdeal.τ).loc Cert.ProjectABRefIdeal.main_arg0) = m ((c.tc : Thread Cert.ProjectABRefIdeal.nD Cert.ProjectABRefIdeal.τ).loc Cert.ProjectABRefIdeal.main_arg0)
      ∧ r.2.mem ((c.tc : Thread Cert.ProjectABRefIdeal.nD Cert.ProjectABRefIdeal.τ).loc Cert.ProjectABRefIdeal.main_arg1) = m ((c.tc : Thread Cert.ProjectABRefIdeal.nD Cert.ProjectABRefIdeal.τ).loc Cert.ProjectABRefIdeal.main_arg1)
      ∧ r.2.mem ((c.tc : Thread Cert.ProjectABRefIdeal.nD Cert.ProjectABRefIdeal.τ).loc Cert.ProjectABRefIdeal.main_arg2) = m ((c.tc : Thread Cert.ProjectABRefIdeal.nD Cert.ProjectABRefIdeal.τ).loc Cert.ProjectABRefIdeal.main_arg2)
      ∧ r.2.mem ((c.tc : Thread Cert.ProjectABRefIdeal.nD Cert.ProjectABRefIdeal.τ).loc Cert.ProjectABRefIdeal.main_arg3) = m ((c.tc : Thread Cert.ProjectABRefIdeal.nD Cert.ProjectABRefIdeal.τ).loc Cert.ProjectABRefIdeal.main_arg3)
      ∧ r.2.mem ((c.tc : Thread Cert.ProjectABRefIdeal.nD Cert.ProjectABRefIdeal.τ).loc Cert.ProjectABRefIdeal.main_arg4) = m ((c.tc : Thread Cert.ProjectABRefIdeal.nD Cert.ProjectABRefIdeal.τ).loc Cert.ProjectABRefIdeal.main_arg4)
      ∧ r.2.mem ((c.tc : Thread Cert.ProjectABRefIdeal.nD Cert.ProjectABRefIdeal.τ).loc Cert.ProjectABRefIdeal.main_arg5) = m ((c.tc : Thread Cert.ProjectABRefIdeal.nD Cert.ProjectABRefIdeal.τ).loc Cert.ProjectABRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_QueriesRefIdeal [hQueriesRefIdeal : Cert.QueriesRefIdeal.Facts] : Prop :=
  ∀ (m : (ℓ : Loc Cert.QueriesRefIdeal.nD Cert.QueriesRefIdeal.τ Cert.QueriesRefIdeal.sig) → Buf (Elt Ideal) ℓ) (g : Dev Cert.QueriesRefIdeal.nD → PrngReg), Pre_QueriesRefIdeal m →
    θ_run (Cert.QueriesRefIdeal.defs (F := Ideal)) (onTc (τ := Cert.QueriesRefIdeal.τ) (Cert.QueriesRefIdeal.main (F := Ideal))) ⟨m, fun _ => 0, g⟩ (fun r => (∀ c : Dev Cert.QueriesRefIdeal.nD,
      r.2.mem ((c.tc : Thread Cert.QueriesRefIdeal.nD Cert.QueriesRefIdeal.τ).loc Cert.QueriesRefIdeal.main_arg0) = m ((c.tc : Thread Cert.QueriesRefIdeal.nD Cert.QueriesRefIdeal.τ).loc Cert.QueriesRefIdeal.main_arg0)
      ∧ r.2.mem ((c.tc : Thread Cert.QueriesRefIdeal.nD Cert.QueriesRefIdeal.τ).loc Cert.QueriesRefIdeal.main_arg1) = m ((c.tc : Thread Cert.QueriesRefIdeal.nD Cert.QueriesRefIdeal.τ).loc Cert.QueriesRefIdeal.main_arg1))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1))
      ∧ r.2.sem = fun _ => 0)

def quiescent_KeysNew [hKeysNew : Cert.KeysNew.Facts] : Prop :=
  ∀ (m : (ℓ : Loc Cert.KeysNew.nD Cert.KeysNew.τ Cert.KeysNew.sig) → Buf (Elt Bits) ℓ) (g : Dev Cert.KeysNew.nD → PrngReg), Pre_KeysNew m →
    θ_run (Cert.KeysNew.defs (F := Bits)) (onTc (τ := Cert.KeysNew.τ) (Cert.KeysNew.main (F := Bits))) ⟨m, fun _ => 0, g⟩ (fun r => (∀ c : Dev Cert.KeysNew.nD,
      r.2.mem ((c.tc : Thread Cert.KeysNew.nD Cert.KeysNew.τ).loc Cert.KeysNew.main_arg0) = m ((c.tc : Thread Cert.KeysNew.nD Cert.KeysNew.τ).loc Cert.KeysNew.main_arg0)
      ∧ r.2.mem ((c.tc : Thread Cert.KeysNew.nD Cert.KeysNew.τ).loc Cert.KeysNew.main_arg1) = m ((c.tc : Thread Cert.KeysNew.nD Cert.KeysNew.τ).loc Cert.KeysNew.main_arg1))
      ∧ r.2.sem = fun _ => 0)

def quiescent_KeysNewIdeal [hKeysNewIdeal : Cert.KeysNewIdeal.Facts] : Prop :=
  ∀ (m : (ℓ : Loc Cert.KeysNewIdeal.nD Cert.KeysNewIdeal.τ Cert.KeysNewIdeal.sig) → Buf (Elt Ideal) ℓ) (g : Dev Cert.KeysNewIdeal.nD → PrngReg), Pre_KeysNewIdeal m →
    θ_run (Cert.KeysNewIdeal.defs (F := Ideal)) (onTc (τ := Cert.KeysNewIdeal.τ) (Cert.KeysNewIdeal.main (F := Ideal))) ⟨m, fun _ => 0, g⟩ (fun r => (∀ c : Dev Cert.KeysNewIdeal.nD,
      r.2.mem ((c.tc : Thread Cert.KeysNewIdeal.nD Cert.KeysNewIdeal.τ).loc Cert.KeysNewIdeal.main_arg0) = m ((c.tc : Thread Cert.KeysNewIdeal.nD Cert.KeysNewIdeal.τ).loc Cert.KeysNewIdeal.main_arg0)
      ∧ r.2.mem ((c.tc : Thread Cert.KeysNewIdeal.nD Cert.KeysNewIdeal.τ).loc Cert.KeysNewIdeal.main_arg1) = m ((c.tc : Thread Cert.KeysNewIdeal.nD Cert.KeysNewIdeal.τ).loc Cert.KeysNewIdeal.main_arg1))
      ∧ r.2.sem = fun _ => 0)

def quiescent_KeysNewRefIdeal [hKeysNewRefIdeal : Cert.KeysNewRefIdeal.Facts] : Prop :=
  ∀ (m : (ℓ : Loc Cert.KeysNewRefIdeal.nD Cert.KeysNewRefIdeal.τ Cert.KeysNewRefIdeal.sig) → Buf (Elt Ideal) ℓ) (g : Dev Cert.KeysNewRefIdeal.nD → PrngReg), Pre_KeysNewRefIdeal m →
    θ_run (Cert.KeysNewRefIdeal.defs (F := Ideal)) (onTc (τ := Cert.KeysNewRefIdeal.τ) (Cert.KeysNewRefIdeal.main (F := Ideal))) ⟨m, fun _ => 0, g⟩ (fun r => (∀ c : Dev Cert.KeysNewRefIdeal.nD,
      r.2.mem ((c.tc : Thread Cert.KeysNewRefIdeal.nD Cert.KeysNewRefIdeal.τ).loc Cert.KeysNewRefIdeal.main_arg0) = m ((c.tc : Thread Cert.KeysNewRefIdeal.nD Cert.KeysNewRefIdeal.τ).loc Cert.KeysNewRefIdeal.main_arg0)
      ∧ r.2.mem ((c.tc : Thread Cert.KeysNewRefIdeal.nD Cert.KeysNewRefIdeal.τ).loc Cert.KeysNewRefIdeal.main_arg1) = m ((c.tc : Thread Cert.KeysNewRefIdeal.nD Cert.KeysNewRefIdeal.τ).loc Cert.KeysNewRefIdeal.main_arg1))
      ∧ r.2.sem = fun _ => 0)

def quiescent_ValuesNew [hValuesNew : Cert.ValuesNew.Facts] : Prop :=
  ∀ (m : (ℓ : Loc Cert.ValuesNew.nD Cert.ValuesNew.τ Cert.ValuesNew.sig) → Buf (Elt Bits) ℓ) (g : Dev Cert.ValuesNew.nD → PrngReg), Pre_ValuesNew m →
    θ_run (Cert.ValuesNew.defs (F := Bits)) (onTc (τ := Cert.ValuesNew.τ) (Cert.ValuesNew.main (F := Bits))) ⟨m, fun _ => 0, g⟩ (fun r => (∀ c : Dev Cert.ValuesNew.nD,
      r.2.mem ((c.tc : Thread Cert.ValuesNew.nD Cert.ValuesNew.τ).loc Cert.ValuesNew.main_arg0) = m ((c.tc : Thread Cert.ValuesNew.nD Cert.ValuesNew.τ).loc Cert.ValuesNew.main_arg0)
      ∧ r.2.mem ((c.tc : Thread Cert.ValuesNew.nD Cert.ValuesNew.τ).loc Cert.ValuesNew.main_arg1) = m ((c.tc : Thread Cert.ValuesNew.nD Cert.ValuesNew.τ).loc Cert.ValuesNew.main_arg1))
      ∧ r.2.sem = fun _ => 0)

def quiescent_ValuesNewIdeal [hValuesNewIdeal : Cert.ValuesNewIdeal.Facts] : Prop :=
  ∀ (m : (ℓ : Loc Cert.ValuesNewIdeal.nD Cert.ValuesNewIdeal.τ Cert.ValuesNewIdeal.sig) → Buf (Elt Ideal) ℓ) (g : Dev Cert.ValuesNewIdeal.nD → PrngReg), Pre_ValuesNewIdeal m →
    θ_run (Cert.ValuesNewIdeal.defs (F := Ideal)) (onTc (τ := Cert.ValuesNewIdeal.τ) (Cert.ValuesNewIdeal.main (F := Ideal))) ⟨m, fun _ => 0, g⟩ (fun r => (∀ c : Dev Cert.ValuesNewIdeal.nD,
      r.2.mem ((c.tc : Thread Cert.ValuesNewIdeal.nD Cert.ValuesNewIdeal.τ).loc Cert.ValuesNewIdeal.main_arg0) = m ((c.tc : Thread Cert.ValuesNewIdeal.nD Cert.ValuesNewIdeal.τ).loc Cert.ValuesNewIdeal.main_arg0)
      ∧ r.2.mem ((c.tc : Thread Cert.ValuesNewIdeal.nD Cert.ValuesNewIdeal.τ).loc Cert.ValuesNewIdeal.main_arg1) = m ((c.tc : Thread Cert.ValuesNewIdeal.nD Cert.ValuesNewIdeal.τ).loc Cert.ValuesNewIdeal.main_arg1))
      ∧ r.2.sem = fun _ => 0)

def quiescent_ValuesNewRefIdeal [hValuesNewRefIdeal : Cert.ValuesNewRefIdeal.Facts] : Prop :=
  ∀ (m : (ℓ : Loc Cert.ValuesNewRefIdeal.nD Cert.ValuesNewRefIdeal.τ Cert.ValuesNewRefIdeal.sig) → Buf (Elt Ideal) ℓ) (g : Dev Cert.ValuesNewRefIdeal.nD → PrngReg), Pre_ValuesNewRefIdeal m →
    θ_run (Cert.ValuesNewRefIdeal.defs (F := Ideal)) (onTc (τ := Cert.ValuesNewRefIdeal.τ) (Cert.ValuesNewRefIdeal.main (F := Ideal))) ⟨m, fun _ => 0, g⟩ (fun r => (∀ c : Dev Cert.ValuesNewRefIdeal.nD,
      r.2.mem ((c.tc : Thread Cert.ValuesNewRefIdeal.nD Cert.ValuesNewRefIdeal.τ).loc Cert.ValuesNewRefIdeal.main_arg0) = m ((c.tc : Thread Cert.ValuesNewRefIdeal.nD Cert.ValuesNewRefIdeal.τ).loc Cert.ValuesNewRefIdeal.main_arg0)
      ∧ r.2.mem ((c.tc : Thread Cert.ValuesNewRefIdeal.nD Cert.ValuesNewRefIdeal.τ).loc Cert.ValuesNewRefIdeal.main_arg1) = m ((c.tc : Thread Cert.ValuesNewRefIdeal.nD Cert.ValuesNewRefIdeal.τ).loc Cert.ValuesNewRefIdeal.main_arg1))
      ∧ r.2.sem = fun _ => 0)

def quiescent_Logf [hLogf : Cert.Logf.Facts] : Prop :=
  ∀ (m : (ℓ : Loc Cert.Logf.nD Cert.Logf.τ Cert.Logf.sig) → Buf (Elt Bits) ℓ) (g : Dev Cert.Logf.nD → PrngReg), Pre_Logf m →
    θ_run (Cert.Logf.defs (F := Bits)) (onTc (τ := Cert.Logf.τ) (Cert.Logf.main (F := Bits))) ⟨m, fun _ => 0, g⟩ (fun r => (∀ c : Dev Cert.Logf.nD,
      r.2.mem ((c.tc : Thread Cert.Logf.nD Cert.Logf.τ).loc Cert.Logf.main_arg0) = m ((c.tc : Thread Cert.Logf.nD Cert.Logf.τ).loc Cert.Logf.main_arg0)
      ∧ r.2.mem ((c.tc : Thread Cert.Logf.nD Cert.Logf.τ).loc Cert.Logf.main_arg1) = m ((c.tc : Thread Cert.Logf.nD Cert.Logf.τ).loc Cert.Logf.main_arg1)
      ∧ r.2.mem ((c.tc : Thread Cert.Logf.nD Cert.Logf.τ).loc Cert.Logf.main_arg2) = m ((c.tc : Thread Cert.Logf.nD Cert.Logf.τ).loc Cert.Logf.main_arg2))
      ∧ r.2.sem = fun _ => 0)

def quiescent_LogfIdeal [hLogfIdeal : Cert.LogfIdeal.Facts] : Prop :=
  ∀ (m : (ℓ : Loc Cert.LogfIdeal.nD Cert.LogfIdeal.τ Cert.LogfIdeal.sig) → Buf (Elt Ideal) ℓ) (g : Dev Cert.LogfIdeal.nD → PrngReg), Pre_LogfIdeal m →
    θ_run (Cert.LogfIdeal.defs (F := Ideal)) (onTc (τ := Cert.LogfIdeal.τ) (Cert.LogfIdeal.main (F := Ideal))) ⟨m, fun _ => 0, g⟩ (fun r => (∀ c : Dev Cert.LogfIdeal.nD,
      r.2.mem ((c.tc : Thread Cert.LogfIdeal.nD Cert.LogfIdeal.τ).loc Cert.LogfIdeal.main_arg0) = m ((c.tc : Thread Cert.LogfIdeal.nD Cert.LogfIdeal.τ).loc Cert.LogfIdeal.main_arg0)
      ∧ r.2.mem ((c.tc : Thread Cert.LogfIdeal.nD Cert.LogfIdeal.τ).loc Cert.LogfIdeal.main_arg1) = m ((c.tc : Thread Cert.LogfIdeal.nD Cert.LogfIdeal.τ).loc Cert.LogfIdeal.main_arg1)
      ∧ r.2.mem ((c.tc : Thread Cert.LogfIdeal.nD Cert.LogfIdeal.τ).loc Cert.LogfIdeal.main_arg2) = m ((c.tc : Thread Cert.LogfIdeal.nD Cert.LogfIdeal.τ).loc Cert.LogfIdeal.main_arg2))
      ∧ r.2.sem = fun _ => 0)

def quiescent_LogfRefIdeal [hLogfRefIdeal : Cert.LogfRefIdeal.Facts] : Prop :=
  ∀ (m : (ℓ : Loc Cert.LogfRefIdeal.nD Cert.LogfRefIdeal.τ Cert.LogfRefIdeal.sig) → Buf (Elt Ideal) ℓ) (g : Dev Cert.LogfRefIdeal.nD → PrngReg), Pre_LogfRefIdeal m →
    θ_run (Cert.LogfRefIdeal.defs (F := Ideal)) (onTc (τ := Cert.LogfRefIdeal.τ) (Cert.LogfRefIdeal.main (F := Ideal))) ⟨m, fun _ => 0, g⟩ (fun r => (∀ c : Dev Cert.LogfRefIdeal.nD,
      r.2.mem ((c.tc : Thread Cert.LogfRefIdeal.nD Cert.LogfRefIdeal.τ).loc Cert.LogfRefIdeal.main_arg0) = m ((c.tc : Thread Cert.LogfRefIdeal.nD Cert.LogfRefIdeal.τ).loc Cert.LogfRefIdeal.main_arg0)
      ∧ r.2.mem ((c.tc : Thread Cert.LogfRefIdeal.nD Cert.LogfRefIdeal.τ).loc Cert.LogfRefIdeal.main_arg1) = m ((c.tc : Thread Cert.LogfRefIdeal.nD Cert.LogfRefIdeal.τ).loc Cert.LogfRefIdeal.main_arg1)
      ∧ r.2.mem ((c.tc : Thread Cert.LogfRefIdeal.nD Cert.LogfRefIdeal.τ).loc Cert.LogfRefIdeal.main_arg2) = m ((c.tc : Thread Cert.LogfRefIdeal.nD Cert.LogfRefIdeal.τ).loc Cert.LogfRefIdeal.main_arg2))
      ∧ r.2.sem = fun _ => 0)

def quiescent_YPrompt [hYPrompt : Cert.YPrompt.Facts] : Prop :=
  ∀ (m : (ℓ : Loc Cert.YPrompt.nD Cert.YPrompt.τ Cert.YPrompt.sig) → Buf (Elt Bits) ℓ) (g : Dev Cert.YPrompt.nD → PrngReg), Pre_YPrompt m →
    θ_run (Cert.YPrompt.defs (F := Bits)) (onTc (τ := Cert.YPrompt.τ) (Cert.YPrompt.main (F := Bits))) ⟨m, fun _ => 0, g⟩ (fun r => (∀ c : Dev Cert.YPrompt.nD,
      r.2.mem ((c.tc : Thread Cert.YPrompt.nD Cert.YPrompt.τ).loc Cert.YPrompt.main_arg0) = m ((c.tc : Thread Cert.YPrompt.nD Cert.YPrompt.τ).loc Cert.YPrompt.main_arg0)
      ∧ r.2.mem ((c.tc : Thread Cert.YPrompt.nD Cert.YPrompt.τ).loc Cert.YPrompt.main_arg1) = m ((c.tc : Thread Cert.YPrompt.nD Cert.YPrompt.τ).loc Cert.YPrompt.main_arg1))
      ∧ r.2.sem = fun _ => 0)

def quiescent_YPromptIdeal [hYPromptIdeal : Cert.YPromptIdeal.Facts] : Prop :=
  ∀ (m : (ℓ : Loc Cert.YPromptIdeal.nD Cert.YPromptIdeal.τ Cert.YPromptIdeal.sig) → Buf (Elt Ideal) ℓ) (g : Dev Cert.YPromptIdeal.nD → PrngReg), Pre_YPromptIdeal m →
    θ_run (Cert.YPromptIdeal.defs (F := Ideal)) (onTc (τ := Cert.YPromptIdeal.τ) (Cert.YPromptIdeal.main (F := Ideal))) ⟨m, fun _ => 0, g⟩ (fun r => (∀ c : Dev Cert.YPromptIdeal.nD,
      r.2.mem ((c.tc : Thread Cert.YPromptIdeal.nD Cert.YPromptIdeal.τ).loc Cert.YPromptIdeal.main_arg0) = m ((c.tc : Thread Cert.YPromptIdeal.nD Cert.YPromptIdeal.τ).loc Cert.YPromptIdeal.main_arg0)
      ∧ r.2.mem ((c.tc : Thread Cert.YPromptIdeal.nD Cert.YPromptIdeal.τ).loc Cert.YPromptIdeal.main_arg1) = m ((c.tc : Thread Cert.YPromptIdeal.nD Cert.YPromptIdeal.τ).loc Cert.YPromptIdeal.main_arg1))
      ∧ r.2.sem = fun _ => 0)

def quiescent_YPromptRefIdeal [hYPromptRefIdeal : Cert.YPromptRefIdeal.Facts] : Prop :=
  ∀ (m : (ℓ : Loc Cert.YPromptRefIdeal.nD Cert.YPromptRefIdeal.τ Cert.YPromptRefIdeal.sig) → Buf (Elt Ideal) ℓ) (g : Dev Cert.YPromptRefIdeal.nD → PrngReg), Pre_YPromptRefIdeal m →
    θ_run (Cert.YPromptRefIdeal.defs (F := Ideal)) (onTc (τ := Cert.YPromptRefIdeal.τ) (Cert.YPromptRefIdeal.main (F := Ideal))) ⟨m, fun _ => 0, g⟩ (fun r => (∀ c : Dev Cert.YPromptRefIdeal.nD,
      r.2.mem ((c.tc : Thread Cert.YPromptRefIdeal.nD Cert.YPromptRefIdeal.τ).loc Cert.YPromptRefIdeal.main_arg0) = m ((c.tc : Thread Cert.YPromptRefIdeal.nD Cert.YPromptRefIdeal.τ).loc Cert.YPromptRefIdeal.main_arg0)
      ∧ r.2.mem ((c.tc : Thread Cert.YPromptRefIdeal.nD Cert.YPromptRefIdeal.τ).loc Cert.YPromptRefIdeal.main_arg1) = m ((c.tc : Thread Cert.YPromptRefIdeal.nD Cert.YPromptRefIdeal.τ).loc Cert.YPromptRefIdeal.main_arg1))
      ∧ r.2.sem = fun _ => 0)

def quiescent_YSample [hYSample : Cert.YSample.Facts] : Prop :=
  ∀ (m : (ℓ : Loc Cert.YSample.nD Cert.YSample.τ Cert.YSample.sig) → Buf (Elt Bits) ℓ) (g : Dev Cert.YSample.nD → PrngReg), Pre_YSample m →
    θ_run (Cert.YSample.defs (F := Bits)) (onTc (τ := Cert.YSample.τ) (Cert.YSample.main (F := Bits))) ⟨m, fun _ => 0, g⟩ (fun r => (∀ c : Dev Cert.YSample.nD,
      r.2.mem ((c.tc : Thread Cert.YSample.nD Cert.YSample.τ).loc Cert.YSample.main_arg0) = m ((c.tc : Thread Cert.YSample.nD Cert.YSample.τ).loc Cert.YSample.main_arg0)
      ∧ r.2.mem ((c.tc : Thread Cert.YSample.nD Cert.YSample.τ).loc Cert.YSample.main_arg1) = m ((c.tc : Thread Cert.YSample.nD Cert.YSample.τ).loc Cert.YSample.main_arg1))
      ∧ r.2.sem = fun _ => 0)

def quiescent_YSampleIdeal [hYSampleIdeal : Cert.YSampleIdeal.Facts] : Prop :=
  ∀ (m : (ℓ : Loc Cert.YSampleIdeal.nD Cert.YSampleIdeal.τ Cert.YSampleIdeal.sig) → Buf (Elt Ideal) ℓ) (g : Dev Cert.YSampleIdeal.nD → PrngReg), Pre_YSampleIdeal m →
    θ_run (Cert.YSampleIdeal.defs (F := Ideal)) (onTc (τ := Cert.YSampleIdeal.τ) (Cert.YSampleIdeal.main (F := Ideal))) ⟨m, fun _ => 0, g⟩ (fun r => (∀ c : Dev Cert.YSampleIdeal.nD,
      r.2.mem ((c.tc : Thread Cert.YSampleIdeal.nD Cert.YSampleIdeal.τ).loc Cert.YSampleIdeal.main_arg0) = m ((c.tc : Thread Cert.YSampleIdeal.nD Cert.YSampleIdeal.τ).loc Cert.YSampleIdeal.main_arg0)
      ∧ r.2.mem ((c.tc : Thread Cert.YSampleIdeal.nD Cert.YSampleIdeal.τ).loc Cert.YSampleIdeal.main_arg1) = m ((c.tc : Thread Cert.YSampleIdeal.nD Cert.YSampleIdeal.τ).loc Cert.YSampleIdeal.main_arg1))
      ∧ r.2.sem = fun _ => 0)

def quiescent_YSampleRefIdeal [hYSampleRefIdeal : Cert.YSampleRefIdeal.Facts] : Prop :=
  ∀ (m : (ℓ : Loc Cert.YSampleRefIdeal.nD Cert.YSampleRefIdeal.τ Cert.YSampleRefIdeal.sig) → Buf (Elt Ideal) ℓ) (g : Dev Cert.YSampleRefIdeal.nD → PrngReg), Pre_YSampleRefIdeal m →
    θ_run (Cert.YSampleRefIdeal.defs (F := Ideal)) (onTc (τ := Cert.YSampleRefIdeal.τ) (Cert.YSampleRefIdeal.main (F := Ideal))) ⟨m, fun _ => 0, g⟩ (fun r => (∀ c : Dev Cert.YSampleRefIdeal.nD,
      r.2.mem ((c.tc : Thread Cert.YSampleRefIdeal.nD Cert.YSampleRefIdeal.τ).loc Cert.YSampleRefIdeal.main_arg0) = m ((c.tc : Thread Cert.YSampleRefIdeal.nD Cert.YSampleRefIdeal.τ).loc Cert.YSampleRefIdeal.main_arg0)
      ∧ r.2.mem ((c.tc : Thread Cert.YSampleRefIdeal.nD Cert.YSampleRefIdeal.τ).loc Cert.YSampleRefIdeal.main_arg1) = m ((c.tc : Thread Cert.YSampleRefIdeal.nD Cert.YSampleRefIdeal.τ).loc Cert.YSampleRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gateup_GateupIdeal : Prop :=
  True

def algebraic_GateupIdeal_GateupRefIdeal [hGateupIdeal : Cert.GateupIdeal.Facts] [hGateupRefIdeal : Cert.GateupRefIdeal.Facts] [hPre_tables : Cert.Pre_tables.Facts] : Prop :=
  ∀ (m : (ℓ : Loc Cert.GateupIdeal.nD Cert.GateupIdeal.τ Cert.GateupIdeal.sig) → Buf (Elt Ideal) ℓ) (g : Dev Cert.GateupIdeal.nD → PrngReg)
    (m' : (ℓ : Loc Cert.GateupRefIdeal.nD Cert.GateupRefIdeal.τ Cert.GateupRefIdeal.sig) → Buf (Elt Ideal) ℓ) (g' : Dev Cert.GateupRefIdeal.nD → PrngReg), Pre_GateupIdeal m →
    (∀ c : Dev Cert.GateupIdeal.nD,
      m' ((c.tc : Thread Cert.GateupRefIdeal.nD Cert.GateupRefIdeal.τ).loc Cert.GateupRefIdeal.main_arg0) = m ((c.tc : Thread Cert.GateupIdeal.nD Cert.GateupIdeal.τ).loc Cert.GateupIdeal.main_arg0)
      ∧ m' ((c.tc : Thread Cert.GateupRefIdeal.nD Cert.GateupRefIdeal.τ).loc Cert.GateupRefIdeal.main_arg1) = m ((c.tc : Thread Cert.GateupIdeal.nD Cert.GateupIdeal.τ).loc Cert.GateupIdeal.main_arg1)
      ∧ m' ((c.tc : Thread Cert.GateupRefIdeal.nD Cert.GateupRefIdeal.τ).loc Cert.GateupRefIdeal.main_arg2) = m ((c.tc : Thread Cert.GateupIdeal.nD Cert.GateupIdeal.τ).loc Cert.GateupIdeal.main_arg2)
      ∧ m' ((c.tc : Thread Cert.GateupRefIdeal.nD Cert.GateupRefIdeal.τ).loc Cert.GateupRefIdeal.main_arg3) = m ((c.tc : Thread Cert.GateupIdeal.nD Cert.GateupIdeal.τ).loc Cert.GateupIdeal.main_arg3)
      ∧ m' ((c.tc : Thread Cert.GateupRefIdeal.nD Cert.GateupRefIdeal.τ).loc Cert.GateupRefIdeal.main_arg4) = m ((c.tc : Thread Cert.GateupIdeal.nD Cert.GateupIdeal.τ).loc Cert.GateupIdeal.main_arg4)) →
    ∃ (v0 : (c : Dev Cert.GateupIdeal.nD) → Buf (Elt Ideal) ((c.tc : Thread Cert.GateupIdeal.nD Cert.GateupIdeal.τ).loc Cert.GateupIdeal.main_v0)),
      θ_run (Cert.GateupIdeal.defs (F := Ideal)) (onTc (τ := Cert.GateupIdeal.τ) (Cert.GateupIdeal.main (F := Ideal))) ⟨m, fun _ => 0, g⟩ (fun r => ∀ c : Dev Cert.GateupIdeal.nD,
          r.2.mem ((c.tc : Thread Cert.GateupIdeal.nD Cert.GateupIdeal.τ).loc Cert.GateupIdeal.main_v0) = v0 c
          ∧ r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
          ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
          ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
          ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3)
          ∧ r.2.mem ((c.tc : Thread Cert.GateupIdeal.nD Cert.GateupIdeal.τ).loc Cert.GateupIdeal.main_arg4) = m ((c.tc : Thread Cert.GateupIdeal.nD Cert.GateupIdeal.τ).loc Cert.GateupIdeal.main_arg4))
      ∧ θ_run (Cert.GateupRefIdeal.defs (F := Ideal)) (onTc (τ := Cert.GateupRefIdeal.τ) (Cert.GateupRefIdeal.main (F := Ideal))) ⟨m', fun _ => 0, g'⟩ (fun r => ∀ c : Dev Cert.GateupRefIdeal.nD,
          r.2.mem ((c.tc : Thread Cert.GateupRefIdeal.nD Cert.GateupRefIdeal.τ).loc Cert.GateupRefIdeal.main_v29) = v0 c
          ∧ r.2.mem ((c.tc : Thread Cert.GateupRefIdeal.nD Cert.GateupRefIdeal.τ).loc Cert.GateupRefIdeal.main_arg0) = m' ((c.tc : Thread Cert.GateupRefIdeal.nD Cert.GateupRefIdeal.τ).loc Cert.GateupRefIdeal.main_arg0)
          ∧ r.2.mem ((c.tc : Thread Cert.GateupRefIdeal.nD Cert.GateupRefIdeal.τ).loc Cert.GateupRefIdeal.main_arg1) = m' ((c.tc : Thread Cert.GateupRefIdeal.nD Cert.GateupRefIdeal.τ).loc Cert.GateupRefIdeal.main_arg1)
          ∧ r.2.mem ((c.tc : Thread Cert.GateupRefIdeal.nD Cert.GateupRefIdeal.τ).loc Cert.GateupRefIdeal.main_arg2) = m' ((c.tc : Thread Cert.GateupRefIdeal.nD Cert.GateupRefIdeal.τ).loc Cert.GateupRefIdeal.main_arg2)
          ∧ r.2.mem ((c.tc : Thread Cert.GateupRefIdeal.nD Cert.GateupRefIdeal.τ).loc Cert.GateupRefIdeal.main_arg3) = m' ((c.tc : Thread Cert.GateupRefIdeal.nD Cert.GateupRefIdeal.τ).loc Cert.GateupRefIdeal.main_arg3)
          ∧ r.2.mem ((c.tc : Thread Cert.GateupRefIdeal.nD Cert.GateupRefIdeal.τ).loc Cert.GateupRefIdeal.main_arg4) = m' ((c.tc : Thread Cert.GateupRefIdeal.nD Cert.GateupRefIdeal.τ).loc Cert.GateupRefIdeal.main_arg4))

def preserves_Down_DownIdeal : Prop :=
  True

def algebraic_DownIdeal_DownRefIdeal [hDownIdeal : Cert.DownIdeal.Facts] [hDownRefIdeal : Cert.DownRefIdeal.Facts] [hPre_tables_down : Cert.Pre_tables_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v17) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)) →
    ∃ (v0 : (c : Dev Cert.DenseIdeal.nD) → Buf (Elt Ideal) ((c.tc : Thread Cert.DenseIdeal.nD Cert.DenseIdeal.τ).loc Cert.DenseIdeal.main_v6)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v6) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v9) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2))

def preserves_DenseDown_DenseDownIdeal : Prop :=
  True

def algebraic_DenseDownIdeal_DenseDownRefIdeal [hDenseDownIdeal : Cert.DenseDownIdeal.Facts] [hDenseDownRefIdeal : Cert.DenseDownRefIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg)
    (m' : (ℓ : Loc Cert.DenseDownRefIdeal.nD Cert.DenseDownRefIdeal.τ Cert.DenseDownRefIdeal.sig) → Buf (Elt Ideal) ℓ) (g' : Dev Cert.DenseDownRefIdeal.nD → PrngReg), Pre_DenseDownIdeal m →
    (∀ c : Dev Cert.DenseDownIdeal.nD,
      m' ((c.tc : Thread Cert.DenseDownRefIdeal.nD Cert.DenseDownRefIdeal.τ).loc Cert.DenseDownRefIdeal.main_arg0) = m ((c.tc : Thread Cert.DenseDownIdeal.nD Cert.DenseDownIdeal.τ).loc Cert.DenseDownIdeal.main_arg0)
      ∧ m' ((c.tc : Thread Cert.DenseDownRefIdeal.nD Cert.DenseDownRefIdeal.τ).loc Cert.DenseDownRefIdeal.main_arg1) = m ((c.tc : Thread Cert.DenseDownIdeal.nD Cert.DenseDownIdeal.τ).loc Cert.DenseDownIdeal.main_arg1)
      ∧ m' ((c.tc : Thread Cert.DenseDownRefIdeal.nD Cert.DenseDownRefIdeal.τ).loc Cert.DenseDownRefIdeal.main_arg2) = m ((c.tc : Thread Cert.DenseDownIdeal.nD Cert.DenseDownIdeal.τ).loc Cert.DenseDownIdeal.main_arg2)
      ∧ m' ((c.tc : Thread Cert.DenseDownRefIdeal.nD Cert.DenseDownRefIdeal.τ).loc Cert.DenseDownRefIdeal.main_arg3) = m ((c.tc : Thread Cert.DenseDownIdeal.nD Cert.DenseDownIdeal.τ).loc Cert.DenseDownIdeal.main_arg3)) →
    ∃ (v0 : (c : Dev Cert.DenseDownIdeal.nD) → Buf (Elt Ideal) ((c.tc : Thread Cert.DenseDownIdeal.nD Cert.DenseDownIdeal.τ).loc Cert.DenseDownIdeal.main_v4)),
      θ_run (Cert.DenseDownIdeal.defs (F := Ideal)) (onTc (τ := Cert.DenseDownIdeal.τ) (Cert.DenseDownIdeal.main (F := Ideal))) ⟨m, fun _ => 0, g⟩ (fun r => ∀ c : Dev Cert.DenseDownIdeal.nD,
          r.2.mem ((c.tc : Thread Cert.DenseDownIdeal.nD Cert.DenseDownIdeal.τ).loc Cert.DenseDownIdeal.main_v4) = v0 c
          ∧ r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
          ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
          ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
          ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3))
      ∧ θ_run (Cert.DenseDownRefIdeal.defs (F := Ideal)) (onTc (τ := Cert.DenseDownRefIdeal.τ) (Cert.DenseDownRefIdeal.main (F := Ideal))) ⟨m', fun _ => 0, g'⟩ (fun r => ∀ c : Dev Cert.DenseDownRefIdeal.nD,
          r.2.mem ((c.tc : Thread Cert.DenseDownRefIdeal.nD Cert.DenseDownRefIdeal.τ).loc Cert.DenseDownRefIdeal.main_v9) = v0 c
          ∧ r.2.mem ((c.tc : Thread Cert.DenseDownRefIdeal.nD Cert.DenseDownRefIdeal.τ).loc Cert.DenseDownRefIdeal.main_arg0) = m' ((c.tc : Thread Cert.DenseDownRefIdeal.nD Cert.DenseDownRefIdeal.τ).loc Cert.DenseDownRefIdeal.main_arg0)
          ∧ r.2.mem ((c.tc : Thread Cert.DenseDownRefIdeal.nD Cert.DenseDownRefIdeal.τ).loc Cert.DenseDownRefIdeal.main_arg1) = m' ((c.tc : Thread Cert.DenseDownRefIdeal.nD Cert.DenseDownRefIdeal.τ).loc Cert.DenseDownRefIdeal.main_arg1)
          ∧ r.2.mem ((c.tc : Thread Cert.DenseDownRefIdeal.nD Cert.DenseDownRefIdeal.τ).loc Cert.DenseDownRefIdeal.main_arg2) = m' ((c.tc : Thread Cert.DenseDownRefIdeal.nD Cert.DenseDownRefIdeal.τ).loc Cert.DenseDownRefIdeal.main_arg2)
          ∧ r.2.mem ((c.tc : Thread Cert.DenseDownRefIdeal.nD Cert.DenseDownRefIdeal.τ).loc Cert.DenseDownRefIdeal.main_arg3) = m' ((c.tc : Thread Cert.DenseDownRefIdeal.nD Cert.DenseDownRefIdeal.τ).loc Cert.DenseDownRefIdeal.main_arg3))

def preserves_ProjectAB_ProjectABIdeal : Prop :=
  True

def algebraic_ProjectABIdeal_ProjectABRefIdeal [hProjectABIdeal : Cert.ProjectABIdeal.Facts] [hProjectABRefIdeal : Cert.ProjectABRefIdeal.Facts] : Prop :=
  ∀ (m : (ℓ : Loc Cert.ProjectABIdeal.nD Cert.ProjectABIdeal.τ Cert.ProjectABIdeal.sig) → Buf (Elt Ideal) ℓ) (g : Dev Cert.ProjectABIdeal.nD → PrngReg)
    (m' : (ℓ : Loc Cert.ProjectABRefIdeal.nD Cert.ProjectABRefIdeal.τ Cert.ProjectABRefIdeal.sig) → Buf (Elt Ideal) ℓ) (g' : Dev Cert.ProjectABRefIdeal.nD → PrngReg), Pre_ProjectABIdeal m →
    (∀ c : Dev Cert.ProjectABIdeal.nD,
      m' ((c.tc : Thread Cert.ProjectABRefIdeal.nD Cert.ProjectABRefIdeal.τ).loc Cert.ProjectABRefIdeal.main_arg0) = m ((c.tc : Thread Cert.ProjectABIdeal.nD Cert.ProjectABIdeal.τ).loc Cert.ProjectABIdeal.main_arg0)
      ∧ m' ((c.tc : Thread Cert.ProjectABRefIdeal.nD Cert.ProjectABRefIdeal.τ).loc Cert.ProjectABRefIdeal.main_arg1) = m ((c.tc : Thread Cert.ProjectABIdeal.nD Cert.ProjectABIdeal.τ).loc Cert.ProjectABIdeal.main_arg1)
      ∧ m' ((c.tc : Thread Cert.ProjectABRefIdeal.nD Cert.ProjectABRefIdeal.τ).loc Cert.ProjectABRefIdeal.main_arg2) = m ((c.tc : Thread Cert.ProjectABIdeal.nD Cert.ProjectABIdeal.τ).loc Cert.ProjectABIdeal.main_arg2)
      ∧ m' ((c.tc : Thread Cert.ProjectABRefIdeal.nD Cert.ProjectABRefIdeal.τ).loc Cert.ProjectABRefIdeal.main_arg3) = m ((c.tc : Thread Cert.ProjectABIdeal.nD Cert.ProjectABIdeal.τ).loc Cert.ProjectABIdeal.main_arg3)
      ∧ m' ((c.tc : Thread Cert.ProjectABRefIdeal.nD Cert.ProjectABRefIdeal.τ).loc Cert.ProjectABRefIdeal.main_arg4) = m ((c.tc : Thread Cert.ProjectABIdeal.nD Cert.ProjectABIdeal.τ).loc Cert.ProjectABIdeal.main_arg4)
      ∧ m' ((c.tc : Thread Cert.ProjectABRefIdeal.nD Cert.ProjectABRefIdeal.τ).loc Cert.ProjectABRefIdeal.main_arg5) = m ((c.tc : Thread Cert.ProjectABIdeal.nD Cert.ProjectABIdeal.τ).loc Cert.ProjectABIdeal.main_arg5)) →
    ∃ (v0 : (c : Dev Cert.ProjectABIdeal.nD) → Buf (Elt Ideal) ((c.tc : Thread Cert.ProjectABIdeal.nD Cert.ProjectABIdeal.τ).loc Cert.ProjectABIdeal.main_v0)) (v1 : (c : Dev Cert.ProjectABIdeal.nD) → Buf (Elt Ideal) ((c.tc : Thread Cert.ProjectABIdeal.nD Cert.ProjectABIdeal.τ).loc Cert.ProjectABIdeal.main_v37)) (v2 : (c : Dev Cert.ProjectABIdeal.nD) → Buf (Elt Ideal) ((c.tc : Thread Cert.ProjectABIdeal.nD Cert.ProjectABIdeal.τ).loc Cert.ProjectABIdeal.main_v38)) (v3 : (c : Dev Cert.ProjectABIdeal.nD) → Buf (Elt Ideal) ((c.tc : Thread Cert.ProjectABIdeal.nD Cert.ProjectABIdeal.τ).loc Cert.ProjectABIdeal.main_v39)) (v4 : (c : Dev Cert.ProjectABIdeal.nD) → Buf (Elt Ideal) ((c.tc : Thread Cert.ProjectABIdeal.nD Cert.ProjectABIdeal.τ).loc Cert.ProjectABIdeal.main_v40)) (v5 : (c : Dev Cert.ProjectABIdeal.nD) → Buf (Elt Ideal) ((c.tc : Thread Cert.ProjectABIdeal.nD Cert.ProjectABIdeal.τ).loc Cert.ProjectABIdeal.main_v41)) (v6 : (c : Dev Cert.ProjectABIdeal.nD) → Buf (Elt Ideal) ((c.tc : Thread Cert.ProjectABIdeal.nD Cert.ProjectABIdeal.τ).loc Cert.ProjectABIdeal.main_v42)) (v7 : (c : Dev Cert.ProjectABIdeal.nD) → Buf (Elt Ideal) ((c.tc : Thread Cert.ProjectABIdeal.nD Cert.ProjectABIdeal.τ).loc Cert.ProjectABIdeal.main_v43)) (v8 : (c : Dev Cert.ProjectABIdeal.nD) → Buf (Elt Ideal) ((c.tc : Thread Cert.ProjectABIdeal.nD Cert.ProjectABIdeal.τ).loc Cert.ProjectABIdeal.main_v44)),
      θ_run (Cert.ProjectABIdeal.defs (F := Ideal)) (onTc (τ := Cert.ProjectABIdeal.τ) (Cert.ProjectABIdeal.main (F := Ideal))) ⟨m, fun _ => 0, g⟩ (fun r => ∀ c : Dev Cert.ProjectABIdeal.nD,
          r.2.mem ((c.tc : Thread Cert.ProjectABIdeal.nD Cert.ProjectABIdeal.τ).loc Cert.ProjectABIdeal.main_v0) = v0 c
          ∧ r.2.mem ((c.tc : Thread Cert.ProjectABIdeal.nD Cert.ProjectABIdeal.τ).loc Cert.ProjectABIdeal.main_v37) = v1 c
          ∧ r.2.mem ((c.tc : Thread Cert.ProjectABIdeal.nD Cert.ProjectABIdeal.τ).loc Cert.ProjectABIdeal.main_v38) = v2 c
          ∧ r.2.mem ((c.tc : Thread Cert.ProjectABIdeal.nD Cert.ProjectABIdeal.τ).loc Cert.ProjectABIdeal.main_v39) = v3 c
          ∧ r.2.mem ((c.tc : Thread Cert.ProjectABIdeal.nD Cert.ProjectABIdeal.τ).loc Cert.ProjectABIdeal.main_v40) = v4 c
          ∧ r.2.mem ((c.tc : Thread Cert.ProjectABIdeal.nD Cert.ProjectABIdeal.τ).loc Cert.ProjectABIdeal.main_v41) = v5 c
          ∧ r.2.mem ((c.tc : Thread Cert.ProjectABIdeal.nD Cert.ProjectABIdeal.τ).loc Cert.ProjectABIdeal.main_v42) = v6 c
          ∧ r.2.mem ((c.tc : Thread Cert.ProjectABIdeal.nD Cert.ProjectABIdeal.τ).loc Cert.ProjectABIdeal.main_v43) = v7 c
          ∧ r.2.mem ((c.tc : Thread Cert.ProjectABIdeal.nD Cert.ProjectABIdeal.τ).loc Cert.ProjectABIdeal.main_v44) = v8 c
          ∧ r.2.mem ((c.tc : Thread Cert.ProjectABIdeal.nD Cert.ProjectABIdeal.τ).loc Cert.ProjectABIdeal.main_arg0) = m ((c.tc : Thread Cert.ProjectABIdeal.nD Cert.ProjectABIdeal.τ).loc Cert.ProjectABIdeal.main_arg0)
          ∧ r.2.mem ((c.tc : Thread Cert.ProjectABIdeal.nD Cert.ProjectABIdeal.τ).loc Cert.ProjectABIdeal.main_arg1) = m ((c.tc : Thread Cert.ProjectABIdeal.nD Cert.ProjectABIdeal.τ).loc Cert.ProjectABIdeal.main_arg1)
          ∧ r.2.mem ((c.tc : Thread Cert.ProjectABIdeal.nD Cert.ProjectABIdeal.τ).loc Cert.ProjectABIdeal.main_arg2) = m ((c.tc : Thread Cert.ProjectABIdeal.nD Cert.ProjectABIdeal.τ).loc Cert.ProjectABIdeal.main_arg2)
          ∧ r.2.mem ((c.tc : Thread Cert.ProjectABIdeal.nD Cert.ProjectABIdeal.τ).loc Cert.ProjectABIdeal.main_arg3) = m ((c.tc : Thread Cert.ProjectABIdeal.nD Cert.ProjectABIdeal.τ).loc Cert.ProjectABIdeal.main_arg3)
          ∧ r.2.mem ((c.tc : Thread Cert.ProjectABIdeal.nD Cert.ProjectABIdeal.τ).loc Cert.ProjectABIdeal.main_arg4) = m ((c.tc : Thread Cert.ProjectABIdeal.nD Cert.ProjectABIdeal.τ).loc Cert.ProjectABIdeal.main_arg4)
          ∧ r.2.mem ((c.tc : Thread Cert.ProjectABIdeal.nD Cert.ProjectABIdeal.τ).loc Cert.ProjectABIdeal.main_arg5) = m ((c.tc : Thread Cert.ProjectABIdeal.nD Cert.ProjectABIdeal.τ).loc Cert.ProjectABIdeal.main_arg5))
      ∧ θ_run (Cert.ProjectABRefIdeal.defs (F := Ideal)) (onTc (τ := Cert.ProjectABRefIdeal.τ) (Cert.ProjectABRefIdeal.main (F := Ideal))) ⟨m', fun _ => 0, g'⟩ (fun r => ∀ c : Dev Cert.ProjectABRefIdeal.nD,
          r.2.mem ((c.tc : Thread Cert.ProjectABRefIdeal.nD Cert.ProjectABRefIdeal.τ).loc Cert.ProjectABRefIdeal.main_v2) = v0 c
          ∧ r.2.mem ((c.tc : Thread Cert.ProjectABRefIdeal.nD Cert.ProjectABRefIdeal.τ).loc Cert.ProjectABRefIdeal.main_v12) = v1 c
          ∧ r.2.mem ((c.tc : Thread Cert.ProjectABRefIdeal.nD Cert.ProjectABRefIdeal.τ).loc Cert.ProjectABRefIdeal.main_v16) = v2 c
          ∧ r.2.mem ((c.tc : Thread Cert.ProjectABRefIdeal.nD Cert.ProjectABRefIdeal.τ).loc Cert.ProjectABRefIdeal.main_v22) = v3 c
          ∧ r.2.mem ((c.tc : Thread Cert.ProjectABRefIdeal.nD Cert.ProjectABRefIdeal.τ).loc Cert.ProjectABRefIdeal.main_v28) = v4 c
          ∧ r.2.mem ((c.tc : Thread Cert.ProjectABRefIdeal.nD Cert.ProjectABRefIdeal.τ).loc Cert.ProjectABRefIdeal.main_v32) = v5 c
          ∧ r.2.mem ((c.tc : Thread Cert.ProjectABRefIdeal.nD Cert.ProjectABRefIdeal.τ).loc Cert.ProjectABRefIdeal.main_v36) = v6 c
          ∧ r.2.mem ((c.tc : Thread Cert.ProjectABRefIdeal.nD Cert.ProjectABRefIdeal.τ).loc Cert.ProjectABRefIdeal.main_v42) = v7 c
          ∧ r.2.mem ((c.tc : Thread Cert.ProjectABRefIdeal.nD Cert.ProjectABRefIdeal.τ).loc Cert.ProjectABRefIdeal.main_v48) = v8 c
          ∧ r.2.mem ((c.tc : Thread Cert.ProjectABRefIdeal.nD Cert.ProjectABRefIdeal.τ).loc Cert.ProjectABRefIdeal.main_arg0) = m' ((c.tc : Thread Cert.ProjectABRefIdeal.nD Cert.ProjectABRefIdeal.τ).loc Cert.ProjectABRefIdeal.main_arg0)
          ∧ r.2.mem ((c.tc : Thread Cert.ProjectABRefIdeal.nD Cert.ProjectABRefIdeal.τ).loc Cert.ProjectABRefIdeal.main_arg1) = m' ((c.tc : Thread Cert.ProjectABRefIdeal.nD Cert.ProjectABRefIdeal.τ).loc Cert.ProjectABRefIdeal.main_arg1)
          ∧ r.2.mem ((c.tc : Thread Cert.ProjectABRefIdeal.nD Cert.ProjectABRefIdeal.τ).loc Cert.ProjectABRefIdeal.main_arg2) = m' ((c.tc : Thread Cert.ProjectABRefIdeal.nD Cert.ProjectABRefIdeal.τ).loc Cert.ProjectABRefIdeal.main_arg2)
          ∧ r.2.mem ((c.tc : Thread Cert.ProjectABRefIdeal.nD Cert.ProjectABRefIdeal.τ).loc Cert.ProjectABRefIdeal.main_arg3) = m' ((c.tc : Thread Cert.ProjectABRefIdeal.nD Cert.ProjectABRefIdeal.τ).loc Cert.ProjectABRefIdeal.main_arg3)
          ∧ r.2.mem ((c.tc : Thread Cert.ProjectABRefIdeal.nD Cert.ProjectABRefIdeal.τ).loc Cert.ProjectABRefIdeal.main_arg4) = m' ((c.tc : Thread Cert.ProjectABRefIdeal.nD Cert.ProjectABRefIdeal.τ).loc Cert.ProjectABRefIdeal.main_arg4)
          ∧ r.2.mem ((c.tc : Thread Cert.ProjectABRefIdeal.nD Cert.ProjectABRefIdeal.τ).loc Cert.ProjectABRefIdeal.main_arg5) = m' ((c.tc : Thread Cert.ProjectABRefIdeal.nD Cert.ProjectABRefIdeal.τ).loc Cert.ProjectABRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v8) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Queries_QueriesIdeal : Prop :=
  True

def algebraic_QueriesIdeal_QueriesRefIdeal [hQueriesIdeal : Cert.QueriesIdeal.Facts] [hQueriesRefIdeal : Cert.QueriesRefIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesRefIdeal.nD Cert.QueriesRefIdeal.τ Cert.QueriesRefIdeal.sig) → Buf (Elt Ideal) ℓ) (g' : Dev Cert.QueriesRefIdeal.nD → PrngReg), Pre_QueriesIdeal m →
    (∀ c : Dev Cert.QueriesIdeal.nD,
      m' ((c.tc : Thread Cert.QueriesRefIdeal.nD Cert.QueriesRefIdeal.τ).loc Cert.QueriesRefIdeal.main_arg0) = m ((c.tc : Thread Cert.QueriesIdeal.nD Cert.QueriesIdeal.τ).loc Cert.QueriesIdeal.main_arg0)
      ∧ m' ((c.tc : Thread Cert.QueriesRefIdeal.nD Cert.QueriesRefIdeal.τ).loc Cert.QueriesRefIdeal.main_arg1) = m ((c.tc : Thread Cert.QueriesIdeal.nD Cert.QueriesIdeal.τ).loc Cert.QueriesIdeal.main_arg1)) →
    ∃ (v0 : (c : Dev Cert.QueriesIdeal.nD) → Buf (Elt Ideal) ((c.tc : Thread Cert.QueriesIdeal.nD Cert.QueriesIdeal.τ).loc Cert.QueriesIdeal.main_v0)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v0) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ θ_run (Cert.QueriesRefIdeal.defs (F := Ideal)) (onTc (τ := Cert.QueriesRefIdeal.τ) (Cert.QueriesRefIdeal.main (F := Ideal))) ⟨m', fun _ => 0, g'⟩ (fun r => ∀ c : Dev Cert.QueriesRefIdeal.nD,
          r.2.mem ((c.tc : Thread Cert.QueriesRefIdeal.nD Cert.QueriesRefIdeal.τ).loc Cert.QueriesRefIdeal.main_v4) = v0 c
          ∧ r.2.mem ((c.tc : Thread Cert.QueriesRefIdeal.nD Cert.QueriesRefIdeal.τ).loc Cert.QueriesRefIdeal.main_arg0) = m' ((c.tc : Thread Cert.QueriesRefIdeal.nD Cert.QueriesRefIdeal.τ).loc Cert.QueriesRefIdeal.main_arg0)
          ∧ r.2.mem ((c.tc : Thread Cert.QueriesRefIdeal.nD Cert.QueriesRefIdeal.τ).loc Cert.QueriesRefIdeal.main_arg1) = m' ((c.tc : Thread Cert.QueriesRefIdeal.nD Cert.QueriesRefIdeal.τ).loc Cert.QueriesRefIdeal.main_arg1))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v2)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v2) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v8) = v0 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1))

def preserves_Values_ValuesIdeal : Prop :=
  True

def algebraic_ValuesIdeal_ValuesRefIdeal [hValuesIdeal : Cert.ValuesIdeal.Facts] [hValuesRefIdeal : Cert.ValuesRefIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v2)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v2) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          r.2.mem ((c.tc : Thread Cert.ValuesRefIdeal.nD Cert.ValuesRefIdeal.τ).loc Cert.ValuesRefIdeal.main_v8) = v0 c
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1))

def preserves_KeysNew_KeysNewIdeal : Prop :=
  True

def algebraic_KeysNewIdeal_KeysNewRefIdeal [hKeysNewIdeal : Cert.KeysNewIdeal.Facts] [hKeysNewRefIdeal : Cert.KeysNewRefIdeal.Facts] : Prop :=
  ∀ (m : (ℓ : Loc Cert.KeysNewIdeal.nD Cert.KeysNewIdeal.τ Cert.KeysNewIdeal.sig) → Buf (Elt Ideal) ℓ) (g : Dev Cert.KeysNewIdeal.nD → PrngReg)
    (m' : (ℓ : Loc Cert.KeysNewRefIdeal.nD Cert.KeysNewRefIdeal.τ Cert.KeysNewRefIdeal.sig) → Buf (Elt Ideal) ℓ) (g' : Dev Cert.KeysNewRefIdeal.nD → PrngReg), Pre_KeysNewIdeal m →
    (∀ c : Dev Cert.KeysNewIdeal.nD,
      m' ((c.tc : Thread Cert.KeysNewRefIdeal.nD Cert.KeysNewRefIdeal.τ).loc Cert.KeysNewRefIdeal.main_arg0) = m ((c.tc : Thread Cert.KeysNewIdeal.nD Cert.KeysNewIdeal.τ).loc Cert.KeysNewIdeal.main_arg0)
      ∧ m' ((c.tc : Thread Cert.KeysNewRefIdeal.nD Cert.KeysNewRefIdeal.τ).loc Cert.KeysNewRefIdeal.main_arg1) = m ((c.tc : Thread Cert.KeysNewIdeal.nD Cert.KeysNewIdeal.τ).loc Cert.KeysNewIdeal.main_arg1)) →
    ∃ (v0 : (c : Dev Cert.KeysNewIdeal.nD) → Buf (Elt Ideal) ((c.tc : Thread Cert.KeysNewIdeal.nD Cert.KeysNewIdeal.τ).loc Cert.KeysNewIdeal.main_v2)),
      θ_run (Cert.KeysNewIdeal.defs (F := Ideal)) (onTc (τ := Cert.KeysNewIdeal.τ) (Cert.KeysNewIdeal.main (F := Ideal))) ⟨m, fun _ => 0, g⟩ (fun r => ∀ c : Dev Cert.KeysNewIdeal.nD,
          r.2.mem ((c.tc : Thread Cert.KeysNewIdeal.nD Cert.KeysNewIdeal.τ).loc Cert.KeysNewIdeal.main_v2) = v0 c
          ∧ r.2.mem ((c.tc : Thread Cert.KeysNewIdeal.nD Cert.KeysNewIdeal.τ).loc Cert.KeysNewIdeal.main_arg0) = m ((c.tc : Thread Cert.KeysNewIdeal.nD Cert.KeysNewIdeal.τ).loc Cert.KeysNewIdeal.main_arg0)
          ∧ r.2.mem ((c.tc : Thread Cert.KeysNewIdeal.nD Cert.KeysNewIdeal.τ).loc Cert.KeysNewIdeal.main_arg1) = m ((c.tc : Thread Cert.KeysNewIdeal.nD Cert.KeysNewIdeal.τ).loc Cert.KeysNewIdeal.main_arg1))
      ∧ θ_run (Cert.KeysNewRefIdeal.defs (F := Ideal)) (onTc (τ := Cert.KeysNewRefIdeal.τ) (Cert.KeysNewRefIdeal.main (F := Ideal))) ⟨m', fun _ => 0, g'⟩ (fun r => ∀ c : Dev Cert.KeysNewRefIdeal.nD,
          r.2.mem ((c.tc : Thread Cert.KeysNewRefIdeal.nD Cert.KeysNewRefIdeal.τ).loc Cert.KeysNewRefIdeal.main_v8) = v0 c
          ∧ r.2.mem ((c.tc : Thread Cert.KeysNewRefIdeal.nD Cert.KeysNewRefIdeal.τ).loc Cert.KeysNewRefIdeal.main_arg0) = m' ((c.tc : Thread Cert.KeysNewRefIdeal.nD Cert.KeysNewRefIdeal.τ).loc Cert.KeysNewRefIdeal.main_arg0)
          ∧ r.2.mem ((c.tc : Thread Cert.KeysNewRefIdeal.nD Cert.KeysNewRefIdeal.τ).loc Cert.KeysNewRefIdeal.main_arg1) = m' ((c.tc : Thread Cert.KeysNewRefIdeal.nD Cert.KeysNewRefIdeal.τ).loc Cert.KeysNewRefIdeal.main_arg1))

def preserves_ValuesNew_ValuesNewIdeal : Prop :=
  True

def algebraic_ValuesNewIdeal_ValuesNewRefIdeal [hValuesNewIdeal : Cert.ValuesNewIdeal.Facts] [hValuesNewRefIdeal : Cert.ValuesNewRefIdeal.Facts] : Prop :=
  ∀ (m : (ℓ : Loc Cert.ValuesNewIdeal.nD Cert.ValuesNewIdeal.τ Cert.ValuesNewIdeal.sig) → Buf (Elt Ideal) ℓ) (g : Dev Cert.ValuesNewIdeal.nD → PrngReg)
    (m' : (ℓ : Loc Cert.ValuesNewRefIdeal.nD Cert.ValuesNewRefIdeal.τ Cert.ValuesNewRefIdeal.sig) → Buf (Elt Ideal) ℓ) (g' : Dev Cert.ValuesNewRefIdeal.nD → PrngReg), Pre_ValuesNewIdeal m →
    (∀ c : Dev Cert.ValuesNewIdeal.nD,
      m' ((c.tc : Thread Cert.ValuesNewRefIdeal.nD Cert.ValuesNewRefIdeal.τ).loc Cert.ValuesNewRefIdeal.main_arg0) = m ((c.tc : Thread Cert.ValuesNewIdeal.nD Cert.ValuesNewIdeal.τ).loc Cert.ValuesNewIdeal.main_arg0)
      ∧ m' ((c.tc : Thread Cert.ValuesNewRefIdeal.nD Cert.ValuesNewRefIdeal.τ).loc Cert.ValuesNewRefIdeal.main_arg1) = m ((c.tc : Thread Cert.ValuesNewIdeal.nD Cert.ValuesNewIdeal.τ).loc Cert.ValuesNewIdeal.main_arg1)) →
    ∃ (v0 : (c : Dev Cert.ValuesNewIdeal.nD) → Buf (Elt Ideal) ((c.tc : Thread Cert.ValuesNewIdeal.nD Cert.ValuesNewIdeal.τ).loc Cert.ValuesNewIdeal.main_v2)),
      θ_run (Cert.ValuesNewIdeal.defs (F := Ideal)) (onTc (τ := Cert.ValuesNewIdeal.τ) (Cert.ValuesNewIdeal.main (F := Ideal))) ⟨m, fun _ => 0, g⟩ (fun r => ∀ c : Dev Cert.ValuesNewIdeal.nD,
          r.2.mem ((c.tc : Thread Cert.ValuesNewIdeal.nD Cert.ValuesNewIdeal.τ).loc Cert.ValuesNewIdeal.main_v2) = v0 c
          ∧ r.2.mem ((c.tc : Thread Cert.ValuesNewIdeal.nD Cert.ValuesNewIdeal.τ).loc Cert.ValuesNewIdeal.main_arg0) = m ((c.tc : Thread Cert.ValuesNewIdeal.nD Cert.ValuesNewIdeal.τ).loc Cert.ValuesNewIdeal.main_arg0)
          ∧ r.2.mem ((c.tc : Thread Cert.ValuesNewIdeal.nD Cert.ValuesNewIdeal.τ).loc Cert.ValuesNewIdeal.main_arg1) = m ((c.tc : Thread Cert.ValuesNewIdeal.nD Cert.ValuesNewIdeal.τ).loc Cert.ValuesNewIdeal.main_arg1))
      ∧ θ_run (Cert.ValuesNewRefIdeal.defs (F := Ideal)) (onTc (τ := Cert.ValuesNewRefIdeal.τ) (Cert.ValuesNewRefIdeal.main (F := Ideal))) ⟨m', fun _ => 0, g'⟩ (fun r => ∀ c : Dev Cert.ValuesNewRefIdeal.nD,
          r.2.mem ((c.tc : Thread Cert.ValuesNewRefIdeal.nD Cert.ValuesNewRefIdeal.τ).loc Cert.ValuesNewRefIdeal.main_v8) = v0 c
          ∧ r.2.mem ((c.tc : Thread Cert.ValuesNewRefIdeal.nD Cert.ValuesNewRefIdeal.τ).loc Cert.ValuesNewRefIdeal.main_arg0) = m' ((c.tc : Thread Cert.ValuesNewRefIdeal.nD Cert.ValuesNewRefIdeal.τ).loc Cert.ValuesNewRefIdeal.main_arg0)
          ∧ r.2.mem ((c.tc : Thread Cert.ValuesNewRefIdeal.nD Cert.ValuesNewRefIdeal.τ).loc Cert.ValuesNewRefIdeal.main_arg1) = m' ((c.tc : Thread Cert.ValuesNewRefIdeal.nD Cert.ValuesNewRefIdeal.τ).loc Cert.ValuesNewRefIdeal.main_arg1))

def preserves_Logf_LogfIdeal : Prop :=
  True

def algebraic_LogfIdeal_LogfRefIdeal [hLogfIdeal : Cert.LogfIdeal.Facts] [hLogfRefIdeal : Cert.LogfRefIdeal.Facts] : Prop :=
  ∀ (m : (ℓ : Loc Cert.LogfIdeal.nD Cert.LogfIdeal.τ Cert.LogfIdeal.sig) → Buf (Elt Ideal) ℓ) (g : Dev Cert.LogfIdeal.nD → PrngReg)
    (m' : (ℓ : Loc Cert.LogfRefIdeal.nD Cert.LogfRefIdeal.τ Cert.LogfRefIdeal.sig) → Buf (Elt Ideal) ℓ) (g' : Dev Cert.LogfRefIdeal.nD → PrngReg), Pre_LogfIdeal m →
    (∀ c : Dev Cert.LogfIdeal.nD,
      m' ((c.tc : Thread Cert.LogfRefIdeal.nD Cert.LogfRefIdeal.τ).loc Cert.LogfRefIdeal.main_arg0) = m ((c.tc : Thread Cert.LogfIdeal.nD Cert.LogfIdeal.τ).loc Cert.LogfIdeal.main_arg0)
      ∧ m' ((c.tc : Thread Cert.LogfRefIdeal.nD Cert.LogfRefIdeal.τ).loc Cert.LogfRefIdeal.main_arg1) = m ((c.tc : Thread Cert.LogfIdeal.nD Cert.LogfIdeal.τ).loc Cert.LogfIdeal.main_arg1)
      ∧ m' ((c.tc : Thread Cert.LogfRefIdeal.nD Cert.LogfRefIdeal.τ).loc Cert.LogfRefIdeal.main_arg2) = m ((c.tc : Thread Cert.LogfIdeal.nD Cert.LogfIdeal.τ).loc Cert.LogfIdeal.main_arg2)) →
    ∃ (v0 : (c : Dev Cert.LogfIdeal.nD) → Buf (Elt Ideal) ((c.tc : Thread Cert.LogfIdeal.nD Cert.LogfIdeal.τ).loc Cert.LogfIdeal.main_v18)) (v1 : (c : Dev Cert.LogfIdeal.nD) → Buf (Elt Ideal) ((c.tc : Thread Cert.LogfIdeal.nD Cert.LogfIdeal.τ).loc Cert.LogfIdeal.main_v20)),
      θ_run (Cert.LogfIdeal.defs (F := Ideal)) (onTc (τ := Cert.LogfIdeal.τ) (Cert.LogfIdeal.main (F := Ideal))) ⟨m, fun _ => 0, g⟩ (fun r => ∀ c : Dev Cert.LogfIdeal.nD,
          r.2.mem ((c.tc : Thread Cert.LogfIdeal.nD Cert.LogfIdeal.τ).loc Cert.LogfIdeal.main_v18) = v0 c
          ∧ r.2.mem ((c.tc : Thread Cert.LogfIdeal.nD Cert.LogfIdeal.τ).loc Cert.LogfIdeal.main_v20) = v1 c
          ∧ r.2.mem ((c.tc : Thread Cert.LogfIdeal.nD Cert.LogfIdeal.τ).loc Cert.LogfIdeal.main_arg0) = m ((c.tc : Thread Cert.LogfIdeal.nD Cert.LogfIdeal.τ).loc Cert.LogfIdeal.main_arg0)
          ∧ r.2.mem ((c.tc : Thread Cert.LogfIdeal.nD Cert.LogfIdeal.τ).loc Cert.LogfIdeal.main_arg1) = m ((c.tc : Thread Cert.LogfIdeal.nD Cert.LogfIdeal.τ).loc Cert.LogfIdeal.main_arg1)
          ∧ r.2.mem ((c.tc : Thread Cert.LogfIdeal.nD Cert.LogfIdeal.τ).loc Cert.LogfIdeal.main_arg2) = m ((c.tc : Thread Cert.LogfIdeal.nD Cert.LogfIdeal.τ).loc Cert.LogfIdeal.main_arg2))
      ∧ θ_run (Cert.LogfRefIdeal.defs (F := Ideal)) (onTc (τ := Cert.LogfRefIdeal.τ) (Cert.LogfRefIdeal.main (F := Ideal))) ⟨m', fun _ => 0, g'⟩ (fun r => ∀ c : Dev Cert.LogfRefIdeal.nD,
          r.2.mem ((c.tc : Thread Cert.LogfRefIdeal.nD Cert.LogfRefIdeal.τ).loc Cert.LogfRefIdeal.main_v10) = v0 c
          ∧ r.2.mem ((c.tc : Thread Cert.LogfRefIdeal.nD Cert.LogfRefIdeal.τ).loc Cert.LogfRefIdeal.main_v12) = v1 c
          ∧ r.2.mem ((c.tc : Thread Cert.LogfRefIdeal.nD Cert.LogfRefIdeal.τ).loc Cert.LogfRefIdeal.main_arg0) = m' ((c.tc : Thread Cert.LogfRefIdeal.nD Cert.LogfRefIdeal.τ).loc Cert.LogfRefIdeal.main_arg0)
          ∧ r.2.mem ((c.tc : Thread Cert.LogfRefIdeal.nD Cert.LogfRefIdeal.τ).loc Cert.LogfRefIdeal.main_arg1) = m' ((c.tc : Thread Cert.LogfRefIdeal.nD Cert.LogfRefIdeal.τ).loc Cert.LogfRefIdeal.main_arg1)
          ∧ r.2.mem ((c.tc : Thread Cert.LogfRefIdeal.nD Cert.LogfRefIdeal.τ).loc Cert.LogfRefIdeal.main_arg2) = m' ((c.tc : Thread Cert.LogfRefIdeal.nD Cert.LogfRefIdeal.τ).loc Cert.LogfRefIdeal.main_arg2))

def preserves_YPrompt_YPromptIdeal : Prop :=
  True

def algebraic_YPromptIdeal_YPromptRefIdeal [hYPromptIdeal : Cert.YPromptIdeal.Facts] [hYPromptRefIdeal : Cert.YPromptRefIdeal.Facts] : Prop :=
  ∀ (m : (ℓ : Loc Cert.YPromptIdeal.nD Cert.YPromptIdeal.τ Cert.YPromptIdeal.sig) → Buf (Elt Ideal) ℓ) (g : Dev Cert.YPromptIdeal.nD → PrngReg)
    (m' : (ℓ : Loc Cert.YPromptRefIdeal.nD Cert.YPromptRefIdeal.τ Cert.YPromptRefIdeal.sig) → Buf (Elt Ideal) ℓ) (g' : Dev Cert.YPromptRefIdeal.nD → PrngReg), Pre_YPromptIdeal m →
    (∀ c : Dev Cert.YPromptIdeal.nD,
      m' ((c.tc : Thread Cert.YPromptRefIdeal.nD Cert.YPromptRefIdeal.τ).loc Cert.YPromptRefIdeal.main_arg0) = m ((c.tc : Thread Cert.YPromptIdeal.nD Cert.YPromptIdeal.τ).loc Cert.YPromptIdeal.main_arg0)
      ∧ m' ((c.tc : Thread Cert.YPromptRefIdeal.nD Cert.YPromptRefIdeal.τ).loc Cert.YPromptRefIdeal.main_arg1) = m ((c.tc : Thread Cert.YPromptIdeal.nD Cert.YPromptIdeal.τ).loc Cert.YPromptIdeal.main_arg1)) →
    ∃ (v0 : (c : Dev Cert.YPromptIdeal.nD) → Buf (Elt Ideal) ((c.tc : Thread Cert.YPromptIdeal.nD Cert.YPromptIdeal.τ).loc Cert.YPromptIdeal.main_v2)),
      θ_run (Cert.YPromptIdeal.defs (F := Ideal)) (onTc (τ := Cert.YPromptIdeal.τ) (Cert.YPromptIdeal.main (F := Ideal))) ⟨m, fun _ => 0, g⟩ (fun r => ∀ c : Dev Cert.YPromptIdeal.nD,
          r.2.mem ((c.tc : Thread Cert.YPromptIdeal.nD Cert.YPromptIdeal.τ).loc Cert.YPromptIdeal.main_v2) = v0 c
          ∧ r.2.mem ((c.tc : Thread Cert.YPromptIdeal.nD Cert.YPromptIdeal.τ).loc Cert.YPromptIdeal.main_arg0) = m ((c.tc : Thread Cert.YPromptIdeal.nD Cert.YPromptIdeal.τ).loc Cert.YPromptIdeal.main_arg0)
          ∧ r.2.mem ((c.tc : Thread Cert.YPromptIdeal.nD Cert.YPromptIdeal.τ).loc Cert.YPromptIdeal.main_arg1) = m ((c.tc : Thread Cert.YPromptIdeal.nD Cert.YPromptIdeal.τ).loc Cert.YPromptIdeal.main_arg1))
      ∧ θ_run (Cert.YPromptRefIdeal.defs (F := Ideal)) (onTc (τ := Cert.YPromptRefIdeal.τ) (Cert.YPromptRefIdeal.main (F := Ideal))) ⟨m', fun _ => 0, g'⟩ (fun r => ∀ c : Dev Cert.YPromptRefIdeal.nD,
          r.2.mem ((c.tc : Thread Cert.YPromptRefIdeal.nD Cert.YPromptRefIdeal.τ).loc Cert.YPromptRefIdeal.main_v14) = v0 c
          ∧ r.2.mem ((c.tc : Thread Cert.YPromptRefIdeal.nD Cert.YPromptRefIdeal.τ).loc Cert.YPromptRefIdeal.main_arg0) = m' ((c.tc : Thread Cert.YPromptRefIdeal.nD Cert.YPromptRefIdeal.τ).loc Cert.YPromptRefIdeal.main_arg0)
          ∧ r.2.mem ((c.tc : Thread Cert.YPromptRefIdeal.nD Cert.YPromptRefIdeal.τ).loc Cert.YPromptRefIdeal.main_arg1) = m' ((c.tc : Thread Cert.YPromptRefIdeal.nD Cert.YPromptRefIdeal.τ).loc Cert.YPromptRefIdeal.main_arg1))

def preserves_YSample_YSampleIdeal : Prop :=
  True

def algebraic_YSampleIdeal_YSampleRefIdeal [hYSampleIdeal : Cert.YSampleIdeal.Facts] [hYSampleRefIdeal : Cert.YSampleRefIdeal.Facts] : Prop :=
  ∀ (m : (ℓ : Loc Cert.YSampleIdeal.nD Cert.YSampleIdeal.τ Cert.YSampleIdeal.sig) → Buf (Elt Ideal) ℓ) (g : Dev Cert.YSampleIdeal.nD → PrngReg)
    (m' : (ℓ : Loc Cert.YSampleRefIdeal.nD Cert.YSampleRefIdeal.τ Cert.YSampleRefIdeal.sig) → Buf (Elt Ideal) ℓ) (g' : Dev Cert.YSampleRefIdeal.nD → PrngReg), Pre_YSampleIdeal m →
    (∀ c : Dev Cert.YSampleIdeal.nD,
      m' ((c.tc : Thread Cert.YSampleRefIdeal.nD Cert.YSampleRefIdeal.τ).loc Cert.YSampleRefIdeal.main_arg0) = m ((c.tc : Thread Cert.YSampleIdeal.nD Cert.YSampleIdeal.τ).loc Cert.YSampleIdeal.main_arg0)
      ∧ m' ((c.tc : Thread Cert.YSampleRefIdeal.nD Cert.YSampleRefIdeal.τ).loc Cert.YSampleRefIdeal.main_arg1) = m ((c.tc : Thread Cert.YSampleIdeal.nD Cert.YSampleIdeal.τ).loc Cert.YSampleIdeal.main_arg1)) →
    ∃ (v0 : (c : Dev Cert.YSampleIdeal.nD) → Buf (Elt Ideal) ((c.tc : Thread Cert.YSampleIdeal.nD Cert.YSampleIdeal.τ).loc Cert.YSampleIdeal.main_v2)),
      θ_run (Cert.YSampleIdeal.defs (F := Ideal)) (onTc (τ := Cert.YSampleIdeal.τ) (Cert.YSampleIdeal.main (F := Ideal))) ⟨m, fun _ => 0, g⟩ (fun r => ∀ c : Dev Cert.YSampleIdeal.nD,
          r.2.mem ((c.tc : Thread Cert.YSampleIdeal.nD Cert.YSampleIdeal.τ).loc Cert.YSampleIdeal.main_v2) = v0 c
          ∧ r.2.mem ((c.tc : Thread Cert.YSampleIdeal.nD Cert.YSampleIdeal.τ).loc Cert.YSampleIdeal.main_arg0) = m ((c.tc : Thread Cert.YSampleIdeal.nD Cert.YSampleIdeal.τ).loc Cert.YSampleIdeal.main_arg0)
          ∧ r.2.mem ((c.tc : Thread Cert.YSampleIdeal.nD Cert.YSampleIdeal.τ).loc Cert.YSampleIdeal.main_arg1) = m ((c.tc : Thread Cert.YSampleIdeal.nD Cert.YSampleIdeal.τ).loc Cert.YSampleIdeal.main_arg1))
      ∧ θ_run (Cert.YSampleRefIdeal.defs (F := Ideal)) (onTc (τ := Cert.YSampleRefIdeal.τ) (Cert.YSampleRefIdeal.main (F := Ideal))) ⟨m', fun _ => 0, g'⟩ (fun r => ∀ c : Dev Cert.YSampleRefIdeal.nD,
          r.2.mem ((c.tc : Thread Cert.YSampleRefIdeal.nD Cert.YSampleRefIdeal.τ).loc Cert.YSampleRefIdeal.main_v14) = v0 c
          ∧ r.2.mem ((c.tc : Thread Cert.YSampleRefIdeal.nD Cert.YSampleRefIdeal.τ).loc Cert.YSampleRefIdeal.main_arg0) = m' ((c.tc : Thread Cert.YSampleRefIdeal.nD Cert.YSampleRefIdeal.τ).loc Cert.YSampleRefIdeal.main_arg0)
          ∧ r.2.mem ((c.tc : Thread Cert.YSampleRefIdeal.nD Cert.YSampleRefIdeal.τ).loc Cert.YSampleRefIdeal.main_arg1) = m' ((c.tc : Thread Cert.YSampleRefIdeal.nD Cert.YSampleRefIdeal.τ).loc Cert.YSampleRefIdeal.main_arg1))

def Claim : Prop :=
  ∃ (hKernel : Cert.Kernel.Facts) (hKernelIdeal : Cert.KernelIdeal.Facts) (hReferenceIdeal : Cert.ReferenceIdeal.Facts) (hGateup : Cert.Gateup.Facts) (hGateupIdeal : Cert.GateupIdeal.Facts) (hGateupRefIdeal : Cert.GateupRefIdeal.Facts) (hDown : Cert.Down.Facts) (hDownIdeal : Cert.DownIdeal.Facts) (hDownRefIdeal : Cert.DownRefIdeal.Facts) (hDense : Cert.Dense.Facts) (hDenseIdeal : Cert.DenseIdeal.Facts) (hDenseRefIdeal : Cert.DenseRefIdeal.Facts) (hDenseDown : Cert.DenseDown.Facts) (hDenseDownIdeal : Cert.DenseDownIdeal.Facts) (hDenseDownRefIdeal : Cert.DenseDownRefIdeal.Facts) (hProjectAB : Cert.ProjectAB.Facts) (hProjectABIdeal : Cert.ProjectABIdeal.Facts) (hProjectABRefIdeal : Cert.ProjectABRefIdeal.Facts) (hOut : Cert.Out.Facts) (hOutIdeal : Cert.OutIdeal.Facts) (hOutRefIdeal : Cert.OutRefIdeal.Facts) (hQueries : Cert.Queries.Facts) (hQueriesIdeal : Cert.QueriesIdeal.Facts) (hQueriesRefIdeal : Cert.QueriesRefIdeal.Facts) (hKeys : Cert.Keys.Facts) (hKeysIdeal : Cert.KeysIdeal.Facts) (hKeysRefIdeal : Cert.KeysRefIdeal.Facts) (hValues : Cert.Values.Facts) (hValuesIdeal : Cert.ValuesIdeal.Facts) (hValuesRefIdeal : Cert.ValuesRefIdeal.Facts) (hKeysNew : Cert.KeysNew.Facts) (hKeysNewIdeal : Cert.KeysNewIdeal.Facts) (hKeysNewRefIdeal : Cert.KeysNewRefIdeal.Facts) (hValuesNew : Cert.ValuesNew.Facts) (hValuesNewIdeal : Cert.ValuesNewIdeal.Facts) (hValuesNewRefIdeal : Cert.ValuesNewRefIdeal.Facts) (hLogf : Cert.Logf.Facts) (hLogfIdeal : Cert.LogfIdeal.Facts) (hLogfRefIdeal : Cert.LogfRefIdeal.Facts) (hYPrompt : Cert.YPrompt.Facts) (hYPromptIdeal : Cert.YPromptIdeal.Facts) (hYPromptRefIdeal : Cert.YPromptRefIdeal.Facts) (hYSample : Cert.YSample.Facts) (hYSampleIdeal : Cert.YSampleIdeal.Facts) (hYSampleRefIdeal : Cert.YSampleRefIdeal.Facts) (hPre_finite : Cert.Pre_finite.Facts) (hPre_tables : Cert.Pre_tables.Facts) (hPre_tables_down : Cert.Pre_tables_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gateup (hGateup := hGateup) (hPre_tables := hPre_tables)
    ∧ quiescent_GateupIdeal (hGateupIdeal := hGateupIdeal) (hPre_tables := hPre_tables)
    ∧ quiescent_GateupRefIdeal (hGateupRefIdeal := hGateupRefIdeal)
    ∧ quiescent_GateupRefIdeal_pre_tables (hGateupRefIdeal := hGateupRefIdeal) (hPre_tables := hPre_tables)
    ∧ quiescent_Down (hDown := hDown) (hPre_tables_down := hPre_tables_down)
    ∧ quiescent_DownIdeal (hDownIdeal := hDownIdeal) (hPre_tables_down := hPre_tables_down)
    ∧ quiescent_DownRefIdeal (hDownRefIdeal := hDownRefIdeal)
    ∧ quiescent_DownRefIdeal_pre_tables_down (hDownRefIdeal := hDownRefIdeal) (hPre_tables_down := hPre_tables_down)
    ∧ quiescent_Dense (hDense := hDense)
    ∧ quiescent_DenseIdeal (hDenseIdeal := hDenseIdeal)
    ∧ quiescent_DenseRefIdeal (hDenseRefIdeal := hDenseRefIdeal)
    ∧ quiescent_DenseDown (hDenseDown := hDenseDown)
    ∧ quiescent_DenseDownIdeal (hDenseDownIdeal := hDenseDownIdeal)
    ∧ quiescent_DenseDownRefIdeal (hDenseDownRefIdeal := hDenseDownRefIdeal)
    ∧ quiescent_ProjectAB (hProjectAB := hProjectAB)
    ∧ quiescent_ProjectABIdeal (hProjectABIdeal := hProjectABIdeal)
    ∧ quiescent_ProjectABRefIdeal (hProjectABRefIdeal := hProjectABRefIdeal)
    ∧ quiescent_Out (hOut := hOut)
    ∧ quiescent_OutIdeal (hOutIdeal := hOutIdeal)
    ∧ quiescent_OutRefIdeal (hOutRefIdeal := hOutRefIdeal)
    ∧ quiescent_Queries (hQueries := hQueries)
    ∧ quiescent_QueriesIdeal (hQueriesIdeal := hQueriesIdeal)
    ∧ quiescent_QueriesRefIdeal (hQueriesRefIdeal := hQueriesRefIdeal)
    ∧ quiescent_Keys (hKeys := hKeys)
    ∧ quiescent_KeysIdeal (hKeysIdeal := hKeysIdeal)
    ∧ quiescent_KeysRefIdeal (hKeysRefIdeal := hKeysRefIdeal)
    ∧ quiescent_Values (hValues := hValues)
    ∧ quiescent_ValuesIdeal (hValuesIdeal := hValuesIdeal)
    ∧ quiescent_ValuesRefIdeal (hValuesRefIdeal := hValuesRefIdeal)
    ∧ quiescent_KeysNew (hKeysNew := hKeysNew)
    ∧ quiescent_KeysNewIdeal (hKeysNewIdeal := hKeysNewIdeal)
    ∧ quiescent_KeysNewRefIdeal (hKeysNewRefIdeal := hKeysNewRefIdeal)
    ∧ quiescent_ValuesNew (hValuesNew := hValuesNew)
    ∧ quiescent_ValuesNewIdeal (hValuesNewIdeal := hValuesNewIdeal)
    ∧ quiescent_ValuesNewRefIdeal (hValuesNewRefIdeal := hValuesNewRefIdeal)
    ∧ quiescent_Logf (hLogf := hLogf)
    ∧ quiescent_LogfIdeal (hLogfIdeal := hLogfIdeal)
    ∧ quiescent_LogfRefIdeal (hLogfRefIdeal := hLogfRefIdeal)
    ∧ quiescent_YPrompt (hYPrompt := hYPrompt)
    ∧ quiescent_YPromptIdeal (hYPromptIdeal := hYPromptIdeal)
    ∧ quiescent_YPromptRefIdeal (hYPromptRefIdeal := hYPromptRefIdeal)
    ∧ quiescent_YSample (hYSample := hYSample)
    ∧ quiescent_YSampleIdeal (hYSampleIdeal := hYSampleIdeal)
    ∧ quiescent_YSampleRefIdeal (hYSampleRefIdeal := hYSampleRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gateup_GateupIdeal
    ∧ algebraic_GateupIdeal_GateupRefIdeal (hGateupIdeal := hGateupIdeal) (hGateupRefIdeal := hGateupRefIdeal) (hPre_tables := hPre_tables)
    ∧ preserves_Down_DownIdeal
    ∧ algebraic_DownIdeal_DownRefIdeal (hDownIdeal := hDownIdeal) (hDownRefIdeal := hDownRefIdeal) (hPre_tables_down := hPre_tables_down)
    ∧ preserves_Dense_DenseIdeal
    ∧ algebraic_DenseIdeal_DenseRefIdeal (hDenseIdeal := hDenseIdeal) (hDenseRefIdeal := hDenseRefIdeal)
    ∧ preserves_DenseDown_DenseDownIdeal
    ∧ algebraic_DenseDownIdeal_DenseDownRefIdeal (hDenseDownIdeal := hDenseDownIdeal) (hDenseDownRefIdeal := hDenseDownRefIdeal)
    ∧ preserves_ProjectAB_ProjectABIdeal
    ∧ algebraic_ProjectABIdeal_ProjectABRefIdeal (hProjectABIdeal := hProjectABIdeal) (hProjectABRefIdeal := hProjectABRefIdeal)
    ∧ preserves_Out_OutIdeal
    ∧ algebraic_OutIdeal_OutRefIdeal (hOutIdeal := hOutIdeal) (hOutRefIdeal := hOutRefIdeal)
    ∧ preserves_Queries_QueriesIdeal
    ∧ algebraic_QueriesIdeal_QueriesRefIdeal (hQueriesIdeal := hQueriesIdeal) (hQueriesRefIdeal := hQueriesRefIdeal)
    ∧ preserves_Keys_KeysIdeal
    ∧ algebraic_KeysIdeal_KeysRefIdeal (hKeysIdeal := hKeysIdeal) (hKeysRefIdeal := hKeysRefIdeal)
    ∧ preserves_Values_ValuesIdeal
    ∧ algebraic_ValuesIdeal_ValuesRefIdeal (hValuesIdeal := hValuesIdeal) (hValuesRefIdeal := hValuesRefIdeal)
    ∧ preserves_KeysNew_KeysNewIdeal
    ∧ algebraic_KeysNewIdeal_KeysNewRefIdeal (hKeysNewIdeal := hKeysNewIdeal) (hKeysNewRefIdeal := hKeysNewRefIdeal)
    ∧ preserves_ValuesNew_ValuesNewIdeal
    ∧ algebraic_ValuesNewIdeal_ValuesNewRefIdeal (hValuesNewIdeal := hValuesNewIdeal) (hValuesNewRefIdeal := hValuesNewRefIdeal)
    ∧ preserves_Logf_LogfIdeal
    ∧ algebraic_LogfIdeal_LogfRefIdeal (hLogfIdeal := hLogfIdeal) (hLogfRefIdeal := hLogfRefIdeal)
    ∧ preserves_YPrompt_YPromptIdeal
    ∧ algebraic_YPromptIdeal_YPromptRefIdeal (hYPromptIdeal := hYPromptIdeal) (hYPromptRefIdeal := hYPromptRefIdeal)
    ∧ preserves_YSample_YSampleIdeal
    ∧ algebraic_YSampleIdeal_YSampleRefIdeal (hYSampleIdeal := hYSampleIdeal) (hYSampleRefIdeal := hYSampleRefIdeal)
-- ==== Pre_finite.lean ====
abbrev S16384x4096 : Shape := ⟨2, ![16384, 4096]⟩
abbrev S8x2048x128 : Shape := ⟨3, ![8, 2048, 128]⟩
abbrev S_ : Shape := ⟨0, ![]⟩
abbrev S8x2048x32 : Shape := ⟨3, ![8, 2048, 32]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  slices_S8x2048x128_S8x2048x32_0_0_0 : S8x2048x128.Slices ![0, 0, 0] S8x2048x32
  bcast_S_S8x2048x32 : S_.BroadcastsInDim S8x2048x32 (![] : Fin 0 → Fin S8x2048x32.rank)
  reducesTo_S8x2048x32_S_d0_1_2 : S8x2048x32.ReducesTo [0, 1, 2] S_

variable [Facts]

def fn {F : FTy → Type} [FloatOps F] (main_arg0 : FVec F S16384x4096 .f32) (main_arg1 : FVec F S16384x4096 .f32) (main_arg2 : FVec F S16384x4096 .f32) (main_arg3 : FVec F S8x2048x128 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S8x2048x32 .f32 := (extractStridedSlice S8x2048x32 ![0, 0, 0] · slices_S8x2048x128_S8x2048x32_0_0_0) main_arg3
  let main_v10 : FVec F S8x2048x32 .f32 := Host.absf main_v9
  let main_cst_2 : FVec F S_ .f32 := constant S_ .f32 0x7F800000#32
  let main_v11 : FVec F S8x2048x32 .f32 := broadcastInDim S8x2048x32 ![] bcast_S_S8x2048x32 main_cst_2
  let main_v12 : IVec S8x2048x32 1 := cmpf .olt main_v10 main_v11
  let main_c_3 : IVec S_ 1 := constantI S_ 1 1#1
  let main_v13 : IVec S_ 1 := (fun x v => Host.reduce IntOp.andi x v reducesTo_S8x2048x32_S_d0_1_2 h_S_) main_v12 main_c_3
  let main_v14 : IVec S_ 1 := andi main_v8 main_v13
  main_v14
-- ==== Pre_tables.lean ====
abbrev S37888x4096 : Shape := ⟨2, ![37888, 4096]⟩
abbrev S1x8x4096x14336 : Shape := ⟨4, ![1, 8, 4096, 14336]⟩
abbrev S74 : Shape := ⟨1, ![74]⟩
abbrev S1 : Shape := ⟨1, ![1]⟩
abbrev S_ : Shape := ⟨0, ![]⟩

class Facts : Prop where
  bcast_S_S74 : S_.BroadcastsInDim S74 (![] : Fin 0 → Fin S74.rank)
  reducesTo_S74_S_d0 : S74.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S37888x4096 .bf16) (main_arg1 : FVec F S1x8x4096x14336 .f32) (main_arg2 : FVec F S1x8x4096x14336 .f32) (main_arg3 : IVec S74 32) (main_arg4 : IVec S1 32) : IVec S_ 1 :=
  let main_c : IVec S_ 32 := constantI S_ 32 0#32
  let main_v0 : IVec S74 32 := broadcastInDim S74 ![] bcast_S_S74 main_c
  let main_v1 : IVec S74 1 := cmpi .sge main_arg3 main_v0
  let main_c_0 : IVec S_ 32 := constantI S_ 32 8#32
  let main_v2 : IVec S74 32 := broadcastInDim S74 ![] bcast_S_S74 main_c_0
  let main_v3 : IVec S74 1 := cmpi .slt main_arg3 main_v2
  let main_v4 : IVec S74 1 := andi main_v1 main_v3
  let main_c_1 : IVec S_ 1 := constantI S_ 1 1#1
  let main_v5 : IVec S_ 1 := (fun x v => Host.reduce IntOp.andi x v reducesTo_S74_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg4 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_tables_down.lean ====
abbrev S37888x14336 : Shape := ⟨2, ![37888, 14336]⟩
abbrev S1x8x14336x4096 : Shape := ⟨4, ![1, 8, 14336, 4096]⟩
abbrev S74 : Shape := ⟨1, ![74]⟩
abbrev S1 : Shape := ⟨1, ![1]⟩
abbrev S_ : Shape := ⟨0, ![]⟩

class Facts : Prop where
  bcast_S_S74 : S_.BroadcastsInDim S74 (![] : Fin 0 → Fin S74.rank)
  reducesTo_S74_S_d0 : S74.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S37888x14336 .bf16) (main_arg1 : FVec F S1x8x14336x4096 .f32) (main_arg2 : IVec S74 32) (main_arg3 : IVec S1 32) : IVec S_ 1 :=
  let main_c : IVec S_ 32 := constantI S_ 32 0#32
  let main_v0 : IVec S74 32 := broadcastInDim S74 ![] bcast_S_S74 main_c
  let main_v1 : IVec S74 1 := cmpi .sge main_arg2 main_v0
  let main_c_0 : IVec S_ 32 := constantI S_ 32 8#32
  let main_v2 : IVec S74 32 := broadcastInDim S74 ![] bcast_S_S74 main_c_0
  let main_v3 : IVec S74 1 := cmpi .slt main_arg2 main_v2
  let main_v4 : IVec S74 1 := andi main_v1 main_v3
  let main_c_1 : IVec S_ 1 := constantI S_ 1 1#1
  let main_v5 : IVec S_ 1 := (fun x v => Host.reduce IntOp.andi x v reducesTo_S74_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg3 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S16384x4096 : Shape := ⟨2, ![16384, 4096]⟩
abbrev S8x2048x128 : Shape := ⟨3, ![8, 2048, 128]⟩
abbrev S8x2048x32 : Shape := ⟨3, ![8, 2048, 32]⟩
abbrev S8x32x2048 : Shape := ⟨3, ![8, 32, 2048]⟩
abbrev S8x32x4x512 : Shape := ⟨4, ![8, 32, 4, 512]⟩
abbrev S16384x128 : Shape := ⟨2, ![16384, 128]⟩
abbrev S_ : Shape := ⟨0, ![]⟩
abbrev S16896x4096 : Shape := ⟨2, ![16896, 4096]⟩
abbrev S512x256 : Shape := ⟨2, ![512, 256]⟩
abbrev S2048x256 : Shape := ⟨2, ![2048, 256]⟩
abbrev S512x128 : Shape := ⟨2, ![512, 128]⟩
abbrev S1x2x4x512 : Shape := ⟨4, ![1, 2, 4, 512]⟩
abbrev S512 : Shape := ⟨1, ![512]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 11
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S8x2048x128, .f32⟩
  | .hbm, ⟨4, _⟩ => ⟨S8x2048x32, .f32⟩
  | .hbm, ⟨5, _⟩ => ⟨S8x32x2048, .f32⟩
  | .hbm, ⟨6, _⟩ => ⟨S8x32x4x512, .f32⟩
  | .hbm, ⟨7, _⟩ => ⟨S16384x128, .f32⟩
  | .hbm, ⟨8, _⟩ => ⟨S_, .bf16⟩
  | .hbm, ⟨9, _⟩ => ⟨S16896x4096, .bf16⟩
  | .hbm, ⟨10, _⟩ => ⟨S16896x4096, .bf16⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S512x128, .f32⟩
  | .local _ .vmem, ⟨7, _⟩ => ⟨S512x128, .f32⟩
  | .local _ .vmem, ⟨8, _⟩ => ⟨S1x2x4x512, .f32⟩
  | .local _ .vmem, ⟨9, _⟩ => ⟨S1x2x4x512, .f32⟩
  | .local _ .vmem, ⟨10, _⟩ => ⟨S512x256, .bf16⟩
  | .local _ .vmem, ⟨11, _⟩ => ⟨S512x256, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 16, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x4096 : Shape := ⟨2, ![16384, 4096]⟩
abbrev S8x2048x128 : Shape := ⟨3, ![8, 2048, 128]⟩
abbrev S8x2048x4096 : Shape := ⟨3, ![8, 2048, 4096]⟩
abbrev S8x2048x32x128 : Shape := ⟨4, ![8, 2048, 32, 128]⟩
abbrev S8x2048x32 : Shape := ⟨3, ![8, 2048, 32]⟩
abbrev S2048 : Shape := ⟨1, ![2048]⟩
abbrev S8x32x2048x2048 : Shape := ⟨4, ![8, 32, 2048, 2048]⟩
abbrev S_ : Shape := ⟨0, ![]⟩
abbrev S8x32x2048 : Shape := ⟨3, ![8, 32, 2048]⟩
abbrev S8x32x2048x1 : Shape := ⟨4, ![8, 32, 2048, 1]⟩
abbrev S8x32x1x2048 : Shape := ⟨4, ![8, 32, 1, 2048]⟩
abbrev S1x2048 : Shape := ⟨2, ![1, 2048]⟩
abbrev S2048x1 : Shape := ⟨2, ![2048, 1]⟩
abbrev S2048x2048 : Shape := ⟨2, ![2048, 2048]⟩
abbrev S8x32x128x2048 : Shape := ⟨4, ![8, 32, 128, 2048]⟩
abbrev S512x4096 : Shape := ⟨2, ![512, 4096]⟩
abbrev S16896x4096 : Shape := ⟨2, ![16896, 4096]⟩

abbrev nBuf : Space → Nat
  | .hbm => 56
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S8x2048x128, .f32⟩
  | .hbm, ⟨4, _⟩ => ⟨S8x2048x4096, .f32⟩
  | .hbm, ⟨5, _⟩ => ⟨S8x2048x32x128, .f32⟩
  | .hbm, ⟨6, _⟩ => ⟨S8x2048x4096, .f32⟩
  | .hbm, ⟨7, _⟩ => ⟨S8x2048x32x128, .f32⟩
  | .hbm, ⟨8, _⟩ => ⟨S8x2048x4096, .f32⟩
  | .hbm, ⟨9, _⟩ => ⟨S8x2048x32x128, .f32⟩
  | .hbm, ⟨10, _⟩ => ⟨S8x2048x32, .f32⟩
  | .hbm, ⟨11, _⟩ => ⟨S2048, .i32⟩
  | .hbm, ⟨12, _⟩ => ⟨S2048, .i32⟩
  | .hbm, ⟨13, _⟩ => ⟨S8x32x2048x2048, .f32⟩
  | .hbm, ⟨14, _⟩ => ⟨S_, .f32⟩
  | .hbm, ⟨15, _⟩ => ⟨S8x32x2048x2048, .f32⟩
  | .hbm, ⟨16, _⟩ => ⟨S8x32x2048x2048, .f32⟩
  | .hbm, ⟨17, _⟩ => ⟨S8x32x2048, .f32⟩
  | .hbm, ⟨18, _⟩ => ⟨S8x32x2048x1, .f32⟩
  | .hbm, ⟨19, _⟩ => ⟨S8x32x2048x2048, .f32⟩
  | .hbm, ⟨20, _⟩ => ⟨S8x32x2048x2048, .f32⟩
  | .hbm, ⟨21, _⟩ => ⟨S8x32x2048, .f32⟩
  | .hbm, ⟨22, _⟩ => ⟨S8x32x1x2048, .f32⟩
  | .hbm, ⟨23, _⟩ => ⟨S8x32x2048x2048, .f32⟩
  | .hbm, ⟨24, _⟩ => ⟨S8x32x2048x2048, .f32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S8x32x2048x2048, .i1⟩
  | .hbm, ⟨33, _⟩ => ⟨S8x32x2048x2048, .f32⟩
  | .hbm, ⟨34, _⟩ => ⟨S8x32x2048x2048, .f32⟩
  | .hbm, ⟨35, _⟩ => ⟨S_, .f32⟩
  | .hbm, ⟨36, _⟩ => ⟨S8x32x2048, .f32⟩
  | .hbm, ⟨37, _⟩ => ⟨S_, .f32⟩
  | .hbm, ⟨38, _⟩ => ⟨S8x32x2048, .f32⟩
  | .hbm, ⟨39, _⟩ => ⟨S8x32x2048, .f32⟩
  | .hbm, ⟨40, _⟩ => ⟨S8x32x2048x1, .f32⟩
  | .hbm, ⟨41, _⟩ => ⟨S8x32x2048x2048, .f32⟩
  | .hbm, ⟨42, _⟩ => ⟨S8x32x2048x2048, .f32⟩
  | .hbm, ⟨43, _⟩ => ⟨S8x32x2048x2048, .f32⟩
  | .hbm, ⟨44, _⟩ => ⟨S_, .f32⟩
  | .hbm, ⟨45, _⟩ => ⟨S8x32x2048, .f32⟩
  | .hbm, ⟨46, _⟩ => ⟨S8x32x2048x1, .f32⟩
  | .hbm, ⟨47, _⟩ => ⟨S8x32x2048x2048, .f32⟩
  | .hbm, ⟨48, _⟩ => ⟨S8x32x2048x2048, .f32⟩
  | .hbm, ⟨49, _⟩ => ⟨S8x32x128x2048, .f32⟩
  | .hbm, ⟨50, _⟩ => ⟨S8x2048x32x128, .f32⟩
  | .hbm, ⟨51, _⟩ => ⟨S16384x4096, .f32⟩
  | .hbm, ⟨52, _⟩ => ⟨S16384x4096, .bf16⟩
  | .hbm, ⟨53, _⟩ => ⟨S_, .bf16⟩
  | .hbm, ⟨54, _⟩ => ⟨S512x4096, .bf16⟩
  | .hbm, ⟨55, _⟩ => ⟨S16896x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Gateup.lean ====
abbrev S37888x4096 : Shape := ⟨2, ![37888, 4096]⟩
abbrev S1x8x4096x14336 : Shape := ⟨4, ![1, 8, 4096, 14336]⟩
abbrev S74 : Shape := ⟨1, ![74]⟩
abbrev S1 : Shape := ⟨1, ![1]⟩
abbrev S37888x14336 : Shape := ⟨2, ![37888, 14336]⟩
abbrev S512x4096 : Shape := ⟨2, ![512, 4096]⟩
abbrev S1x1x4096x512 : Shape := ⟨4, ![1, 1, 4096, 512]⟩
abbrev S512x512 : Shape := ⟨2, ![512, 512]⟩
abbrev S4096x512 : Shape := ⟨2, ![4096, 512]⟩

abbrev nBuf : Space → Nat
  | .hbm => 4
  | .vmem => 8
  | .smem => 2
  | _ => 0

abbrev bufTy : (tb : Table) → Fin (tcTables nBuf tb) → BufTy
  | .hbm, ⟨0, _⟩ => ⟨S37888x4096, .bf16⟩
  | .hbm, ⟨1, _⟩ => ⟨S1x8x4096x14336, .f32⟩
  | .hbm, ⟨2, _⟩ => ⟨S1x8x4096x14336, .f32⟩
  | .hbm, ⟨3, _⟩ => ⟨S37888x14336, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S512x512, .bf16⟩
  | .local _ .vmem, ⟨7, _⟩ => ⟨S512x512, .bf16⟩
  | .local _ .smem, ⟨0, _⟩ => ⟨S74, .i32⟩
  | .local _ .smem, ⟨1, _⟩ => ⟨S1, .i32⟩
  | _, _ => ⟨S37888x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![28, 74], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg1 : BitVec 32 := BitVec.ofNat 32 (i 1).val
  let v1 : BitVec 1 := Scalar.cmpi .slt arg1 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S74.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateupRefIdeal.lean ====
abbrev S37888x4096 : Shape := ⟨2, ![37888, 4096]⟩
abbrev S1x8x4096x14336 : Shape := ⟨4, ![1, 8, 4096, 14336]⟩
abbrev S74 : Shape := ⟨1, ![74]⟩
abbrev S1 : Shape := ⟨1, ![1]⟩
abbrev S74x512x4096 : Shape := ⟨3, ![74, 512, 4096]⟩
abbrev S8x4096x14336 : Shape := ⟨3, ![8, 4096, 14336]⟩
abbrev S_ : Shape := ⟨0, ![]⟩
abbrev S74x1 : Shape := ⟨2, ![74, 1]⟩
abbrev S74x4096x14336 : Shape := ⟨3, ![74, 4096, 14336]⟩
abbrev S74x512x14336 : Shape := ⟨3, ![74, 512, 14336]⟩
abbrev S74x1x1 : Shape := ⟨3, ![74, 1, 1]⟩
abbrev S37888x14336 : Shape := ⟨2, ![37888, 14336]⟩

abbrev nBuf : Space → Nat
  | .hbm => 51
  | .vmem => 0
  | .smem => 0
  | _ => 0

abbrev bufTy : (tb : Table) → Fin (tcTables nBuf tb) → BufTy
  | .hbm, ⟨0, _⟩ => ⟨S37888x4096, .bf16⟩
  | .hbm, ⟨1, _⟩ => ⟨S1x8x4096x14336, .f32⟩
  | .hbm, ⟨2, _⟩ => ⟨S1x8x4096x14336, .f32⟩
  | .hbm, ⟨3, _⟩ => ⟨S74, .i32⟩
  | .hbm, ⟨4, _⟩ => ⟨S1, .i32⟩
  | .hbm, ⟨5, _⟩ => ⟨S37888x4096, .f32⟩
  | .hbm, ⟨6, _⟩ => ⟨S74x512x4096, .f32⟩
  | .hbm, ⟨7, _⟩ => ⟨S8x4096x14336, .f32⟩
  | .hbm, ⟨8, _⟩ => ⟨S_, .i32⟩
  | .hbm, ⟨9, _⟩ => ⟨S74, .i32⟩
  | .hbm, ⟨10, _⟩ => ⟨S74, .i1⟩
  | .hbm, ⟨11, _⟩ => ⟨S_, .i32⟩
  | .hbm, ⟨12, _⟩ => ⟨S74, .i32⟩
  | .hbm, ⟨13, _⟩ => ⟨S74, .i32⟩
  | .hbm, ⟨14, _⟩ => ⟨S74, .i32⟩
  | .hbm, ⟨15, _⟩ => ⟨S74x1, .i32⟩
  | .hbm, ⟨16, _⟩ => ⟨S74x4096x14336, .f32⟩
  | .hbm, ⟨17, _⟩ => ⟨S74x512x14336, .f32⟩
  | .hbm, ⟨18, _⟩ => ⟨S8x4096x14336, .f32⟩
  | .hbm, ⟨19, _⟩ => ⟨S_, .i32⟩
  | .hbm, ⟨20, _⟩ => ⟨S74, .i32⟩
  | .hbm, ⟨21, _⟩ => ⟨S74, .i1⟩
  | .hbm, ⟨22, _⟩ => ⟨S_, .i32⟩
  | .hbm, ⟨23, _⟩ => ⟨S74, .i32⟩
  | .hbm, ⟨24, _⟩ => ⟨S74, .i32⟩
  | .hbm, ⟨25, _⟩ => ⟨S74, .i32⟩
  | .hbm, ⟨26, _⟩ => ⟨S74x1, .i32⟩
  | .hbm, ⟨27, _⟩ => ⟨S74x4096x14336, .f32⟩
  | .hbm, ⟨28, _⟩ => ⟨S74x512x14336, .f32⟩
  | .hbm, ⟨29, _⟩ => ⟨S74x512x14336, .f32⟩
  | .hbm, ⟨30, _⟩ => ⟨S74x512x14336, .f32⟩
  | .hbm, ⟨31, _⟩ => ⟨S_, .f32⟩
  | .hbm, ⟨32, _⟩ => ⟨S74x512x14336, .f32⟩
  | .hbm, ⟨33, _⟩ => ⟨S74x512x14336, .f32⟩
  | .hbm, ⟨34, _⟩ => ⟨S_, .f32⟩
  | .hbm, ⟨35, _⟩ => ⟨S74x512x14336, .f32⟩
  | .hbm, ⟨36, _⟩ => ⟨S74x512x14336, .f32⟩
  | .hbm, ⟨37, _⟩ => ⟨S74x512x14336, .f32⟩
  | .hbm, ⟨38, _⟩ => ⟨S74x512x14336, .f32⟩
  | .hbm, ⟨39, _⟩ => ⟨S74x512x14336, .bf16⟩
  | .hbm, ⟨40, _⟩ => ⟨S74, .i32⟩
  | .hbm, ⟨41, _⟩ => ⟨S74x1x1, .i32⟩
  | .hbm, ⟨42, _⟩ => ⟨S_, .i32⟩
  | .hbm, ⟨43, _⟩ => ⟨S74x1x1, .i32⟩
  | .hbm, ⟨44, _⟩ => ⟨S74x1x1, .i1⟩
  | .hbm, ⟨45, _⟩ => ⟨S_, .i32⟩
  | .hbm, ⟨46, _⟩ => ⟨S_, .bf16⟩
  | .hbm, ⟨47, _⟩ => ⟨S74x512x14336, .i1⟩
  | .hbm, ⟨48, _⟩ => ⟨S74x512x14336, .bf16⟩
  | .hbm, ⟨49, _⟩ => ⟨S74x512x14336, .bf16⟩
  | .hbm, ⟨50, _⟩ => ⟨S37888x14336, .bf16⟩
  | _, _ => ⟨S37888x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== Down.lean ====
abbrev S37888x14336 : Shape := ⟨2, ![37888, 14336]⟩
abbrev S1x8x14336x4096 : Shape := ⟨4, ![1, 8, 14336, 4096]⟩
abbrev S74 : Shape := ⟨1, ![74]⟩
abbrev S1 : Shape := ⟨1, ![1]⟩
abbrev S8x14336x4096 : Shape := ⟨3, ![8, 14336, 4096]⟩
abbrev S37888x4096 : Shape := ⟨2, ![37888, 4096]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 5
  | .vmem => 7
  | .smem => 2
  | _ => 0

abbrev bufTy : (tb : Table) → Fin (tcTables nBuf tb) → BufTy
  | .hbm, ⟨0, _⟩ => ⟨S37888x14336, .bf16⟩
  | .hbm, ⟨1, _⟩ => ⟨S1x8x14336x4096, .f32⟩
  | .hbm, ⟨2, _⟩ => ⟨S8x14336x4096, .f32⟩
  | .hbm, ⟨3, _⟩ => ⟨S8x14336x4096, .bf16⟩
  | .hbm, ⟨4, _⟩ => ⟨S37888x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .smem, ⟨0, _⟩ => ⟨S74, .i32⟩
  | .local _ .smem, ⟨1, _⟩ => ⟨S1, .i32⟩
  | _, _ => ⟨S37888x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 74, 7], ![false, false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v6 : Index := Scalar.indexCast arg1
  ![v6.toNat]
def k0_cond3 (i : grid0.Coords) (v0 : BitVec 32) : BitVec 1 :=
  let arg1 : BitVec 32 := BitVec.ofNat 32 (i 1).val
  let v1 : BitVec 1 := Scalar.cmpi .slt arg1 v0
  let arg2 : BitVec 32 := BitVec.ofNat 32 (i 2).val
  let c6_i32 : BitVec 32 := 6#32
  let v10 : BitVec 1 := Scalar.cmpi .eq arg2 c6_i32
  let v11 : BitVec 1 := Scalar.andi v1 v10
  let v12 : BitVec 32 := Scalar.extui v11
  let c0_i32_3 : BitVec 32 := 0#32
  let v13 : BitVec 1 := Scalar.cmpi .ne v12 c0_i32_3
  v13

def k0_cond4 (i : grid0.Coords) (v0 : BitVec 32) : BitVec 1 :=
  let arg1 : BitVec 32 := BitVec.ofNat 32 (i 1).val
  let v1 : BitVec 1 := Scalar.cmpi .slt arg1 v0
  let v_true : BitVec 1 := 1#1
  let v14 : BitVec 1 := Scalar.xori v1 v_true
  let arg2 : BitVec 32 := BitVec.ofNat 32 (i 2).val
  let c6_i32_4 : BitVec 32 := 6#32
  let v15 : BitVec 1 := Scalar.cmpi .eq arg2 c6_i32_4
  let v16 : BitVec 1 := Scalar.andi v14 v15
  let v17 : BitVec 32 := Scalar.extui v16
  let c0_i32_5 : BitVec 32 := 0#32
  let v18 : BitVec 1 := Scalar.cmpi .ne v17 c0_i32_5
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 1 (Rect.unit (s := S1) ![0] S1.size inb_S1_S1_0) numel1_S1
  let v1 : BitVec 1 := Scalar.cmpi .slt arg1 v0
  let c0_0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.select v1 arg1 v3
  let c6_i32 : BitVec 32 := 6#32
  let v5 : BitVec 32 := Scalar.select v1 arg2 c6_i32
  let c0_i32 : BitVec 32 := 0#32
  ![v4.toNat, v5.toNat]

def cc0_transform_1 (inb_S1_S1_0 : ∀ a, (![0] : Fin 1 → Nat) a + S1.size a ≤ S1.size a) (numel1_S1 : S1.numel = 1) (k0_off1_inb : ∀ i : grid0.Coords, ∀ a, (k0_off1 i) a + S1.size a ≤ S74.size a) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 1 (Rect.unit (s := S1) ![0] S1.size inb_S1_S1_0) numel1_S1
  let v1 : BitVec 1 := Scalar.cmpi .slt arg1 v0
  let c0_0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.select v1 arg1 v3
  let c6_i32 : BitVec 32 := 6#32
  let v5 : BitVec 32 := Scalar.select v1 arg2 c6_i32
  let v6 : Index := Scalar.indexCast arg1
  let v7 : BitVec 32 := pf.at 0 (Rect.unit (s := S74) ![v6.toNat] S1.size (k0_off1_inb i)) numel1_S1
  let c0_i32 : BitVec 32 := 0#32
  ![v7.toNat, v5.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S37888x14336 : Shape := ⟨2, ![37888, 14336]⟩
abbrev S1x8x14336x4096 : Shape := ⟨4, ![1, 8, 14336, 4096]⟩
abbrev S74 : Shape := ⟨1, ![74]⟩
abbrev S1 : Shape := ⟨1, ![1]⟩
abbrev S74x512x14336 : Shape := ⟨3, ![74, 512, 14336]⟩
abbrev S8x14336x4096 : Shape := ⟨3, ![8, 14336, 4096]⟩
abbrev S_ : Shape := ⟨0, ![]⟩
abbrev S74x1 : Shape := ⟨2, ![74, 1]⟩
abbrev S74x14336x4096 : Shape := ⟨3, ![74, 14336, 4096]⟩
abbrev S74x512x4096 : Shape := ⟨3, ![74, 512, 4096]⟩
abbrev S74x1x1 : Shape := ⟨3, ![74, 1, 1]⟩
abbrev S37888x4096 : Shape := ⟨2, ![37888, 4096]⟩

abbrev nBuf : Space → Nat
  | .hbm => 28
  | .vmem => 0
  | .smem => 0
  | _ => 0

abbrev bufTy : (tb : Table) → Fin (tcTables nBuf tb) → BufTy
  | .hbm, ⟨0, _⟩ => ⟨S37888x14336, .bf16⟩
  | .hbm, ⟨1, _⟩ => ⟨S1x8x14336x4096, .f32⟩
  | .hbm, ⟨2, _⟩ => ⟨S74, .i32⟩
  | .hbm, ⟨3, _⟩ => ⟨S1, .i32⟩
  | .hbm, ⟨4, _⟩ => ⟨S37888x14336, .f32⟩
  | .hbm, ⟨5, _⟩ => ⟨S74x512x14336, .f32⟩
  | .hbm, ⟨6, _⟩ => ⟨S8x14336x4096, .f32⟩
  | .hbm, ⟨7, _⟩ => ⟨S_, .i32⟩
  | .hbm, ⟨8, _⟩ => ⟨S74, .i32⟩
  | .hbm, ⟨9, _⟩ => ⟨S74, .i1⟩
  | .hbm, ⟨10, _⟩ => ⟨S_, .i32⟩
  | .hbm, ⟨11, _⟩ => ⟨S74, .i32⟩
  | .hbm, ⟨12, _⟩ => ⟨S74, .i32⟩
  | .hbm, ⟨13, _⟩ => ⟨S74, .i32⟩
  | .hbm, ⟨14, _⟩ => ⟨S74x1, .i32⟩
  | .hbm, ⟨15, _⟩ => ⟨S74x14336x4096, .f32⟩
  | .hbm, ⟨16, _⟩ => ⟨S74x512x4096, .f32⟩
  | .hbm, ⟨17, _⟩ => ⟨S74, .i32⟩
  | .hbm, ⟨18, _⟩ => ⟨S74x1x1, .i32⟩
  | .hbm, ⟨19, _⟩ => ⟨S_, .i32⟩
  | .hbm, ⟨20, _⟩ => ⟨S74x1x1, .i32⟩
  | .hbm, ⟨21, _⟩ => ⟨S74x1x1, .i1⟩
  | .hbm, ⟨22, _⟩ => ⟨S_, .i32⟩
  | .hbm, ⟨23, _⟩ => ⟨S_, .f32⟩
  | .hbm, ⟨24, _⟩ => ⟨S74x512x4096, .i1⟩
  | .hbm, ⟨25, _⟩ => ⟨S74x512x4096, .f32⟩
  | .hbm, ⟨26, _⟩ => ⟨S74x512x4096, .f32⟩
  | .hbm, ⟨27, _⟩ => ⟨S37888x4096, .f32⟩
  | _, _ => ⟨S37888x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Dense.lean ====
abbrev S16896x4096 : Shape := ⟨2, ![16896, 4096]⟩
abbrev S1x4096x11008 : Shape := ⟨3, ![1, 4096, 11008]⟩
abbrev S4096x11008 : Shape := ⟨2, ![4096, 11008]⟩
abbrev S_ : Shape := ⟨0, ![]⟩
abbrev S4096x11264 : Shape := ⟨2, ![4096, 11264]⟩
abbrev S16896x11264 : Shape := ⟨2, ![16896, 11264]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 14
  | .vmem => 8
  | .smem => 0
  | _ => 0

abbrev bufTy : (tb : Table) → Fin (tcTables nBuf tb) → BufTy
  | .hbm, ⟨0, _⟩ => ⟨S16896x4096, .bf16⟩
  | .hbm, ⟨1, _⟩ => ⟨S1x4096x11008, .f32⟩
  | .hbm, ⟨2, _⟩ => ⟨S1x4096x11008, .f32⟩
  | .hbm, ⟨3, _⟩ => ⟨S4096x11008, .f32⟩
  | .hbm, ⟨4, _⟩ => ⟨S4096x11008, .bf16⟩
  | .hbm, ⟨5, _⟩ => ⟨S_, .i32⟩
  | .hbm, ⟨6, _⟩ => ⟨S_, .bf16⟩
  | .hbm, ⟨7, _⟩ => ⟨S4096x11264, .bf16⟩
  | .hbm, ⟨8, _⟩ => ⟨S4096x11008, .f32⟩
  | .hbm, ⟨9, _⟩ => ⟨S4096x11008, .bf16⟩
  | .hbm, ⟨10, _⟩ => ⟨S_, .i32⟩
  | .hbm, ⟨11, _⟩ => ⟨S_, .bf16⟩
  | .hbm, ⟨12, _⟩ => ⟨S4096x11264, .bf16⟩
  | .hbm, ⟨13, _⟩ => ⟨S16896x11264, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S512x512, .bf16⟩
  | .local _ .vmem, ⟨7, _⟩ => ⟨S512x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![22, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseRefIdeal.lean ====
abbrev S16896x4096 : Shape := ⟨2, ![16896, 4096]⟩
abbrev S1x4096x11008 : Shape := ⟨3, ![1, 4096, 11008]⟩
abbrev S4096x11008 : Shape := ⟨2, ![4096, 11008]⟩
abbrev S16896x11008 : Shape := ⟨2, ![16896, 11008]⟩
abbrev S_ : Shape := ⟨0, ![]⟩
abbrev S16896x256 : Shape := ⟨2, ![16896, 256]⟩
abbrev S16896x11264 : Shape := ⟨2, ![16896, 11264]⟩

abbrev nBuf : Space → Nat
  | .hbm => 22
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x11008, .f32⟩
  | .hbm, ⟨2, _⟩ => ⟨S1x4096x11008, .f32⟩
  | .hbm, ⟨3, _⟩ => ⟨S16896x4096, .f32⟩
  | .hbm, ⟨4, _⟩ => ⟨S4096x11008, .f32⟩
  | .hbm, ⟨5, _⟩ => ⟨S16896x11008, .f32⟩
  | .hbm, ⟨6, _⟩ => ⟨S16896x11008, .f32⟩
  | .hbm, ⟨7, _⟩ => ⟨S16896x11008, .f32⟩
  | .hbm, ⟨8, _⟩ => ⟨S_, .f32⟩
  | .hbm, ⟨9, _⟩ => ⟨S16896x11008, .f32⟩
  | .hbm, ⟨10, _⟩ => ⟨S16896x11008, .f32⟩
  | .hbm, ⟨11, _⟩ => ⟨S_, .f32⟩
  | .hbm, ⟨12, _⟩ => ⟨S16896x11008, .f32⟩
  | .hbm, ⟨13, _⟩ => ⟨S16896x11008, .f32⟩
  | .hbm, ⟨14, _⟩ => ⟨S16896x11008, .f32⟩
  | .hbm, ⟨15, _⟩ => ⟨S4096x11008, .f32⟩
  | .hbm, ⟨16, _⟩ => ⟨S16896x11008, .f32⟩
  | .hbm, ⟨17, _⟩ => ⟨S16896x11008, .f32⟩
  | .hbm, ⟨18, _⟩ => ⟨S16896x11008, .bf16⟩
  | .hbm, ⟨19, _⟩ => ⟨S_, .bf16⟩
  | .hbm, ⟨20, _⟩ => ⟨S16896x256, .bf16⟩
  | .hbm, ⟨21, _⟩ => ⟨S16896x11264, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== DenseDown.lean ====
abbrev S16896x11264 : Shape := ⟨2, ![16896, 11264]⟩
abbrev S1x11008x4096 : Shape := ⟨3, ![1, 11008, 4096]⟩
abbrev S16896x4096 : Shape := ⟨2, ![16896, 4096]⟩
abbrev S528x4096 : Shape := ⟨2, ![528, 4096]⟩
abbrev S11008x4096 : Shape := ⟨2, ![11008, 4096]⟩
abbrev S_ : Shape := ⟨0, ![]⟩
abbrev S11264x4096 : Shape := ⟨2, ![11264, 4096]⟩
abbrev S1x11264x4096 : Shape := ⟨3, ![1, 11264, 4096]⟩
abbrev S1536x1024 : Shape := ⟨2, ![1536, 1024]⟩
abbrev S1x1024x1024 : Shape := ⟨3, ![1, 1024, 1024]⟩
abbrev S48x1024 : Shape := ⟨2, ![48, 1024]⟩
abbrev S1024x1024 : Shape := ⟨2, ![1024, 1024]⟩
abbrev S48x1x1024 : Shape := ⟨3, ![48, 1, 1024]⟩
abbrev S48x32x1024 : Shape := ⟨3, ![48, 32, 1024]⟩

abbrev nBuf : Space → Nat
  | .hbm => 11
  | .vmem => 11
  | .smem => 0
  | _ => 0

abbrev bufTy : (tb : Table) → Fin (tcTables nBuf tb) → BufTy
  | .hbm, ⟨0, _⟩ => ⟨S16896x11264, .bf16⟩
  | .hbm, ⟨1, _⟩ => ⟨S1x11008x4096, .f32⟩
  | .hbm, ⟨2, _⟩ => ⟨S16896x4096, .f32⟩
  | .hbm, ⟨3, _⟩ => ⟨S528x4096, .f32⟩
  | .hbm, ⟨4, _⟩ => ⟨S11008x4096, .f32⟩
  | .hbm, ⟨5, _⟩ => ⟨S11008x4096, .bf16⟩
  | .hbm, ⟨6, _⟩ => ⟨S_, .i32⟩
  | .hbm, ⟨7, _⟩ => ⟨S_, .bf16⟩
  | .hbm, ⟨8, _⟩ => ⟨S11264x4096, .bf16⟩
  | .hbm, ⟨9, _⟩ => ⟨S1x11264x4096, .bf16⟩
  | .hbm, ⟨10, _⟩ => ⟨S16896x4096, .f32⟩
  | .local _ .vmem, ⟨0, _⟩ => ⟨S1536x1024, .bf16⟩
  | .local _ .vmem, ⟨1, _⟩ => ⟨S1536x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1536x1024, .f32⟩
  | .local _ .vmem, ⟨5, _⟩ => ⟨S1536x1024, .f32⟩
  | .local _ .vmem, ⟨6, _⟩ => ⟨S48x1024, .f32⟩
  | .local _ .vmem, ⟨7, _⟩ => ⟨S48x1024, .f32⟩
  | .local _ .vmem, ⟨8, _⟩ => ⟨S1536x1024, .f32⟩
  | .local _ .vmem, ⟨9, _⟩ => ⟨S1536x1024, .f32⟩
  | .local _ .vmem, ⟨10, _⟩ => ⟨S1536x1024, .f32⟩
  | _, _ => ⟨S16896x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 11, 11], ![false, false, false]⟩

def k0_cond3 (i : grid0.Coords) : BitVec 1 :=
  let arg2 : BitVec 32 := BitVec.ofNat 32 (i 2).val
  let c10_i32 : BitVec 32 := 10#32
  let v10 : BitVec 1 := Scalar.cmpi .eq arg2 c10_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1536x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DenseDownRefIdeal.lean ====
abbrev S16896x11264 : Shape := ⟨2, ![16896, 11264]⟩
abbrev S1x11008x4096 : Shape := ⟨3, ![1, 11008, 4096]⟩
abbrev S16896x4096 : Shape := ⟨2, ![16896, 4096]⟩
abbrev S528x4096 : Shape := ⟨2, ![528, 4096]⟩
abbrev S16896x11008 : Shape := ⟨2, ![16896, 11008]⟩
abbrev S11008x4096 : Shape := ⟨2, ![11008, 4096]⟩
abbrev S528x1x4096 : Shape := ⟨3, ![528, 1, 4096]⟩
abbrev S528x32x4096 : Shape := ⟨3, ![528, 32, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16896x11264, .bf16⟩
  | .hbm, ⟨1, _⟩ => ⟨S1x11008x4096, .f32⟩
  | .hbm, ⟨2, _⟩ => ⟨S16896x4096, .f32⟩
  | .hbm, ⟨3, _⟩ => ⟨S528x4096, .f32⟩
  | .hbm, ⟨4, _⟩ => ⟨S16896x11008, .bf16⟩
  | .hbm, ⟨5, _⟩ => ⟨S16896x11008, .f32⟩
  | .hbm, ⟨6, _⟩ => ⟨S11008x4096, .f32⟩
  | .hbm, ⟨7, _⟩ => ⟨S16896x4096, .f32⟩
  | .hbm, ⟨8, _⟩ => ⟨S528x1x4096, .f32⟩
  | .hbm, ⟨9, _⟩ => ⟨S528x32x4096, .f32⟩
  | .hbm, ⟨10, _⟩ => ⟨S528x32x4096, .f32⟩
  | .hbm, ⟨11, _⟩ => ⟨S528x32x4096, .f32⟩
  | .hbm, ⟨12, _⟩ => ⟨S16896x4096, .f32⟩
  | .hbm, ⟨13, _⟩ => ⟨S16896x4096, .f32⟩
  | _, _ => ⟨S16896x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== ProjectAB.lean ====
abbrev S16896x4096 : Shape := ⟨2, ![16896, 4096]⟩
abbrev S1x4096x9216 : Shape := ⟨3, ![1, 4096, 9216]⟩
abbrev S1x16x512x16x128 : Shape := ⟨5, ![1, 16, 512, 16, 128]⟩
abbrev S1x16x128x4x128 : Shape := ⟨5, ![1, 16, 128, 4, 128]⟩
abbrev S16896x9216 : Shape := ⟨2, ![16896, 9216]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩
abbrev S16384x9216 : Shape := ⟨2, ![16384, 9216]⟩
abbrev S8x2048x9216 : Shape := ⟨3, ![8, 2048, 9216]⟩
abbrev S512x9216 : Shape := ⟨2, ![512, 9216]⟩
abbrev S16x32x9216 : Shape := ⟨3, ![16, 32, 9216]⟩
abbrev S8x2048x2048 : Shape := ⟨3, ![8, 2048, 2048]⟩
abbrev S8x2048x512 : Shape := ⟨3, ![8, 2048, 512]⟩
abbrev S16x32x2048 : Shape := ⟨3, ![16, 32, 2048]⟩
abbrev S16x32x512 : Shape := ⟨3, ![16, 32, 512]⟩
abbrev S8x512x2048 : Shape := ⟨3, ![8, 512, 2048]⟩
abbrev S8x512x16x128 : Shape := ⟨4, ![8, 512, 16, 128]⟩
abbrev S16x512x16x128 : Shape := ⟨4, ![16, 512, 16, 128]⟩
abbrev S16x32x16x128 : Shape := ⟨4, ![16, 32, 16, 128]⟩
abbrev S16x544x16x128 : Shape := ⟨4, ![16, 544, 16, 128]⟩
abbrev S8x128x512 : Shape := ⟨3, ![8, 128, 512]⟩
abbrev S8x128x4x128 : Shape := ⟨4, ![8, 128, 4, 128]⟩
abbrev S16x128x4x128 : Shape := ⟨4, ![16, 128, 4, 128]⟩
abbrev S16x32x4x128 : Shape := ⟨4, ![16, 32, 4, 128]⟩
abbrev S16x160x4x128 : Shape := ⟨4, ![16, 160, 4, 128]⟩
abbrev S1x8x512x16x128 : Shape := ⟨5, ![1, 8, 512, 16, 128]⟩
abbrev S1x8x128x4x128 : Shape := ⟨5, ![1, 8, 128, 4, 128]⟩

abbrev nBuf : Space → Nat
  | .hbm => 51
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S1x4096x9216, .f32⟩
  | .hbm, ⟨2, _⟩ => ⟨S1x16x512x16x128, .f32⟩
  | .hbm, ⟨3, _⟩ => ⟨S1x16x512x16x128, .f32⟩
  | .hbm, ⟨4, _⟩ => ⟨S1x16x128x4x128, .f32⟩
  | .hbm, ⟨5, _⟩ => ⟨S1x16x128x4x128, .f32⟩
  | .hbm, ⟨6, _⟩ => ⟨S16896x9216, .f32⟩
  | .hbm, ⟨7, _⟩ => ⟨S16384x9216, .f32⟩
  | .hbm, ⟨8, _⟩ => ⟨S8x2048x9216, .f32⟩
  | .hbm, ⟨9, _⟩ => ⟨S512x9216, .f32⟩
  | .hbm, ⟨10, _⟩ => ⟨S16x32x9216, .f32⟩
  | .hbm, ⟨11, _⟩ => ⟨S8x2048x2048, .f32⟩
  | .hbm, ⟨12, _⟩ => ⟨S8x2048x2048, .f32⟩
  | .hbm, ⟨13, _⟩ => ⟨S8x2048x512, .f32⟩
  | .hbm, ⟨14, _⟩ => ⟨S8x2048x512, .f32⟩
  | .hbm, ⟨15, _⟩ => ⟨S16x32x2048, .f32⟩
  | .hbm, ⟨16, _⟩ => ⟨S16x32x2048, .f32⟩
  | .hbm, ⟨17, _⟩ => ⟨S16x32x512, .f32⟩
  | .hbm, ⟨18, _⟩ => ⟨S16x32x512, .f32⟩
  | .hbm, ⟨19, _⟩ => ⟨S8x512x2048, .f32⟩
  | .hbm, ⟨20, _⟩ => ⟨S8x512x16x128, .f32⟩
  | .hbm, ⟨21, _⟩ => ⟨S8x512x2048, .f32⟩
  | .hbm, ⟨22, _⟩ => ⟨S8x512x16x128, .f32⟩
  | .hbm, ⟨23, _⟩ => ⟨S16x512x16x128, .f32⟩
  | .hbm, ⟨24, _⟩ => ⟨S16x32x16x128, .f32⟩
  | .hbm, ⟨25, _⟩ => ⟨S16x544x16x128, .f32⟩
  | .hbm, ⟨26, _⟩ => ⟨S16x512x16x128, .f32⟩
  | .hbm, ⟨27, _⟩ => ⟨S16x512x16x128, .f32⟩
  | .hbm, ⟨28, _⟩ => ⟨S16x32x16x128, .f32⟩
  | .hbm, ⟨29, _⟩ => ⟨S16x544x16x128, .f32⟩
  | .hbm, ⟨30, _⟩ => ⟨S16x512x16x128, .f32⟩
  | .hbm, ⟨31, _⟩ => ⟨S8x128x512, .f32⟩
  | .hbm, ⟨32, _⟩ => ⟨S8x128x4x128, .f32⟩
  | .hbm, ⟨33, _⟩ => ⟨S8x128x512, .f32⟩
  | .hbm, ⟨34, _⟩ => ⟨S8x128x4x128, .f32⟩
  | .hbm, ⟨35, _⟩ => ⟨S16x128x4x128, .f32⟩
  | .hbm, ⟨36, _⟩ => ⟨S16x32x4x128, .f32⟩
  | .hbm, ⟨37, _⟩ => ⟨S16x160x4x128, .f32⟩
  | .hbm, ⟨38, _⟩ => ⟨S16x128x4x128, .f32⟩
  | .hbm, ⟨39, _⟩ => ⟨S16x128x4x128, .f32⟩
  | .hbm, ⟨40, _⟩ => ⟨S16x32x4x128, .f32⟩
  | .hbm, ⟨41, _⟩ => ⟨S16x160x4x128, .f32⟩
  | .hbm, ⟨42, _⟩ => ⟨S16x128x4x128, .f32⟩
  | .hbm, ⟨43, _⟩ => ⟨S1x8x512x16x128, .f32⟩
  | .hbm, ⟨44, _⟩ => ⟨S1x8x512x16x128, .f32⟩
  | .hbm, ⟨45, _⟩ => ⟨S1x16x512x16x128, .f32⟩
  | .hbm, ⟨46, _⟩ => ⟨S1x16x512x16x128, .f32⟩
  | .hbm, ⟨47, _⟩ => ⟨S1x8x128x4x128, .f32⟩
  | .hbm, ⟨48, _⟩ => ⟨S1x8x128x4x128, .f32⟩
  | .hbm, ⟨49, _⟩ => ⟨S1x16x128x4x128, .f32⟩
  | .hbm, ⟨50, _⟩ => ⟨S1x16x128x4x128, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S512x1024, .f32⟩
  | .local _ .vmem, ⟨5, _⟩ => ⟨S512x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectABRefIdeal.lean ====
abbrev S16896x4096 : Shape := ⟨2, ![16896, 4096]⟩
abbrev S1x4096x9216 : Shape := ⟨3, ![1, 4096, 9216]⟩
abbrev S1x16x512x16x128 : Shape := ⟨5, ![1, 16, 512, 16, 128]⟩
abbrev S1x16x128x4x128 : Shape := ⟨5, ![1, 16, 128, 4, 128]⟩
abbrev S4096x9216 : Shape := ⟨2, ![4096, 9216]⟩
abbrev S16896x9216 : Shape := ⟨2, ![16896, 9216]⟩
abbrev S16896x2048 : Shape := ⟨2, ![16896, 2048]⟩
abbrev S16896x512 : Shape := ⟨2, ![16896, 512]⟩
abbrev S16384x2048 : Shape := ⟨2, ![16384, 2048]⟩
abbrev S8x2048x16x128 : Shape := ⟨4, ![8, 2048, 16, 128]⟩
abbrev S8x512x16x128 : Shape := ⟨4, ![8, 512, 16, 128]⟩
abbrev S1x8x512x16x128 : Shape := ⟨5, ![1, 8, 512, 16, 128]⟩
abbrev S16x512x16x128 : Shape := ⟨4, ![16, 512, 16, 128]⟩
abbrev S512x2048 : Shape := ⟨2, ![512, 2048]⟩
abbrev S16x32x16x128 : Shape := ⟨4, ![16, 32, 16, 128]⟩
abbrev S16x544x16x128 : Shape := ⟨4, ![16, 544, 16, 128]⟩
abbrev S16384x512 : Shape := ⟨2, ![16384, 512]⟩
abbrev S8x2048x4x128 : Shape := ⟨4, ![8, 2048, 4, 128]⟩
abbrev S8x128x4x128 : Shape := ⟨4, ![8, 128, 4, 128]⟩
abbrev S1x8x128x4x128 : Shape := ⟨5, ![1, 8, 128, 4, 128]⟩
abbrev S16x128x4x128 : Shape := ⟨4, ![16, 128, 4, 128]⟩
abbrev S512x512 : Shape := ⟨2, ![512, 512]⟩
abbrev S16x32x4x128 : Shape := ⟨4, ![16, 32, 4, 128]⟩
abbrev S16x160x4x128 : Shape := ⟨4, ![16, 160, 4, 128]⟩

abbrev nBuf : Space → Nat
  | .hbm => 55
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x9216, .f32⟩
  | .hbm, ⟨2, _⟩ => ⟨S1x16x512x16x128, .f32⟩
  | .hbm, ⟨3, _⟩ => ⟨S1x16x512x16x128, .f32⟩
  | .hbm, ⟨4, _⟩ => ⟨S1x16x128x4x128, .f32⟩
  | .hbm, ⟨5, _⟩ => ⟨S1x16x128x4x128, .f32⟩
  | .hbm, ⟨6, _⟩ => ⟨S16896x4096, .f32⟩
  | .hbm, ⟨7, _⟩ => ⟨S4096x9216, .f32⟩
  | .hbm, ⟨8, _⟩ => ⟨S16896x9216, .f32⟩
  | .hbm, ⟨9, _⟩ => ⟨S16896x2048, .f32⟩
  | .hbm, ⟨10, _⟩ => ⟨S16896x2048, .f32⟩
  | .hbm, ⟨11, _⟩ => ⟨S16896x2048, .f32⟩
  | .hbm, ⟨12, _⟩ => ⟨S16896x2048, .f32⟩
  | .hbm, ⟨13, _⟩ => ⟨S16896x512, .f32⟩
  | .hbm, ⟨14, _⟩ => ⟨S16896x512, .f32⟩
  | .hbm, ⟨15, _⟩ => ⟨S16384x2048, .f32⟩
  | .hbm, ⟨16, _⟩ => ⟨S8x2048x16x128, .f32⟩
  | .hbm, ⟨17, _⟩ => ⟨S8x512x16x128, .f32⟩
  | .hbm, ⟨18, _⟩ => ⟨S1x8x512x16x128, .f32⟩
  | .hbm, ⟨19, _⟩ => ⟨S16384x2048, .f32⟩
  | .hbm, ⟨20, _⟩ => ⟨S8x2048x16x128, .f32⟩
  | .hbm, ⟨21, _⟩ => ⟨S8x512x16x128, .f32⟩
  | .hbm, ⟨22, _⟩ => ⟨S1x8x512x16x128, .f32⟩
  | .hbm, ⟨23, _⟩ => ⟨S16x512x16x128, .f32⟩
  | .hbm, ⟨24, _⟩ => ⟨S512x2048, .f32⟩
  | .hbm, ⟨25, _⟩ => ⟨S16x32x16x128, .f32⟩
  | .hbm, ⟨26, _⟩ => ⟨S16x544x16x128, .f32⟩
  | .hbm, ⟨27, _⟩ => ⟨S16x512x16x128, .f32⟩
  | .hbm, ⟨28, _⟩ => ⟨S1x16x512x16x128, .f32⟩
  | .hbm, ⟨29, _⟩ => ⟨S16x512x16x128, .f32⟩
  | .hbm, ⟨30, _⟩ => ⟨S512x2048, .f32⟩
  | .hbm, ⟨31, _⟩ => ⟨S16x32x16x128, .f32⟩
  | .hbm, ⟨32, _⟩ => ⟨S16x544x16x128, .f32⟩
  | .hbm, ⟨33, _⟩ => ⟨S16x512x16x128, .f32⟩
  | .hbm, ⟨34, _⟩ => ⟨S1x16x512x16x128, .f32⟩
  | .hbm, ⟨35, _⟩ => ⟨S16384x512, .f32⟩
  | .hbm, ⟨36, _⟩ => ⟨S8x2048x4x128, .f32⟩
  | .hbm, ⟨37, _⟩ => ⟨S8x128x4x128, .f32⟩
  | .hbm, ⟨38, _⟩ => ⟨S1x8x128x4x128, .f32⟩
  | .hbm, ⟨39, _⟩ => ⟨S16384x512, .f32⟩
  | .hbm, ⟨40, _⟩ => ⟨S8x2048x4x128, .f32⟩
  | .hbm, ⟨41, _⟩ => ⟨S8x128x4x128, .f32⟩
  | .hbm, ⟨42, _⟩ => ⟨S1x8x128x4x128, .f32⟩
  | .hbm, ⟨43, _⟩ => ⟨S16x128x4x128, .f32⟩
  | .hbm, ⟨44, _⟩ => ⟨S512x512, .f32⟩
  | .hbm, ⟨45, _⟩ => ⟨S16x32x4x128, .f32⟩
  | .hbm, ⟨46, _⟩ => ⟨S16x160x4x128, .f32⟩
  | .hbm, ⟨47, _⟩ => ⟨S16x128x4x128, .f32⟩
  | .hbm, ⟨48, _⟩ => ⟨S1x16x128x4x128, .f32⟩
  | .hbm, ⟨49, _⟩ => ⟨S16x128x4x128, .f32⟩
  | .hbm, ⟨50, _⟩ => ⟨S512x512, .f32⟩
  | .hbm, ⟨51, _⟩ => ⟨S16x32x4x128, .f32⟩
  | .hbm, ⟨52, _⟩ => ⟨S16x160x4x128, .f32⟩
  | .hbm, ⟨53, _⟩ => ⟨S16x128x4x128, .f32⟩
  | .hbm, ⟨54, _⟩ => ⟨S1x16x128x4x128, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩

abbrev nD : Nat := 1
abbrev τ : Topo := Topo.v7x

variable {F : FTy → Type} [FloatOps F]
-- ==== Out.lean ====
abbrev S16896x4096 : Shape := ⟨2, ![16896, 4096]⟩
abbrev S1x4096x4096 : Shape := ⟨3, ![1, 4096, 4096]⟩
abbrev S528x4096 : Shape := ⟨2, ![528, 4096]⟩
abbrev S512x4096 : Shape := ⟨2, ![512, 4096]⟩
abbrev S1x4096x1024 : Shape := ⟨3, ![1, 4096, 1024]⟩
abbrev S512x1024 : Shape := ⟨2, ![512, 1024]⟩
abbrev S16x1024 : Shape := ⟨2, ![16, 1024]⟩
abbrev S4096x1024 : Shape := ⟨2, ![4096, 1024]⟩
abbrev S16x1x1024 : Shape := ⟨3, ![16, 1, 1024]⟩
abbrev S16x32x1024 : Shape := ⟨3, ![16, 32, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16896x4096, .bf16⟩
  | .hbm, ⟨1, _⟩ => ⟨S1x4096x4096, .f32⟩
  | .hbm, ⟨2, _⟩ => ⟨S16896x4096, .f32⟩
  | .hbm, ⟨3, _⟩ => ⟨S528x4096, .f32⟩
  | .hbm, ⟨4, _⟩ => ⟨S16896x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S512x1024, .f32⟩
  | .local _ .vmem, ⟨9, _⟩ => ⟨S512x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 33, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRefIdeal.lean ====
abbrev S16896x4096 : Shape := ⟨2, ![16896, 4096]⟩
abbrev S1x4096x4096 : Shape := ⟨3, ![1, 4096, 4096]⟩
abbrev S528x4096 : Shape := ⟨2, ![528, 4096]⟩
abbrev S4096x4096 : Shape := ⟨2, ![4096, 4096]⟩
abbrev S528x1x4096 : Shape := ⟨3, ![528, 1, 4096]⟩
abbrev S528x32x4096 : Shape := ⟨3, ![528, 32, 4096]⟩

abbrev nBuf : Space → Nat
  | .hbm => 13
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x4096, .f32⟩
  | .hbm, ⟨2, _⟩ => ⟨S16896x4096, .f32⟩
  | .hbm, ⟨3, _⟩ => ⟨S528x4096, .f32⟩
  | .hbm, ⟨4, _⟩ => ⟨S16896x4096, .f32⟩
  | .hbm, ⟨5, _⟩ => ⟨S4096x4096, .f32⟩
  | .hbm, ⟨6, _⟩ => ⟨S16896x4096, .f32⟩
  | .hbm, ⟨7, _⟩ => ⟨S528x1x4096, .f32⟩
  | .hbm, ⟨8, _⟩ => ⟨S528x32x4096, .f32⟩
  | .hbm, ⟨9, _⟩ => ⟨S528x32x4096, .f32⟩
  | .hbm, ⟨10, _⟩ => ⟨S528x32x4096, .f32⟩
  | .hbm, ⟨11, _⟩ => ⟨S16896x4096, .f32⟩
  | .hbm, ⟨12, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Queries.lean ====
abbrev S16896x4096 : Shape := ⟨2, ![16896, 4096]⟩
abbrev S1x4096x12320 : Shape := ⟨3, ![1, 4096, 12320]⟩
abbrev S16384x4096 : Shape := ⟨2, ![16384, 4096]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S512x1024, .f32⟩
  | .local _ .vmem, ⟨5, _⟩ => ⟨S512x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueriesRefIdeal.lean ====
abbrev S16896x4096 : Shape := ⟨2, ![16896, 4096]⟩
abbrev S1x4096x12320 : Shape := ⟨3, ![1, 4096, 12320]⟩
abbrev S16384x4096 : Shape := ⟨2, ![16384, 4096]⟩
abbrev S4096x12320 : Shape := ⟨2, ![4096, 12320]⟩
abbrev S16384x12320 : Shape := ⟨2, ![16384, 12320]⟩
abbrev S16384x32 : Shape := ⟨2, ![16384, 32]⟩

abbrev nBuf : Space → Nat
  | .hbm => 10
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S16384x4096, .bf16⟩
  | .hbm, ⟨3, _⟩ => ⟨S16384x4096, .f32⟩
  | .hbm, ⟨4, _⟩ => ⟨S4096x12320, .f32⟩
  | .hbm, ⟨5, _⟩ => ⟨S16384x12320, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x32, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Keys.lean ====
abbrev S16896x4096 : Shape := ⟨2, ![16896, 4096]⟩
abbrev S1x4096x12320 : Shape := ⟨3, ![1, 4096, 12320]⟩
abbrev S16384x4096 : Shape := ⟨2, ![16384, 4096]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩
abbrev S8x2048x32x128 : Shape := ⟨4, ![8, 2048, 32, 128]⟩
abbrev S1x8x2048x32x128 : Shape := ⟨5, ![1, 8, 2048, 32, 128]⟩

abbrev nBuf : Space → Nat
  | .hbm => 5
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S16384x4096, .f32⟩
  | .hbm, ⟨3, _⟩ => ⟨S8x2048x32x128, .f32⟩
  | .hbm, ⟨4, _⟩ => ⟨S1x8x2048x32x128, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S512x1024, .f32⟩
  | .local _ .vmem, ⟨5, _⟩ => ⟨S512x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KeysRefIdeal.lean ====
abbrev S16896x4096 : Shape := ⟨2, ![16896, 4096]⟩
abbrev S1x4096x12320 : Shape := ⟨3, ![1, 4096, 12320]⟩
abbrev S16384x4096 : Shape := ⟨2, ![16384, 4096]⟩
abbrev S4096x12320 : Shape := ⟨2, ![4096, 12320]⟩
abbrev S16384x12320 : Shape := ⟨2, ![16384, 12320]⟩
abbrev S16384x32 : Shape := ⟨2, ![16384, 32]⟩
abbrev S1x8x2048x32x128 : Shape := ⟨5, ![1, 8, 2048, 32, 128]⟩

abbrev nBuf : Space → Nat
  | .hbm => 11
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S16384x4096, .bf16⟩
  | .hbm, ⟨3, _⟩ => ⟨S16384x4096, .f32⟩
  | .hbm, ⟨4, _⟩ => ⟨S4096x12320, .f32⟩
  | .hbm, ⟨5, _⟩ => ⟨S16384x12320, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x32, .f32⟩
  | .hbm, ⟨10, _⟩ => ⟨S1x8x2048x32x128, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Values.lean ====
abbrev S16896x4096 : Shape := ⟨2, ![16896, 4096]⟩
abbrev S1x4096x12320 : Shape := ⟨3, ![1, 4096, 12320]⟩
abbrev S16384x4096 : Shape := ⟨2, ![16384, 4096]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩
abbrev S8x2048x32x128 : Shape := ⟨4, ![8, 2048, 32, 128]⟩
abbrev S1x8x2048x32x128 : Shape := ⟨5, ![1, 8, 2048, 32, 128]⟩

abbrev nBuf : Space → Nat
  | .hbm => 5
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S16384x4096, .f32⟩
  | .hbm, ⟨3, _⟩ => ⟨S8x2048x32x128, .f32⟩
  | .hbm, ⟨4, _⟩ => ⟨S1x8x2048x32x128, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S512x1024, .f32⟩
  | .local _ .vmem, ⟨5, _⟩ => ⟨S512x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesRefIdeal.lean ====
abbrev S16896x4096 : Shape := ⟨2, ![16896, 4096]⟩
abbrev S1x4096x12320 : Shape := ⟨3, ![1, 4096, 12320]⟩
abbrev S16384x4096 : Shape := ⟨2, ![16384, 4096]⟩
abbrev S4096x12320 : Shape := ⟨2, ![4096, 12320]⟩
abbrev S16384x12320 : Shape := ⟨2, ![16384, 12320]⟩
abbrev S16384x32 : Shape := ⟨2, ![16384, 32]⟩
abbrev S1x8x2048x32x128 : Shape := ⟨5, ![1, 8, 2048, 32, 128]⟩

abbrev nBuf : Space → Nat
  | .hbm => 11
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S16384x4096, .bf16⟩
  | .hbm, ⟨3, _⟩ => ⟨S16384x4096, .f32⟩
  | .hbm, ⟨4, _⟩ => ⟨S4096x12320, .f32⟩
  | .hbm, ⟨5, _⟩ => ⟨S16384x12320, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x32, .f32⟩
  | .hbm, ⟨10, _⟩ => ⟨S1x8x2048x32x128, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== KeysNew.lean ====
abbrev S16896x4096 : Shape := ⟨2, ![16896, 4096]⟩
abbrev S1x4096x12320 : Shape := ⟨3, ![1, 4096, 12320]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩
abbrev S16x32x32x128 : Shape := ⟨4, ![16, 32, 32, 128]⟩
abbrev S1x16x32x32x128 : Shape := ⟨5, ![1, 16, 32, 32, 128]⟩

abbrev nBuf : Space → Nat
  | .hbm => 5
  | .vmem => 5
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S512x4096, .f32⟩
  | .hbm, ⟨3, _⟩ => ⟨S16x32x32x128, .f32⟩
  | .hbm, ⟨4, _⟩ => ⟨S1x16x32x32x128, .f32⟩
  | .local _ .vmem, ⟨0, _⟩ => ⟨S512x4096, .bf16⟩
  | .local _ .vmem, ⟨1, _⟩ => ⟨S1x4096x1024, .f32⟩
  | .local _ .vmem, ⟨2, _⟩ => ⟨S1x4096x1024, .f32⟩
  | .local _ .vmem, ⟨3, _⟩ => ⟨S512x1024, .f32⟩
  | .local _ .vmem, ⟨4, _⟩ => ⟨S512x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KeysNewRefIdeal.lean ====
abbrev S16896x4096 : Shape := ⟨2, ![16896, 4096]⟩
abbrev S1x4096x12320 : Shape := ⟨3, ![1, 4096, 12320]⟩
abbrev S512x4096 : Shape := ⟨2, ![512, 4096]⟩
abbrev S4096x12320 : Shape := ⟨2, ![4096, 12320]⟩
abbrev S512x12320 : Shape := ⟨2, ![512, 12320]⟩
abbrev S512x32 : Shape := ⟨2, ![512, 32]⟩
abbrev S1x16x32x32x128 : Shape := ⟨5, ![1, 16, 32, 32, 128]⟩

abbrev nBuf : Space → Nat
  | .hbm => 11
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S512x4096, .bf16⟩
  | .hbm, ⟨3, _⟩ => ⟨S512x4096, .f32⟩
  | .hbm, ⟨4, _⟩ => ⟨S4096x12320, .f32⟩
  | .hbm, ⟨5, _⟩ => ⟨S512x12320, .f32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S512x32, .f32⟩
  | .hbm, ⟨10, _⟩ => ⟨S1x16x32x32x128, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== ValuesNew.lean ====
abbrev S16896x4096 : Shape := ⟨2, ![16896, 4096]⟩
abbrev S1x4096x12320 : Shape := ⟨3, ![1, 4096, 12320]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩
abbrev S16x32x32x128 : Shape := ⟨4, ![16, 32, 32, 128]⟩
abbrev S1x16x32x32x128 : Shape := ⟨5, ![1, 16, 32, 32, 128]⟩

abbrev nBuf : Space → Nat
  | .hbm => 5
  | .vmem => 5
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S512x4096, .f32⟩
  | .hbm, ⟨3, _⟩ => ⟨S16x32x32x128, .f32⟩
  | .hbm, ⟨4, _⟩ => ⟨S1x16x32x32x128, .f32⟩
  | .local _ .vmem, ⟨0, _⟩ => ⟨S512x4096, .bf16⟩
  | .local _ .vmem, ⟨1, _⟩ => ⟨S1x4096x1024, .f32⟩
  | .local _ .vmem, ⟨2, _⟩ => ⟨S1x4096x1024, .f32⟩
  | .local _ .vmem, ⟨3, _⟩ => ⟨S512x1024, .f32⟩
  | .local _ .vmem, ⟨4, _⟩ => ⟨S512x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesNewRefIdeal.lean ====
abbrev S16896x4096 : Shape := ⟨2, ![16896, 4096]⟩
abbrev S1x4096x12320 : Shape := ⟨3, ![1, 4096, 12320]⟩
abbrev S512x4096 : Shape := ⟨2, ![512, 4096]⟩
abbrev S4096x12320 : Shape := ⟨2, ![4096, 12320]⟩
abbrev S512x12320 : Shape := ⟨2, ![512, 12320]⟩
abbrev S512x32 : Shape := ⟨2, ![512, 32]⟩
abbrev S1x16x32x32x128 : Shape := ⟨5, ![1, 16, 32, 32, 128]⟩

abbrev nBuf : Space → Nat
  | .hbm => 11
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S512x4096, .bf16⟩
  | .hbm, ⟨3, _⟩ => ⟨S512x4096, .f32⟩
  | .hbm, ⟨4, _⟩ => ⟨S4096x12320, .f32⟩
  | .hbm, ⟨5, _⟩ => ⟨S512x12320, .f32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S512x32, .f32⟩
  | .hbm, ⟨10, _⟩ => ⟨S1x16x32x32x128, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Logf.lean ====
abbrev S16896x4096 : Shape := ⟨2, ![16896, 4096]⟩
abbrev S1x4096x12320 : Shape := ⟨3, ![1, 4096, 12320]⟩
abbrev S1x32 : Shape := ⟨2, ![1, 32]⟩
abbrev S_ : Shape := ⟨0, ![]⟩
abbrev S4096x128 : Shape := ⟨2, ![4096, 128]⟩
abbrev S4096x12320 : Shape := ⟨2, ![4096, 12320]⟩
abbrev S4096x32 : Shape := ⟨2, ![4096, 32]⟩
abbrev S1 : Shape := ⟨1, ![1]⟩
abbrev S1x128 : Shape := ⟨2, ![1, 128]⟩
abbrev S32 : Shape := ⟨1, ![32]⟩
abbrev S2 : Shape := ⟨1, ![2]⟩
abbrev S16896x128 : Shape := ⟨2, ![16896, 128]⟩
abbrev S512x4096 : Shape := ⟨2, ![512, 4096]⟩
abbrev S512x128 : Shape := ⟨2, ![512, 128]⟩
abbrev S16384x128 : Shape := ⟨2, ![16384, 128]⟩
abbrev S8x2048x128 : Shape := ⟨3, ![8, 2048, 128]⟩
abbrev S16x32x128 : Shape := ⟨3, ![16, 32, 128]⟩
abbrev S8x2048x32 : Shape := ⟨3, ![8, 2048, 32]⟩
abbrev S1x8x2048x32 : Shape := ⟨4, ![1, 8, 2048, 32]⟩
abbrev S16x32x32 : Shape := ⟨3, ![16, 32, 32]⟩
abbrev S1x16x32x32 : Shape := ⟨4, ![1, 16, 32, 32]⟩

abbrev nBuf : Space → Nat
  | .hbm => 29
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S1x32, .f32⟩
  | .hbm, ⟨3, _⟩ => ⟨S_, .bf16⟩
  | .hbm, ⟨4, _⟩ => ⟨S4096x128, .bf16⟩
  | .hbm, ⟨5, _⟩ => ⟨S4096x12320, .f32⟩
  | .hbm, ⟨6, _⟩ => ⟨S4096x32, .f32⟩
  | .hbm, ⟨7, _⟩ => ⟨S4096x32, .bf16⟩
  | .hbm, ⟨8, _⟩ => ⟨S_, .i32⟩
  | .hbm, ⟨9, _⟩ => ⟨S1, .i32⟩
  | .hbm, ⟨10, _⟩ => ⟨S4096x128, .bf16⟩
  | .hbm, ⟨11, _⟩ => ⟨S_, .f32⟩
  | .hbm, ⟨12, _⟩ => ⟨S1x128, .f32⟩
  | .hbm, ⟨13, _⟩ => ⟨S32, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S16896x128, .f32⟩
  | .hbm, ⟨21, _⟩ => ⟨S16384x128, .f32⟩
  | .hbm, ⟨22, _⟩ => ⟨S8x2048x128, .f32⟩
  | .hbm, ⟨23, _⟩ => ⟨S512x128, .f32⟩
  | .hbm, ⟨24, _⟩ => ⟨S16x32x128, .f32⟩
  | .hbm, ⟨25, _⟩ => ⟨S8x2048x32, .f32⟩
  | .hbm, ⟨26, _⟩ => ⟨S1x8x2048x32, .f32⟩
  | .hbm, ⟨27, _⟩ => ⟨S16x32x32, .f32⟩
  | .hbm, ⟨28, _⟩ => ⟨S1x16x32x32, .f32⟩
  | .local _ .vmem, ⟨0, _⟩ => ⟨S512x4096, .bf16⟩
  | .local _ .vmem, ⟨1, _⟩ => ⟨S512x4096, .bf16⟩
  | .local _ .vmem, ⟨2, _⟩ => ⟨S4096x128, .bf16⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LogfRefIdeal.lean ====
abbrev S16896x4096 : Shape := ⟨2, ![16896, 4096]⟩
abbrev S1x4096x12320 : Shape := ⟨3, ![1, 4096, 12320]⟩
abbrev S1x32 : Shape := ⟨2, ![1, 32]⟩
abbrev S1x4096x32 : Shape := ⟨3, ![1, 4096, 32]⟩
abbrev S4096x32 : Shape := ⟨2, ![4096, 32]⟩
abbrev S16896x32 : Shape := ⟨2, ![16896, 32]⟩
abbrev S32 : Shape := ⟨1, ![32]⟩
abbrev S_ : Shape := ⟨0, ![]⟩
abbrev S16384x32 : Shape := ⟨2, ![16384, 32]⟩
abbrev S1x8x2048x32 : Shape := ⟨4, ![1, 8, 2048, 32]⟩
abbrev S512x32 : Shape := ⟨2, ![512, 32]⟩
abbrev S1x16x32x32 : Shape := ⟨4, ![1, 16, 32, 32]⟩

abbrev nBuf : Space → Nat
  | .hbm => 31
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x12320, .f32⟩
  | .hbm, ⟨2, _⟩ => ⟨S1x32, .f32⟩
  | .hbm, ⟨3, _⟩ => ⟨S16896x4096, .f32⟩
  | .hbm, ⟨4, _⟩ => ⟨S1x4096x32, .f32⟩
  | .hbm, ⟨5, _⟩ => ⟨S4096x32, .f32⟩
  | .hbm, ⟨6, _⟩ => ⟨S16896x32, .f32⟩
  | .hbm, ⟨7, _⟩ => ⟨S32, .f32⟩
  | .hbm, ⟨8, _⟩ => ⟨S1x32, .f32⟩
  | .hbm, ⟨9, _⟩ => ⟨S16896x32, .f32⟩
  | .hbm, ⟨10, _⟩ => ⟨S16896x32, .f32⟩
  | .hbm, ⟨11, _⟩ => ⟨S16896x32, .f32⟩
  | .hbm, ⟨12, _⟩ => ⟨S_, .f32⟩
  | .hbm, ⟨13, _⟩ => ⟨S16896x32, .f32⟩
  | .hbm, ⟨14, _⟩ => ⟨S16896x32, .f32⟩
  | .hbm, ⟨15, _⟩ => ⟨S16896x32, .f32⟩
  | .hbm, ⟨16, _⟩ => ⟨S16896x32, .f32⟩
  | .hbm, ⟨17, _⟩ => ⟨S16896x32, .i1⟩
  | .hbm, ⟨18, _⟩ => ⟨S16896x32, .f32⟩
  | .hbm, ⟨19, _⟩ => ⟨S16896x32, .f32⟩
  | .hbm, ⟨20, _⟩ => ⟨S16896x32, .f32⟩
  | .hbm, ⟨21, _⟩ => ⟨S16896x32, .f32⟩
  | .hbm, ⟨22, _⟩ => ⟨S16896x32, .f32⟩
  | .hbm, ⟨23, _⟩ => ⟨S16896x32, .f32⟩
  | .hbm, ⟨24, _⟩ => ⟨S16896x32, .f32⟩
  | .hbm, ⟨25, _⟩ => ⟨S16896x32, .f32⟩
  | .hbm, ⟨26, _⟩ => ⟨S16896x32, .f32⟩
  | .hbm, ⟨27, _⟩ => ⟨S16384x32, .f32⟩
  | .hbm, ⟨28, _⟩ => ⟨S1x8x2048x32, .f32⟩
  | .hbm, ⟨29, _⟩ => ⟨S512x32, .f32⟩
  | .hbm, ⟨30, _⟩ => ⟨S1x16x32x32, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== YPrompt.lean ====
abbrev S16896x4096 : Shape := ⟨2, ![16896, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩
abbrev S8x2048x4096 : Shape := ⟨3, ![8, 2048, 4096]⟩

abbrev nBuf : Space → Nat
  | .hbm => 5
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S16384x4096, .f32⟩
  | .hbm, ⟨4, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== YPromptRefIdeal.lean ====
abbrev S16896x4096 : Shape := ⟨2, ![16896, 4096]⟩
abbrev S4096 : Shape := ⟨1, ![4096]⟩
abbrev S16384x4096 : Shape := ⟨2, ![16384, 4096]⟩
abbrev S8x2048x4096 : Shape := ⟨3, ![8, 2048, 4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S16384x4096, .f32⟩
  | .hbm, ⟨3, _⟩ => ⟨S8x2048x4096, .f32⟩
  | .hbm, ⟨4, _⟩ => ⟨S8x2048x4096, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x4096, .f32⟩
  | .hbm, ⟨16, _⟩ => ⟨S8x2048x4096, .f32⟩
  | .hbm, ⟨17, _⟩ => ⟨S1x1x4096, .f32⟩
  | .hbm, ⟨18, _⟩ => ⟨S8x2048x4096, .f32⟩
  | .hbm, ⟨19, _⟩ => ⟨S8x2048x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== YSample.lean ====
abbrev S16896x4096 : Shape := ⟨2, ![16896, 4096]⟩
abbrev S4096 : Shape := ⟨1, ![4096]⟩
abbrev S1x4096 : Shape := ⟨2, ![1, 4096]⟩
abbrev S512x4096 : Shape := ⟨2, ![512, 4096]⟩
abbrev S256x4096 : Shape := ⟨2, ![256, 4096]⟩
abbrev S256 : Shape := ⟨1, ![256]⟩
abbrev S256x1 : Shape := ⟨2, ![256, 1]⟩
abbrev S16x32x4096 : Shape := ⟨3, ![16, 32, 4096]⟩

abbrev nBuf : Space → Nat
  | .hbm => 5
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S512x4096, .f32⟩
  | .hbm, ⟨4, _⟩ => ⟨S16x32x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== YSampleRefIdeal.lean ====
abbrev S16896x4096 : Shape := ⟨2, ![16896, 4096]⟩
abbrev S4096 : Shape := ⟨1, ![4096]⟩
abbrev S512x4096 : Shape := ⟨2, ![512, 4096]⟩
abbrev S16x32x4096 : Shape := ⟨3, ![16, 32, 4096]⟩
abbrev S_ : Shape := ⟨0, ![]⟩
abbrev S16x32 : Shape := ⟨2, ![16, 32]⟩
abbrev S16x32x1 : Shape := ⟨3, ![16, 32, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S512x4096, .f32⟩
  | .hbm, ⟨3, _⟩ => ⟨S16x32x4096, .f32⟩
  | .hbm, ⟨4, _⟩ => ⟨S16x32x4096, .f32⟩
  | .hbm, ⟨5, _⟩ => ⟨S_, .f32⟩
  | .hbm, ⟨6, _⟩ => ⟨S16x32, .f32⟩
  | .hbm, ⟨7, _⟩ => ⟨S16x32x1, .f32⟩
  | .hbm, ⟨8, _⟩ => ⟨S_, .f32⟩
  | .hbm, ⟨9, _⟩ => ⟨S16x32x1, .f32⟩
  | .hbm, ⟨10, _⟩ => ⟨S16x32x1, .f32⟩
  | .hbm, ⟨11, _⟩ => ⟨S_, .f32⟩
  | .hbm, ⟨12, _⟩ => ⟨S16x32x1, .f32⟩
  | .hbm, ⟨13, _⟩ => ⟨S16x32x1, .f32⟩
  | .hbm, ⟨14, _⟩ => ⟨S16x32x1, .f32⟩
  | .hbm, ⟨15, _⟩ => ⟨S16x32x4096, .f32⟩
  | .hbm, ⟨16, _⟩ => ⟨S16x32x4096, .f32⟩
  | .hbm, ⟨17, _⟩ => ⟨S1x1x4096, .f32⟩
  | .hbm, ⟨18, _⟩ => ⟨S16x32x4096, .f32⟩
  | .hbm, ⟨19, _⟩ => ⟨S16x32x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Fox.Body.lean ====
module

public import proofs.«01_k».proof.Proof.Gen.KernelIdeal.Value
public import Idealize.ShloMosaic.Lib.Pipeline.ValueKit

/-! The attention body as vector functions: one block of scores, one step of the running softmax, one head, and what
    each of the four cases (one to four blocks of keys) stores. -/

@[expose] public section

set_option maxRecDepth 16384

noncomputable section

namespace Cert.KernelIdeal.Fox

open Cert.KernelIdeal Cert.KernelIdeal.Gen Idealize.ShloMosaic Idealize.ShloMosaic.TcCoe Idealize.SL.Sem

variable {F : FTy → Type} [FloatOps F] [Named F]

/-- The column of one head out of the rows' cumulative gates: the sum over lanes of the one lane kept. -/
def pick (a h : BitVec 32) (x : Vec F S512x128 .f32) : FVec F S512x1 .f32 :=
  shapeCast S512x1 (multiReduction .add [1] S512
    (select (cmpi .eq (iota .tc S512x128 32 [1] iota_S512x128_d1_w32) (broadcast S512x128 (Scalar.addi (Scalar.muli a 2#32) h)))
      (shapeCast S512x128 x shapeCasts_S512x128_S512x128) (broadcast S512x128 (Scalar.ofBits .f32 0x00000000#32)))
    0x00000000#32 reduces_S512x128_S512 (.inl rfl) rfl) shapeCasts_S512_S512x1

/-- One block of scores: scaled products, plus the rows' gates, minus the columns'. -/
def score (q k : Vec F S512x128 .f32) (g : FVec F S512x1 .f32) (w : Vec F S1x1x1x512 .f32) : FVec F S512x512 .f32 :=
  subf (addf (mulf (matmul dot_S512x128_S512x128_S512x512_1_1_0_0_n_n none (truncf .bf16 q bitsLt_bf16_f32)
      (truncf .bf16 k bitsLt_bf16_f32) (constant S512x512 .f32 0x00000000#32)) (broadcast S512x512 (Scalar.ofBits .f32 0x3DB504F3#32)))
    (broadcastTo S512x512 g broadcasts_S512x1_S512x512))
    (broadcastTo S512x512 (shapeCast S1x512 w shapeCasts_S1x1x1x512_S1x512) broadcasts_S1x512_S512x512)

/-- The diagonal block's mask: columns past the row stand at the named constant. -/
def causal (s : FVec F S512x512 .f32) : FVec F S512x512 .f32 :=
  select (cmpi .sle (iota .tc S512x512 32 [1] iota_S512x512_d1_w32) (iota .tc S512x512 32 [0] iota_S512x512_d0_w32)) s
    (broadcast S512x512 (Named.named κ "mask" 0xF149F2CA#32))

/-- The running maximum after a block. -/
def top (m : FVec F S512x1 .f32) (s : FVec F S512x512 .f32) : FVec F S512x1 .f32 :=
  maximumf m (shapeCast S512x1 (multiReduction .maximumf [1] S512 s 0xFF800000#32 reduces_S512x512_S512 (.inl rfl) rfl) shapeCasts_S512_S512x1)

/-- A block's weights at a maximum. -/
def weight (m : FVec F S512x1 .f32) (s : FVec F S512x512 .f32) : FVec F S512x512 .f32 :=
  exp (subf s (broadcastTo S512x512 m broadcasts_S512x1_S512x512))

/-- The running sum of weights, brought to the maximum `m'` and extended by a block. -/
def total (m m' l : FVec F S512x1 .f32) (s : FVec F S512x512 .f32) : FVec F S512x1 .f32 :=
  addf (mulf (exp (subf m m')) l)
    (shapeCast S512x1 (multiReduction .add [1] S512 (weight m' s) 0x00000000#32 reduces_S512x512_S512 (.inl rfl) rfl) shapeCasts_S512_S512x1)

/-- The running weighted sum of values, likewise. -/
def mix (m m' : FVec F S512x1 .f32) (acc : FVec F S512x128 .f32) (s : FVec F S512x512 .f32) (v : Vec F S512x128 .f32) :
    FVec F S512x128 .f32 :=
  addf (mulf (broadcastTo S512x128 (exp (subf m m')) broadcasts_S512x1_S512x128) acc)
    (matmul dot_S512x512_S512x128_S512x128_1_0_0_1_n_n none (truncf .bf16 (weight m' s) bitsLt_bf16_f32)
      (truncf .bf16 v bitsLt_bf16_f32) (constant S512x128 .f32 0x00000000#32))

/-- The state of the running softmax: maximum, sum of weights, weighted sum of values. -/
structure St (F : FTy → Type) where
  m : FVec F S512x1 .f32
  l : FVec F S512x1 .f32
  acc : FVec F S512x128 .f32

/-- Before any block. -/
def st0 : St F := ⟨broadcast S512x1 (Named.named κ "mask" 0xF149F2CA#32), broadcast S512x1 (Scalar.ofBits .f32 0x00000000#32),
  broadcast S512x128 (Scalar.ofBits .f32 0x00000000#32)⟩

/-- One block. -/
def step (a : St F) (s : FVec F S512x512 .f32) (v : Vec F S512x128 .f32) : St F :=
  ⟨top a.m s, total a.m (top a.m s) a.l s, mix a.m (top a.m s) a.acc s v⟩

/-- The head's result: the weighted sum over the sum of weights. -/
def close (a : St F) : FVec F S512x128 .f32 :=
  mulf a.acc (broadcastTo S512x128 (divf (broadcast S512x1 (Scalar.ofBits .f32 0x3F800000#32)) a.l) broadcasts_S512x1_S512x128)

/-- Two heads' results side by side. -/
def pair (a b : FVec F S512x128 .f32) : FVec F S512x256 .bf16 :=
  truncf .bf16 (concatenate S512x256 1 [⟨S512x128, a⟩, ⟨S512x128, b⟩] concatenates_S512x128_S512x128_S512x256_d1) bitsLt_bf16_f32

/-- What the case of 1 block of keys stores. -/
theorem outA (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S512x128 .f32) (harg6 : arg6.IsWhole) (arg7 : Memref sig .tc .vmem S1x2x4x512 .f32) (harg7 : arg7.IsWhole) (arg9 : Memref sig .tc .vmem S512x256 .bf16) (harg9 : arg9.IsWhole) (hc0 : cond0_0 i) (hc1 : ¬cond0_1 i) (hc2 : ¬cond0_2 i) (hc3 : ¬cond0_3 i)
    (x0 : Vec F S512x256 .f32) (x1 x2 : Vec F S2048x256 .f32) (x3 : Vec F S512x128 .f32) (x4 : Vec F S1x2x4x512 .f32) :
    out0_A_5 c i arg3 harg3 arg4 harg4 arg5 harg5 arg6 harg6 arg7 harg7 arg9 harg9 hc0 hc1 hc2 hc3 x0 x1 x2 x3 x4 =
    pair (close (step st0 (causal (score (View.ld x0 (Rect.unit ![0, 0] ![512, 128] inb_S512x256_S512x128_0_0)) (View.ld x1 (Rect.unit ![0, 0] ![512, 128] inb_S2048x256_S512x128_0_0)) (pick (BitVec.ofNat 32 (i 1)) 0#32 x3) (View.ld x4 (Rect.unit ![0, 0, 0, 0] ![1, 1, 1, 512] inb_S1x2x4x512_S1x1x1x512_0_0_0_0))))
      (View.ld x2 (Rect.unit ![0, 0] ![512, 128] inb_S2048x256_S512x128_0_0))))
      (close (step st0 (causal (score (View.ld x0 (Rect.unit ![0, 128] ![512, 128] inb_S512x256_S512x128_0_128)) (View.ld x1 (Rect.unit ![0, 128] ![512, 128] inb_S2048x256_S512x128_0_128)) (pick (BitVec.ofNat 32 (i 1)) 1#32 x3) (View.ld x4 (Rect.unit ![0, 1, 0, 0] ![1, 1, 1, 512] inb_S1x2x4x512_S1x1x1x512_0_1_0_0))))
      (View.ld x2 (Rect.unit ![0, 128] ![512, 128] inb_S2048x256_S512x128_0_128)))) := by
  frame_out
  rfl

/-- What the case of 2 blocks of keys stores. -/
theorem outB (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S512x128 .f32) (harg6 : arg6.IsWhole) (arg7 : Memref sig .tc .vmem S1x2x4x512 .f32) (harg7 : arg7.IsWhole) (arg9 : Memref sig .tc .vmem S512x256 .bf16) (harg9 : arg9.IsWhole) (hc0 : ¬cond0_0 i) (hc1 : cond0_1 i) (hc2 : ¬cond0_2 i) (hc3 : ¬cond0_3 i)
    (x0 : Vec F S512x256 .f32) (x1 x2 : Vec F S2048x256 .f32) (x3 : Vec F S512x128 .f32) (x4 : Vec F S1x2x4x512 .f32) :
    out0_B_5 c i arg3 harg3 arg4 harg4 arg5 harg5 arg6 harg6 arg7 harg7 arg9 harg9 hc0 hc1 hc2 hc3 x0 x1 x2 x3 x4 =
    pair (close (step (step st0 (score (View.ld x0 (Rect.unit ![0, 0] ![512, 128] inb_S512x256_S512x128_0_0)) (View.ld x1 (Rect.unit ![0, 0] ![512, 128] inb_S2048x256_S512x128_0_0)) (pick (BitVec.ofNat 32 (i 1)) 0#32 x3) (View.ld x4 (Rect.unit ![0, 0, 0, 0] ![1, 1, 1, 512] inb_S1x2x4x512_S1x1x1x512_0_0_0_0)))
      (View.ld x2 (Rect.unit ![0, 0] ![512, 128] inb_S2048x256_S512x128_0_0))) (causal (score (View.ld x0 (Rect.unit ![0, 0] ![512, 128] inb_S512x256_S512x128_0_0)) (View.ld x1 (Rect.unit ![512, 0] ![512, 128] inb_S2048x256_S512x128_512_0)) (pick (BitVec.ofNat 32 (i 1)) 0#32 x3) (View.ld x4 (Rect.unit ![0, 0, 1, 0] ![1, 1, 1, 512] inb_S1x2x4x512_S1x1x1x512_0_0_1_0))))
      (View.ld x2 (Rect.unit ![512, 0] ![512, 128] inb_S2048x256_S512x128_512_0))))
      (close (step (step st0 (score (View.ld x0 (Rect.unit ![0, 128] ![512, 128] inb_S512x256_S512x128_0_128)) (View.ld x1 (Rect.unit ![0, 128] ![512, 128] inb_S2048x256_S512x128_0_128)) (pick (BitVec.ofNat 32 (i 1)) 1#32 x3) (View.ld x4 (Rect.unit ![0, 1, 0, 0] ![1, 1, 1, 512] inb_S1x2x4x512_S1x1x1x512_0_1_0_0)))
      (View.ld x2 (Rect.unit ![0, 128] ![512, 128] inb_S2048x256_S512x128_0_128))) (causal (score (View.ld x0 (Rect.unit ![0, 128] ![512, 128] inb_S512x256_S512x128_0_128)) (View.ld x1 (Rect.unit ![512, 128] ![512, 128] inb_S2048x256_S512x128_512_128)) (pick (BitVec.ofNat 32 (i 1)) 1#32 x3) (View.ld x4 (Rect.unit ![0, 1, 1, 0] ![1, 1, 1, 512] inb_S1x2x4x512_S1x1x1x512_0_1_1_0))))
      (View.ld x2 (Rect.unit ![512, 128] ![512, 128] inb_S2048x256_S512x128_512_128)))) := by
  frame_out
  rfl

/-- What the case of 3 blocks of keys stores. -/
theorem outC (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S512x128 .f32) (harg6 : arg6.IsWhole) (arg7 : Memref sig .tc .vmem S1x2x4x512 .f32) (harg7 : arg7.IsWhole) (arg9 : Memref sig .tc .vmem S512x256 .bf16) (harg9 : arg9.IsWhole) (hc0 : ¬cond0_0 i) (hc1 : ¬cond0_1 i) (hc2 : cond0_2 i) (hc3 : ¬cond0_3 i)
    (x0 : Vec F S512x256 .f32) (x1 x2 : Vec F S2048x256 .f32) (x3 : Vec F S512x128 .f32) (x4 : Vec F S1x2x4x512 .f32) :
    out0_C_5 c i arg3 harg3 arg4 harg4 arg5 harg5 arg6 harg6 arg7 harg7 arg9 harg9 hc0 hc1 hc2 hc3 x0 x1 x2 x3 x4 =
    pair (close (step (step (step st0 (score (View.ld x0 (Rect.unit ![0, 0] ![512, 128] inb_S512x256_S512x128_0_0)) (View.ld x1 (Rect.unit ![0, 0] ![512, 128] inb_S2048x256_S512x128_0_0)) (pick (BitVec.ofNat 32 (i 1)) 0#32 x3) (View.ld x4 (Rect.unit ![0, 0, 0, 0] ![1, 1, 1, 512] inb_S1x2x4x512_S1x1x1x512_0_0_0_0)))
      (View.ld x2 (Rect.unit ![0, 0] ![512, 128] inb_S2048x256_S512x128_0_0))) (score (View.ld x0 (Rect.unit ![0, 0] ![512, 128] inb_S512x256_S512x128_0_0)) (View.ld x1 (Rect.unit ![512, 0] ![512, 128] inb_S2048x256_S512x128_512_0)) (pick (BitVec.ofNat 32 (i 1)) 0#32 x3) (View.ld x4 (Rect.unit ![0, 0, 1, 0] ![1, 1, 1, 512] inb_S1x2x4x512_S1x1x1x512_0_0_1_0)))
      (View.ld x2 (Rect.unit ![512, 0] ![512, 128] inb_S2048x256_S512x128_512_0))) (causal (score (View.ld x0 (Rect.unit ![0, 0] ![512, 128] inb_S512x256_S512x128_0_0)) (View.ld x1 (Rect.unit ![1024, 0] ![512, 128] inb_S2048x256_S512x128_1024_0)) (pick (BitVec.ofNat 32 (i 1)) 0#32 x3) (View.ld x4 (Rect.unit ![0, 0, 2, 0] ![1, 1, 1, 512] inb_S1x2x4x512_S1x1x1x512_0_0_2_0))))
      (View.ld x2 (Rect.unit ![1024, 0] ![512, 128] inb_S2048x256_S512x128_1024_0))))
      (close (step (step (step st0 (score (View.ld x0 (Rect.unit ![0, 128] ![512, 128] inb_S512x256_S512x128_0_128)) (View.ld x1 (Rect.unit ![0, 128] ![512, 128] inb_S2048x256_S512x128_0_128)) (pick (BitVec.ofNat 32 (i 1)) 1#32 x3) (View.ld x4 (Rect.unit ![0, 1, 0, 0] ![1, 1, 1, 512] inb_S1x2x4x512_S1x1x1x512_0_1_0_0)))
      (View.ld x2 (Rect.unit ![0, 128] ![512, 128] inb_S2048x256_S512x128_0_128))) (score (View.ld x0 (Rect.unit ![0, 128] ![512, 128] inb_S512x256_S512x128_0_128)) (View.ld x1 (Rect.unit ![512, 128] ![512, 128] inb_S2048x256_S512x128_512_128)) (pick (BitVec.ofNat 32 (i 1)) 1#32 x3) (View.ld x4 (Rect.unit ![0, 1, 1, 0] ![1, 1, 1, 512] inb_S1x2x4x512_S1x1x1x512_0_1_1_0)))
      (View.ld x2 (Rect.unit ![512, 128] ![512, 128] inb_S2048x256_S512x128_512_128))) (causal (score (View.ld x0 (Rect.unit ![0, 128] ![512, 128] inb_S512x256_S512x128_0_128)) (View.ld x1 (Rect.unit ![1024, 128] ![512, 128] inb_S2048x256_S512x128_1024_128)) (pick (BitVec.ofNat 32 (i 1)) 1#32 x3) (View.ld x4 (Rect.unit ![0, 1, 2, 0] ![1, 1, 1, 512] inb_S1x2x4x512_S1x1x1x512_0_1_2_0))))
      (View.ld x2 (Rect.unit ![1024, 128] ![512, 128] inb_S2048x256_S512x128_1024_128)))) := by
  frame_out
  rfl

/-- What the case of 4 blocks of keys stores. -/
theorem outD (c : Dev nD) (i : grid0.Coords) (arg3 : Memref sig .tc .vmem S512x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S512x128 .f32) (harg6 : arg6.IsWhole) (arg7 : Memref sig .tc .vmem S1x2x4x512 .f32) (harg7 : arg7.IsWhole) (arg9 : Memref sig .tc .vmem S512x256 .bf16) (harg9 : arg9.IsWhole) (hc0 : ¬cond0_0 i) (hc1 : ¬cond0_1 i) (hc2 : ¬cond0_2 i) (hc3 : cond0_3 i)
    (x0 : Vec F S512x256 .f32) (x1 x2 : Vec F S2048x256 .f32) (x3 : Vec F S512x128 .f32) (x4 : Vec F S1x2x4x512 .f32) :
    out0_D_5 c i arg3 harg3 arg4 harg4 arg5 harg5 arg6 harg6 arg7 harg7 arg9 harg9 hc0 hc1 hc2 hc3 x0 x1 x2 x3 x4 =
    pair (close (step (step (step (step st0 (score (View.ld x0 (Rect.unit ![0, 0] ![512, 128] inb_S512x256_S512x128_0_0)) (View.ld x1 (Rect.unit ![0, 0] ![512, 128] inb_S2048x256_S512x128_0_0)) (pick (BitVec.ofNat 32 (i 1)) 0#32 x3) (View.ld x4 (Rect.unit ![0, 0, 0, 0] ![1, 1, 1, 512] inb_S1x2x4x512_S1x1x1x512_0_0_0_0)))
      (View.ld x2 (Rect.unit ![0, 0] ![512, 128] inb_S2048x256_S512x128_0_0))) (score (View.ld x0 (Rect.unit ![0, 0] ![512, 128] inb_S512x256_S512x128_0_0)) (View.ld x1 (Rect.unit ![512, 0] ![512, 128] inb_S2048x256_S512x128_512_0)) (pick (BitVec.ofNat 32 (i 1)) 0#32 x3) (View.ld x4 (Rect.unit ![0, 0, 1, 0] ![1, 1, 1, 512] inb_S1x2x4x512_S1x1x1x512_0_0_1_0)))
      (View.ld x2 (Rect.unit ![512, 0] ![512, 128] inb_S2048x256_S512x128_512_0))) (score (View.ld x0 (Rect.unit ![0, 0] ![512, 128] inb_S512x256_S512x128_0_0)) (View.ld x1 (Rect.unit ![1024, 0] ![512, 128] inb_S2048x256_S512x128_1024_0)) (pick (BitVec.ofNat 32 (i 1)) 0#32 x3) (View.ld x4 (Rect.unit ![0, 0, 2, 0] ![1, 1, 1, 512] inb_S1x2x4x512_S1x1x1x512_0_0_2_0)))
      (View.ld x2 (Rect.unit ![1024, 0] ![512, 128] inb_S2048x256_S512x128_1024_0))) (causal (score (View.ld x0 (Rect.unit ![0, 0] ![512, 128] inb_S512x256_S512x128_0_0)) (View.ld x1 (Rect.unit ![1536, 0] ![512, 128] inb_S2048x256_S512x128_1536_0)) (pick (BitVec.ofNat 32 (i 1)) 0#32 x3) (View.ld x4 (Rect.unit ![0, 0, 3, 0] ![1, 1, 1, 512] inb_S1x2x4x512_S1x1x1x512_0_0_3_0))))
      (View.ld x2 (Rect.unit ![1536, 0] ![512, 128] inb_S2048x256_S512x128_1536_0))))
      (close (step (step (step (step st0 (score (View.ld x0 (Rect.unit ![0, 128] ![512, 128] inb_S512x256_S512x128_0_128)) (View.ld x1 (Rect.unit ![0, 128] ![512, 128] inb_S2048x256_S512x128_0_128)) (pick (BitVec.ofNat 32 (i 1)) 1#32 x3) (View.ld x4 (Rect.unit ![0, 1, 0, 0] ![1, 1, 1, 512] inb_S1x2x4x512_S1x1x1x512_0_1_0_0)))
      (View.ld x2 (Rect.unit ![0, 128] ![512, 128] inb_S2048x256_S512x128_0_128))) (score (View.ld x0 (Rect.unit ![0, 128] ![512, 128] inb_S512x256_S512x128_0_128)) (View.ld x1 (Rect.unit ![512, 128] ![512, 128] inb_S2048x256_S512x128_512_128)) (pick (BitVec.ofNat 32 (i 1)) 1#32 x3) (View.ld x4 (Rect.unit ![0, 1, 1, 0] ![1, 1, 1, 512] inb_S1x2x4x512_S1x1x1x512_0_1_1_0)))
      (View.ld x2 (Rect.unit ![512, 128] ![512, 128] inb_S2048x256_S512x128_512_128))) (score (View.ld x0 (Rect.unit ![0, 128] ![512, 128] inb_S512x256_S512x128_0_128)) (View.ld x1 (Rect.unit ![1024, 128] ![512, 128] inb_S2048x256_S512x128_1024_128)) (pick (BitVec.ofNat 32 (i 1)) 1#32 x3) (View.ld x4 (Rect.unit ![0, 1, 2, 0] ![1, 1, 1, 512] inb_S1x2x4x512_S1x1x1x512_0_1_2_0)))
      (View.ld x2 (Rect.unit ![1024, 128] ![512, 128] inb_S2048x256_S512x128_1024_128))) (causal (score (View.ld x0 (Rect.unit ![0, 128] ![512, 128] inb_S512x256_S512x128_0_128)) (View.ld x1 (Rect.unit ![1536, 128] ![512, 128] inb_S2048x256_S512x128_1536_128)) (pick (BitVec.ofNat 32 (i 1)) 1#32 x3) (View.ld x4 (Rect.unit ![0, 1, 3, 0] ![1, 1, 1, 512] inb_S1x2x4x512_S1x1x1x512_0_1_3_0))))
      (View.ld x2 (Rect.unit ![1536, 128] ![512, 128] inb_S2048x256_S512x128_1536_128)))) := by
  frame_out
  rfl

end Cert.KernelIdeal.Fox

end
-- ==== Proof.Math.Words.lean ====
module

public import Idealize.ShloMosaic.Lib.IdealHost
public import Idealize.ShloMosaic.Lib.WordCmp
public import Idealize.ShloMosaic.Lib.Pointwise

/-! What a few bit patterns denote at the ideal instance, and a selection whose bit is a comparison of two positions. -/

@[expose] public section

namespace Cert.Math

open Idealize.ShloMosaic Idealize.ShloMosaic.WordCmp

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

/-- The factor on the scores is a real number. -/
theorem ofBits_scale : ∃ r : ℝ, Ideal.ofBits .f32 0x3DB504F3#32 = (r : EReal) :=
  ⟨_, by simp [Ideal.ofBits, Ideal.ieee, -EReal.coe_mul]; rfl⟩

/-- Selecting by "a is at most b", for positions that fit a signed word. -/
theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [cmpi_sle_ofNat (w := 32) ha hb]
  by_cases h : a ≤ b <;> simp [h, Scalar.select]

/-- Selecting by equality of two words. -/
theorem select_eq {α : Type} (a b : BitVec 32) (x y : α) :
    Scalar.select (IntOp.cmpi .eq a b) x y = if a = b then x else y := by
  rw [cmpi_eq_eq]
  by_cases h : a = b <;> simp [h, Scalar.select]

/-- A real number is what has a magnitude below the infinity. -/
theorem real_of_abs_lt (x : EReal) (h : FloatOps.cmpf (F := Ideal) (φ := .f32) .olt (FloatOps.absf (F := Ideal) (φ := .f32) x) (FloatOps.ofBits .f32 0x7F800000#32) = 1#1) :
    ∃ r : ℝ, x = (r : EReal) := by
  have h' : max x (-x) < (⊤ : EReal) := by
    have := (ofBool_decide_eq_one_iff _).1 h
    rwa [Ideal.ofBits_def, ofBits_top] at this
  induction x using EReal.rec with
  | bot => simp at h'
  | top => simp at h'
  | coe r => exact ⟨r, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

end Cert.Math
-- ==== Proof.Fox.Read.lean ====
module

public import proofs.«01_k».proof.Proof.Fox.Body
public import proofs.«01_k».proof.Proof.Math.Words

@[expose] public section

set_option maxRecDepth 16384

noncomputable section

namespace Cert.KernelIdeal.Fox

open Cert.KernelIdeal Cert.KernelIdeal.Gen Idealize.ShloMosaic Idealize.ShloMosaic.TcCoe Idealize.SL.Sem

theorem mask_bot : Named.named (F := Ideal) (φ := .f32) κ "mask" 0xF149F2CA#32 = ⊥ := by
  simp [Named.named, κ]

theorem score_at (q k : Vec Ideal S512x128 .f32) (g : FVec Ideal S512x1 .f32) (w : Vec Ideal S1x1x1x512 .f32) (r c : Fin 512) :
    score q k g w (ix2 r c) = (∑ d : Fin 128, q (ix2 r d) * k (ix2 c d)) * Ideal.ofBits .f32 0x3DB504F3#32 + g (ix2 r 0) - w (ix4 0 0 0 c) := by
  pointwise [score]

theorem causal_at (s : FVec Ideal S512x512 .f32) (r c : Fin 512) :
    causal s (ix2 r c) = if c.val ≤ r.val then s (ix2 r c) else ⊥ := by
  pointwise [causal]
  rw [Math.select_le _ _ (by omega) (by omega), mask_bot]

theorem top_at (m : FVec Ideal S512x1 .f32) (s : FVec Ideal S512x512 .f32) (r : Fin 512) :
    top m s (ix2 r 0) = max (m (ix2 r 0)) (Finset.univ.sup fun c : Fin 512 => s (ix2 r c)) := by
  pointwise [top]
  rw [Math.ofBits_bot]; rfl

theorem total_at (m m' l : FVec Ideal S512x1 .f32) (s : FVec Ideal S512x512 .f32) (r : Fin 512) :
    total m m' l s (ix2 r 0) = Ideal.exp (m (ix2 r 0) - m' (ix2 r 0)) * l (ix2 r 0) + ∑ c : Fin 512, Ideal.exp (s (ix2 r c) - m' (ix2 r 0)) := by
  pointwise [total, weight]

theorem mix_at (m m' : FVec Ideal S512x1 .f32) (a : FVec Ideal S512x128 .f32) (s : FVec Ideal S512x512 .f32) (v : Vec Ideal S512x128 .f32)
    (r : Fin 512) (d : Fin 128) :
    mix m m' a s v (ix2 r d) = Ideal.exp (m (ix2 r 0) - m' (ix2 r 0)) * a (ix2 r d)
      + ∑ c : Fin 512, Ideal.exp (s (ix2 r c) - m' (ix2 r 0)) * v (ix2 c d) := by
  pointwise [mix, weight]

theorem close_at (a : St Ideal) (r : Fin 512) (d : Fin 128) :
    close a (ix2 r d) = a.acc (ix2 r d) * Ideal.div 1 (a.l (ix2 r 0)) := by
  pointwise [close]

theorem st0_m (r : Fin 512) : (st0 (F := Ideal)).m (ix2 r 0) = ⊥ := by
  pointwise [st0]
  exact mask_bot

theorem st0_l (r : Fin 512) : (st0 (F := Ideal)).l (ix2 r 0) = 0 := by
  pointwise [st0]

theorem st0_acc (r : Fin 512) (d : Fin 128) : (st0 (F := Ideal)).acc (ix2 r d) = 0 := by
  pointwise [st0]

theorem pick_at (a h : BitVec 32) (x : Vec Ideal S512x128 .f32) (r : Fin 512) (n : Fin 128) (hn : (a * 2#32 + h) = BitVec.ofNat 32 n.val) :
    pick a h x (ix2 r 0) = x (ix2 r n) := by
  pointwise [pick]
  simp only [Math.select_eq]
  rw [Finset.sum_eq_single n]
  · exact if_pos hn.symm
  · intro k _ hk
    refine if_neg fun e => hk (Fin.ext ?_)
    have := congrArg BitVec.toNat (e.trans hn)
    simp only [BitVec.toNat_ofNat] at this
    omega
  · simp

theorem pair_left (a b : FVec Ideal S512x128 .f32) (r : Fin 512) (d : Fin 128) (e : Fin 256) (h : e.val = d.val) : pair a b (ix2 r e) = a (ix2 r d) := by
  pointwise [pair]
  rw [dif_pos (by omega)]
  exact congrArg a (congrArg _ (Fin.ext h))

theorem pair_right (a b : FVec Ideal S512x128 .f32) (r : Fin 512) (d : Fin 128) (e : Fin 256) (h : e.val = 128 + d.val) : pair a b (ix2 r e) = b (ix2 r d) := by
  pointwise [pair]
  rw [dif_neg (by omega)]
  exact congrArg b (congrArg _ (Fin.ext (by show e.val - 128 = d.val; omega)))

end Cert.KernelIdeal.Fox

end
-- ==== Proof.Math.Running.lean ====
module

public import Idealize.ShloMosaic.PureOps.Ideal
public import Mathlib.Data.EReal.Inv

/-! The running softmax over the extended reals: after any set of columns the state is the maximum of their scores, the sum
    of their weights at that maximum, and the sum of weights times values; a further set of columns updates it by the
    kernel's step; and at the end the quotient is the softmax-weighted sum. -/

@[expose] public section

noncomputable section

namespace Cert.Math

open Idealize.ShloMosaic

/-- A sum times a nonnegative finite factor. -/
theorem sum_mul_of_nonneg {ι : Type} (A : Finset ι) (f : ι → EReal) {x : EReal} (h0 : 0 ≤ x) (ht : x ≠ ⊤) :
    x * ∑ i ∈ A, f i = ∑ i ∈ A, x * f i := by
  classical
  induction A using Finset.induction_on with
  | empty => simp
  | insert a s ha ih => rw [Finset.sum_insert ha, Finset.sum_insert ha, EReal.left_distrib_of_nonneg_of_ne_top h0 ht, ih]

theorem exp_nonneg (x : EReal) : 0 ≤ Ideal.exp x := by
  induction x using EReal.rec with
  | bot => simp
  | coe r => rw [Ideal.exp_coe]; exact_mod_cast (Real.exp_pos r).le
  | top => simp

theorem exp_ne_top {x : EReal} (h : x ≠ ⊤) : Ideal.exp x ≠ ⊤ := by
  induction x using EReal.rec with
  | bot => simp
  | coe r => rw [Ideal.exp_coe]; exact EReal.coe_ne_top _
  | top => exact absurd rfl h

theorem sub_ne_top {x y : EReal} (hx : x ≠ ⊤) (hy : y = ⊥ → x = ⊥) : x - y ≠ ⊤ := by
  induction y using EReal.rec with
  | bot => rw [hy rfl]; simp
  | coe r =>
    induction x using EReal.rec with
    | bot => simp
    | coe s => rw [← EReal.coe_sub]; exact EReal.coe_ne_top _
    | top => exact absurd rfl hx
  | top => simp

/-- A weight at the maximum `m`, brought to a later maximum `m'`. -/
theorem exp_shift {s m m' : EReal} (h1 : s ≤ m) (h2 : m ≤ m') (ht : m' ≠ ⊤) :
    Ideal.exp (m - m') * Ideal.exp (s - m) = Ideal.exp (s - m') := by
  induction m using EReal.rec with
  | bot =>
    have : s = ⊥ := le_bot_iff.mp h1
    subst this
    simp
  | top => exact absurd (top_le_iff.mp h2) ht
  | coe r =>
    induction m' using EReal.rec with
    | bot => exact absurd (le_bot_iff.mp h2) (EReal.coe_ne_bot r)
    | top => exact absurd rfl ht
    | coe r' =>
      induction s using EReal.rec with
      | bot => simp
      | top => exact absurd (top_le_iff.mp h1) (EReal.coe_ne_top r)
      | coe a =>
        rw [← EReal.coe_sub, ← EReal.coe_sub, ← EReal.coe_sub, Ideal.exp_coe, Ideal.exp_coe, Ideal.exp_coe, ← EReal.coe_mul,
          ← Real.exp_add]
        congr 2; ring

variable {ι : Type} (S V : ι → EReal)

/-- The state after the columns of `A`. -/
structure After (A : Finset ι) (m l a : EReal) : Prop where
  m_eq : m = A.sup S
  l_eq : l = ∑ i ∈ A, Ideal.exp (S i - m)
  a_eq : a = ∑ i ∈ A, Ideal.exp (S i - m) * V i

theorem After.empty : After S V ∅ ⊥ 0 0 := ⟨by simp, by simp, by simp⟩

theorem sup_ne_top (A : Finset ι) (h : ∀ i, S i ≠ ⊤) : A.sup S ≠ ⊤ := by
  classical
  induction A using Finset.induction_on with
  | empty => simp
  | insert a s ha ih =>
    rw [Finset.sup_insert]
    rcases max_choice (S a) (s.sup S) with e | e
    · rw [show S a ⊔ s.sup S = max (S a) (s.sup S) from rfl, e]; exact h a
    · rw [show S a ⊔ s.sup S = max (S a) (s.sup S) from rfl, e]; exact ih

variable {S V}

/-- One block: the columns `e c`, disjoint from those before. -/
theorem After.step {κ : Type} [Fintype κ] [DecidableEq ι] {A : Finset ι} {m l a : EReal} (h : After S V A m l a) (hS : ∀ i, S i ≠ ⊤)
    (e : κ ↪ ι) (hd : Disjoint A (Finset.univ.map e)) {m' : EReal} (hm : m' = max m (Finset.univ.sup fun c => S (e c))) :
    After S V (A ∪ Finset.univ.map e) m'
      (Ideal.exp (m - m') * l + ∑ c, Ideal.exp (S (e c) - m'))
      (Ideal.exp (m - m') * a + ∑ c, Ideal.exp (S (e c) - m') * V (e c)) := by
  have hsup : m' = (A ∪ Finset.univ.map e).sup S := by
    rw [hm, h.m_eq, Finset.sup_union, Finset.sup_map]; rfl
  have ht : m' ≠ ⊤ := by rw [hsup]; exact sup_ne_top S _ hS
  have hle : m ≤ m' := by rw [hm]; exact le_max_left _ _
  have hb : m' = ⊥ → m = ⊥ := fun hb => le_bot_iff.mp (hb ▸ hle)
  have hmt : m ≠ ⊤ := fun e => ht (top_le_iff.mp (e ▸ hle))
  have h0 := exp_nonneg (m - m')
  have h1 : Ideal.exp (m - m') ≠ ⊤ := exp_ne_top (sub_ne_top hmt hb)
  have hs : ∀ i ∈ A, S i ≤ m := fun i hi => by rw [h.m_eq]; exact Finset.le_sup hi
  refine ⟨hsup, ?_, ?_⟩
  · rw [Finset.sum_union hd, Finset.sum_map, h.l_eq, sum_mul_of_nonneg A _ h0 h1]
    congr 1
    exact Finset.sum_congr rfl fun i hi => exp_shift (hs i hi) hle ht
  · rw [Finset.sum_union hd, Finset.sum_map, h.a_eq, sum_mul_of_nonneg A _ h0 h1]
    congr 1
    refine Finset.sum_congr rfl fun i hi => ?_
    rw [← mul_assoc, exp_shift (hs i hi) hle ht]

theorem sum_ne_top (A : Finset ι) (f : ι → EReal) (h0 : ∀ i, 0 ≤ f i) (h : ∀ i ∈ A, f i ≠ ⊤) : ∑ i ∈ A, f i ≠ ⊤ := by
  classical
  induction A using Finset.induction_on with
  | empty => simp
  | insert a s ha ih =>
    rw [Finset.sum_insert ha]
    exact EReal.add_ne_top (h a (Finset.mem_insert_self a s)) (ih fun i hi => h i (Finset.mem_insert_of_mem hi))

/-- The end: the columns left out are all at `⊥`, one column is finite, and the state's quotient is the softmax-weighted sum over
    all columns. -/
theorem After.close [Fintype ι] [DecidableEq ι] {A : Finset ι} {m l a : EReal} (h : After S V A m l a) (hS : ∀ i, S i ≠ ⊤)
    (hout : ∀ i, i ∉ A → S i = ⊥) (j : ι) (hj : S j ≠ ⊥) :
    a * Ideal.div 1 l = ∑ i, V i * Ideal.div (Ideal.exp (S i - Finset.univ.sup S)) (∑ k, Ideal.exp (S k - Finset.univ.sup S)) := by
  have hm : Finset.univ.sup S = m := by
    rw [h.m_eq]
    apply le_antisymm
    · refine Finset.sup_le fun i _ => ?_
      by_cases hi : i ∈ A
      · exact Finset.le_sup hi
      · rw [hout i hi]; exact bot_le
    · exact Finset.sup_mono (Finset.subset_univ A)
  have hmt : m ≠ ⊤ := by rw [← hm]; exact sup_ne_top S _ hS
  have hjm : S j ≤ m := by rw [← hm]; exact Finset.le_sup (Finset.mem_univ j)
  have hmb : m ≠ ⊥ := fun e => hj (le_bot_iff.mp (e ▸ hjm))
  have hz : ∀ i, i ∉ A → Ideal.exp (S i - m) = 0 := fun i hi => by rw [hout i hi]; simp
  have hl : ∑ k, Ideal.exp (S k - m) = l := by
    rw [h.l_eq]
    exact (Finset.sum_subset (Finset.subset_univ A) fun i _ hi => hz i hi).symm
  have hfin : ∀ i, Ideal.exp (S i - m) ≠ ⊤ := fun i => exp_ne_top (sub_ne_top (hS i) fun e => absurd e hmb)
  have hlt : l ≠ ⊤ := by rw [← hl]; exact sum_ne_top _ _ (fun i => exp_nonneg _) fun i _ => hfin i
  have hpos : 0 < l := by
    rw [← hl]
    refine lt_of_lt_of_le ?_ (Finset.single_le_sum (fun i _ => exp_nonneg (S i - m)) (Finset.mem_univ j))
    obtain ⟨r, hr⟩ : ∃ r : ℝ, S j = r := ⟨(S j).toReal, (EReal.coe_toReal (hS j) hj).symm⟩
    obtain ⟨q, hq⟩ : ∃ q : ℝ, m = q := ⟨m.toReal, (EReal.coe_toReal hmt hmb).symm⟩
    rw [hr, hq, ← EReal.coe_sub, Ideal.exp_coe]
    exact_mod_cast Real.exp_pos _
  have hne : l ≠ 0 := hpos.ne'
  rw [hm, hl]
  have hdiv : ∀ x, Ideal.div x l = x * l⁻¹ := fun x => by rw [Ideal.div, if_neg hne]
  simp only [hdiv, one_mul]
  have i0 : 0 ≤ l⁻¹ := EReal.inv_nonneg_of_nonneg hpos.le
  have it : l⁻¹ ≠ ⊤ := by
    obtain ⟨q, hq⟩ : ∃ q : ℝ, l = q := ⟨l.toReal, (EReal.coe_toReal hlt (ne_bot_of_gt hpos)).symm⟩
    rw [hq, ← EReal.coe_inv]; exact EReal.coe_ne_top _
  rw [h.a_eq, mul_comm, sum_mul_of_nonneg A _ i0 it]
  refine Eq.trans ?_ (Finset.sum_subset (Finset.subset_univ A) fun i _ hi => by rw [hz i hi, zero_mul, mul_zero])
  exact Finset.sum_congr rfl fun i _ => by rw [mul_comm (V i), mul_right_comm, mul_comm l⁻¹, mul_right_comm]

end Cert.Math

end
-- ==== Proof.Math.Attend.lean ====
module

public import proofs.«01_k».proof.Proof.Math.Words
public import proofs.«01_k».proof.Proof.Math.Running

/-! The attention in index notation: the scores of one query row, and the softmax of them applied to the values. -/

@[expose] public section

noncomputable section

namespace Cert.Math

open Idealize.ShloMosaic

/-- Row `s` of sequence `b` among all the rows. -/
def row (b : Fin 8) (s : Fin 2048) : Fin 16384 := ⟨2048 * b.val + s.val, by omega⟩

/-- Lane `d` of head `h` among all the columns. -/
def lane (h : Fin 32) (d : Fin 128) : Fin 4096 := ⟨128 * h.val + d.val, by omega⟩

/-- Head `h`'s column of the running sums of the log gates, which stand in the first 32 of 128 columns. -/
def gate (h : Fin 32) : Fin 128 := ⟨h.val, by omega⟩

abbrev Rows := (⟨2, ![16384, 4096]⟩ : Shape).Idx → EReal
abbrev Gates := (⟨3, ![8, 2048, 128]⟩ : Shape).Idx → EReal

/-- What query row `r` of head `h` gives key row `j`, before the mask. -/
def raw (q k : Rows) (g : Gates) (b : Fin 8) (h : Fin 32) (r j : Fin 2048) : EReal :=
  (∑ d : Fin 128, q (ix2 (row b r) (lane h d)) * k (ix2 (row b j) (lane h d))) * Ideal.ofBits .f32 0x3DB504F3#32
    + g (ix3 b r (gate h)) - g (ix3 b j (gate h))

/-- The scores of query row `r`: keys after it are masked. -/
def scores (q k : Rows) (g : Gates) (b : Fin 8) (h : Fin 32) (r : Fin 2048) (j : Fin 2048) : EReal :=
  if j.val ≤ r.val then raw q k g b h r j else ⊥

/-- The softmax of a row of scores, applied to one column of the values. -/
def softmax {ι : Type} [Fintype ι] (S V : ι → EReal) : EReal :=
  ∑ j, V j * Ideal.div (Ideal.exp (S j - Finset.univ.sup S)) (∑ j', Ideal.exp (S j' - Finset.univ.sup S))

/-- The attention's output at row `r`, lane `d` of head `h`. -/
def attended (q k v : Rows) (g : Gates) (b : Fin 8) (h : Fin 32) (r : Fin 2048) (d : Fin 128) : EReal :=
  softmax (scores q k g b h r) fun j => v (ix2 (row b j) (lane h d))

end Cert.Math

end
-- ==== Proof.Fox.Rows.lean ====
module

public import proofs.«01_k».proof.Proof.Fox.Read
public import proofs.«01_k».proof.Proof.Math.Attend

/-! The running softmax of one row after each block of 512 keys, and the softmax it closes to. -/

@[expose] public section

noncomputable section

namespace Cert.KernelIdeal.Fox

open Cert.KernelIdeal Cert.KernelIdeal.Gen Idealize.ShloMosaic Idealize.ShloMosaic.TcCoe Idealize.SL.Sem

/-- Key `c` of block `n`, among the 2048 keys. -/
def key (n : Fin 4) : Fin 512 ↪ Fin 2048 :=
  ⟨fun c => ⟨512 * n.val + c.val, by omega⟩, fun a b e => Fin.ext (by have := congrArg Fin.val e; simp only at this; omega)⟩

/-- The keys of the first `n` blocks. -/
def below (n : ℕ) : Finset (Fin 2048) := Finset.univ.filter fun j => j.val < 512 * n

theorem below_succ (n : Fin 4) : below n.val ∪ Finset.univ.map (key n) = below (n.val + 1) := by
  ext j
  simp only [below, Finset.mem_union, Finset.mem_filter, Finset.mem_univ, true_and, Finset.mem_map]
  constructor
  · rintro (h | ⟨c, rfl⟩)
    · omega
    · show 512 * n.val + c.val < _
      omega
  · intro h
    by_cases h' : j.val < 512 * n.val
    · exact .inl h'
    · exact .inr ⟨⟨j.val - 512 * n.val, by omega⟩, Fin.ext (by show 512 * n.val + (j.val - 512 * n.val) = j.val; omega)⟩

theorem below_disjoint (n : Fin 4) : Disjoint (below n.val) (Finset.univ.map (key n)) := by
  rw [Finset.disjoint_left]
  simp only [below, Finset.mem_filter, Finset.mem_univ, true_and, Finset.mem_map, not_exists]
  rintro j h c rfl
  have : (key n c).val = 512 * n.val + c.val := rfl
  omega

/-- Row `r`, column `d` of the running state describes the keys of the first `n` blocks. -/
def Holds (S V : Fin 2048 → EReal) (n : ℕ) (a : St Ideal) (r : Fin 512) (d : Fin 128) : Prop :=
  Math.After S V (below n) (a.m (ix2 r 0)) (a.l (ix2 r 0)) (a.acc (ix2 r d))

theorem holds_st0 (S V : Fin 2048 → EReal) (r : Fin 512) (d : Fin 128) : Holds S V 0 st0 r d := by
  unfold Holds
  rw [st0_m, st0_l, st0_acc, show below 0 = ∅ from Finset.filter_eq_empty_iff.2 fun j _ => by simp]
  exact Math.After.empty S V

theorem Holds.step {S V : Fin 2048 → EReal} {n : Fin 4} {a : St Ideal} {r : Fin 512} {d : Fin 128} (h : Holds S V n.val a r d)
    (hS : ∀ j, S j ≠ ⊤) (s : FVec Ideal S512x512 .f32) (v : Vec Ideal S512x128 .f32)
    (hs : ∀ c, s (ix2 r c) = S (key n c)) (hv : ∀ c, v (ix2 c d) = V (key n c)) : Holds S V (n.val + 1) (step a s v) r d := by
  unfold Holds
  rw [← below_succ n]
  show Math.After S V _ (top a.m s (ix2 r 0)) (total a.m (top a.m s) a.l s (ix2 r 0)) (mix a.m (top a.m s) a.acc s v (ix2 r d))
  rw [total_at, mix_at]
  simp only [hs, hv]
  refine Math.After.step h hS (key n) (below_disjoint n) ?_
  rw [top_at]
  simp only [hs]

theorem Holds.close {S V : Fin 2048 → EReal} {n : ℕ} {a : St Ideal} {r : Fin 512} {d : Fin 128} (h : Holds S V n a r d)
    (hS : ∀ j, S j ≠ ⊤) (hout : ∀ j : Fin 2048, 512 * n ≤ j.val → S j = ⊥) (j : Fin 2048) (hj : S j ≠ ⊥) :
    close a (ix2 r d) = Math.softmax S V := by
  rw [close_at]
  exact Math.After.close h hS (fun i hi => hout i (by simpa [below] using hi)) j hj

end Cert.KernelIdeal.Fox

end
-- ==== Proof.Fox.Block.lean ====
module

public import proofs.«01_k».proof.Proof.Fox.Rows
public import Idealize.ShloMosaic.Lib.Pipeline.ValueKit

/-! One point's two heads, from what its blocks are of the arguments: each row and column is the attention's. -/

@[expose] public section

set_option maxRecDepth 16384

noncomputable section

namespace Cert.KernelIdeal.Fox

open Cert.KernelIdeal Cert.KernelIdeal.Gen Idealize.ShloMosaic Idealize.ShloMosaic.TcCoe Idealize.SL.Sem

/-- Every entry that the scores read is a real number. -/
structure Real (Q K : Math.Rows) (G : Math.Gates) : Prop where
  q : ∀ i, ∃ r : ℝ, Q i = (r : EReal)
  k : ∀ i, ∃ r : ℝ, K i = (r : EReal)
  g : ∀ b s h, ∃ r : ℝ, G (ix3 b s (Math.gate h)) = (r : EReal)

theorem Real.raw {Q K : Math.Rows} {G : Math.Gates} (H : Real Q K G) (b : Fin 8) (h : Fin 32) (r j : Fin 2048) :
    ∃ x : ℝ, Math.raw Q K G b h r j = (x : EReal) := by
  choose q hq using H.q
  choose k hk using H.k
  choose g hg using H.g
  obtain ⟨s, hs⟩ := Math.ofBits_scale
  refine ⟨(∑ d : Fin 128, q (ix2 (Math.row b r) (Math.lane h d)) * k (ix2 (Math.row b j) (Math.lane h d))) * s + g b r h - g b j h, ?_⟩
  unfold Math.raw
  rw [hs, hg, hg]
  simp only [hq, hk, EReal.coe_sub, EReal.coe_add, EReal.coe_mul, Math.coe_sum]

theorem Real.scores_ne_top {Q K : Math.Rows} {G : Math.Gates} (H : Real Q K G) (b : Fin 8) (h : Fin 32) (r j : Fin 2048) :
    Math.scores Q K G b h r j ≠ ⊤ := by
  unfold Math.scores
  split
  · obtain ⟨x, hx⟩ := H.raw b h r j
    rw [hx]
    exact EReal.coe_ne_top x
  · exact bot_ne_top

theorem Real.scores_self {Q K : Math.Rows} {G : Math.Gates} (H : Real Q K G) (b : Fin 8) (h : Fin 32) (r : Fin 2048) :
    Math.scores Q K G b h r r ≠ ⊥ := by
  unfold Math.scores
  rw [if_pos le_rfl]
  obtain ⟨x, hx⟩ := H.raw b h r r
  rw [hx]
  exact EReal.coe_ne_bot x

/-- The point's query row `r`, in its sequence. -/
def at_ (i : Fin 4) (r : Fin 512) : Fin 2048 := ⟨512 * i.val + r.val, by omega⟩

/-- Head `u` of the point's pair. -/
def ofPair (p : Fin 16) (u : Fin 2) : Fin 32 := ⟨2 * p.val + u.val, by omega⟩

/-- A lane among the pair's 256 columns. -/
def inPair (u : Fin 2) (d : Fin 128) : Fin 256 := ⟨128 * u.val + d.val, by omega⟩

/-- The blocks of one point: sequence `b`, pair of heads `p`, block of queries `i`. -/
structure Blocks (x0 : Vec Ideal S512x256 .f32) (x1 x2 : Vec Ideal S2048x256 .f32) (x3 : Vec Ideal S512x128 .f32) (x4 : Vec Ideal S1x2x4x512 .f32)
    (Q K W : Math.Rows) (G : Math.Gates) (b : Fin 8) (p : Fin 16) (i : Fin 4) : Prop where
  q : ∀ r u d, x0 (ix2 r (inPair u d)) = Q (ix2 (Math.row b (at_ i r)) (Math.lane (ofPair p u) d))
  k : ∀ s u d, x1 (ix2 s (inPair u d)) = K (ix2 (Math.row b s) (Math.lane (ofPair p u) d))
  v : ∀ s u d, x2 (ix2 s (inPair u d)) = W (ix2 (Math.row b s) (Math.lane (ofPair p u) d))
  g : ∀ r n, x3 (ix2 r n) = G (ix3 b (at_ i r) n)
  w : ∀ u n c, x4 (ix4 0 u n c) = G (ix3 b (at_ n c) (Math.gate (ofPair p u)))

section

variable {x0 : Vec Ideal S512x256 .f32} {x1 x2 : Vec Ideal S2048x256 .f32} {x3 : Vec Ideal S512x128 .f32} {x4 : Vec Ideal S1x2x4x512 .f32}
  {Q K W : Math.Rows} {G : Math.Gates} {b : Fin 8} {p : Fin 16} {i : Fin 4}

theorem Blocks.ld_q (B : Blocks x0 x1 x2 x3 x4 Q K W G b p i) (u : Fin 2) (a : ℕ) (ha : a = 128 * u.val)
    (h : ∀ n, (![0, a] : Fin 2 → Nat) n + S512x128.size n ≤ S512x256.size n) (r : Fin 512) (d : Fin 128) :
    View.ld x0 (Rect.unit (s := S512x256) ![0, a] S512x128.size h) (ix2 r d) = Q (ix2 (Math.row b (at_ i r)) (Math.lane (ofPair p u) d)) := by
  rw [← B.q r u d]
  exact View.ld_unit_apply_of x0 _ _ _ _ _ fun n => by
    match n with
    | 0 => show r.val = 0 + r.val; omega
    | 1 => show 128 * u.val + d.val = a + d.val; omega

theorem Blocks.ld_k (B : Blocks x0 x1 x2 x3 x4 Q K W G b p i) (u : Fin 2) (n : Fin 4) (o a : ℕ) (ho : o = 512 * n.val) (ha : a = 128 * u.val)
    (h : ∀ n, (![o, a] : Fin 2 → Nat) n + S512x128.size n ≤ S2048x256.size n) (c : Fin 512) (d : Fin 128) :
    View.ld x1 (Rect.unit (s := S2048x256) ![o, a] S512x128.size h) (ix2 c d) = K (ix2 (Math.row b (key n c)) (Math.lane (ofPair p u) d)) := by
  rw [← B.k _ u d]
  exact View.ld_unit_apply_of x1 _ _ _ _ _ fun m => by
    match m with
    | 0 => show 512 * n.val + c.val = o + c.val; omega
    | 1 => show 128 * u.val + d.val = a + d.val; omega

theorem Blocks.ld_v (B : Blocks x0 x1 x2 x3 x4 Q K W G b p i) (u : Fin 2) (n : Fin 4) (o a : ℕ) (ho : o = 512 * n.val) (ha : a = 128 * u.val)
    (h : ∀ n, (![o, a] : Fin 2 → Nat) n + S512x128.size n ≤ S2048x256.size n) (c : Fin 512) (d : Fin 128) :
    View.ld x2 (Rect.unit (s := S2048x256) ![o, a] S512x128.size h) (ix2 c d) = W (ix2 (Math.row b (key n c)) (Math.lane (ofPair p u) d)) := by
  rw [← B.v _ u d]
  exact View.ld_unit_apply_of x2 _ _ _ _ _ fun m => by
    match m with
    | 0 => show 512 * n.val + c.val = o + c.val; omega
    | 1 => show 128 * u.val + d.val = a + d.val; omega

theorem Blocks.ld_w (B : Blocks x0 x1 x2 x3 x4 Q K W G b p i) (u : Fin 2) (n : Fin 4) (t j : ℕ) (ht : t = u.val) (hj : j = n.val)
    (h : ∀ n, (![0, t, j, 0] : Fin 4 → Nat) n + S1x1x1x512.size n ≤ S1x2x4x512.size n) (c : Fin 512) :
    View.ld x4 (Rect.unit (s := S1x2x4x512) ![0, t, j, 0] S1x1x1x512.size h) (ix4 0 0 0 c) = G (ix3 b (key n c) (Math.gate (ofPair p u))) := by
  refine Eq.trans ?_ (B.w u n c)
  exact View.ld_unit_apply_of x4 _ _ _ _ _ fun m => by
    match m with
    | 0 => rfl
    | 1 => show u.val = t + 0; omega
    | 2 => show n.val = j + 0; omega
    | 3 => show c.val = 0 + c.val; omega

/-- A block's score is the unmasked score of the key that it stands for. -/
theorem Blocks.score (B : Blocks x0 x1 x2 x3 x4 Q K W G b p i) (u : Fin 2) (n : Fin 4) (o a t j : ℕ) (z : BitVec 32)
    (ho : o = 512 * n.val) (ha : a = 128 * u.val) (ht : t = u.val) (hj : j = n.val) (hz : z = BitVec.ofNat 32 u.val) (h0 h1 h2)
    (r c : Fin 512) :
    score (View.ld x0 (Rect.unit (s := S512x256) ![0, a] S512x128.size h0)) (View.ld x1 (Rect.unit (s := S2048x256) ![o, a] S512x128.size h1))
      (pick (BitVec.ofNat 32 p.val) z x3) (View.ld x4 (Rect.unit (s := S1x2x4x512) ![0, t, j, 0] S1x1x1x512.size h2)) (ix2 r c)
      = Math.raw Q K G b (ofPair p u) (at_ i r) (key n c) := by
  rw [score_at, pick_at _ _ _ _ (Math.gate (ofPair p u)) (by
    subst hz
    refine BitVec.eq_of_toNat_eq ?_
    simp only [BitVec.toNat_add, BitVec.toNat_mul, BitVec.toNat_ofNat, Math.gate, ofPair]
    omega), B.g, B.ld_w u n t j ht hj]
  simp only [B.ld_q u a ha, B.ld_k u n o a ho ha]
  rfl

/-- A block of keys before the diagonal. -/
theorem scores_before (n : Fin 4) (hn : n.val < i.val) (h : Fin 32) (r c : Fin 512) :
    Math.scores Q K G b h (at_ i r) (key n c) = Math.raw Q K G b h (at_ i r) (key n c) :=
  if_pos (by show 512 * n.val + c.val ≤ 512 * i.val + r.val; omega)

/-- The block of keys on the diagonal. -/
theorem scores_diag (h : Fin 32) (r c : Fin 512) :
    Math.scores Q K G b h (at_ i r) (key i c) = if c.val ≤ r.val then Math.raw Q K G b h (at_ i r) (key i c) else ⊥ :=
  if_congr (by show 512 * i.val + c.val ≤ 512 * i.val + r.val ↔ _; omega) rfl rfl

theorem scores_after (h : Fin 32) (r : Fin 512) (j : Fin 2048) (hj : 512 * (i.val + 1) ≤ j.val) :
    Math.scores Q K G b h (at_ i r) j = ⊥ :=
  if_neg (by show ¬ j.val ≤ 512 * i.val + r.val; omega)

theorem headA_0 (B : Blocks x0 x1 x2 x3 x4 Q K W G b p 0) (H : Real Q K G) (r : Fin 512) (d : Fin 128) :
    close (step st0 (causal (score (View.ld x0 (Rect.unit ![0, 0] ![512, 128] inb_S512x256_S512x128_0_0)) (View.ld x1 (Rect.unit ![0, 0] ![512, 128] inb_S2048x256_S512x128_0_0)) (pick (BitVec.ofNat 32 p.val) 0#32 x3) (View.ld x4 (Rect.unit ![0, 0, 0, 0] ![1, 1, 1, 512] inb_S1x2x4x512_S1x1x1x512_0_0_0_0))))
      (View.ld x2 (Rect.unit ![0, 0] ![512, 128] inb_S2048x256_S512x128_0_0))) (ix2 r d)
      = Math.attended Q K W G b (ofPair p 0) (at_ 0 r) d := by
  have hS := H.scores_ne_top b (ofPair p 0) (at_ 0 r)
  have h0 := holds_st0 (Math.scores Q K G b (ofPair p 0) (at_ 0 r)) (fun j => W (ix2 (Math.row b j) (Math.lane (ofPair p 0) d))) r d
  have h1 := Holds.step (n := 0) h0 hS _ _ (fun c => ((causal_at _ r c).trans (if_congr Iff.rfl (B.score 0 0 0 0 0 0 0#32 rfl rfl rfl rfl rfl inb_S512x256_S512x128_0_0 inb_S2048x256_S512x128_0_0 inb_S1x2x4x512_S1x1x1x512_0_0_0_0 r c) rfl)).trans (scores_diag _ r c).symm)
    (fun c => B.ld_v 0 0 0 0 rfl rfl inb_S2048x256_S512x128_0_0 c d)
  exact h1.close hS (fun j hj => scores_after _ r j hj) _ (H.scores_self b _ _)

theorem headA_1 (B : Blocks x0 x1 x2 x3 x4 Q K W G b p 0) (H : Real Q K G) (r : Fin 512) (d : Fin 128) :
    close (step st0 (causal (score (View.ld x0 (Rect.unit ![0, 128] ![512, 128] inb_S512x256_S512x128_0_128)) (View.ld x1 (Rect.unit ![0, 128] ![512, 128] inb_S2048x256_S512x128_0_128)) (pick (BitVec.ofNat 32 p.val) 1#32 x3) (View.ld x4 (Rect.unit ![0, 1, 0, 0] ![1, 1, 1, 512] inb_S1x2x4x512_S1x1x1x512_0_1_0_0))))
      (View.ld x2 (Rect.unit ![0, 128] ![512, 128] inb_S2048x256_S512x128_0_128))) (ix2 r d)
      = Math.attended Q K W G b (ofPair p 1) (at_ 0 r) d := by
  have hS := H.scores_ne_top b (ofPair p 1) (at_ 0 r)
  have h0 := holds_st0 (Math.scores Q K G b (ofPair p 1) (at_ 0 r)) (fun j => W (ix2 (Math.row b j) (Math.lane (ofPair p 1) d))) r d
  have h1 := Holds.step (n := 0) h0 hS _ _ (fun c => ((causal_at _ r c).trans (if_congr Iff.rfl (B.score 1 0 0 128 1 0 1#32 rfl rfl rfl rfl rfl inb_S512x256_S512x128_0_128 inb_S2048x256_S512x128_0_128 inb_S1x2x4x512_S1x1x1x512_0_1_0_0 r c) rfl)).trans (scores_diag _ r c).symm)
    (fun c => B.ld_v 1 0 0 128 rfl rfl inb_S2048x256_S512x128_0_128 c d)
  exact h1.close hS (fun j hj => scores_after _ r j hj) _ (H.scores_self b _ _)

theorem headB_0 (B : Blocks x0 x1 x2 x3 x4 Q K W G b p 1) (H : Real Q K G) (r : Fin 512) (d : Fin 128) :
    close (step (step st0 (score (View.ld x0 (Rect.unit ![0, 0] ![512, 128] inb_S512x256_S512x128_0_0)) (View.ld x1 (Rect.unit ![0, 0] ![512, 128] inb_S2048x256_S512x128_0_0)) (pick (BitVec.ofNat 32 p.val) 0#32 x3) (View.ld x4 (Rect.unit ![0, 0, 0, 0] ![1, 1, 1, 512] inb_S1x2x4x512_S1x1x1x512_0_0_0_0)))
      (View.ld x2 (Rect.unit ![0, 0] ![512, 128] inb_S2048x256_S512x128_0_0))) (causal (score (View.ld x0 (Rect.unit ![0, 0] ![512, 128] inb_S512x256_S512x128_0_0)) (View.ld x1 (Rect.unit ![512, 0] ![512, 128] inb_S2048x256_S512x128_512_0)) (pick (BitVec.ofNat 32 p.val) 0#32 x3) (View.ld x4 (Rect.unit ![0, 0, 1, 0] ![1, 1, 1, 512] inb_S1x2x4x512_S1x1x1x512_0_0_1_0))))
      (View.ld x2 (Rect.unit ![512, 0] ![512, 128] inb_S2048x256_S512x128_512_0))) (ix2 r d)
      = Math.attended Q K W G b (ofPair p 0) (at_ 1 r) d := by
  have hS := H.scores_ne_top b (ofPair p 0) (at_ 1 r)
  have h0 := holds_st0 (Math.scores Q K G b (ofPair p 0) (at_ 1 r)) (fun j => W (ix2 (Math.row b j) (Math.lane (ofPair p 0) d))) r d
  have h1 := Holds.step (n := 0) h0 hS _ _ (fun c => (B.score 0 0 0 0 0 0 0#32 rfl rfl rfl rfl rfl inb_S512x256_S512x128_0_0 inb_S2048x256_S512x128_0_0 inb_S1x2x4x512_S1x1x1x512_0_0_0_0 r c).trans (scores_before 0 (by decide) _ r c).symm)
    (fun c => B.ld_v 0 0 0 0 rfl rfl inb_S2048x256_S512x128_0_0 c d)
  have h2 := Holds.step (n := 1) h1 hS _ _ (fun c => ((causal_at _ r c).trans (if_congr Iff.rfl (B.score 0 1 512 0 0 1 0#32 rfl rfl rfl rfl rfl inb_S512x256_S512x128_0_0 inb_S2048x256_S512x128_512_0 inb_S1x2x4x512_S1x1x1x512_0_0_1_0 r c) rfl)).trans (scores_diag _ r c).symm)
    (fun c => B.ld_v 0 1 512 0 rfl rfl inb_S2048x256_S512x128_512_0 c d)
  exact h2.close hS (fun j hj => scores_after _ r j hj) _ (H.scores_self b _ _)

theorem headB_1 (B : Blocks x0 x1 x2 x3 x4 Q K W G b p 1) (H : Real Q K G) (r : Fin 512) (d : Fin 128) :
    close (step (step st0 (score (View.ld x0 (Rect.unit ![0, 128] ![512, 128] inb_S512x256_S512x128_0_128)) (View.ld x1 (Rect.unit ![0, 128] ![512, 128] inb_S2048x256_S512x128_0_128)) (pick (BitVec.ofNat 32 p.val) 1#32 x3) (View.ld x4 (Rect.unit ![0, 1, 0, 0] ![1, 1, 1, 512] inb_S1x2x4x512_S1x1x1x512_0_1_0_0)))
      (View.ld x2 (Rect.unit ![0, 128] ![512, 128] inb_S2048x256_S512x128_0_128))) (causal (score (View.ld x0 (Rect.unit ![0, 128] ![512, 128] inb_S512x256_S512x128_0_128)) (View.ld x1 (Rect.unit ![512, 128] ![512, 128] inb_S2048x256_S512x128_512_128)) (pick (BitVec.ofNat 32 p.val) 1#32 x3) (View.ld x4 (Rect.unit ![0, 1, 1, 0] ![1, 1, 1, 512] inb_S1x2x4x512_S1x1x1x512_0_1_1_0))))
      (View.ld x2 (Rect.unit ![512, 128] ![512, 128] inb_S2048x256_S512x128_512_128))) (ix2 r d)
      = Math.attended Q K W G b (ofPair p 1) (at_ 1 r) d := by
  have hS := H.scores_ne_top b (ofPair p 1) (at_ 1 r)
  have h0 := holds_st0 (Math.scores Q K G b (ofPair p 1) (at_ 1 r)) (fun j => W (ix2 (Math.row b j) (Math.lane (ofPair p 1) d))) r d
  have h1 := Holds.step (n := 0) h0 hS _ _ (fun c => (B.score 1 0 0 128 1 0 1#32 rfl rfl rfl rfl rfl inb_S512x256_S512x128_0_128 inb_S2048x256_S512x128_0_128 inb_S1x2x4x512_S1x1x1x512_0_1_0_0 r c).trans (scores_before 0 (by decide) _ r c).symm)
    (fun c => B.ld_v 1 0 0 128 rfl rfl inb_S2048x256_S512x128_0_128 c d)
  have h2 := Holds.step (n := 1) h1 hS _ _ (fun c => ((causal_at _ r c).trans (if_congr Iff.rfl (B.score 1 1 512 128 1 1 1#32 rfl rfl rfl rfl rfl inb_S512x256_S512x128_0_128 inb_S2048x256_S512x128_512_128 inb_S1x2x4x512_S1x1x1x512_0_1_1_0 r c) rfl)).trans (scores_diag _ r c).symm)
    (fun c => B.ld_v 1 1 512 128 rfl rfl inb_S2048x256_S512x128_512_128 c d)
  exact h2.close hS (fun j hj => scores_after _ r j hj) _ (H.scores_self b _ _)

theorem headC_0 (B : Blocks x0 x1 x2 x3 x4 Q K W G b p 2) (H : Real Q K G) (r : Fin 512) (d : Fin 128) :
    close (step (step (step st0 (score (View.ld x0 (Rect.unit ![0, 0] ![512, 128] inb_S512x256_S512x128_0_0)) (View.ld x1 (Rect.unit ![0, 0] ![512, 128] inb_S2048x256_S512x128_0_0)) (pick (BitVec.ofNat 32 p.val) 0#32 x3) (View.ld x4 (Rect.unit ![0, 0, 0, 0] ![1, 1, 1, 512] inb_S1x2x4x512_S1x1x1x512_0_0_0_0)))
      (View.ld x2 (Rect.unit ![0, 0] ![512, 128] inb_S2048x256_S512x128_0_0))) (score (View.ld x0 (Rect.unit ![0, 0] ![512, 128] inb_S512x256_S512x128_0_0)) (View.ld x1 (Rect.unit ![512, 0] ![512, 128] inb_S2048x256_S512x128_512_0)) (pick (BitVec.ofNat 32 p.val) 0#32 x3) (View.ld x4 (Rect.unit ![0, 0, 1, 0] ![1, 1, 1, 512] inb_S1x2x4x512_S1x1x1x512_0_0_1_0)))
      (View.ld x2 (Rect.unit ![512, 0] ![512, 128] inb_S2048x256_S512x128_512_0))) (causal (score (View.ld x0 (Rect.unit ![0, 0] ![512, 128] inb_S512x256_S512x128_0_0)) (View.ld x1 (Rect.unit ![1024, 0] ![512, 128] inb_S2048x256_S512x128_1024_0)) (pick (BitVec.ofNat 32 p.val) 0#32 x3) (View.ld x4 (Rect.unit ![0, 0, 2, 0] ![1, 1, 1, 512] inb_S1x2x4x512_S1x1x1x512_0_0_2_0))))
      (View.ld x2 (Rect.unit ![1024, 0] ![512, 128] inb_S2048x256_S512x128_1024_0))) (ix2 r d)
      = Math.attended Q K W G b (ofPair p 0) (at_ 2 r) d := by
  have hS := H.scores_ne_top b (ofPair p 0) (at_ 2 r)
  have h0 := holds_st0 (Math.scores Q K G b (ofPair p 0) (at_ 2 r)) (fun j => W (ix2 (Math.row b j) (Math.lane (ofPair p 0) d))) r d
  have h1 := Holds.step (n := 0) h0 hS _ _ (fun c => (B.score 0 0 0 0 0 0 0#32 rfl rfl rfl rfl rfl inb_S512x256_S512x128_0_0 inb_S2048x256_S512x128_0_0 inb_S1x2x4x512_S1x1x1x512_0_0_0_0 r c).trans (scores_before 0 (by decide) _ r c).symm)
    (fun c => B.ld_v 0 0 0 0 rfl rfl inb_S2048x256_S512x128_0_0 c d)
  have h2 := Holds.step (n := 1) h1 hS _ _ (fun c => (B.score 0 1 512 0 0 1 0#32 rfl rfl rfl rfl rfl inb_S512x256_S512x128_0_0 inb_S2048x256_S512x128_512_0 inb_S1x2x4x512_S1x1x1x512_0_0_1_0 r c).trans (scores_before 1 (by decide) _ r c).symm)
    (fun c => B.ld_v 0 1 512 0 rfl rfl inb_S2048x256_S512x128_512_0 c d)
  have h3 := Holds.step (n := 2) h2 hS _ _ (fun c => ((causal_at _ r c).trans (if_congr Iff.rfl (B.score 0 2 1024 0 0 2 0#32 rfl rfl rfl rfl rfl inb_S512x256_S512x128_0_0 inb_S2048x256_S512x128_1024_0 inb_S1x2x4x512_S1x1x1x512_0_0_2_0 r c) rfl)).trans (scores_diag _ r c).symm)
    (fun c => B.ld_v 0 2 1024 0 rfl rfl inb_S2048x256_S512x128_1024_0 c d)
  exact h3.close hS (fun j hj => scores_after _ r j hj) _ (H.scores_self b _ _)

theorem headC_1 (B : Blocks x0 x1 x2 x3 x4 Q K W G b p 2) (H : Real Q K G) (r : Fin 512) (d : Fin 128) :
    close (step (step (step st0 (score (View.ld x0 (Rect.unit ![0, 128] ![512, 128] inb_S512x256_S512x128_0_128)) (View.ld x1 (Rect.unit ![0, 128] ![512, 128] inb_S2048x256_S512x128_0_128)) (pick (BitVec.ofNat 32 p.val) 1#32 x3) (View.ld x4 (Rect.unit ![0, 1, 0, 0] ![1, 1, 1, 512] inb_S1x2x4x512_S1x1x1x512_0_1_0_0)))
      (View.ld x2 (Rect.unit ![0, 128] ![512, 128] inb_S2048x256_S512x128_0_128))) (score (View.ld x0 (Rect.unit ![0, 128] ![512, 128] inb_S512x256_S512x128_0_128)) (View.ld x1 (Rect.unit ![512, 128] ![512, 128] inb_S2048x256_S512x128_512_128)) (pick (BitVec.ofNat 32 p.val) 1#32 x3) (View.ld x4 (Rect.unit ![0, 1, 1, 0] ![1, 1, 1, 512] inb_S1x2x4x512_S1x1x1x512_0_1_1_0)))
      (View.ld x2 (Rect.unit ![512, 128] ![512, 128] inb_S2048x256_S512x128_512_128))) (causal (score (View.ld x0 (Rect.unit ![0, 128] ![512, 128] inb_S512x256_S512x128_0_128)) (View.ld x1 (Rect.unit ![1024, 128] ![512, 128] inb_S2048x256_S512x128_1024_128)) (pick (BitVec.ofNat 32 p.val) 1#32 x3) (View.ld x4 (Rect.unit ![0, 1, 2, 0] ![1, 1, 1, 512] inb_S1x2x4x512_S1x1x1x512_0_1_2_0))))
      (View.ld x2 (Rect.unit ![1024, 128] ![512, 128] inb_S2048x256_S512x128_1024_128))) (ix2 r d)
      = Math.attended Q K W G b (ofPair p 1) (at_ 2 r) d := by
  have hS := H.scores_ne_top b (ofPair p 1) (at_ 2 r)
  have h0 := holds_st0 (Math.scores Q K G b (ofPair p 1) (at_ 2 r)) (fun j => W (ix2 (Math.row b j) (Math.lane (ofPair p 1) d))) r d
  have h1 := Holds.step (n := 0) h0 hS _ _ (fun c => (B.score 1 0 0 128 1 0 1#32 rfl rfl rfl rfl rfl inb_S512x256_S512x128_0_128 inb_S2048x256_S512x128_0_128 inb_S1x2x4x512_S1x1x1x512_0_1_0_0 r c).trans (scores_before 0 (by decide) _ r c).symm)
    (fun c => B.ld_v 1 0 0 128 rfl rfl inb_S2048x256_S512x128_0_128 c d)
  have h2 := Holds.step (n := 1) h1 hS _ _ (fun c => (B.score 1 1 512 128 1 1 1#32 rfl rfl rfl rfl rfl inb_S512x256_S512x128_0_128 inb_S2048x256_S512x128_512_128 inb_S1x2x4x512_S1x1x1x512_0_1_1_0 r c).trans (scores_before 1 (by decide) _ r c).symm)
    (fun c => B.ld_v 1 1 512 128 rfl rfl inb_S2048x256_S512x128_512_128 c d)
  have h3 := Holds.step (n := 2) h2 hS _ _ (fun c => ((causal_at _ r c).trans (if_congr Iff.rfl (B.score 1 2 1024 128 1 2 1#32 rfl rfl rfl rfl rfl inb_S512x256_S512x128_0_128 inb_S2048x256_S512x128_1024_128 inb_S1x2x4x512_S1x1x1x512_0_1_2_0 r c) rfl)).trans (scores_diag _ r c).symm)
    (fun c => B.ld_v 1 2 1024 128 rfl rfl inb_S2048x256_S512x128_1024_128 c d)
  exact h3.close hS (fun j hj => scores_after _ r j hj) _ (H.scores_self b _ _)

theorem headD_0 (B : Blocks x0 x1 x2 x3 x4 Q K W G b p 3) (H : Real Q K G) (r : Fin 512) (d : Fin 128) :
    close (step (step (step (step st0 (score (View.ld x0 (Rect.unit ![0, 0] ![512, 128] inb_S512x256_S512x128_0_0)) (View.ld x1 (Rect.unit ![0, 0] ![512, 128] inb_S2048x256_S512x128_0_0)) (pick (BitVec.ofNat 32 p.val) 0#32 x3) (View.ld x4 (Rect.unit ![0, 0, 0, 0] ![1, 1, 1, 512] inb_S1x2x4x512_S1x1x1x512_0_0_0_0)))
      (View.ld x2 (Rect.unit ![0, 0] ![512, 128] inb_S2048x256_S512x128_0_0))) (score (View.ld x0 (Rect.unit ![0, 0] ![512, 128] inb_S512x256_S512x128_0_0)) (View.ld x1 (Rect.unit ![512, 0] ![512, 128] inb_S2048x256_S512x128_512_0)) (pick (BitVec.ofNat 32 p.val) 0#32 x3) (View.ld x4 (Rect.unit ![0, 0, 1, 0] ![1, 1, 1, 512] inb_S1x2x4x512_S1x1x1x512_0_0_1_0)))
      (View.ld x2 (Rect.unit ![512, 0] ![512, 128] inb_S2048x256_S512x128_512_0))) (score (View.ld x0 (Rect.unit ![0, 0] ![512, 128] inb_S512x256_S512x128_0_0)) (View.ld x1 (Rect.unit ![1024, 0] ![512, 128] inb_S2048x256_S512x128_1024_0)) (pick (BitVec.ofNat 32 p.val) 0#32 x3) (View.ld x4 (Rect.unit ![0, 0, 2, 0] ![1, 1, 1, 512] inb_S1x2x4x512_S1x1x1x512_0_0_2_0)))
      (View.ld x2 (Rect.unit ![1024, 0] ![512, 128] inb_S2048x256_S512x128_1024_0))) (causal (score (View.ld x0 (Rect.unit ![0, 0] ![512, 128] inb_S512x256_S512x128_0_0)) (View.ld x1 (Rect.unit ![1536, 0] ![512, 128] inb_S2048x256_S512x128_1536_0)) (pick (BitVec.ofNat 32 p.val) 0#32 x3) (View.ld x4 (Rect.unit ![0, 0, 3, 0] ![1, 1, 1, 512] inb_S1x2x4x512_S1x1x1x512_0_0_3_0))))
      (View.ld x2 (Rect.unit ![1536, 0] ![512, 128] inb_S2048x256_S512x128_1536_0))) (ix2 r d)
      = Math.attended Q K W G b (ofPair p 0) (at_ 3 r) d := by
  have hS := H.scores_ne_top b (ofPair p 0) (at_ 3 r)
  have h0 := holds_st0 (Math.scores Q K G b (ofPair p 0) (at_ 3 r)) (fun j => W (ix2 (Math.row b j) (Math.lane (ofPair p 0) d))) r d
  have h1 := Holds.step (n := 0) h0 hS _ _ (fun c => (B.score 0 0 0 0 0 0 0#32 rfl rfl rfl rfl rfl inb_S512x256_S512x128_0_0 inb_S2048x256_S512x128_0_0 inb_S1x2x4x512_S1x1x1x512_0_0_0_0 r c).trans (scores_before 0 (by decide) _ r c).symm)
    (fun c => B.ld_v 0 0 0 0 rfl rfl inb_S2048x256_S512x128_0_0 c d)
  have h2 := Holds.step (n := 1) h1 hS _ _ (fun c => (B.score 0 1 512 0 0 1 0#32 rfl rfl rfl rfl rfl inb_S512x256_S512x128_0_0 inb_S2048x256_S512x128_512_0 inb_S1x2x4x512_S1x1x1x512_0_0_1_0 r c).trans (scores_before 1 (by decide) _ r c).symm)
    (fun c => B.ld_v 0 1 512 0 rfl rfl inb_S2048x256_S512x128_512_0 c d)
  have h3 := Holds.step (n := 2) h2 hS _ _ (fun c => (B.score 0 2 1024 0 0 2 0#32 rfl rfl rfl rfl rfl inb_S512x256_S512x128_0_0 inb_S2048x256_S512x128_1024_0 inb_S1x2x4x512_S1x1x1x512_0_0_2_0 r c).trans (scores_before 2 (by decide) _ r c).symm)
    (fun c => B.ld_v 0 2 1024 0 rfl rfl inb_S2048x256_S512x128_1024_0 c d)
  have h4 := Holds.step (n := 3) h3 hS _ _ (fun c => ((causal_at _ r c).trans (if_congr Iff.rfl (B.score 0 3 1536 0 0 3 0#32 rfl rfl rfl rfl rfl inb_S512x256_S512x128_0_0 inb_S2048x256_S512x128_1536_0 inb_S1x2x4x512_S1x1x1x512_0_0_3_0 r c) rfl)).trans (scores_diag _ r c).symm)
    (fun c => B.ld_v 0 3 1536 0 rfl rfl inb_S2048x256_S512x128_1536_0 c d)
  exact h4.close hS (fun j hj => scores_after _ r j hj) _ (H.scores_self b _ _)

theorem headD_1 (B : Blocks x0 x1 x2 x3 x4 Q K W G b p 3) (H : Real Q K G) (r : Fin 512) (d : Fin 128) :
    close (step (step (step (step st0 (score (View.ld x0 (Rect.unit ![0, 128] ![512, 128] inb_S512x256_S512x128_0_128)) (View.ld x1 (Rect.unit ![0, 128] ![512, 128] inb_S2048x256_S512x128_0_128)) (pick (BitVec.ofNat 32 p.val) 1#32 x3) (View.ld x4 (Rect.unit ![0, 1, 0, 0] ![1, 1, 1, 512] inb_S1x2x4x512_S1x1x1x512_0_1_0_0)))
      (View.ld x2 (Rect.unit ![0, 128] ![512, 128] inb_S2048x256_S512x128_0_128))) (score (View.ld x0 (Rect.unit ![0, 128] ![512, 128] inb_S512x256_S512x128_0_128)) (View.ld x1 (Rect.unit ![512, 128] ![512, 128] inb_S2048x256_S512x128_512_128)) (pick (BitVec.ofNat 32 p.val) 1#32 x3) (View.ld x4 (Rect.unit ![0, 1, 1, 0] ![1, 1, 1, 512] inb_S1x2x4x512_S1x1x1x512_0_1_1_0)))
      (View.ld x2 (Rect.unit ![512, 128] ![512, 128] inb_S2048x256_S512x128_512_128))) (score (View.ld x0 (Rect.unit ![0, 128] ![512, 128] inb_S512x256_S512x128_0_128)) (View.ld x1 (Rect.unit ![1024, 128] ![512, 128] inb_S2048x256_S512x128_1024_128)) (pick (BitVec.ofNat 32 p.val) 1#32 x3) (View.ld x4 (Rect.unit ![0, 1, 2, 0] ![1, 1, 1, 512] inb_S1x2x4x512_S1x1x1x512_0_1_2_0)))
      (View.ld x2 (Rect.unit ![1024, 128] ![512, 128] inb_S2048x256_S512x128_1024_128))) (causal (score (View.ld x0 (Rect.unit ![0, 128] ![512, 128] inb_S512x256_S512x128_0_128)) (View.ld x1 (Rect.unit ![1536, 128] ![512, 128] inb_S2048x256_S512x128_1536_128)) (pick (BitVec.ofNat 32 p.val) 1#32 x3) (View.ld x4 (Rect.unit ![0, 1, 3, 0] ![1, 1, 1, 512] inb_S1x2x4x512_S1x1x1x512_0_1_3_0))))
      (View.ld x2 (Rect.unit ![1536, 128] ![512, 128] inb_S2048x256_S512x128_1536_128))) (ix2 r d)
      = Math.attended Q K W G b (ofPair p 1) (at_ 3 r) d := by
  have hS := H.scores_ne_top b (ofPair p 1) (at_ 3 r)
  have h0 := holds_st0 (Math.scores Q K G b (ofPair p 1) (at_ 3 r)) (fun j => W (ix2 (Math.row b j) (Math.lane (ofPair p 1) d))) r d
  have h1 := Holds.step (n := 0) h0 hS _ _ (fun c => (B.score 1 0 0 128 1 0 1#32 rfl rfl rfl rfl rfl inb_S512x256_S512x128_0_128 inb_S2048x256_S512x128_0_128 inb_S1x2x4x512_S1x1x1x512_0_1_0_0 r c).trans (scores_before 0 (by decide) _ r c).symm)
    (fun c => B.ld_v 1 0 0 128 rfl rfl inb_S2048x256_S512x128_0_128 c d)
  have h2 := Holds.step (n := 1) h1 hS _ _ (fun c => (B.score 1 1 512 128 1 1 1#32 rfl rfl rfl rfl rfl inb_S512x256_S512x128_0_128 inb_S2048x256_S512x128_512_128 inb_S1x2x4x512_S1x1x1x512_0_1_1_0 r c).trans (scores_before 1 (by decide) _ r c).symm)
    (fun c => B.ld_v 1 1 512 128 rfl rfl inb_S2048x256_S512x128_512_128 c d)
  have h3 := Holds.step (n := 2) h2 hS _ _ (fun c => (B.score 1 2 1024 128 1 2 1#32 rfl rfl rfl rfl rfl inb_S512x256_S512x128_0_128 inb_S2048x256_S512x128_1024_128 inb_S1x2x4x512_S1x1x1x512_0_1_2_0 r c).trans (scores_before 2 (by decide) _ r c).symm)
    (fun c => B.ld_v 1 2 1024 128 rfl rfl inb_S2048x256_S512x128_1024_128 c d)
  have h4 := Holds.step (n := 3) h3 hS _ _ (fun c => ((causal_at _ r c).trans (if_congr Iff.rfl (B.score 1 3 1536 128 1 3 1#32 rfl rfl rfl rfl rfl inb_S512x256_S512x128_0_128 inb_S2048x256_S512x128_1536_128 inb_S1x2x4x512_S1x1x1x512_0_1_3_0 r c) rfl)).trans (scores_diag _ r c).symm)
    (fun c => B.ld_v 1 3 1536 128 rfl rfl inb_S2048x256_S512x128_1536_128 c d)
  exact h4.close hS (fun j hj => scores_after _ r j hj) _ (H.scores_self b _ _)

end

end Cert.KernelIdeal.Fox

end
-- ==== Proof.Fox.Point.lean ====
module

public import proofs.«01_k».proof.Proof.Gen.KernelIdeal.Value
public import proofs.«01_k».proof.Proof.Fox.Block
public import Idealize.ShloMosaic.Lib.Claim

/-! The kernel's result, read through its pipeline. -/

@[expose] public section

set_option maxRecDepth 16384

noncomputable section

namespace Cert.KernelIdeal.Fox

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

def seqOf (t : Fin cfg0.N) : Fin 8 := grid0.coords t 0
def pairOf (t : Fin cfg0.N) : Fin 16 := grid0.coords t 1
def blockOf (t : Fin cfg0.N) : Fin 4 := grid0.coords t 2

theorem blockOf_val : ∀ t : Fin cfg0.N, (blockOf t).val = t.val % 4 := by decide +kernel

theorem index_eqs : ∀ t : Fin cfg0.N,
    (cfg0.win 0).index t = ![(grid0.coords t 0).val * 4 + (grid0.coords t 2).val, (grid0.coords t 1).val]
    ∧ (cfg0.win 1).index t = ![(grid0.coords t 0).val, (grid0.coords t 1).val]
    ∧ (cfg0.win 2).index t = ![(grid0.coords t 0).val, (grid0.coords t 1).val]
    ∧ (cfg0.win 3).index t = ![(grid0.coords t 0).val * 4 + (grid0.coords t 2).val, 0]
    ∧ (cfg0.win 4).index t = ![(grid0.coords t 0).val, (grid0.coords t 1).val, 0, 0]
    ∧ (cfg0.win 5).index t = ![(grid0.coords t 0).val * 4 + (grid0.coords t 2).val, (grid0.coords t 1).val] := by decide +kernel

theorem blocks (t : Fin cfg0.N) : Blocks (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg3))
    (seqOf t) (pairOf t) (blockOf t) where
  q r u d := by
    simp only [inPair, Math.row, Math.lane, ofPair, at_, seqOf, pairOf, blockOf]
    blk_ext [iblk, V, index_eqs t]
  k s u d := by
    simp only [inPair, Math.row, Math.lane, ofPair, at_, seqOf, pairOf, blockOf]
    blk_ext [iblk, V, index_eqs t]
  v s u d := by
    simp only [inPair, Math.row, Math.lane, ofPair, at_, seqOf, pairOf, blockOf]
    blk_ext [iblk, V, index_eqs t]
  g r n := by
    have h2 : (grid0.coords t 2).val < 4 := (blockOf t).isLt
    simp only [at_, seqOf, pairOf, blockOf]
    blk_simp [iblk, index_eqs t]
    entry_read
    pointwise
    blk_ext [iblk, V, index_eqs t]
  w u n d := by
    simp only [at_, seqOf, pairOf, blockOf, Math.gate, ofPair]
    blk_simp [iblk, index_eqs t]
    entry_read
    pointwise
    blk_ext [iblk, V, index_eqs t]

/-- What the kernel's result holds at an index. -/
def result (Q K W : Math.Rows) (G : Math.Gates) (I : S16896x4096.Idx) : EReal :=
  if h : (I 0).val < 16384 then
    Math.attended Q K W G ⟨(I 0).val / 2048, by omega⟩ ⟨(I 1).val / 128, by have : (I 1).val < 4096 := (I 1).isLt; omega⟩
      ⟨(I 0).val % 2048, by omega⟩ ⟨(I 1).val % 128, by omega⟩
  else 0

theorem result_low (Q K W : Math.Rows) (G : Math.Gates) (I : S16896x4096.Idx) (b : Fin 8) (r : Fin 2048) (h : Fin 32) (d : Fin 128)
    (h0 : (I 0).val = 2048 * b.val + r.val) (h1 : (I 1).val = 128 * h.val + d.val) : result Q K W G I = Math.attended Q K W G b h r d := by
  unfold result
  rw [dif_pos (by omega)]
  congr 1 <;> exact Fin.ext (by simp only; omega)

theorem result_high (Q K W : Math.Rows) (G : Math.Gates) (I : S16896x4096.Idx) (h : 16384 ≤ (I 0).val) : result Q K W G I = 0 :=
  dif_neg (by omega)

/-- A pair of heads, side by side, is the result's rectangle. -/
theorem pair_result {Q K W : Math.Rows} {G : Math.Gates} {b : Fin 8} {p : Fin 16} {i : Fin 4} (f g : FVec Ideal S512x128 .f32)
    (hf : ∀ r d, f (ix2 r d) = Math.attended Q K W G b (ofPair p 0) (at_ i r) d)
    (hg : ∀ r d, g (ix2 r d) = Math.attended Q K W G b (ofPair p 1) (at_ i r) d)
    (r : Fin 512) (e : Fin 256) (I : S16896x4096.Idx) (h0 : (I 0).val = (b.val * 4 + i.val) * 512 + r.val) (h1 : (I 1).val = p.val * 256 + e.val) :
    pair f g (ix2 r e) = result Q K W G I := by
  by_cases he : e.val < 128
  · rw [pair_left f g r ⟨e.val, he⟩ e rfl, hf]
    refine (result_low Q K W G I _ _ _ _ ?_ ?_).symm
    · show _ = 2048 * b.val + (512 * i.val + r.val); omega
    · show _ = 128 * (2 * p.val + 0) + e.val; omega
  · rw [pair_right f g r ⟨e.val - 128, by omega⟩ e (by show _ = 128 + (e.val - 128); omega), hg]
    refine (result_low Q K W G I _ _ _ _ ?_ ?_).symm
    · show _ = 2048 * b.val + (512 * i.val + r.val); omega
    · show _ = 128 * (2 * p.val + 1) + (e.val - 128); omega

theorem out_eq (H : Real (m ((c : Thread nD τ).loc main_arg0)) (m ((c : Thread nD τ).loc main_arg1)) (m ((c : Thread nD τ).loc main_arg3))) :
    (dats m 0 c).arrAt 5 cfg0.N = result (m ((c : Thread nD τ).loc main_arg0)) (m ((c : Thread nD τ).loc main_arg1))
      (m ((c : Thread nD τ).loc main_arg2)) (m ((c : Thread nD τ).loc main_arg3)) := by
  refine ((dats m 0 c).arrAt_eq_of_coversWhere 5 (result (m ((c : Thread nD τ).loc main_arg0)) (m ((c : Thread nD τ).loc main_arg1))
      (m ((c : Thread nD τ).loc main_arg2)) (m ((c : Thread nD τ).loc main_arg3))) (fun β => β 0 < 32) (by decide +kernel) (fun t hf y => ?_) (P := fun I => (I 0).val < 16384) (fun j => by blk_simp [Pipeline.Window.cell_apply]; omega)).trans ?_
  · have B := blocks m c t
    obtain ⟨r, e, rfl⟩ : ∃ (r : Fin 512) (e : Fin 256), y = ix2 r e := ⟨y 0, y 1, eq_ix2 y⟩
    have e0 : ((((cfg0.win 5).blk t).view.emb (ix2 r e)) 0).val = ((seqOf t).val * 4 + (blockOf t).val) * 512 + r.val := by
      blk_simp [index_eqs t]
      rfl
    have e1 : ((((cfg0.win 5).blk t).view.emb (ix2 r e)) 1).val = (pairOf t).val * 256 + e.val := by
      blk_simp [index_eqs t]
      rfl
    have hv := blockOf_val t
    have h4 := Nat.mod_lt t.val (show 0 < 4 by decide)
    change (dats m 0 c).flushed 5 t (ix2 r e) = _
    obtain h | h | h | h : t.val % 4 = 0 ∨ t.val % 4 = 1 ∨ t.val % 4 = 2 ∨ t.val % 4 = 3 := by omega
    · have hb : blockOf t = 0 := Fin.ext (hv.trans h)
      rw [hb] at B e0
      rw [flushed5_A m c t h (by omega) (by omega) (by omega), outA]
      exact pair_result _ _ (headA_0 B H) (headA_1 B H) r e _ e0 e1
    · have hb : blockOf t = 1 := Fin.ext (hv.trans h)
      rw [hb] at B e0
      rw [flushed5_B m c t (by omega) h (by omega) (by omega), outB]
      exact pair_result _ _ (headB_0 B H) (headB_1 B H) r e _ e0 e1
    · have hb : blockOf t = 2 := Fin.ext (hv.trans h)
      rw [hb] at B e0
      rw [flushed5_C m c t (by omega) (by omega) h (by omega), outC]
      exact pair_result _ _ (headC_0 B H) (headC_1 B H) r e _ e0 e1
    · have hb : blockOf t = 3 := Fin.ext (hv.trans h)
      rw [hb] at B e0
      rw [flushed5_D m c t (by omega) (by omega) (by omega) h, outD]
      exact pair_result _ _ (headD_0 B H) (headD_1 B H) r e _ e0 e1
  · funext I
    split
    · rfl
    · next hI =>
      rw [result_high _ _ _ _ I (by omega), A_eq]
      entry_read
      exact Ideal.ofBits_zero_bf16

end Cert.KernelIdeal.Fox

end
-- ==== Proof.Fox.Ref.lean ====
module

public import proofs.«01_k».proof.Proof.Gen.ReferenceIdeal.Run
public import proofs.«01_k».proof.Proof.Math.Attend

/-! The reference's result at an index, in the notation of `Math.Attend`. -/

@[expose] public section

set_option maxRecDepth 16384

noncomputable section

namespace Cert.ReferenceIdeal.Fox

open Cert.ReferenceIdeal Cert.ReferenceIdeal.Gen Cert.ReferenceIdeal.Value Idealize.ShloMosaic Idealize.ShloMosaic.TcCoe Idealize.SL.Sem

def heads (x : FVec Ideal S16384x4096 .f32) : FVec Ideal S8x2048x32x128 .f32 :=
  shapeCast _ (shapeCast _ x shapeCasts_S16384x4096_S8x2048x4096) shapeCasts_S8x2048x4096_S8x2048x32x128

def gates (g : FVec Ideal S8x2048x128 .f32) : FVec Ideal S8x32x2048 .f32 :=
  transpose S8x32x2048 [0, 2, 1] (extractStridedSlice S8x2048x32 ![0, 0, 0] g slices_S8x2048x128_S8x2048x32_0_0_0) transposes_S8x2048x32_S8x32x2048_0_2_1

def mask : IVec S8x32x2048x2048 1 :=
  broadcastInDim S8x32x2048x2048 ![2, 3] bcast_S2048x2048_S8x32x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

def score (q k : FVec Ideal S8x2048x32x128 .f32) (g : FVec Ideal S8x32x2048 .f32) : FVec Ideal S8x32x2048x2048 .f32 :=
  select mask (subf (addf (mulf (Host.dotGeneral dot_S8x2048x32x128_S8x2048x32x128_S8x32x2048x2048_3_3_1_1_02_02 none q k) (broadcastInDim S8x32x2048x2048 ![] bcast_S_S8x32x2048x2048 (constant S_ .f32 0x3DB504F3#32))) (broadcastInDim S8x32x2048x2048 ![0, 1, 2, 3] bcast_S8x32x2048x1_S8x32x2048x2048_0_1_2_3 (broadcastInDim S8x32x2048x1 ![0, 1, 2] bcast_S8x32x2048_S8x32x2048x1_0_1_2 g))) (broadcastInDim S8x32x2048x2048 ![0, 1, 2, 3] bcast_S8x32x1x2048_S8x32x2048x2048_0_1_2_3 (broadcastInDim S8x32x1x2048 ![0, 1, 3] bcast_S8x32x2048_S8x32x1x2048_0_1_3 g))) (broadcastInDim S8x32x2048x2048 ![] bcast_S_S8x32x2048x2048 (id (constant S_ .f32 0xFF800000#32)))

def spread (x : FVec Ideal S8x32x2048 .f32) : FVec Ideal S8x32x2048x2048 .f32 :=
  broadcastInDim S8x32x2048x2048 ![0, 1, 2, 3] bcast_S8x32x2048x1_S8x32x2048x2048_0_1_2_3 (broadcastInDim S8x32x2048x1 ![0, 1, 2] bcast_S8x32x2048_S8x32x2048x1_0_1_2 x)

def peak (s : FVec Ideal S8x32x2048x2048 .f32) : FVec Ideal S8x32x2048 .f32 :=
  Host.reduce FloatOps.maximumf s (constant S_ .f32 0xFF800000#32) reducesTo_S8x32x2048x2048_S8x32x2048_d3 h_S_

def atLeast (p : FVec Ideal S8x32x2048 .f32) : FVec Ideal S8x32x2048 .f32 :=
  maximumf (broadcastInDim S8x32x2048 ![] bcast_S_S8x32x2048 (constant S_ .f32 0xFF800000#32)) p

def weights (s : FVec Ideal S8x32x2048x2048 .f32) (p : FVec Ideal S8x32x2048 .f32) : FVec Ideal S8x32x2048x2048 .f32 :=
  Host.exp (subf s (spread (atLeast p)))

def probs (w : FVec Ideal S8x32x2048x2048 .f32) : FVec Ideal S8x32x2048x2048 .f32 :=
  Host.divf w (spread (Host.reduceAdd w (constant S_ .f32 0x00000000#32) reducesTo_S8x32x2048x2048_S8x32x2048_d3 h_S_))

def rows (v : FVec Ideal S8x2048x32x128 .f32) (p : FVec Ideal S8x32x2048x2048 .f32) : FVec Ideal S16384x4096 .bf16 :=
  truncf .bf16 (shapeCast _ (transpose S8x2048x32x128 [0, 3, 1, 2] (Host.dotGeneral dot_S8x2048x32x128_S8x32x2048x2048_S8x32x128x2048_1_3_3_2_02_01 none v p) transposes_S8x32x128x2048_S8x2048x32x128_0_3_1_2) shapeCasts_S8x2048x32x128_S16384x4096) bitsLt_bf16_f32

def padded (x : FVec Ideal S16384x4096 .bf16) : FVec Ideal S16896x4096 .bf16 :=
  concatenate S16896x4096 0 [⟨S16384x4096, x⟩, ⟨S512x4096, broadcastInDim S512x4096 ![] bcast_S_S512x4096 (constant S_ .bf16 0x0000#16)⟩] concatenates_S16384x4096_S512x4096_S16896x4096_d0

theorem res_eq (m : (ℓ : Loc nD τ sig) → Buf (Elt Ideal) ℓ) (c : Dev nD) :
    res_out0 m c = padded (rows (heads (m ((c.tc : Thread nD τ).loc main_arg2)))
      (probs (weights (score (heads (m ((c.tc : Thread nD τ).loc main_arg0))) (heads (m ((c.tc : Thread nD τ).loc main_arg1))) (gates (m ((c.tc : Thread nD τ).loc main_arg3))))
        (peak (score (heads (m ((c.tc : Thread nD τ).loc main_arg0))) (heads (m ((c.tc : Thread nD τ).loc main_arg1))) (gates (m ((c.tc : Thread nD τ).loc main_arg3)))))))) := rfl

theorem heads_at (x : FVec Ideal S16384x4096 .f32) (b : Fin 8) (s : Fin 2048) (h : Fin 32) (d : Fin 128) :
    heads x (ix4 b s h d) = x (ix2 (Math.row b s) (Math.lane h d)) := by
  pointwise [heads]
  exact congrArg₂ (fun i j => x (ix2 i j)) (Fin.ext (by show b.val * 2048 + s.val = 2048 * b.val + s.val; omega))
    (Fin.ext (by show h.val * 128 + d.val = 128 * h.val + d.val; omega))

theorem gates_at (g : FVec Ideal S8x2048x128 .f32) (b : Fin 8) (s : Fin 2048) (h : Fin 32) :
    gates g (ix3 b h s) = g (ix3 b s (Math.gate h)) := by
  pointwise [gates]
  rfl

theorem mask_at (b : Fin 8) (h : Fin 32) (r j : Fin 2048) :
    mask (ix4 b h r j) = IntOp.cmpi .sle (BitVec.ofNat 32 j.val) (BitVec.ofNat 32 r.val) := by
  pointwise [mask]

theorem score_at (q k : FVec Ideal S8x2048x32x128 .f32) (g : FVec Ideal S8x32x2048 .f32) (b : Fin 8) (h : Fin 32) (r j : Fin 2048) :
    score q k g (ix4 b h r j) = if j.val ≤ r.val then
      (∑ d : Fin 128, q (ix4 b r h d) * k (ix4 b j h d)) * Ideal.ofBits .f32 0x3DB504F3#32 + g (ix3 b h r) - g (ix3 b h j) else ⊥ := by
  pointwise [score]
  rw [mask_at, Math.select_le _ _ (by omega) (by omega)]
  exact if_congr Iff.rfl rfl Math.ofBits_bot

theorem spread_at (x : FVec Ideal S8x32x2048 .f32) (b : Fin 8) (h : Fin 32) (r j : Fin 2048) :
    spread x (ix4 b h r j) = x (ix3 b h r) := by
  pointwise [spread]

theorem peak_at (s : FVec Ideal S8x32x2048x2048 .f32) (b : Fin 8) (h : Fin 32) (r : Fin 2048) :
    peak s (ix3 b h r) = Finset.univ.sup fun j' : Fin 2048 => s (ix4 b h r j') := by
  pointwise [peak]
  rw [Math.ofBits_bot]
  generalize (fun x => s (ix4 b h r x)) = f
  rfl

theorem atLeast_at (p : FVec Ideal S8x32x2048 .f32) (b : Fin 8) (h : Fin 32) (r : Fin 2048) :
    atLeast p (ix3 b h r) = p (ix3 b h r) := by
  pointwise [atLeast]
  rw [Math.ofBits_bot, max_eq_right bot_le]

theorem weights_at (s : FVec Ideal S8x32x2048x2048 .f32) (p : FVec Ideal S8x32x2048 .f32) (b : Fin 8) (h : Fin 32) (r j : Fin 2048) :
    weights s p (ix4 b h r j) = Ideal.exp (s (ix4 b h r j) - p (ix3 b h r)) := by
  pointwise [weights]
  rw [spread_at, atLeast_at]

theorem probs_at (w : FVec Ideal S8x32x2048x2048 .f32) (b : Fin 8) (h : Fin 32) (r j : Fin 2048) :
    probs w (ix4 b h r j) = Ideal.div (w (ix4 b h r j)) (∑ j' : Fin 2048, w (ix4 b h r j')) := by
  pointwise [probs, spread]

theorem rows_at (v : FVec Ideal S8x2048x32x128 .f32) (p : FVec Ideal S8x32x2048x2048 .f32) (b : Fin 8) (s : Fin 2048) (h : Fin 32) (d : Fin 128) :
    rows v p (ix2 (Math.row b s) (Math.lane h d)) = ∑ j : Fin 2048, v (ix4 b j h d) * p (ix4 b h s j) := by
  pointwise [rows]
  have e1 : (Math.row b s).val / 2048 = b.val := by simp only [Math.row]; omega
  have e2 : (Math.row b s).val % 2048 = s.val := by simp only [Math.row]; omega
  have e3 : (Math.lane h d).val / 128 = h.val := by simp only [Math.lane]; omega
  have e4 : (Math.lane h d).val % 128 = d.val := by simp only [Math.lane]; omega
  simp only [e1, e2, e3, e4]

theorem padded_low (x : FVec Ideal S16384x4096 .bf16) (R : Fin 16896) (R' : Fin 16384) (C : Fin 4096) (h : R.val = R'.val) :
    padded x (ix2 R C) = x (ix2 R' C) := by
  pointwise [padded]
  rw [dif_pos (by omega)]
  exact congrArg (fun i => x (ix2 i C)) (Fin.ext h)

theorem padded_high (x : FVec Ideal S16384x4096 .bf16) (R : Fin 16896) (C : Fin 4096) (h : 16384 ≤ R.val) :
    padded x (ix2 R C) = 0 := by
  pointwise [padded]
  rw [dif_neg (by omega)]

/-- The reference's result: the attention in its first 16384 rows. -/
theorem res_low (m : (ℓ : Loc nD τ sig) → Buf (Elt Ideal) ℓ) (c : Dev nD) (R : Fin 16896) (C : Fin 4096) (b : Fin 8) (r : Fin 2048) (h : Fin 32) (d : Fin 128)
    (hR : R.val = 2048 * b.val + r.val) (hC : C.val = 128 * h.val + d.val) :
    res_out0 m c (ix2 R C) = Math.attended (m ((c.tc : Thread nD τ).loc main_arg0)) (m ((c.tc : Thread nD τ).loc main_arg1))
      (m ((c.tc : Thread nD τ).loc main_arg2)) (m ((c.tc : Thread nD τ).loc main_arg3)) b h r d := by
  have eC : C = Math.lane h d := Fin.ext hC
  rw [res_eq, padded_low _ R (Math.row b r) C hR, eC, rows_at]
  simp only [probs_at, weights_at, peak_at, score_at, heads_at, gates_at]
  rfl

/-- The rest of the reference's result is zero. -/
theorem res_high (m : (ℓ : Loc nD τ sig) → Buf (Elt Ideal) ℓ) (c : Dev nD) (R : Fin 16896) (C : Fin 4096) (h : 16384 ≤ R.val) :
    res_out0 m c (ix2 R C) = (0 : EReal) := by
  rw [res_eq, padded_high _ R C h]

end Cert.ReferenceIdeal.Fox

end
-- ==== Proof.Fox.Finite.lean ====
module

public import proofs.«01_k».proof.Defs
public import proofs.«01_k».proof.Proof.Gen.KernelIdeal
public import proofs.«01_k».proof.Proof.Fox.Block
public import Idealize.ShloMosaic.Lib.ReduceAll

/-! The precondition read back: the queries, the keys and the 32 columns of running log gates are real numbers. -/

@[expose] public section

set_option maxRecDepth 16384

noncomputable section

namespace Cert.Fox

open Idealize.ShloMosaic Idealize.ShloMosaic.TcCoe Idealize.SL.Sem

instance preFacts : Cert.Pre_finite.Facts where
  bcast_S_S16384x4096 := by decide
  reducesTo_S16384x4096_S_d0_1 := by decide
  h_S_ := by decide
  slices_S8x2048x128_S8x2048x32_0_0_0 := by decide
  bcast_S_S8x2048x32 := by decide
  reducesTo_S8x2048x32_S_d0_1_2 := by decide

instance : Subsingleton Cert.Pre_finite.S_.Idx := ⟨fun _ _ => funext fun a => a.elim0⟩

open Cert.Pre_finite in
theorem real_of_pre (q k v : FVec Ideal S16384x4096 .f32) (g : FVec Ideal S8x2048x128 .f32) (h : Cert.Pre_finite.fn (F := Ideal) q k v g = fun _ => 1#1) :
    Cert.KernelIdeal.Fox.Real q k g := by
  have h0 := congrFun h (fun a => a.elim0)
  simp only [Cert.Pre_finite.fn, andi] at h0
  obtain ⟨h1, hg⟩ := IntOp.andi_eq_one.1 h0
  obtain ⟨hq, hk⟩ := IntOp.andi_eq_one.1 h1
  refine ⟨fun i => Math.real_of_abs_lt _ (Host.reduce_andi_all _ _ _ _ _ hq i), fun i => Math.real_of_abs_lt _ (Host.reduce_andi_all _ _ _ _ _ hk i), fun b s n => ?_⟩
  obtain ⟨r, hr⟩ := Math.real_of_abs_lt _ (Host.reduce_andi_all _ _ _ _ _ hg (ix3 b s n))
  refine ⟨r, Eq.trans ?_ hr⟩
  pointwise
  rfl

end Cert.Fox

end
-- ==== Proof.Moe.Gateup.Run.lean ====
module

public import proofs.«01_k».proof.Proof.Gen.GateupIdeal.Skeleton
public import proofs.«01_k».proof.Proof.Gen.GateupIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The body of the experts' first products, run on whole staging buffers, in its two cases. -/

@[expose] public section

set_option maxRecDepth 16384
set_option Elab.async false

noncomputable section

namespace Cert.GateupIdeal.Moe

open Cert.GateupIdeal Cert.GateupIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables, whole. -/
abbrev tbM0_0 : Memref sig .tc .smem S74 .i32 := Memref.whole main_arg3
abbrev tbM0_1 : Memref sig .tc .smem S1 .i32 := Memref.whole main_arg4

/-- One staging buffer of output window 3, through which its contents are stated (`View.read_writes_of_cover`). -/
abbrev VO0_3 : View sig .tc .vmem S512x512 .bf16 := (Memref.whole cc0_stg3_0 : Memref sig .tc .vmem S512x512 .bf16).view

set_option backward.proofsInPublic true in
set_option maxHeartbeats 8000000 in
/-- The body at a tile in use: the pieces it stores, with the run that stores them. -/
noncomputable def kernelRun0_A (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole) (T0 : (S74.Idx → Elt F .i32)) (T1 : (S1.Idx → Elt F .i32))
     (x0 : (S512x4096.Idx → Elt F .bf16)) (x1 : (S1x1x4096x512.Idx → Elt F .f32)) (x2 : (S1x1x4096x512.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬(k0_cond2 i (View.readAt (Elt F) (tbM0_1).view (Rect.unit (s := S1) ![0] S1.size inb_S1_S1_0).toLoadRect T1 (Shape.Idx.first (numel1_S1.symm ▸ Nat.one_pos))) = 1#1)) :
    { out0 : List (View.Piece (Elt F) S512x512 .bf16) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt F) f out0)) -∗ K ⟨⟩))
          ⊢ wp frame (wpE (defs₀ (F := F)) Variants.none c none) Set.univ (cc0_moe_gateup_kernel i tbM0_0 (Memref.isWhole_whole _) tbM0_1 (Memref.isWhole_whole _) arg4 harg4 arg5 harg5 arg6 harg6 arg7 harg7) K } :=
  ⟨_, fun K => by
    unfold owns
    rw [cc0_moe_gateup_kernel_eq_skeleton]; unfold cc0_moe_gateup_kernel_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stored pieces are the whole block. -/
theorem cover0_A_3 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole) (T0 : (S74.Idx → Elt F .i32)) (T1 : (S1.Idx → Elt F .i32))
     (x0 : (S512x4096.Idx → Elt F .bf16)) (x1 : (S1x1x4096x512.Idx → Elt F .f32)) (x2 : (S1x1x4096x512.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬(k0_cond2 i (View.readAt (Elt F) (tbM0_1).view (Rect.unit (s := S1) ![0] S1.size inb_S1_S1_0).toLoadRect T1 (Shape.Idx.first (numel1_S1.symm ▸ Nat.one_pos))) = 1#1)) (y : S512x512.Idx) :
    ∃ pc ∈ (kernelRun0_A c i arg4 harg4 arg5 harg5 arg6 harg6 arg7 harg7 T0 T1 x0 x1 x2 k0_h1 k0_h2).1, y ∈ pc.1.set :=
  View.cover_of_tiledL (kernelRun0_A c i arg4 harg4 arg5 harg5 arg6 harg6 arg7 harg7 T0 T1 x0 x1 x2 k0_h1 k0_h2).1 S512x512.size (by sl_kernel_rfl) y

/-- What is left in the output block. -/
def out0_A_3 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole) (T0 : (S74.Idx → Elt F .i32)) (T1 : (S1.Idx → Elt F .i32))
     (x0 : (S512x4096.Idx → Elt F .bf16)) (x1 : (S1x1x4096x512.Idx → Elt F .f32)) (x2 : (S1x1x4096x512.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬(k0_cond2 i (View.readAt (Elt F) (tbM0_1).view (Rect.unit (s := S1) ![0] S1.size inb_S1_S1_0).toLoadRect T1 (Shape.Idx.first (numel1_S1.symm ▸ Nat.one_pos))) = 1#1)) : (S512x512.Idx → Elt F .bf16) :=
  VO0_3.read (Elt F) (VO0_3.writes (Elt F) VO0_3.junk (kernelRun0_A c i arg4 harg4 arg5 harg5 arg6 harg6 arg7 harg7 T0 T1 x0 x1 x2 k0_h1 k0_h2).1)

set_option backward.proofsInPublic true in
set_option maxHeartbeats 8000000 in
/-- The body at a tile past the last one in use: the pieces it stores, with the run that stores them. -/
noncomputable def kernelRun0_B (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole) (T0 : (S74.Idx → Elt F .i32)) (T1 : (S1.Idx → Elt F .i32))
     (x0 : (S512x4096.Idx → Elt F .bf16)) (x1 : (S1x1x4096x512.Idx → Elt F .f32)) (x2 : (S1x1x4096x512.Idx → Elt F .f32)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h2 : k0_cond2 i (View.readAt (Elt F) (tbM0_1).view (Rect.unit (s := S1) ![0] S1.size inb_S1_S1_0).toLoadRect T1 (Shape.Idx.first (numel1_S1.symm ▸ Nat.one_pos))) = 1#1) :
    { out0 : List (View.Piece (Elt F) S512x512 .bf16) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt F) f out0)) -∗ K ⟨⟩))
          ⊢ wp frame (wpE (defs₀ (F := F)) Variants.none c none) Set.univ (cc0_moe_gateup_kernel i tbM0_0 (Memref.isWhole_whole _) tbM0_1 (Memref.isWhole_whole _) arg4 harg4 arg5 harg5 arg6 harg6 arg7 harg7) K } :=
  ⟨_, fun K => by
    unfold owns
    rw [cc0_moe_gateup_kernel_eq_skeleton]; unfold cc0_moe_gateup_kernel_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stored pieces are the whole block. -/
theorem cover0_B_3 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole) (T0 : (S74.Idx → Elt F .i32)) (T1 : (S1.Idx → Elt F .i32))
     (x0 : (S512x4096.Idx → Elt F .bf16)) (x1 : (S1x1x4096x512.Idx → Elt F .f32)) (x2 : (S1x1x4096x512.Idx → Elt F .f32)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h2 : k0_cond2 i (View.readAt (Elt F) (tbM0_1).view (Rect.unit (s := S1) ![0] S1.size inb_S1_S1_0).toLoadRect T1 (Shape.Idx.first (numel1_S1.symm ▸ Nat.one_pos))) = 1#1) (y : S512x512.Idx) :
    ∃ pc ∈ (kernelRun0_B c i arg4 harg4 arg5 harg5 arg6 harg6 arg7 harg7 T0 T1 x0 x1 x2 k0_h1 k0_h2).1, y ∈ pc.1.set :=
  View.cover_of_tiledL (kernelRun0_B c i arg4 harg4 arg5 harg5 arg6 harg6 arg7 harg7 T0 T1 x0 x1 x2 k0_h1 k0_h2).1 S512x512.size (by sl_kernel_rfl) y

/-- What is left in the output block. -/
def out0_B_3 (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole) (T0 : (S74.Idx → Elt F .i32)) (T1 : (S1.Idx → Elt F .i32))
     (x0 : (S512x4096.Idx → Elt F .bf16)) (x1 : (S1x1x4096x512.Idx → Elt F .f32)) (x2 : (S1x1x4096x512.Idx → Elt F .f32)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h2 : k0_cond2 i (View.readAt (Elt F) (tbM0_1).view (Rect.unit (s := S1) ![0] S1.size inb_S1_S1_0).toLoadRect T1 (Shape.Idx.first (numel1_S1.symm ▸ Nat.one_pos))) = 1#1) : (S512x512.Idx → Elt F .bf16) :=
  VO0_3.read (Elt F) (VO0_3.writes (Elt F) VO0_3.junk (kernelRun0_B c i arg4 harg4 arg5 harg5 arg6 harg6 arg7 harg7 T0 T1 x0 x1 x2 k0_h1 k0_h2).1)

end Cert.GateupIdeal.Moe

end
-- ==== Proof.Moe.Words.lean ====
module

public import Idealize.ShloMosaic.PureOps
public import Idealize.ShloMosaic.Lib.WordCmp

/-! The words the experts' index maps and conditions compute from the tables. -/

@[expose] public section

namespace Cert.Moe

open Idealize.ShloMosaic

/-- A grid coordinate, capped by the number of tiles in use less one: no more than the coordinate. -/
theorem cap_toNat (i : Nat) (hi : i < 128) (w : BitVec 32) (h1 : 1 ≤ w.toNat) (h2 : w.toNat < 2 ^ 31) :
    (Scalar.minsi (BitVec.ofNat 32 i) (Scalar.subi w 1#32)).toNat = min i (w.toNat - 1) := by
  have hs : (w - 1#32).toNat = w.toNat - 1 := by
    rw [BitVec.toNat_sub]; simp; omega
  have hi' : (BitVec.ofNat 32 i).toNat = i := by rw [BitVec.toNat_ofNat]; omega
  have hc : (BitVec.ofNat 32 i).slt (w - 1#32) = decide (i < w.toNat - 1) := by
    rw [BitVec.slt_eq_decide, BitVec.toInt_eq_toNat_of_lt (by rw [hi']; omega),
      BitVec.toInt_eq_toNat_of_lt (by rw [hs]; omega), hi', hs]
    simp
  simp only [Scalar.minsi, Scalar.subi, IntOp.minsi, IntOp.subi, hc]
  by_cases h : i < w.toNat - 1
  · rw [if_pos (by simpa using h), hi']; omega
  · rw [if_neg (by simpa using h), hs]; omega

/-- Two opposite conditions. -/
theorem not_cond (b : BitVec 1) :
    Scalar.cmpi .ne (Scalar.extui (Scalar.xori b 1#1)) 0#32 = 1#1 ↔
      ¬ Scalar.cmpi .ne (Scalar.extui b) 0#32 = 1#1 := by
  revert b; decide

/-- A condition taken through a word. -/
theorem cond_iff (b : BitVec 1) : Scalar.cmpi .ne (Scalar.extui b) 0#32 = 1#1 ↔ b = 1#1 := by
  revert b; decide

/-- A coordinate is below the number of tiles in use, as the words compare. -/
theorem below_iff (i : Nat) (hi : i < 128) (w : BitVec 32) (h2 : w.toNat < 2 ^ 31) :
    Scalar.cmpi .slt (BitVec.ofNat 32 i) w = 1#1 ↔ i < w.toNat := by
  have hi' : (BitVec.ofNat 32 i).toNat = i := by rw [BitVec.toNat_ofNat]; omega
  have hc : (BitVec.ofNat 32 i).slt w = decide (i < w.toNat) := by
    rw [BitVec.slt_eq_decide, BitVec.toInt_eq_toNat_of_lt (by rw [hi']; omega),
      BitVec.toInt_eq_toNat_of_lt (by omega), hi']
    simp
  simp only [Scalar.cmpi, IntOp.cmpi, hc]
  by_cases h : i < w.toNat <;> simp [h]

end Cert.Moe
-- ==== Proof.Moe.Gateup.Frame.lean ====
module

public import proofs.«01_k».proof.Proof.Moe.Gateup.Run
public import proofs.«01_k».proof.Proof.Moe.Words
public import proofs.«01_k».proof.Proof.Gen.GateupIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The pipeline of the experts' first products at any tables whose experts are in range and that put at least one tile
in use: its schedule, what each point leaves in the output block, the body's obligation and the launch. -/

@[expose] public section

set_option maxRecDepth 16384
set_option Elab.async false

noncomputable section

namespace Cert.GateupIdeal.Moe

open Cert.GateupIdeal Cert.GateupIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables: each tile's expert, one of the eight, and the number of tiles in use, at least one. -/
structure Tab where
  te : S74.Idx → BitVec 32
  nv : S1.Idx → BitVec 32
  te_lt : ∀ x, (te x).toNat < 8
  nv_pos : ∀ x, 1 ≤ (nv x).toNat
  nv_lt : ∀ x, (nv x).toNat < 2 ^ 31

variable (T : Tab)

/-- The tables as the index maps read them. -/
def pf : pre0.Contents (Elt F) := fun | ⟨0, _⟩ => T.te | ⟨1, _⟩ => T.nv | ⟨_ + 2, h⟩ => absurd h (by simp)

/-- The number of tiles in use, the word the body reads. -/
abbrev nvw : BitVec 32 := View.readAt (Elt F) (tbM0_1).view (Rect.unit (s := S1) ![0] S1.size inb_S1_S1_0).toLoadRect T.nv (Shape.Idx.first (numel1_S1.symm ▸ Nat.one_pos))

theorem one_idx (x y : S1.Idx) : x = y := funext fun a => by
  fin_cases a; exact Subsingleton.elim (α := Fin 1) _ _

theorem nv_eq (x y : S1.Idx) : T.nv x = T.nv y := congrArg T.nv (one_idx x y)

theorem nvw_eq (x : S1.Idx) : nvw (F := F) T = T.nv x := nv_eq T _ x

/-! ## Every block lies inside its array -/

theorem inb_0 : ∀ i : grid0.Coords, ∀ a, (cc0_transform_0 inb_S1_S1_0 numel1_S1 (pf (F := F) T) i a + 1) * S512x4096.size a ≤ S37888x4096.size a := by
  intro i a
  have h1 : (i 1).val < 74 := (i 1).isLt
  have h := Cert.Moe.cap_toNat (i 1).val (by omega) _ (T.nv_pos ((Rect.unit (s := S1) ![0] S1.size inb_S1_S1_0).emb (Shape.Idx.first (numel1_S1.symm ▸ Nat.one_pos)))) (T.nv_lt _)
  fin_cases a
  · refine le_trans (Nat.mul_le_mul_right _ (Nat.succ_le_succ (le_trans (le_of_eq h) (Nat.min_le_left _ _)))) ?_
    show ((i 1).val + 1) * 512 ≤ 37888
    omega
  · show (0 + 1) * 4096 ≤ 4096
    omega

theorem inb_1 : ∀ i : grid0.Coords, ∀ a, (cc0_transform_1 k0_off1_inb numel1_S1 (pf (F := F) T) i a + 1) * S1x1x4096x512.size a ≤ S1x8x4096x14336.size a := by
  intro i a
  have h0 : (i 0).val < 28 := (i 0).isLt
  fin_cases a
  · show (0 + 1) * 1 ≤ 1
    omega
  · have H : ∀ n, n < 8 → (n + 1) * 1 ≤ 8 := by omega
    exact H _ (T.te_lt _)
  · show (0 + 1) * 4096 ≤ 4096
    omega
  · show ((BitVec.ofNat 32 (i 0).val).toNat + 1) * 512 ≤ 14336
    rw [BitVec.toNat_ofNat]; omega

theorem ok_pf : ok0 (F := F) (pf T) :=
  ⟨fun i => ⟨inb_0 T i, .inr (Affine.block_words_dvd (s := S37888x4096) (p := EltTy.packing .bf16) (by decide) (by decide))⟩,
    fun i => ⟨inb_1 T i, .inl rfl⟩, fun i => ⟨inb_1 T i, .inl rfl⟩⟩

/-- The pipeline at the tables. -/
def adm : (pcfg0 (F := F)).Adm := ⟨pf T, ok_pf T⟩
abbrev cfgA : Pipeline.Cfg sig Λ₀ := cfg0 (F := F) (adm T)
abbrev pcs : Fin 1 → Pipeline.Cfg sig Λ₀ := Pipeline.pin (pcfgs (F := F)) fun _ => adm T

/-- The grid's points. -/
abbrev Pt : Type := Fin (cfgA (F := F) T).N

abbrev crd (t : Pt (F := F) T) : grid0.Coords := (cfgA (F := F) T).grid.coords t

abbrev ms0_0 (t : Pt (F := F) T) : Memref sig .tc .vmem S512x4096 .bf16 := spec0_0.stage ((cfgA (F := F) T).slots t (0 : Fin 4))
abbrev hs0_0 (t : Pt (F := F) T) : (ms0_0 T t).IsWhole := hstage0_0 (((cfgA (F := F) T).slots t (0 : Fin 4)).cast nbuf0_0)
abbrev ms0_1 (t : Pt (F := F) T) : Memref sig .tc .vmem S1x1x4096x512 .f32 := spec0_1.stage ((cfgA (F := F) T).slots t (1 : Fin 4))
abbrev hs0_1 (t : Pt (F := F) T) : (ms0_1 T t).IsWhole := hstage0_1 (((cfgA (F := F) T).slots t (1 : Fin 4)).cast nbuf0_1)
abbrev ms0_2 (t : Pt (F := F) T) : Memref sig .tc .vmem S1x1x4096x512 .f32 := spec0_2.stage ((cfgA (F := F) T).slots t (2 : Fin 4))
abbrev hs0_2 (t : Pt (F := F) T) : (ms0_2 T t).IsWhole := hstage0_2 (((cfgA (F := F) T).slots t (2 : Fin 4)).cast nbuf0_2)
abbrev ms0_3 (t : Pt (F := F) T) : Memref sig .tc .vmem S512x512 .bf16 := spec0_3.stage ((cfgA (F := F) T).slots t (3 : Fin 4))
abbrev hs0_3 (t : Pt (F := F) T) : (ms0_3 T t).IsWhole := hstage0_3 (((cfgA (F := F) T).slots t (3 : Fin 4)).cast nbuf0_3)

variable (m : (ℓ : Loc nD τ sig) → Buf (Elt F) ℓ) (ρ : Dev nD → PrngReg)

/-- A window's block at a point, read off its array at the launch. -/
def iblk (c : Dev nD) (w : Fin (cfgA (F := F) T).W) (t : Pt (F := F) T) : (((cfgA (F := F) T).win w).xblock (crd T t)).Idx → Elt F ((cfgA (F := F) T).win w).elt :=
  (((cfgA (F := F) T).win w).blk t).view.read (Elt F) ((s₀ m ρ).mem (((cfgA (F := F) T).win w).arr.view.loc (c : Thread nD τ)))

/-! ## The schedule -/

/-- The tile of the point is in use. -/
def Used (i : grid0.Coords) : Prop := k0_cond1 i (nvw (F := F) T) = 1#1

instance (i : grid0.Coords) : Decidable (Used (F := F) T i) := by unfold Used; infer_instance

theorem cond2_iff (i : grid0.Coords) : k0_cond2 i (nvw (F := F) T) = 1#1 ↔ ¬ Used (F := F) T i := Cert.Moe.not_cond _

theorem used_iff (i : grid0.Coords) (x : S1.Idx) : Used (F := F) T i ↔ (i 1).val < (T.nv x).toNat := by
  have h1 : (i 1).val < 74 := (i 1).isLt
  unfold Used
  rw [nvw_eq T x]
  exact (Cert.Moe.cond_iff _).trans (Cert.Moe.below_iff _ (by omega) _ (T.nv_lt x))

theorem atD_eq : (pf (F := F) T).atD 1 ![0] = nvw (F := F) T := by
  rw [nvw_eq T (Shape.Idx.first (numel1_S1.symm ▸ Nat.one_pos))]
  exact (dif_pos (by decide)).trans (nv_eq T _ _)

theorem live (t : Pt (F := F) T) : (cfgA (F := F) T).idle (3 : Fin 4) ((cfgA (F := F) T).grid.coords t) = false := by
  show (!(k0_cond1 (crd T t) ((pf (F := F) T).atD 1 ![0]) == 1#1) && !(k0_cond2 (crd T t) ((pf (F := F) T).atD 1 ![0]) == 1#1)) = false
  rw [atD_eq]
  by_cases h : Used (F := F) T (crd T t)
  · have h' : k0_cond1 (crd T t) (nvw (F := F) T) = 1#1 := h
    rw [h']; rfl
  · rw [(cond2_iff T (crd T t)).2 h]; simp

theorem flush (t : Pt (F := F) T) : ((cfgA (F := F) T).win (3 : Fin 4)).flush t = true := by
  refine (Pipeline.Window.flush_reads ((cfgA (F := F) T).win (3 : Fin 4)) rfl 1 (show 1 < grid0.bound 1 from by decide)
    (show grid0.fixedAfter reads0_3 1 = true from by decide) (Pipeline.Window.sep_of_coord cc0_transform_3 1 0 (fun _ => rfl) (by decide)) (P := 1) (m := 0)
    (show grid0.stride 1 = 1 from by decide) rfl t).2 ?_
  exact Nat.mod_one _

/-! ## What the output block holds after each point -/

/-- The output block after point `t`. -/
def left (c : Dev nD) (t : Pt (F := F) T) : S512x512.Idx → Elt F .bf16 :=
  if u : Used (F := F) T (crd T t) then
    out0_A_3 c (crd T t) (ms0_0 T t) (hs0_0 T t) (ms0_1 T t) (hs0_1 T t) (ms0_2 T t) (hs0_2 T t) (ms0_3 T t) (hs0_3 T t) T.te T.nv (iblk T m ρ c (0 : Fin 4) t) (iblk T m ρ c (1 : Fin 4) t) (iblk T m ρ c (2 : Fin 4) t) u (fun h => (cond2_iff T _).1 h u)
  else
    out0_B_3 c (crd T t) (ms0_0 T t) (hs0_0 T t) (ms0_1 T t) (hs0_1 T t) (ms0_2 T t) (hs0_2 T t) (ms0_3 T t) (hs0_3 T t) T.te T.nv (iblk T m ρ c (0 : Fin 4) t) (iblk T m ρ c (1 : Fin 4) t) (iblk T m ρ c (2 : Fin 4) t) u ((cond2_iff T _).2 u)

/-- The invariant: the body's halves of the tables. -/
def Phi (c : Dev nD) : sProp 𝕄 :=
  iprop((tbM0_0.view.loc (c : Thread nD τ) ↦{fullShare.right} T.te) ∗ (tbM0_1.view.loc (c : Thread nD τ) ↦{fullShare.right} T.nv))

/-- The pipeline's proof data on core `c`. -/
def dats (_ : Fin 1) (c : Dev nD) : Dat τ (Elt F) Unit ℕ (UR sig nD τ) ℕ (cfgA (F := F) T) c where
  A w := (s₀ m ρ).mem (((cfgA (F := F) T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => left T m ρ c t
  Φ _ := Phi T c
  q _ := fullShare
  owed _ := 0

theorem after0_0 (c : Dev nD) (t : Pt (F := F) T) : (dats T m ρ 0 c).after (0 : Fin 4) t = iblk T m ρ c (0 : Fin 4) t := rfl
theorem after0_1 (c : Dev nD) (t : Pt (F := F) T) : (dats T m ρ 0 c).after (1 : Fin 4) t = iblk T m ρ c (1 : Fin 4) t := rfl
theorem after0_2 (c : Dev nD) (t : Pt (F := F) T) : (dats T m ρ 0 c).after (2 : Fin 4) t = iblk T m ρ c (2 : Fin 4) t := rfl
theorem after0_3 (c : Dev nD) (t : Pt (F := F) T) : (dats T m ρ 0 c).after (3 : Fin 4) t = left T m ρ c t := rfl

/-- An operand's staging buffer holds its block when the body runs. -/
theorem before0_0 (c : Dev nD) (t : Pt (F := F) T) (d) : (dats T m ρ 0 c).before (0 : Fin 4) t d = iblk T m ρ c (0 : Fin 4) t :=
  ((dats T m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Pt (F := F) T) (d) : (dats T m ρ 0 c).before (1 : Fin 4) t d = iblk T m ρ c (1 : Fin 4) t :=
  ((dats T m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Pt (F := F) T) (d) : (dats T m ρ 0 c).before (2 : Fin 4) t d = iblk T m ρ c (2 : Fin 4) t :=
  ((dats T m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-! ## The body's obligation -/

/-- The body at point `t` on its staging buffers. -/
abbrev bodyAt0 (t : Pt (F := F) T) : Prog (TpuEff nD τ sig (Elt F) Λ₀ .tc) PUnit :=
  cc0_moe_gateup_kernel (crd T t) (Memref.whole main_arg3) (Memref.isWhole_whole _) (Memref.whole main_arg4) (Memref.isWhole_whole _) (ms0_0 T t) (hs0_0 T t) (ms0_1 T t) (hs0_1 T t) (ms0_2 T t) (hs0_2 T t) (ms0_3 T t) (hs0_3 T t)

set_option maxHeartbeats 4000000 in
theorem sound_body (c : Dev nD) (t : Pt (F := F) T) :
    iprop((dats T m ρ 0 c).Φ t.castSucc ∗ (dats T m ρ 0 c).owesAt () t.castSucc
        ∗ (∃ d, owns (c : Thread nD τ) (ms0_0 T t) fullShare ((dats T m ρ 0 c).before (0 : Fin 4) t d))
        ∗ (∃ d, owns (c : Thread nD τ) (ms0_1 T t) fullShare ((dats T m ρ 0 c).before (1 : Fin 4) t d))
        ∗ (∃ d, owns (c : Thread nD τ) (ms0_2 T t) fullShare ((dats T m ρ 0 c).before (2 : Fin 4) t d))
        ∗ (∃ d, owns (c : Thread nD τ) (ms0_3 T t) fullShare ((dats T m ρ 0 c).before (3 : Fin 4) t d)))
      ⊢ wp frame (wpE (defs₀ (F := F)) Variants.none c none) Set.univ (bodyAt0 T t) fun _ =>
          iprop((dats T m ρ 0 c).Φ t.succ ∗ (dats T m ρ 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T m ρ 0 c).before w t d))
                  | true => owns (c : Thread nD τ) (((cfgA (F := F) T).win w).stage ((cfgA (F := F) T).slots t w)) fullShare ((dats T m ρ 0 c).after w t)
                | false => owns (c : Thread nD τ) (((cfgA (F := F) T).win w).stage ((cfgA (F := F) T).slots t w)) fullShare ((dats T m ρ 0 c).after w t)) := by
  rw [bigSep_W0]
  rewrite [live T t]
  simp only [before0_0, before0_1, before0_2, after0_0, after0_1, after0_2, after0_3]
  rewrite [show (dats T m ρ 0 c).Φ t.succ = Phi T c from rfl, show (dats T m ρ 0 c).Φ t.castSucc = Phi T c from rfl,
    show (dats T m ρ 0 c).owesAt () t.succ = (dats T m ρ 0 c).owesAt () t.castSucc from rfl]
  unfold Phi
  by_cases u : Used (F := F) T (crd T t)
  · rewrite [show left T m ρ c t = _ from dif_pos u]
    iintro ⟨⟨HT0, HT1⟩, Ho, ⟨%d0, H0⟩, ⟨%d1, H1⟩, ⟨%d2, H2⟩, ⟨%d3, H3⟩⟩
    iapply ((kernelRun0_A c (crd T t) (ms0_0 T t) (hs0_0 T t) (ms0_1 T t) (hs0_1 T t) (ms0_2 T t) (hs0_2 T t) (ms0_3 T t) (hs0_3 T t) T.te T.nv (iblk T m ρ c (0 : Fin 4) t) (iblk T m ρ c (1 : Fin 4) t) (iblk T m ρ c (2 : Fin 4) t) u (fun h => (cond2_iff T _).1 h u)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_A_3 c _ _ _ _ _ _ _ _ _ _ _ _ _ _ _ _)
  · rewrite [show left T m ρ c t = _ from dif_neg u]
    iintro ⟨⟨HT0, HT1⟩, Ho, ⟨%d0, H0⟩, ⟨%d1, H1⟩, ⟨%d2, H2⟩, ⟨%d3, H3⟩⟩
    iapply ((kernelRun0_B c (crd T t) (ms0_0 T t) (hs0_0 T t) (ms0_1 T t) (hs0_1 T t) (ms0_2 T t) (hs0_2 T t) (ms0_3 T t) (hs0_3 T t) T.te T.nv (iblk T m ρ c (0 : Fin 4) t) (iblk T m ρ c (1 : Fin 4) t) (iblk T m ρ c (2 : Fin 4) t) u ((cond2_iff T _).2 u)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_B_3 c _ _ _ _ _ _ _ _ _ _ _ _ _ _ _ _)

theorem body_obligation (c : Dev nD) : BodyObligation (dats T m ρ 0 c) (defs₀ (F := F)) Variants.none () Set.univ := fun t => by
  rw [bigSep_W0]
  exact sound_body T m ρ c t

/-! ## The launch -/

/-- The launch's element. -/
def u₀ : UR sig nD τ :=
  initOf (Pipeline.cells (pcs (F := F) T) ((launch0 (F := F)).cellOf_inj fun _ => adm T))
    (Pipeline.launchToks (pcs (F := F) T) ((launch0 (F := F)).cellOf_inj fun _ => adm T))

theorem share_eq (c : Dev nD) (w : Fin (cfgA (F := F) T).W) : (dats T m ρ 0 c).share w = fullShare := by unfold Dat.share; split <;> rfl

/-- The tables one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm (F := F) T).1 ∗ Pipeline.scopedRest spec0 c) ⊢ (dats T m ρ 0 c).Φ 0 := by
  rw [prefHeld_eq, scopedRest0_eq, show (dats T m ρ 0 c).Φ 0 = Phi T c from rfl]
  unfold Phi
  iintro ⟨-, ⟨HT0, HT1⟩, -⟩
  isplitl [HT0]
  · iexact HT0
  iexact HT1

theorem phiN_exit (c : Dev nD) : (dats T m ρ 0 c).Φ (Fin.last (cfgA (F := F) T).N) ⊢ iprop(BI.emp ∗ Pipeline.scopedRest spec0 c) := by
  rw [scopedRest0_eq, show (dats T m ρ 0 c).Φ (Fin.last (cfgA (F := F) T).N) = Phi T c from rfl]
  unfold Phi
  iintro ⟨-, -⟩
  isplitr; · iempintro
  iempintro

/-- What a final state holds: every window's array as computed, every table as it was. -/
def Final : PUnit × MemSt nD τ sig (Elt F) → Prop := fun r =>
  ∀ c : Dev nD, (∀ w : Fin (cfgA (F := F) T).W, r.2.mem (((cfgA (F := F) T).win w).arr.view.loc (c : Thread nD τ)) = (dats T m ρ 0 c).arrAt w (cfgA (F := F) T).N)
    ∧ ∀ j, r.2.mem ((c : Thread nD τ).loc (pre0.ref j)) = (adm (F := F) T).1 j

/-- The launch memory holds the tables. -/
def Holds : Prop :=
  (∀ c : Dev nD, m ((c : Thread nD τ).loc main_arg3) = T.te) ∧ (∀ c : Dev nD, m ((c : Thread nD τ).loc main_arg4) = T.nv)

theorem V_pre (hp : Holds T m) (c : Dev nD) (j : Fin 2) : m ((c : Thread nD τ).loc (pre0.ref j)) = (adm (F := F) T).1 j := by
  fin_cases j
  · exact hp.1 c
  · exact hp.2 c

set_option backward.isDefEq.respectTransparency.types false in
set_option maxHeartbeats 4000000 in
/-- Every execution ends, in such a state, with every counter at zero. -/
theorem run_quiescent (hp : Holds T m) : θ_run (defs (F := F)) (onTc (τ := τ) (main (F := F))) (s₀ m ρ) (fun r => Final T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre emb₁ defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) T) (dats T m ρ) 0 (launch0 (F := F)).win.arr_inj c (launch0 (F := F)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays end as they were, and every counter ends at zero. -/
theorem frame_of (hp : Holds T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 (0 : Fin 4)).trans ((dats T m ρ 0 c).arrAt_in (0 : Fin 4) rfl _),
    ((h.1 c).1 (1 : Fin 4)).trans ((dats T m ρ 0 c).arrAt_in (1 : Fin 4) rfl _),
    ((h.1 c).1 (2 : Fin 4)).trans ((dats T m ρ 0 c).arrAt_in (2 : Fin 4) rfl _),
    ((h.1 c).2 0).trans (hp.1 c).symm, ((h.1 c).2 1).trans (hp.2 c).symm⟩, h.2⟩) (run_quiescent T m ρ hp)

end Cert.GateupIdeal.Moe

end
-- ==== Proof.Moe.Gated.lean ====
module

public import Idealize.ShloMosaic.PureOps.Ideal
public import Idealize.ShloMosaic.Lib.IdealHost

/-! The gated product, as the kernel writes it and as the reference does. -/

@[expose] public section

noncomputable section

namespace Cert.Moe

open Idealize.ShloMosaic

/-- The gated product of two sums: the first passed through x / (1 + exp (-x)). -/
def gated (g u : EReal) : EReal := Ideal.div g (1 + Ideal.exp (0 - g)) * u

theorem exp_nonneg (z : EReal) : 0 ≤ Ideal.exp z := by
  match z with
  | ⊥ => exact le_refl _
  | ⊤ => exact le_top
  | (r : ℝ) => exact EReal.coe_nonneg.2 (Real.exp_pos r).le

theorem gated_eq (g u : EReal) : g * Ideal.div 1 (1 + Ideal.exp (- g)) * u = gated g u := by
  unfold gated
  rw [zero_sub]
  have h : 1 + Ideal.exp (-g) ≠ 0 := by
    have h0 : (0 : EReal) ≤ Ideal.exp (-g) := exp_nonneg _
    exact ne_of_gt (lt_of_lt_of_le zero_lt_one (le_add_of_nonneg_right h0))
  simp only [Ideal.div, if_neg h, one_mul]

end Cert.Moe
end
-- ==== Proof.Moe.Gateup.Body.lean ====
module

public import proofs.«01_k».proof.Proof.Moe.Gateup.Frame
public import Idealize.ShloMosaic.Lib.Pipeline.ValueKit
public import Idealize.ShloMosaic.Lib.Pipeline.Covers
public import Idealize.ShloMosaic.Lib.Pointwise
public import Idealize.ShloMosaic.Lib.IdealHost
public import proofs.«01_k».proof.Proof.Moe.Gated

/-! The experts' first products at an element: what the body computes, and the array the pipeline leaves. -/

@[expose] public section

set_option maxRecDepth 16384

noncomputable section

namespace Cert.GateupIdeal.Moe

open Cert.GateupIdeal Cert.GateupIdeal.Gen
open Idealize.ShloMosaic Idealize.ShloMosaic.TcCoe Idealize.SL.Sem

theorem pay1_at (a : S512x4096.Idx → EReal) (b d : S1x1x4096x512.Idx → EReal) (r : Fin 512) (e : Fin 512) :
    k0_pay1 (F := Ideal) a b d (ix2 r e)
      = Cert.Moe.gated (∑ k : Fin 4096, a (ix2 r k) * b (ix4 0 0 k e)) (∑ k : Fin 4096, a (ix2 r k) * d (ix4 0 0 k e)) := by
  unfold k0_pay1 Cert.Moe.gated
  pointwise

theorem pay2_at (r : Fin 512) (e : Fin 512) : k0_pay2 (F := Ideal) (ix2 r e) = 0 := by
  unfold k0_pay2
  pointwise

variable (T : Tab)

theorem out_used (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (T0 : S74.Idx → Elt Ideal .i32) (T1 : S1.Idx → Elt Ideal .i32) (x0 : S512x4096.Idx → Elt Ideal .bf16) (x1 : S1x1x4096x512.Idx → Elt Ideal .f32) (x2 : S1x1x4096x512.Idx → Elt Ideal .f32) (h1 h2) :
    out0_A_3 c i arg4 harg4 arg5 harg5 arg6 harg6 arg7 harg7 T0 T1 x0 x1 x2 h1 h2 = k0_pay1 (F := Ideal) x0 x1 x2 := by
  frame_out
  rw [View.read_rep, View.read_rep, View.read_rep]

theorem out_unused (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole)
    (T0 : S74.Idx → Elt Ideal .i32) (T1 : S1.Idx → Elt Ideal .i32) (x0 : S512x4096.Idx → Elt Ideal .bf16) (x1 : S1x1x4096x512.Idx → Elt Ideal .f32) (x2 : S1x1x4096x512.Idx → Elt Ideal .f32) (h1 h2) :
    out0_B_3 c i arg4 harg4 arg5 harg5 arg6 harg6 arg7 harg7 T0 T1 x0 x1 x2 h1 h2 = k0_pay2 (F := Ideal) := by
  frame_out

theorem nblk_0 : ((cfgA (F := Ideal) T).win (3 : Fin 4)).nblk (0 : Fin 2) = 74 := by
  show (37888 + 512 - 1) / 512 = 74
  rfl
theorem nblk_1 : ((cfgA (F := Ideal) T).win (3 : Fin 4)).nblk (1 : Fin 2) = 28 := by
  show (14336 + 512 - 1) / 512 = 28
  rfl

theorem covers : ((cfgA (F := Ideal) T).win (3 : Fin 4)).Covers :=
  ((cfgA (F := Ideal) T).win (3 : Fin 4)).covers_of_indexMap_surj rfl (fun a => by fin_cases a <;> exact (by decide : 0 < 512)) fun β =>
    have h0 : (β (0 : Fin 2)).val < 74 := lt_of_lt_of_eq (β (0 : Fin 2)).isLt (nblk_0 T)
    have h1 : (β (1 : Fin 2)).val < 28 := lt_of_lt_of_eq (β (1 : Fin 2)).isLt (nblk_1 T)
    ⟨fun | ⟨0, _⟩ => ⟨(β (1 : Fin 2)).val, h1⟩ | ⟨1, _⟩ => ⟨(β (0 : Fin 2)).val, h0⟩, fun a => by
      fin_cases a
      · show (BitVec.ofNat 32 (β (0 : Fin 2)).val).toNat = (β (0 : Fin 2)).val
        rw [BitVec.toNat_ofNat]; omega
      · show (BitVec.ofNat 32 (β (1 : Fin 2)).val).toNat = (β (1 : Fin 2)).val
        rw [BitVec.toNat_ofNat]; omega⟩

end Cert.GateupIdeal.Moe
end
-- ==== Proof.Moe.Gateup.Value.lean ====
module

public import proofs.«01_k».proof.Proof.Moe.Gateup.Body

/-! The array the experts' first products leave, at arbitrary tables. -/

@[expose] public section

set_option maxRecDepth 16384

noncomputable section

namespace Cert.GateupIdeal.Moe

open Cert.GateupIdeal Cert.GateupIdeal.Gen
open Idealize.ShloMosaic Idealize.ShloMosaic.TcCoe Idealize.SL.Sem

variable (T : Tab) (m : (ℓ : Loc nD τ sig) → Buf (Elt Ideal) ℓ) (ρ : Dev nD → PrngReg)

/-- A row of the sorted tokens times a column of one of the weights of its tile's expert. -/
def entry (a : S37888x4096.Idx → EReal) (w : S1x8x4096x14336.Idx → EReal) (R : Fin 37888) (C : Fin 14336) : EReal :=
  ∑ k : Fin 4096, a (ix2 R k) * w (ix4 0 ⟨(T.te (ix1 ⟨R.val / 512, by omega⟩)).toNat, T.te_lt _⟩ k C)

theorem entry_eq (a : S37888x4096.Idx → EReal) (w : S1x8x4096x14336.Idx → EReal) (R : Fin 37888) (C : Fin 14336) (i : Fin 74) (h : R.val / 512 = i.val) :
    entry T a w R C = ∑ k : Fin 4096, a (ix2 R k) * w (ix4 0 ⟨(T.te (ix1 i)).toNat, T.te_lt _⟩ k C) := by
  have hR : R.val / 512 < 74 := by clear h; omega
  obtain rfl : i = ⟨R.val / 512, hR⟩ := Fin.ext h.symm
  rfl

/-- The array: for a tile in use the gated products, for any other zeros. -/
def final (a : S37888x4096.Idx → EReal) (b d : S1x8x4096x14336.Idx → EReal) (y : S37888x14336.Idx) : EReal :=
  if (y 0).val / 512 < (T.nv (ix1 0)).toNat then Cert.Moe.gated (entry T a b (y 0) (y 1)) (entry T a d (y 0) (y 1)) else 0

theorem index_eqs (t : Pt (F := Ideal) T) :
    ((cfgA (F := Ideal) T).win (0 : Fin 4)).index t = ![min (crd T t 1).val ((T.nv (ix1 0)).toNat - 1), 0]
    ∧ ((cfgA (F := Ideal) T).win (1 : Fin 4)).index t = ![0, (T.te (ix1 (crd T t 1))).toNat, 0, (crd T t 0).val]
    ∧ ((cfgA (F := Ideal) T).win (2 : Fin 4)).index t = ![0, (T.te (ix1 (crd T t 1))).toNat, 0, (crd T t 0).val]
    ∧ ((cfgA (F := Ideal) T).win (3 : Fin 4)).index t = ![(crd T t 1).val, (crd T t 0).val] := by
  have h1 : (crd T t 1).val < 74 := (crd T t 1).isLt
  have h0 : (crd T t 0).val < 28 := (crd T t 0).isLt
  have w1 : (BitVec.ofNat 32 (crd T t 1).val).toNat = (crd T t 1).val := by rw [BitVec.toNat_ofNat]; omega
  have w0 : (BitVec.ofNat 32 (crd T t 0).val).toNat = (crd T t 0).val := by rw [BitVec.toNat_ofNat]; omega
  have wt : ∀ x : S74.Idx, (x 0).val = (BitVec.ofNat 32 (crd T t 1).val).toNat → T.te x = T.te (ix1 (crd T t 1)) := fun x h =>
    congrArg T.te (funext fun a => Fin.ext (by fin_cases a; exact h.trans w1))
  refine ⟨funext fun a => ?_, funext fun a => ?_, funext fun a => ?_, funext fun a => ?_⟩
  · fin_cases a
    · refine (Cert.Moe.cap_toNat (crd T t 1).val (by omega) _ (T.nv_pos ((Rect.unit (s := S1) ![0] S1.size inb_S1_S1_0).emb (Shape.Idx.first (numel1_S1.symm ▸ Nat.one_pos)))) (T.nv_lt _)).trans ?_
      rw [nv_eq T _ (ix1 0)]
      rfl
    · rfl
  · fin_cases a
    · rfl
    · exact congrArg BitVec.toNat (wt _ rfl)
    · rfl
    · exact w0
  · fin_cases a
    · rfl
    · exact congrArg BitVec.toNat (wt _ rfl)
    · rfl
    · exact w0
  · fin_cases a
    · exact w1
    · exact w0

theorem left_used (c : Dev nD) (t : Pt (F := Ideal) T) (u : Used (F := Ideal) T (crd T t)) :
    left T m ρ c t = k0_pay1 (F := Ideal) (iblk T m ρ c (0 : Fin 4) t) (iblk T m ρ c (1 : Fin 4) t) (iblk T m ρ c (2 : Fin 4) t) :=
  (dif_pos u).trans (out_used _ _ _ _ _ _ _ _ _ _ _ _ _ _ _ _ _)

theorem left_unused (c : Dev nD) (t : Pt (F := Ideal) T) (u : ¬ Used (F := Ideal) T (crd T t)) :
    left T m ρ c t = k0_pay2 (F := Ideal) :=
  (dif_neg u).trans (out_unused _ _ _ _ _ _ _ _ _ _ _ _ _ _ _ _ _)

set_option maxHeartbeats 1000000 in
theorem arrAt_eq (c : Dev nD) : (dats T m ρ 0 c).arrAt (3 : Fin 4) (cfgA (F := Ideal) T).N
    = final T (m ((c : Thread nD τ).loc main_arg0)) (m ((c : Thread nD τ).loc main_arg1)) (m ((c : Thread nD τ).loc main_arg2)) := by
  refine (dats T m ρ 0 c).arrAt_eq_of_covers (3 : Fin 4) _ (covers T) fun t hf y => ?_
  rw [after0_3]
  obtain ⟨r, e, rfl⟩ : ∃ (r : Fin 512) (e : Fin 512), y = ix2 r e := ⟨y 0, y 1, eq_ix2 y⟩
  obtain ⟨I, hI⟩ : ∃ I : S37888x14336.Idx, I = (((cfgA (F := Ideal) T).win (3 : Fin 4)).blk t).view.emb (ix2 r e) := ⟨_, rfl⟩
  have e0 : (I 0).val = (crd T t 1).val * 512 + r.val := by
    rw [hI]
    blk_simp [index_eqs T t]
  have e1 : (I 1).val = (crd T t 0).val * 512 + e.val := by
    rw [hI]
    blk_simp [index_eqs T t]
  rw [← hI]
  clear hI
  obtain ⟨R, C, rfl⟩ : ∃ (R : Fin 37888) (C : Fin 14336), I = ix2 R C := ⟨I 0, I 1, eq_ix2 I⟩
  have eR : R.val = (crd T t 1).val * 512 + r.val := e0
  have eC : C.val = (crd T t 0).val * 512 + e.val := e1
  have h1 : R.val / 512 = (crd T t 1).val := by omega
  by_cases u : Used (F := Ideal) T (crd T t)
  · have hu : (crd T t 1).val < (T.nv (ix1 0)).toNat := (used_iff T _ _).1 u
    rw [left_used T m ρ c t u]
    blk_simp
    rw [pay1_at]
    refine Eq.trans ?_ (if_pos (show R.val / 512 < (T.nv (ix1 0)).toNat by omega)).symm
    have hrow : ∀ k : Fin 4096, iblk T m ρ c (0 : Fin 4) t (ix2 r k) = m ((c : Thread nD τ).loc main_arg0) (ix2 R k) := fun k => by
      blk_ext [iblk, index_eqs T t]
    have hg : ∀ k : Fin 4096, iblk T m ρ c (1 : Fin 4) t (ix4 0 0 k e) = m ((c : Thread nD τ).loc main_arg1) (ix4 0 ⟨(T.te (ix1 (crd T t 1))).toNat, T.te_lt _⟩ k C) := fun k => by
      blk_ext [iblk, index_eqs T t]
    have hu : ∀ k : Fin 4096, iblk T m ρ c (2 : Fin 4) t (ix4 0 0 k e) = m ((c : Thread nD τ).loc main_arg2) (ix4 0 ⟨(T.te (ix1 (crd T t 1))).toNat, T.te_lt _⟩ k C) := fun k => by
      blk_ext [iblk, index_eqs T t]
    show _ = Cert.Moe.gated (entry T _ _ R C) (entry T _ _ R C)
    rw [entry_eq T _ _ R C (crd T t 1) h1, entry_eq T _ _ R C (crd T t 1) h1]
    exact congrArg₂ Cert.Moe.gated (Finset.sum_congr rfl fun k _ => congrArg₂ (· * ·) (hrow k) (hg k))
      (Finset.sum_congr rfl fun k _ => congrArg₂ (· * ·) (hrow k) (hu k))
  · have hu : ¬ (crd T t 1).val < (T.nv (ix1 0)).toNat := mt (used_iff T _ _).2 u
    rw [left_unused T m ρ c t u]
    blk_simp
    rw [pay2_at]
    exact (if_neg (show ¬ R.val / 512 < (T.nv (ix1 0)).toNat by omega)).symm

end Cert.GateupIdeal.Moe
end
-- ==== Proof.Moe.Pick.lean ====
module

public import Idealize.ShloMosaic.PureOps
public import Idealize.ShloMosaic.Lib.Pointwise
public import Idealize.ShloMosaic.Lib.WordCmp
public import Idealize.ShloMosaic.Lib.ReduceAll
public import proofs.«01_k».proof.Proof.Moe.Words

/-! A stack of matrices looked up by a column of words, and what the words of a table in range read as. -/

@[expose] public section

namespace Cert.Moe

open Idealize.ShloMosaic

/-- Entry (t, d, f) of a stack of N matrices looked up by T words: entry (d, f) of the matrix the word of t names. -/
theorem pick_at {α : Type} {N D F T : Nat} (hN : 0 < N) (g : GatherDims ⟨3, ![N, D, F]⟩ ⟨2, ![T, 1]⟩ ⟨3, ![T, D, F]⟩)
    (h1 : g.offsetDims = [1, 2]) (h2 : g.collapsedSliceDims = [0]) (h3 : g.operandBatchingDims = []) (h4 : g.startIndicesBatchingDims = [])
    (h5 : g.startIndexMap = [0]) (h6 : g.indexVectorDim = 1) (h7 : g.sliceSizes = ![1, D, F])
    (x : (⟨3, ![N, D, F]⟩ : Shape).Idx → α) (idx : IVec ⟨2, ![T, 1]⟩ 32) (t : Fin T) (d : Fin D) (f : Fin F) (e : Fin N)
    (he : (idx (ix2 t 0)).toNat = e.val) (hb : e.val < 2 ^ 31) :
    Host.gather g x idx (ix3 t d f) = x (ix3 e d f) := by
  obtain ⟨o, c, ob, sb, sm, iv, sz, wf⟩ := g
  subst h1 h2 h3 h4 h5 h6 h7
  unfold Host.gather
  refine congrArg x (funext fun a => Fin.ext ?_)
  show GatherDims.start _ (ix3 t d f) idx a + GatherDims.batchCoord _ (ix3 t d f) a + GatherDims.offCoord _ (ix3 t d f) a = _
  rw [GatherDims.batchCoord_eq_zero _ _ _ List.not_mem_nil, Nat.add_zero]
  have h : a = 0 ∨ a = 1 ∨ a = 2 := by
    match a with
    | ⟨0, _⟩ => exact .inl rfl
    | ⟨1, _⟩ => exact .inr (.inl rfl)
    | ⟨2, _⟩ => exact .inr (.inr rfl)
  rcases h with rfl | rfl | rfl
  · rw [GatherDims.offCoord_eq_zero _ _ _ (fun h => ((GatherDims.mem_sKept _ _).mp h).1 (List.mem_singleton.mpr rfl)), Nat.add_zero]
    unfold GatherDims.start
    rw [dif_pos (List.mem_singleton.mpr rfl)]
    refine Eq.trans (congrArg (fun j => min (idx j).toInt.toNat (N - 1)) (a₂ := ix2 t 0) ?_) ?_
    · funext b; refine Fin.ext ?_
      match b with
      | ⟨0, _⟩ => rfl
      | ⟨1, _⟩ => rfl
    · show min (idx (ix2 t 0)).toInt.toNat (N - 1) = e.val
      rw [BitVec.toInt_eq_toNat_of_lt (by omega), he, Int.toNat_natCast]
      have := e.isLt
      omega
  · unfold GatherDims.start
    rw [dif_neg (show (1 : Fin 3) ∉ [(0 : Fin 3)] from by decide), Nat.zero_add]
    rfl
  · unfold GatherDims.start
    rw [dif_neg (show (2 : Fin 3) ∉ [(0 : Fin 3)] from by decide), Nat.zero_add]
    rfl

/-- A word below 8 is not negative, so the wrap-around of negative positions leaves it. -/
theorem wrap_eq (w : BitVec 32) (h : w.toNat < 8) : Scalar.select (IntOp.cmpi CmpIPredicate.slt w 0#32) (IntOp.addi w 8#32) w = w := by
  have hc : w.slt 0#32 = false := by
    rw [BitVec.slt_eq_decide, BitVec.toInt_eq_toNat_of_lt (by omega)]
    simp
  simp only [IntOp.cmpi, hc]
  rfl

/-- A table's entry the precondition admits is below 8. -/
theorem entry_lt (w : BitVec 32) (h1 : IntOp.cmpi .sge w 0#32 = 1#1) (h2 : IntOp.cmpi .slt w 8#32 = 1#1) : w.toNat < 8 := by
  rw [WordCmp.cmpi_sge_zero, WordCmp.ofBool_decide_eq_one_iff] at h1
  rw [WordCmp.cmpi_slt_eq, WordCmp.ofBool_decide_eq_one_iff, BitVec.toInt_eq_toNat_of_lt (by omega)] at h2
  have : (8#32).toInt = 8 := by decide
  omega

/-- A number of tiles in use the precondition admits is a positive word. -/
theorem count_pos (w : BitVec 32) (h : IntOp.cmpi .sge w 1#32 = 1#1) : 1 ≤ w.toNat ∧ w.toNat < 2 ^ 31 := by
  rw [WordCmp.cmpi_sge_eq, WordCmp.ofBool_decide_eq_one_iff] at h
  have h1 : (1#32).toInt = 1 := by decide
  have h0 : w.toNat < 2 ^ 31 := (WordCmp.toInt_nonneg_iff_lt_half w).1 (by rw [h1] at h; omega)
  rw [h1] at h
  have h2 := BitVec.toInt_eq_toNat_of_lt (x := w) (by omega)
  omega

end Cert.Moe
-- ==== Proof.Moe.Gateup.Ref.lean ====
module

public import proofs.«01_k».proof.Proof.Gen.GateupRefIdeal.Run
public import Idealize.ShloMosaic.Lib.Pipeline.ValueKit
public import Idealize.ShloMosaic.Lib.Pointwise
public import Idealize.ShloMosaic.Lib.IdealHost
public import Idealize.ShloMosaic.Lib.KernelVsHost
public import proofs.«01_k».proof.Proof.Moe.Pick
public import proofs.«01_k».proof.Proof.Moe.Gated

/-! The reference of the experts' first products at an element. -/

@[expose] public section

set_option maxRecDepth 16384

noncomputable section

namespace Cert.GateupRefIdeal.Moe

open Cert.GateupRefIdeal Cert.GateupRefIdeal.Gen Cert.GateupRefIdeal.Value Idealize.ShloMosaic Idealize.ShloMosaic.TcCoe Idealize.SL.Sem

/-- The experts' numbers as the weights are looked up by them. -/
def pickIdx (te : IVec S74 32) : IVec S74x1 32 :=
  broadcastInDim S74x1 ![0] bcast_S74_S74x1_0 (select (cmpi .slt te (broadcastInDim S74 ![] bcast_S_S74 (constantI S_ 32 0#32))) (addi te (broadcastInDim S74 ![] bcast_S_S74 (constantI S_ 32 8#32))) te)

def picked (w : FVec Ideal S1x8x4096x14336 .f32) (te : IVec S74 32) : FVec Ideal S74x4096x14336 .f32 :=
  Host.gather gather_S8x4096x14336_S74x1_S74x4096x14336_12_0_n_n_0_1_1409614336 (shapeCast _ w shapeCasts_S1x8x4096x14336_S8x4096x14336) (pickIdx te)

def product (a : FVec Ideal S37888x4096 .bf16) (w : FVec Ideal S74x4096x14336 .f32) : FVec Ideal S74x512x14336 .f32 :=
  Host.dotGeneral dot_S74x512x4096_S74x4096x14336_S74x512x14336_2_1_1_2_0_0 none (shapeCast _ (extf .f32 a bitsLt_bf16_f32) shapeCasts_S37888x4096_S74x512x4096) w

def gate (g u : FVec Ideal S74x512x14336 .f32) : FVec Ideal S74x512x14336 .bf16 :=
  truncf .bf16 (mulf (mulf g (Host.divf (broadcastInDim S74x512x14336 ![] bcast_S_S74x512x14336 (constant S_ .f32 0x3F800000#32)) (addf (broadcastInDim S74x512x14336 ![] bcast_S_S74x512x14336 (constant S_ .f32 0x3F800000#32)) (Host.exp (Host.negf g))))) u) bitsLt_bf16_f32

def kept (nv : IVec S1 32) (y : FVec Ideal S74x512x14336 .bf16) : FVec Ideal S37888x14336 .bf16 :=
  shapeCast _ (select (broadcastInDim S74x512x14336 ![0, 1, 2] bcast_S74x1x1_S74x512x14336_0_1_2 (cmpi .slt (broadcastInDim S74x1x1 ![0] bcast_S74_S74x1x1_0 (iotaInDim S74 32 0)) (broadcastInDim S74x1x1 ![] bcast_S_S74x1x1 (shapeCast _ nv shapeCasts_S1_S_)))) y (broadcastInDim S74x512x14336 ![] bcast_S_S74x512x14336 (sitofp .bf16 (constantI S_ 32 0#32)))) shapeCasts_S74x512x14336_S37888x14336

/-- The reference's result. -/
def result (a : FVec Ideal S37888x4096 .bf16) (wg wu : FVec Ideal S1x8x4096x14336 .f32) (te : IVec S74 32) (nv : IVec S1 32) : FVec Ideal S37888x14336 .bf16 :=
  kept nv (gate (product a (picked wg te)) (product a (picked wu te)))

theorem pickIdx_at (te : IVec S74 32) (h : ∀ x, (te x).toNat < 8) (t : Fin 74) : pickIdx te (ix2 t 0) = te (ix1 t) := by
  pointwise [pickIdx]
  exact Cert.Moe.wrap_eq _ (h _)

theorem picked_at (w : FVec Ideal S1x8x4096x14336 .f32) (te : IVec S74 32) (h : ∀ x, (te x).toNat < 8) (t : Fin 74) (d : Fin 4096) (f : Fin 14336) :
    picked w te (ix3 t d f) = w (ix4 0 ⟨(te (ix1 t)).toNat, h _⟩ d f) := by
  unfold picked
  rw [Cert.Moe.pick_at (by decide) _ rfl rfl rfl rfl rfl rfl rfl _ _ t d f ⟨(te (ix1 t)).toNat, h _⟩ (congrArg BitVec.toNat (pickIdx_at te h t)) (by have := h (ix1 t); show (te (ix1 t)).toNat < _; omega)]
  pointwise

theorem product_at (a : FVec Ideal S37888x4096 .bf16) (w : FVec Ideal S74x4096x14336 .f32) (t : Fin 74) (r : Fin 512) (f : Fin 14336) :
    product a w (ix3 t r f) = ∑ k : Fin 4096, a (ix2 ⟨t.val * 512 + r.val, by omega⟩ k) * w (ix3 t k f) := by
  pointwise [product]

theorem gate_at (g u : FVec Ideal S74x512x14336 .f32) (I : S74x512x14336.Idx) :
    gate g u I = g I * Ideal.div 1 (1 + Ideal.exp (- g I)) * u I := by
  pointwise [gate]

theorem kept_at (nv : IVec S1 32) (hv : ∀ x, (nv x).toNat < 2 ^ 31) (y : FVec Ideal S74x512x14336 .bf16) (R : Fin 37888) (C : Fin 14336) :
    kept nv y (ix2 R C) = if R.val / 512 < (nv (ix1 0)).toNat then y (ix3 ⟨R.val / 512, by omega⟩ ⟨R.val % 512, by omega⟩ C) else (0 : EReal) := by
  pointwise [kept]
  have h := Cert.Moe.below_iff (R.val / 512) (by omega) (nv (ix1 0)) (hv _)
  by_cases hc : R.val / 512 < (nv (ix1 0)).toNat
  · rw [if_pos hc]
    exact if_pos (h.2 hc)
  · rw [if_neg hc]
    refine (if_neg (mt h.1 hc)).trans ?_
    exact sitofp_zero

/-- The reference's result at row R, column C: for a tile in use, the gated product of the row with the two weights of its expert. -/
theorem result_at (a : FVec Ideal S37888x4096 .bf16) (wg wu : FVec Ideal S1x8x4096x14336 .f32) (te : IVec S74 32) (nv : IVec S1 32)
    (h : ∀ x, (te x).toNat < 8) (hv : ∀ x, (nv x).toNat < 2 ^ 31) (R : Fin 37888) (C : Fin 14336) :
    result a wg wu te nv (ix2 R C) = if R.val / 512 < (nv (ix1 0)).toNat then
      Cert.Moe.gated (∑ k : Fin 4096, a (ix2 R k) * wg (ix4 0 ⟨(te (ix1 ⟨R.val / 512, by omega⟩)).toNat, h _⟩ k C))
        (∑ k : Fin 4096, a (ix2 R k) * wu (ix4 0 ⟨(te (ix1 ⟨R.val / 512, by omega⟩)).toNat, h _⟩ k C)) else 0 := by
  unfold result
  rw [kept_at nv hv, gate_at, product_at, product_at, Cert.Moe.gated_eq]
  have hR : (⟨R.val / 512 * 512 + R.val % 512, by omega⟩ : Fin 37888) = R := Fin.ext (by show R.val / 512 * 512 + R.val % 512 = R.val; omega)
  simp only [picked_at _ te h, hR]

end Cert.GateupRefIdeal.Moe
end
-- ==== Proof.Moe.Gateup.Claims.lean ====
module

public import proofs.«01_k».proof.Defs
public import proofs.«01_k».proof.Proof.Gen.Gateup
public import proofs.«01_k».proof.Proof.Gen.Pre_tables
public import proofs.«01_k».proof.Proof.Moe.Gateup.Value
public import proofs.«01_k».proof.Proof.Moe.Gateup.Ref

/-! The claims about the experts' first products: the frames, and the kernel's array is the reference's. -/

@[expose] public section

set_option maxRecDepth 16384

noncomputable section

namespace Cert.GateupIdeal.Moe

open Cert.GateupIdeal Cert.GateupIdeal.Gen
open Idealize.ShloMosaic Idealize.ShloMosaic.TcCoe Idealize.SL.Sem

instance : Subsingleton Cert.Pre_tables.S_.Idx := ⟨fun _ _ => funext fun a => a.elim0⟩

/-- Tables of which the precondition holds are in range. -/
theorem in_range {F : FTy → Type} [FloatOps F] (a0 : FVec F S37888x4096 .bf16) (a1 a2 : FVec F S1x8x4096x14336 .f32) (te : IVec S74 32) (nv : IVec S1 32)
    (h : Cert.Pre_tables.fn a0 a1 a2 te nv = fun _ => 1#1) :
    (∀ x, (te x).toNat < 8) ∧ (∀ x, 1 ≤ (nv x).toNat) ∧ ∀ x, (nv x).toNat < 2 ^ 31 := by
  have h0 := congrFun h (fun a => a.elim0)
  simp only [Cert.Pre_tables.fn, andi] at h0
  obtain ⟨h1, h2⟩ := IntOp.andi_eq_one.1 h0
  have ht := fun x => IntOp.andi_eq_one.1 (Host.reduce_andi_all _ _ _ _ _ h1 x)
  have hn := fun x => Cert.Moe.count_pos (nv x) (Host.reduce_andi_all _ _ _ _ _ h2 x)
  exact ⟨fun x => Cert.Moe.entry_lt _ (ht x).1 (ht x).2, fun x => (hn x).1, fun x => (hn x).2⟩

/-- The tables the precondition admits. -/
def tabOf {F : FTy → Type} [FloatOps F] (a0 : FVec F S37888x4096 .bf16) (a1 a2 : FVec F S1x8x4096x14336 .f32) (te : IVec S74 32) (nv : IVec S1 32)
    (h : Cert.Pre_tables.fn a0 a1 a2 te nv = fun _ => 1#1) : Tab :=
  ⟨te, nv, (in_range a0 a1 a2 te nv h).1, (in_range a0 a1 a2 te nv h).2.1, (in_range a0 a1 a2 te nv h).2.2⟩

/-- The program as printed and the idealized one call the same bodies. -/
theorem defs₀_eq : Cert.Gateup.defs₀ (F := Bits) = Cert.GateupIdeal.defs₀ (F := Bits) := by
  unfold Cert.Gateup.defs₀ Cert.GateupIdeal.defs₀
  congr 1
  funext l a
  match l, a with
  | 0, (t, s) => rfl

theorem defs_eq : Cert.Gateup.defs (F := Bits) = Cert.GateupIdeal.defs (F := Bits) :=
  congrArg (Pipeline.defs (Cert.GateupIdeal.pcfgs (F := Bits))) defs₀_eq

theorem frame_bits : Cert.quiescent_Gateup := fun m ρ h => by
  rw [defs_eq]
  exact frame_of (F := Bits) (tabOf _ _ _ _ _ (h 0)) m ρ
    ⟨fun c => by obtain rfl : c = 0 := Subsingleton.elim _ _; rfl, fun c => by obtain rfl : c = 0 := Subsingleton.elim _ _; rfl⟩

theorem frame_ideal : Cert.quiescent_GateupIdeal := fun m ρ h =>
  frame_of (F := Ideal) (tabOf _ _ _ _ _ (h 0)) m ρ
    ⟨fun c => by obtain rfl : c = 0 := Subsingleton.elim _ _; rfl, fun c => by obtain rfl : c = 0 := Subsingleton.elim _ _; rfl⟩

theorem frame_ref : Cert.quiescent_GateupRefIdeal := by
  intro m g _
  hlo_run
  · exact fun _ => ⟨trivial, trivial, trivial, trivial, trivial⟩
  exact sem_eq_zero_of_no_sems (sig := Cert.GateupRefIdeal.sig) (by decide) _

/-- The kernel's array is the reference's result. -/
theorem final_eq (T : Tab) (a : S37888x4096.Idx → EReal) (b d : S1x8x4096x14336.Idx → EReal) :
    final T a b d = Cert.GateupRefIdeal.Moe.result a b d T.te T.nv := by
  funext I
  obtain ⟨R, C, rfl⟩ : ∃ (R : Fin 37888) (C : Fin 14336), I = ix2 R C := ⟨I 0, I 1, eq_ix2 I⟩
  exact (Cert.GateupRefIdeal.Moe.result_at a b d T.te T.nv T.te_lt T.nv_lt R C).symm

theorem algebraic : Cert.algebraic_GateupIdeal_GateupRefIdeal := by
  intro m g m' g' hpre hagree
  obtain ⟨T, ht, hn⟩ : ∃ T : Tab, T.te = m ((((0 : Dev nD) : Thread nD τ)).loc main_arg3) ∧ T.nv = m ((((0 : Dev nD) : Thread nD τ)).loc main_arg4) :=
    ⟨tabOf _ _ _ _ _ (hpre 0), rfl, rfl⟩
  have hp : Holds T m := ⟨fun c => by obtain rfl : c = 0 := Subsingleton.elim _ _; exact ht.symm,
    fun c => by obtain rfl : c = 0 := Subsingleton.elim _ _; exact hn.symm⟩
  refine ⟨fun c => final T (m ((c : Thread nD τ).loc main_arg0)) (m ((c : Thread nD τ).loc main_arg1)) (m ((c : Thread nD τ).loc main_arg2)), ?_, ?_⟩
  · refine (θ_run _ _ _).mono (fun r h c => ?_) (run_quiescent (F := Ideal) T m g hp)
    exact ⟨((h.1 c).1 (3 : Fin 4)).trans (arrAt_eq T m g c), ((h.1 c).1 (0 : Fin 4)).trans ((dats T m g 0 c).arrAt_in (0 : Fin 4) rfl _),
      ((h.1 c).1 (1 : Fin 4)).trans ((dats T m g 0 c).arrAt_in (1 : Fin 4) rfl _),
      ((h.1 c).1 (2 : Fin 4)).trans ((dats T m g 0 c).arrAt_in (2 : Fin 4) rfl _),
      ((h.1 c).2 0).trans (hp.1 c).symm, ((h.1 c).2 1).trans (hp.2 c).symm⟩
  · refine (θ_run _ _ _).mono (fun r h c => ?_) (Cert.GateupRefIdeal.Value.run (F := Ideal) m' g')
    obtain ⟨h0, h1, h2, h3, h4⟩ := hagree c
    refine ⟨(h c).1.trans ?_, (h c).2⟩
    refine Eq.trans (b := Cert.GateupRefIdeal.Moe.result (m' (c.tc.loc Cert.GateupRefIdeal.main_arg0)) (m' (c.tc.loc Cert.GateupRefIdeal.main_arg1))
      (m' (c.tc.loc Cert.GateupRefIdeal.main_arg2)) (m' (c.tc.loc Cert.GateupRefIdeal.main_arg3)) (m' (c.tc.loc Cert.GateupRefIdeal.main_arg4))) rfl ?_
    rw [h0, h1, h2, h3, h4]
    refine Eq.trans ?_ (final_eq T _ _ _).symm
    exact congrArg₂ (Cert.GateupRefIdeal.Moe.result _ _ _) (hp.1 c) (hp.2 c)

end Cert.GateupIdeal.Moe
end
-- ==== Proof.Moe.Down.Run.lean ====
module

public import proofs.«01_k».proof.Proof.Gen.DownIdeal.Skeleton
public import proofs.«01_k».proof.Proof.Gen.DownIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The body of the experts' second products, run on whole staging buffers and the running sums, in its five cases. -/

@[expose] public section

set_option maxRecDepth 16384
set_option Elab.async false

noncomputable section

namespace Cert.DownIdeal.Moe

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables and the running sums, whole. -/
abbrev tbM0_0 : Memref sig .tc .smem S74 .i32 := Memref.whole main_arg2
abbrev tbM0_1 : Memref sig .tc .smem S1 .i32 := Memref.whole main_arg3
abbrev scM0_0 : Memref sig .tc .vmem S512x2048 .f32 := Memref.whole cc0_scratch0

/-- One staging buffer of the output window, through which its contents are stated. -/
abbrev VO0_2 : View sig .tc .vmem S512x2048 .f32 := (Memref.whole cc0_stg2_0 : Memref sig .tc .vmem S512x2048 .f32).view

/-- The number of tiles in use, as the body reads it. -/
abbrev nvW (T1 : S1.Idx → Elt F .i32) : BitVec 32 := View.readAt (Elt F) (tbM0_1).view (Rect.unit (s := S1) ![0] S1.size inb_S1_S1_0).toLoadRect T1 (Shape.Idx.first (numel1_S1.symm ▸ Nat.one_pos))

/-- The tile is in use and the block of lanes is the first. -/
abbrev cnd1 (i : grid0.Coords) (v0 : BitVec 32) : BitVec 1 :=
  Scalar.cmpi .ne (Scalar.extui (Scalar.andi (Scalar.cmpi .slt (BitVec.ofNat 32 (i 1).val) v0) (Scalar.cmpi .eq (BitVec.ofNat 32 (i 2).val) 0#32))) 0#32

/-- The tile is in use and the block of lanes is not the first. -/
abbrev cnd2 (i : grid0.Coords) (v0 : BitVec 32) : BitVec 1 :=
  Scalar.cmpi .ne (Scalar.extui (Scalar.andi (Scalar.cmpi .slt (BitVec.ofNat 32 (i 1).val) v0) (Scalar.cmpi .sgt (BitVec.ofNat 32 (i 2).val) 0#32))) 0#32

set_option backward.proofsInPublic true in
set_option maxHeartbeats 8000000 in
/-- A tile in use, its first lanes: the sums are begun. -/
noncomputable def runA (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt F .i32) (T1 : S1.Idx → Elt F .i32)
    (x0 : S512x2048.Idx → Elt F .bf16) (x1 : S1x2048x2048.Idx → Elt F .bf16) (h1 : cnd1 i (nvW T1) = 1#1) (h2 : ¬(cnd2 i (nvW T1) = 1#1)) (h3 : ¬(k0_cond3 i (nvW T1) = 1#1)) (h4 : ¬(k0_cond4 i (nvW T1) = 1#1)) :
    { out0 : Buf (Elt F) ((c : Thread nD τ).loc cc0_scratch0) //
      ∀ (xa0 : Buf (Elt F) ((c : Thread nD τ).loc cc0_scratch0)) (y2 : S512x2048.Idx → Elt F .f32) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (tbM0_0.view.loc (c : Thread nD τ) ↦{fullShare.right} T0)
          ∗ (tbM0_1.view.loc (c : Thread nD τ) ↦{fullShare.right} T1)
          ∗ owns (c : Thread nD τ) arg7 fullShare y2
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (tbM0_0.view.loc (c : Thread nD τ) ↦{fullShare.right} T0)
          ∗ (tbM0_1.view.loc (c : Thread nD τ) ↦{fullShare.right} T1)
          ∗ owns (c : Thread nD τ) arg7 fullShare y2
          ∗ (scM0_0.view.loc (c : Thread nD τ) ↦{fullShare} out0)) -∗ K ⟨⟩))
          ⊢ wp frame (wpE (defs₀ (F := F)) Variants.none c none) Set.univ (cc0_moe_down_kernel i tbM0_0 (Memref.isWhole_whole _) tbM0_1 (Memref.isWhole_whole _) arg5 harg5 arg6 harg6 arg7 harg7 scM0_0 (Memref.isWhole_whole _)) K } :=
  ⟨_, fun xa0 y2 K => by
    unfold owns
    rw [cc0_moe_down_kernel_eq_skeleton]; unfold cc0_moe_down_kernel_skel
    iintro ⟨H0, H1, HT0, HT1, ⟨%f2, %hf2, HO2⟩, HS0, Hk⟩
    obtain rfl := harg7.eq_unread hf2
    have hS0 : scM0_0.IsWhole := Memref.isWhole_whole _
    have hT0 : tbM0_0.IsWhole := Memref.isWhole_whole _
    have hT1 : tbM0_1.IsWhole := Memref.isWhole_whole _
    sl_exec! (disch := first | exact h1 | exact h2 | exact h3 | exact h4)
    sl_step
    iapply Hk
    isplitl [H0]; · iexact H0
    isplitl [H1]; · iexact H1
    isplitl [HT0]; · iexact HT0
    isplitl [HT1]; · iexact HT1
    isplitl [HO2]
    · iexists _; isplitr
      · ipureintro; exact harg7.read_unread _
      iexact HO2
    iexact HS0⟩

set_option backward.proofsInPublic true in
set_option maxHeartbeats 8000000 in
/-- A tile in use, lanes between the first and the last: the sums grow. -/
noncomputable def runB (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt F .i32) (T1 : S1.Idx → Elt F .i32)
    (x0 : S512x2048.Idx → Elt F .bf16) (x1 : S1x2048x2048.Idx → Elt F .bf16) (xa0 : Buf (Elt F) ((c : Thread nD τ).loc cc0_scratch0)) (h1 : ¬(cnd1 i (nvW T1) = 1#1)) (h2 : cnd2 i (nvW T1) = 1#1) (h3 : ¬(k0_cond3 i (nvW T1) = 1#1)) (h4 : ¬(k0_cond4 i (nvW T1) = 1#1)) :
    { out0 : Buf (Elt F) ((c : Thread nD τ).loc cc0_scratch0) //
      ∀ (y2 : S512x2048.Idx → Elt F .f32) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (tbM0_0.view.loc (c : Thread nD τ) ↦{fullShare.right} T0)
          ∗ (tbM0_1.view.loc (c : Thread nD τ) ↦{fullShare.right} T1)
          ∗ owns (c : Thread nD τ) arg7 fullShare y2
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (tbM0_0.view.loc (c : Thread nD τ) ↦{fullShare.right} T0)
          ∗ (tbM0_1.view.loc (c : Thread nD τ) ↦{fullShare.right} T1)
          ∗ owns (c : Thread nD τ) arg7 fullShare y2
          ∗ (scM0_0.view.loc (c : Thread nD τ) ↦{fullShare} out0)) -∗ K ⟨⟩))
          ⊢ wp frame (wpE (defs₀ (F := F)) Variants.none c none) Set.univ (cc0_moe_down_kernel i tbM0_0 (Memref.isWhole_whole _) tbM0_1 (Memref.isWhole_whole _) arg5 harg5 arg6 harg6 arg7 harg7 scM0_0 (Memref.isWhole_whole _)) K } :=
  ⟨_, fun y2 K => by
    unfold owns
    rw [cc0_moe_down_kernel_eq_skeleton]; unfold cc0_moe_down_kernel_skel
    iintro ⟨H0, H1, HT0, HT1, ⟨%f2, %hf2, HO2⟩, HS0, Hk⟩
    obtain rfl := harg7.eq_unread hf2
    have hS0 : scM0_0.IsWhole := Memref.isWhole_whole _
    have hT0 : tbM0_0.IsWhole := Memref.isWhole_whole _
    have hT1 : tbM0_1.IsWhole := Memref.isWhole_whole _
    sl_exec! (disch := first | exact h1 | exact h2 | exact h3 | exact h4)
    sl_step
    iapply Hk
    isplitl [H0]; · iexact H0
    isplitl [H1]; · iexact H1
    isplitl [HT0]; · iexact HT0
    isplitl [HT1]; · iexact HT1
    isplitl [HO2]
    · iexists _; isplitr
      · ipureintro; exact harg7.read_unread _
      iexact HO2
    iexact HS0⟩

set_option backward.proofsInPublic true in
set_option maxHeartbeats 8000000 in
/-- A tile in use, its last lanes: the sums are completed and stored. -/
noncomputable def runC (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt F .i32) (T1 : S1.Idx → Elt F .i32)
    (x0 : S512x2048.Idx → Elt F .bf16) (x1 : S1x2048x2048.Idx → Elt F .bf16) (xa0 : Buf (Elt F) ((c : Thread nD τ).loc cc0_scratch0)) (h1 : ¬(cnd1 i (nvW T1) = 1#1)) (h2 : cnd2 i (nvW T1) = 1#1) (h3 : k0_cond3 i (nvW T1) = 1#1) (h4 : ¬(k0_cond4 i (nvW T1) = 1#1)) :
    Σ' (out0 : List (View.Piece (Elt F) S512x2048 .f32)), { out1 : Buf (Elt F) ((c : Thread nD τ).loc cc0_scratch0) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (tbM0_0.view.loc (c : Thread nD τ) ↦{fullShare.right} T0)
          ∗ (tbM0_1.view.loc (c : Thread nD τ) ↦{fullShare.right} T1)
          ∗ (∃ f, arg7.view.loc (c : Thread nD τ) ↦[arg7.view.set]{fullShare} arg7.view.writes (Elt F) f out0)
          ∗ (scM0_0.view.loc (c : Thread nD τ) ↦{fullShare} out1)) -∗ K ⟨⟩))
          ⊢ wp frame (wpE (defs₀ (F := F)) Variants.none c none) Set.univ (cc0_moe_down_kernel i tbM0_0 (Memref.isWhole_whole _) tbM0_1 (Memref.isWhole_whole _) arg5 harg5 arg6 harg6 arg7 harg7 scM0_0 (Memref.isWhole_whole _)) K } :=
  ⟨_, _, fun K => by
    unfold owns
    rw [cc0_moe_down_kernel_eq_skeleton]; unfold cc0_moe_down_kernel_skel
    iintro ⟨H0, H1, HT0, HT1, ⟨%d2, %f2, -, HO2⟩, HS0, Hk⟩
    have hS0 : scM0_0.IsWhole := Memref.isWhole_whole _
    have hT0 : tbM0_0.IsWhole := Memref.isWhole_whole _
    have hT1 : tbM0_1.IsWhole := Memref.isWhole_whole _
    sl_exec! (disch := first | exact h1 | exact h2 | exact h3 | exact h4)
    sl_step
    iapply Hk
    isplitl [H0]; · iexact H0
    isplitl [H1]; · iexact H1
    isplitl [HT0]; · iexact HT0
    isplitl [HT1]; · iexact HT1
    isplitl [HO2]
    · iexists _; iexact HO2
    iexact HS0⟩

set_option backward.proofsInPublic true in
set_option maxHeartbeats 8000000 in
/-- A tile past the last one in use, before the last lanes: nothing is done. -/
theorem runD (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt F .i32) (T1 : S1.Idx → Elt F .i32)
    (x0 : S512x2048.Idx → Elt F .bf16) (x1 : S1x2048x2048.Idx → Elt F .bf16) (xa0 : Buf (Elt F) ((c : Thread nD τ).loc cc0_scratch0)) (h1 : ¬(cnd1 i (nvW T1) = 1#1)) (h2 : ¬(cnd2 i (nvW T1) = 1#1)) (h3 : ¬(k0_cond3 i (nvW T1) = 1#1)) (h4 : ¬(k0_cond4 i (nvW T1) = 1#1)) (y2 : S512x2048.Idx → Elt F .f32) (K : PUnit → sProp 𝕄) :
        iprop((arg5.view.loc (c : Thread nD τ) ↦[arg5.view.set]{fullShare} arg5.view.rep x0)
          ∗ (arg6.view.loc (c : Thread nD τ) ↦[arg6.view.set]{fullShare} arg6.view.rep x1)
          ∗ (tbM0_0.view.loc (c : Thread nD τ) ↦{fullShare.right} T0)
          ∗ (tbM0_1.view.loc (c : Thread nD τ) ↦{fullShare.right} T1)
          ∗ owns (c : Thread nD τ) arg7 fullShare y2
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (tbM0_0.view.loc (c : Thread nD τ) ↦{fullShare.right} T0)
          ∗ (tbM0_1.view.loc (c : Thread nD τ) ↦{fullShare.right} T1)
          ∗ owns (c : Thread nD τ) arg7 fullShare y2
          ∗ (scM0_0.view.loc (c : Thread nD τ) ↦{fullShare} xa0)) -∗ K ⟨⟩))
          ⊢ wp frame (wpE (defs₀ (F := F)) Variants.none c none) Set.univ (cc0_moe_down_kernel i tbM0_0 (Memref.isWhole_whole _) tbM0_1 (Memref.isWhole_whole _) arg5 harg5 arg6 harg6 arg7 harg7 scM0_0 (Memref.isWhole_whole _)) K := by
    unfold owns
    rw [cc0_moe_down_kernel_eq_skeleton]; unfold cc0_moe_down_kernel_skel
    iintro ⟨H0, H1, HT0, HT1, ⟨%f2, %hf2, HO2⟩, HS0, Hk⟩
    obtain rfl := harg7.eq_unread hf2
    have hS0 : scM0_0.IsWhole := Memref.isWhole_whole _
    have hT0 : tbM0_0.IsWhole := Memref.isWhole_whole _
    have hT1 : tbM0_1.IsWhole := Memref.isWhole_whole _
    sl_exec! (disch := first | exact h1 | exact h2 | exact h3 | exact h4)
    sl_step
    iapply Hk
    isplitl [H0]; · iexact H0
    isplitl [H1]; · iexact H1
    isplitl [HT0]; · iexact HT0
    isplitl [HT1]; · iexact HT1
    isplitl [HO2]
    · iexists _; isplitr
      · ipureintro; exact harg7.read_unread _
      iexact HO2
    iexact HS0

set_option backward.proofsInPublic true in
set_option maxHeartbeats 8000000 in
/-- A tile past the last one in use, at the last lanes: zeros are stored. -/
noncomputable def runE (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt F .i32) (T1 : S1.Idx → Elt F .i32)
    (x0 : S512x2048.Idx → Elt F .bf16) (x1 : S1x2048x2048.Idx → Elt F .bf16) (h1 : ¬(cnd1 i (nvW T1) = 1#1)) (h2 : ¬(cnd2 i (nvW T1) = 1#1)) (h3 : ¬(k0_cond3 i (nvW T1) = 1#1)) (h4 : k0_cond4 i (nvW T1) = 1#1) :
    { out0 : List (View.Piece (Elt F) S512x2048 .f32) //
      ∀ (xa0 : Buf (Elt F) ((c : Thread nD τ).loc cc0_scratch0)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (tbM0_0.view.loc (c : Thread nD τ) ↦{fullShare.right} T0)
          ∗ (tbM0_1.view.loc (c : Thread nD τ) ↦{fullShare.right} T1)
          ∗ (∃ f, arg7.view.loc (c : Thread nD τ) ↦[arg7.view.set]{fullShare} arg7.view.writes (Elt F) f out0)
          ∗ (scM0_0.view.loc (c : Thread nD τ) ↦{fullShare} xa0)) -∗ K ⟨⟩))
          ⊢ wp frame (wpE (defs₀ (F := F)) Variants.none c none) Set.univ (cc0_moe_down_kernel i tbM0_0 (Memref.isWhole_whole _) tbM0_1 (Memref.isWhole_whole _) arg5 harg5 arg6 harg6 arg7 harg7 scM0_0 (Memref.isWhole_whole _)) K } :=
  ⟨_, fun xa0 K => by
    unfold owns
    rw [cc0_moe_down_kernel_eq_skeleton]; unfold cc0_moe_down_kernel_skel
    iintro ⟨H0, H1, HT0, HT1, ⟨%d2, %f2, -, HO2⟩, HS0, Hk⟩
    have hS0 : scM0_0.IsWhole := Memref.isWhole_whole _
    have hT0 : tbM0_0.IsWhole := Memref.isWhole_whole _
    have hT1 : tbM0_1.IsWhole := Memref.isWhole_whole _
    sl_exec! (disch := first | exact h1 | exact h2 | exact h3 | exact h4)
    sl_step
    iapply Hk
    isplitl [H0]; · iexact H0
    isplitl [H1]; · iexact H1
    isplitl [HT0]; · iexact HT0
    isplitl [HT1]; · iexact HT1
    isplitl [HO2]
    · iexists _; iexact HO2
    iexact HS0⟩

/-- The stored pieces are the whole block. -/
theorem coverC (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt F .i32) (T1 : S1.Idx → Elt F .i32)
    (x0 : S512x2048.Idx → Elt F .bf16) (x1 : S1x2048x2048.Idx → Elt F .bf16) (xa0 : Buf (Elt F) ((c : Thread nD τ).loc cc0_scratch0)) (h1 : ¬(cnd1 i (nvW T1) = 1#1)) (h2 : cnd2 i (nvW T1) = 1#1) (h3 : k0_cond3 i (nvW T1) = 1#1) (h4 : ¬(k0_cond4 i (nvW T1) = 1#1)) (y : S512x2048.Idx) :
    ∃ pc ∈ (runC c i arg5 harg5 arg6 harg6 arg7 harg7 T0 T1 x0 x1 xa0 h1 h2 h3 h4).1, y ∈ pc.1.set :=
  View.cover_of_tiledL (runC c i arg5 harg5 arg6 harg6 arg7 harg7 T0 T1 x0 x1 xa0 h1 h2 h3 h4).1 S512x2048.size (by sl_kernel_rfl) y

/-- What is left in the output block of a tile in use. -/
def outC (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt F .i32) (T1 : S1.Idx → Elt F .i32)
    (x0 : S512x2048.Idx → Elt F .bf16) (x1 : S1x2048x2048.Idx → Elt F .bf16) (xa0 : Buf (Elt F) ((c : Thread nD τ).loc cc0_scratch0)) (h1 : ¬(cnd1 i (nvW T1) = 1#1)) (h2 : cnd2 i (nvW T1) = 1#1) (h3 : k0_cond3 i (nvW T1) = 1#1) (h4 : ¬(k0_cond4 i (nvW T1) = 1#1)) : S512x2048.Idx → Elt F .f32 :=
  VO0_2.read (Elt F) (VO0_2.writes (Elt F) VO0_2.junk (runC c i arg5 harg5 arg6 harg6 arg7 harg7 T0 T1 x0 x1 xa0 h1 h2 h3 h4).1)

/-- The stored pieces are the whole block. -/
theorem coverE (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt F .i32) (T1 : S1.Idx → Elt F .i32)
    (x0 : S512x2048.Idx → Elt F .bf16) (x1 : S1x2048x2048.Idx → Elt F .bf16) (h1 : ¬(cnd1 i (nvW T1) = 1#1)) (h2 : ¬(cnd2 i (nvW T1) = 1#1)) (h3 : ¬(k0_cond3 i (nvW T1) = 1#1)) (h4 : k0_cond4 i (nvW T1) = 1#1) (y : S512x2048.Idx) :
    ∃ pc ∈ (runE c i arg5 harg5 arg6 harg6 arg7 harg7 T0 T1 x0 x1 h1 h2 h3 h4).1, y ∈ pc.1.set :=
  View.cover_of_tiledL (runE c i arg5 harg5 arg6 harg6 arg7 harg7 T0 T1 x0 x1 h1 h2 h3 h4).1 S512x2048.size (by sl_kernel_rfl) y

/-- What is left in the output block of any other tile. -/
def outE (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt F .i32) (T1 : S1.Idx → Elt F .i32)
    (x0 : S512x2048.Idx → Elt F .bf16) (x1 : S1x2048x2048.Idx → Elt F .bf16) (h1 : ¬(cnd1 i (nvW T1) = 1#1)) (h2 : ¬(cnd2 i (nvW T1) = 1#1)) (h3 : ¬(k0_cond3 i (nvW T1) = 1#1)) (h4 : k0_cond4 i (nvW T1) = 1#1) : S512x2048.Idx → Elt F .f32 :=
  VO0_2.read (Elt F) (VO0_2.writes (Elt F) VO0_2.junk (runE c i arg5 harg5 arg6 harg6 arg7 harg7 T0 T1 x0 x1 h1 h2 h3 h4).1)

end Cert.DownIdeal.Moe

end
-- ==== Proof.Moe.Lanes.lean ====
module

public import proofs.«01_k».proof.Proof.Moe.Words

/-! The words of the experts' second products: conditions on a tile and on a block of lanes, and the capped coordinates. -/

@[expose] public section

namespace Cert.Moe

open Idealize.ShloMosaic

/-- Two conditions at once, taken through a word. -/
theorem both_iff (a b : BitVec 1) : Scalar.cmpi .ne (Scalar.extui (Scalar.andi a b)) 0#32 = 1#1 ↔ a = 1#1 ∧ b = 1#1 := by
  revert a b; decide

/-- The second condition without the first. -/
theorem other_iff (a b : BitVec 1) : Scalar.cmpi .ne (Scalar.extui (Scalar.andi (Scalar.xori a 1#1) b)) 0#32 = 1#1 ↔ ¬ a = 1#1 ∧ b = 1#1 := by
  revert a b; decide

/-- A coordinate is a given one, as the words compare. -/
theorem is_iff (i k : Nat) (hi : i < 128) (hk : k < 128) : Scalar.cmpi .eq (BitVec.ofNat 32 i) (BitVec.ofNat 32 k) = 1#1 ↔ i = k := by
  have hi' : (BitVec.ofNat 32 i).toNat = i := by rw [BitVec.toNat_ofNat]; omega
  have hk' : (BitVec.ofNat 32 k).toNat = k := by rw [BitVec.toNat_ofNat]; omega
  have hc : (BitVec.ofNat 32 i == BitVec.ofNat 32 k) = decide (i = k) := by
    rw [Bool.eq_iff_iff, beq_iff_eq, decide_eq_true_iff]
    exact ⟨fun h => by have := congrArg BitVec.toNat h; omega, fun h => by rw [h]⟩
  simp only [Scalar.cmpi, IntOp.cmpi, hc]
  by_cases h : i = k <;> simp [h]

/-- A coordinate is past the first, as the words compare. -/
theorem past_iff (i : Nat) (hi : i < 128) : Scalar.cmpi .sgt (BitVec.ofNat 32 i) 0#32 = 1#1 ↔ 0 < i := by
  have hi' : (BitVec.ofNat 32 i).toNat = i := by rw [BitVec.toNat_ofNat]; omega
  have hc : (0#32).slt (BitVec.ofNat 32 i) = decide (0 < i) := by
    rw [BitVec.slt_eq_decide, BitVec.toInt_eq_toNat_of_lt (by simp), BitVec.toInt_eq_toNat_of_lt (by rw [hi']; omega), hi']
    simp
  simp only [Scalar.cmpi, IntOp.cmpi, hc]
  by_cases h : 0 < i <;> simp [h]

/-- A choice by whether a coordinate is below the number of tiles in use. -/
theorem choice_toNat (i : Nat) (hi : i < 128) (w : BitVec 32) (h2 : w.toNat < 2 ^ 31) (x y : BitVec 32) :
    (Scalar.select (Scalar.cmpi .slt (BitVec.ofNat 32 i) w) x y).toNat = if i < w.toNat then x.toNat else y.toNat := by
  have h := below_iff i hi w h2
  by_cases hc : i < w.toNat
  · rw [if_pos hc, h.2 hc]; rfl
  · rw [if_neg hc]
    have hb : ∀ b : BitVec 1, ¬ b = 1#1 → (Scalar.select b x y).toNat = y.toNat := fun b hb => congrArg BitVec.toNat (if_neg hb)
    exact hb _ (mt h.1 hc)

/-- One less than the number of tiles in use. -/
theorem less_toNat (w : BitVec 32) (h1 : 1 ≤ w.toNat) : (Scalar.subi w 1#32).toNat = w.toNat - 1 := by
  show (w - 1#32).toNat = _
  rw [BitVec.toNat_sub]; simp; omega

end Cert.Moe
-- ==== Proof.Moe.Down.Frame.lean ====
module

public import proofs.«01_k».proof.Proof.Moe.Down.Run
public import proofs.«01_k».proof.Proof.Moe.Lanes
public import Idealize.ShloMosaic.Lib.Pointwise
public import proofs.«01_k».proof.Proof.Gen.DownIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The pipeline of the experts' second products at any tables whose experts are in range and that put at least one tile
in use: its schedule, what each point leaves in the running sums and the output block, the body's obligation and the launch. -/

@[expose] public section

set_option maxRecDepth 16384
set_option Elab.async false

noncomputable section

namespace Cert.DownIdeal.Moe

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables: each tile's expert, one of the eight, and the number of tiles in use, at least one. -/
structure Tab where
  te : S74.Idx → BitVec 32
  nv : S1.Idx → BitVec 32
  te_lt : ∀ x, (te x).toNat < 8
  nv_pos : ∀ x, 1 ≤ (nv x).toNat
  nv_lt : ∀ x, (nv x).toNat < 2 ^ 31

variable (T : Tab)

/-- The tables as the index maps read them. -/
def pf : pre0.Contents (Elt F) := fun | ⟨0, _⟩ => T.te | ⟨1, _⟩ => T.nv | ⟨_ + 2, h⟩ => absurd h (by simp)

theorem one_idx (x y : S1.Idx) : x = y := funext fun a => by
  fin_cases a; exact Subsingleton.elim (α := Fin 1) _ _

theorem nv_eq (x y : S1.Idx) : T.nv x = T.nv y := congrArg T.nv (one_idx x y)

/-- The number of tiles in use. -/
abbrev count : Nat := (T.nv (ix1 0)).toNat

theorem nvW_eq : nvW (F := F) T.nv = T.nv (ix1 0) := nv_eq T _ _

/-! ## Every block lies inside its array -/

theorem row_eq (i : grid0.Coords) : cc0_transform_0 inb_S1_S1_0 numel1_S1 (pf (F := F) T) i 0 = if (i 1).val < count T then (i 1).val else count T - 1 := by
  have h1 : (i 1).val < 74 := (i 1).isLt
  have w1 : (BitVec.ofNat 32 (i 1).val).toNat = (i 1).val := by rw [BitVec.toNat_ofNat]; omega
  refine (Cert.Moe.choice_toNat (i 1).val (by omega) (T.nv ((Rect.unit (s := S1) ![0] S1.size inb_S1_S1_0).emb (Shape.Idx.first (numel1_S1.symm ▸ Nat.one_pos)))) (T.nv_lt _) (BitVec.ofNat 32 (i 1).val)
    (Scalar.subi (T.nv ((Rect.unit (s := S1) ![0] S1.size inb_S1_S1_0).emb (Shape.Idx.first (numel1_S1.symm ▸ Nat.one_pos)))) 1#32)).trans ?_
  rw [Cert.Moe.less_toNat _ (T.nv_pos _), nv_eq T _ (ix1 0), w1]

theorem lane_eq (i : grid0.Coords) : cc0_transform_0 inb_S1_S1_0 numel1_S1 (pf (F := F) T) i 1 = if (i 1).val < count T then (i 2).val else 6 := by
  have h1 : (i 1).val < 74 := (i 1).isLt
  have h2 : (i 2).val < 7 := (i 2).isLt
  have w2 : (BitVec.ofNat 32 (i 2).val).toNat = (i 2).val := by rw [BitVec.toNat_ofNat]; omega
  refine (Cert.Moe.choice_toNat (i 1).val (by omega) (T.nv ((Rect.unit (s := S1) ![0] S1.size inb_S1_S1_0).emb (Shape.Idx.first (numel1_S1.symm ▸ Nat.one_pos)))) (T.nv_lt _) (BitVec.ofNat 32 (i 2).val) 6#32).trans ?_
  rw [nv_eq T _ (ix1 0), w2]
  rfl

theorem lane1_eq (i : grid0.Coords) : cc0_transform_1 inb_S1_S1_0 numel1_S1 k0_off1_inb (pf (F := F) T) i 1 = if (i 1).val < count T then (i 2).val else 6 :=
  (show cc0_transform_1 inb_S1_S1_0 numel1_S1 k0_off1_inb (pf (F := F) T) i 1 = cc0_transform_0 inb_S1_S1_0 numel1_S1 (pf (F := F) T) i 1 from rfl).trans (lane_eq T i)

theorem inb_0 : ∀ i : grid0.Coords, ∀ a, (cc0_transform_0 inb_S1_S1_0 numel1_S1 (pf (F := F) T) i a + 1) * S512x2048.size a ≤ S37888x14336.size a := by
  intro i a
  have h1 : (i 1).val < 74 := (i 1).isLt
  have h2 : (i 2).val < 7 := (i 2).isLt
  fin_cases a
  · have h := row_eq (F := F) T i
    show (cc0_transform_0 inb_S1_S1_0 numel1_S1 (pf (F := F) T) i 0 + 1) * 512 ≤ 37888
    rw [h]; split <;> omega
  · have h := lane_eq (F := F) T i
    show (cc0_transform_0 inb_S1_S1_0 numel1_S1 (pf (F := F) T) i 1 + 1) * 2048 ≤ 14336
    rw [h]; split <;> omega

theorem inb_1 : ∀ i : grid0.Coords, ∀ a, (cc0_transform_1 inb_S1_S1_0 numel1_S1 k0_off1_inb (pf (F := F) T) i a + 1) * S1x2048x2048.size a ≤ S8x14336x4096.size a := by
  intro i a
  have h0 : (i 0).val < 2 := (i 0).isLt
  have h2 : (i 2).val < 7 := (i 2).isLt
  fin_cases a
  · have H : ∀ n, n < 8 → (n + 1) * 1 ≤ 8 := by omega
    exact H _ (T.te_lt _)
  · have h := lane1_eq (F := F) T i
    show (cc0_transform_1 inb_S1_S1_0 numel1_S1 k0_off1_inb (pf (F := F) T) i 1 + 1) * 2048 ≤ 14336
    rw [h]; split <;> omega
  · show ((BitVec.ofNat 32 (i 0).val).toNat + 1) * 2048 ≤ 4096
    rw [BitVec.toNat_ofNat]; omega

theorem ok_pf : ok0 (F := F) (pf T) :=
  ⟨fun i => ⟨inb_0 T i, .inr (Affine.block_words_dvd (s := S37888x14336) (p := EltTy.packing .bf16) (by decide) (by decide))⟩,
    fun i => ⟨inb_1 T i, .inr (Affine.block_words_dvd (s := S8x14336x4096) (p := EltTy.packing .bf16) (by decide) (by decide))⟩⟩

/-- The pipeline at the tables. -/
def adm : (pcfg0 (F := F)).Adm := ⟨pf T, ok_pf T⟩
abbrev cfgA : Pipeline.Cfg sig Λ₀ := cfg0 (F := F) (adm T)
abbrev pcs : Fin 1 → Pipeline.Cfg sig Λ₀ := Pipeline.pin (pcfgs (F := F)) fun _ => adm T

/-- The grid's points. -/
abbrev Pt : Type := Fin (cfgA (F := F) T).N

abbrev crd (t : Pt (F := F) T) : grid0.Coords := (cfgA (F := F) T).grid.coords t

abbrev ms0_0 (t : Pt (F := F) T) : Memref sig .tc .vmem S512x2048 .bf16 := spec0_0.stage ((cfgA (F := F) T).slots t (0 : Fin 3))
abbrev hs0_0 (t : Pt (F := F) T) : (ms0_0 T t).IsWhole := hstage0_0 (((cfgA (F := F) T).slots t (0 : Fin 3)).cast nbuf0_0)
abbrev ms0_1 (t : Pt (F := F) T) : Memref sig .tc .vmem S1x2048x2048 .bf16 := spec0_1.stage ((cfgA (F := F) T).slots t (1 : Fin 3))
abbrev hs0_1 (t : Pt (F := F) T) : (ms0_1 T t).IsWhole := hstage0_1 (((cfgA (F := F) T).slots t (1 : Fin 3)).cast nbuf0_1)
abbrev ms0_2 (t : Pt (F := F) T) : Memref sig .tc .vmem S512x2048 .f32 := spec0_2.stage ((cfgA (F := F) T).slots t (2 : Fin 3))
abbrev hs0_2 (t : Pt (F := F) T) : (ms0_2 T t).IsWhole := hstage0_2 (((cfgA (F := F) T).slots t (2 : Fin 3)).cast nbuf0_2)

variable (m : (ℓ : Loc nD τ sig) → Buf (Elt F) ℓ) (ρ : Dev nD → PrngReg)

/-- A core's buffers when the pipeline is entered: after the host has taken its layer's weights and rounded them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The host writes the two copies of the weights and nothing else. -/
theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

/-- A window's block at a point, read off its array at the pipeline's entry. -/
def iblk (c : Dev nD) (w : Fin (cfgA (F := F) T).W) (t : Pt (F := F) T) : (((cfgA (F := F) T).win w).xblock (crd T t)).Idx → Elt F ((cfgA (F := F) T).win w).elt :=
  (((cfgA (F := F) T).win w).blk t).view.read (Elt F) (V m c (Pipeline.arrRef spec0 w))

/-! ## The schedule -/

/-- The tile of the point is in use. -/
abbrev Used (i : grid0.Coords) : Prop := (i 1).val < count T

theorem below (i : grid0.Coords) : Scalar.cmpi .slt (BitVec.ofNat 32 (i 1).val) (nvW (F := F) T.nv) = 1#1 ↔ Used T i := by
  have h1 : (i 1).val < 74 := (i 1).isLt
  rw [nvW_eq T]
  exact Cert.Moe.below_iff _ (by omega) _ (T.nv_lt _)

theorem lane (i : grid0.Coords) (k : Nat) (hk : k < 128) : Scalar.cmpi .eq (BitVec.ofNat 32 (i 2).val) (BitVec.ofNat 32 k) = 1#1 ↔ (i 2).val = k := by
  have h2 : (i 2).val < 7 := (i 2).isLt
  exact Cert.Moe.is_iff _ _ (by omega) hk

theorem c1_iff (i : grid0.Coords) : cnd1 i (nvW (F := F) T.nv) = 1#1 ↔ Used T i ∧ (i 2).val = 0 :=
  (Cert.Moe.both_iff _ _).trans (and_congr (below T i) (lane i 0 (by omega)))

theorem c2_iff (i : grid0.Coords) : cnd2 i (nvW (F := F) T.nv) = 1#1 ↔ Used T i ∧ 0 < (i 2).val := by
  have h2 : (i 2).val < 7 := (i 2).isLt
  exact (Cert.Moe.both_iff _ _).trans (and_congr (below T i) (Cert.Moe.past_iff _ (by omega)))

theorem c3_iff (i : grid0.Coords) : k0_cond3 i (nvW (F := F) T.nv) = 1#1 ↔ Used T i ∧ (i 2).val = 6 :=
  (Cert.Moe.both_iff _ _).trans (and_congr (below T i) (lane i 6 (by omega)))

theorem c4_iff (i : grid0.Coords) : k0_cond4 i (nvW (F := F) T.nv) = 1#1 ↔ ¬ Used T i ∧ (i 2).val = 6 :=
  (Cert.Moe.other_iff _ _).trans (and_congr (not_congr (below T i)) (lane i 6 (by omega)))

theorem atD_eq : (pf (F := F) T).atD 1 ![0] = nvW (F := F) T.nv := by
  rw [nvW_eq T]
  exact (dif_pos (by decide)).trans (nv_eq T _ _)

/-- The output is stored at the last lanes only. -/
theorem idle_eq (t : Pt (F := F) T) : (cfgA (F := F) T).idle (2 : Fin 3) ((cfgA (F := F) T).grid.coords t) = decide (¬ (crd T t 2).val = 6) := by
  show (!(k0_cond3 (crd T t) ((pf (F := F) T).atD 1 ![0]) == 1#1) && !(k0_cond4 (crd T t) ((pf (F := F) T).atD 1 ![0]) == 1#1)) = _
  rw [atD_eq]
  have h3 := c3_iff (F := F) T (crd T t)
  have h4 := c4_iff (F := F) T (crd T t)
  generalize k0_cond3 (crd T t) (nvW (F := F) T.nv) = b3 at h3
  generalize k0_cond4 (crd T t) (nvW (F := F) T.nv) = b4 at h4
  rw [show ∀ a b : BitVec 1, (!(a == 1#1) && !(b == 1#1)) = decide (¬ (a = 1#1 ∨ b = 1#1)) from by decide, decide_eq_decide, h3, h4]
  by_cases u : Used T (crd T t) <;> by_cases h : (crd T t 2).val = 6 <;> simp [u, h]

theorem coord2 (t : Pt (F := F) T) : (crd T t 2).val = t.val % 7 := by
  refine (Pipeline.Grid.coords_val (G := grid0) t 2 (S := 1) (B := 7) (by decide) rfl).trans ?_
  rw [Nat.div_one]

/-- The output is written back after the last lanes, and then only. -/
theorem flush_iff (t : Pt (F := F) T) : ((cfgA (F := F) T).win (2 : Fin 3)).flush t = true ↔ (crd T t 2).val = 6 := by
  rw [coord2]
  exact Pipeline.Window.flush_reads ((cfgA (F := F) T).win (2 : Fin 3)) rfl 1 (show 1 < grid0.bound 1 from by decide)
    (show grid0.fixedAfter reads0_2 1 = true from by decide) (Pipeline.Window.sep_of_coord cc0_transform_2 1 0 (fun _ => rfl) (by decide)) (P := 7) (m := 6)
    (show grid0.stride 1 = 7 from by decide) rfl t

theorem flush_eq (t : Pt (F := F) T) : ((cfgA (F := F) T).win (2 : Fin 3)).flush t = decide ((crd T t 2).val = 6) := by
  rw [Bool.eq_iff_iff, flush_iff, decide_eq_true_iff]

/-! ## The cases of the body at a point -/

theorem isA {i : grid0.Coords} (u : Used T i) (k : (i 2).val = 0) : cnd1 i (nvW (F := F) T.nv) = 1#1 ∧ ¬ (cnd2 i (nvW (F := F) T.nv) = 1#1) ∧ ¬ (k0_cond3 i (nvW (F := F) T.nv) = 1#1) ∧ ¬ (k0_cond4 i (nvW (F := F) T.nv) = 1#1) :=
  ⟨(c1_iff T i).2 ⟨u, k⟩, fun h => by have := ((c2_iff T i).1 h).2; omega, fun h => by have := ((c3_iff T i).1 h).2; omega, fun h => ((c4_iff T i).1 h).1 u⟩

theorem isB {i : grid0.Coords} (u : Used T i) (k : ¬ (i 2).val = 0) (k' : ¬ (i 2).val = 6) : ¬ (cnd1 i (nvW (F := F) T.nv) = 1#1) ∧ cnd2 i (nvW (F := F) T.nv) = 1#1 ∧ ¬ (k0_cond3 i (nvW (F := F) T.nv) = 1#1) ∧ ¬ (k0_cond4 i (nvW (F := F) T.nv) = 1#1) :=
  ⟨fun h => k ((c1_iff T i).1 h).2, (c2_iff T i).2 ⟨u, Nat.pos_of_ne_zero k⟩, fun h => k' ((c3_iff T i).1 h).2, fun h => ((c4_iff T i).1 h).1 u⟩

theorem isC {i : grid0.Coords} (u : Used T i) (k : (i 2).val = 6) : ¬ (cnd1 i (nvW (F := F) T.nv) = 1#1) ∧ cnd2 i (nvW (F := F) T.nv) = 1#1 ∧ k0_cond3 i (nvW (F := F) T.nv) = 1#1 ∧ ¬ (k0_cond4 i (nvW (F := F) T.nv) = 1#1) :=
  ⟨fun h => by have := ((c1_iff T i).1 h).2; omega, (c2_iff T i).2 ⟨u, by omega⟩, (c3_iff T i).2 ⟨u, k⟩, fun h => ((c4_iff T i).1 h).1 u⟩

theorem isD {i : grid0.Coords} (u : ¬ Used T i) (k : ¬ (i 2).val = 6) : ¬ (cnd1 i (nvW (F := F) T.nv) = 1#1) ∧ ¬ (cnd2 i (nvW (F := F) T.nv) = 1#1) ∧ ¬ (k0_cond3 i (nvW (F := F) T.nv) = 1#1) ∧ ¬ (k0_cond4 i (nvW (F := F) T.nv) = 1#1) :=
  ⟨fun h => u ((c1_iff T i).1 h).1, fun h => u ((c2_iff T i).1 h).1, fun h => u ((c3_iff T i).1 h).1, fun h => k ((c4_iff T i).1 h).2⟩

theorem isE {i : grid0.Coords} (u : ¬ Used T i) (k : (i 2).val = 6) : ¬ (cnd1 i (nvW (F := F) T.nv) = 1#1) ∧ ¬ (cnd2 i (nvW (F := F) T.nv) = 1#1) ∧ ¬ (k0_cond3 i (nvW (F := F) T.nv) = 1#1) ∧ k0_cond4 i (nvW (F := F) T.nv) = 1#1 :=
  ⟨fun h => u ((c1_iff T i).1 h).1, fun h => u ((c2_iff T i).1 h).1, fun h => u ((c3_iff T i).1 h).1, (c4_iff T i).2 ⟨u, k⟩⟩

/-! ## What the running sums and the output block hold -/

noncomputable abbrev atA (c : Dev nD) (t : Pt (F := F) T) (u : Used T (crd T t)) (k : (crd T t 2).val = 0) :=
  runA c (crd T t) (ms0_0 T t) (hs0_0 T t) (ms0_1 T t) (hs0_1 T t) (ms0_2 T t) (hs0_2 T t) T.te T.nv (iblk T m c (0 : Fin 3) t) (iblk T m c (1 : Fin 3) t) (isA T u k).1 (isA T u k).2.1 (isA T u k).2.2.1 (isA T u k).2.2.2
noncomputable abbrev atB (c : Dev nD) (t : Pt (F := F) T) (a : Buf (Elt F) ((c : Thread nD τ).loc cc0_scratch0)) (u : Used T (crd T t)) (k : ¬ (crd T t 2).val = 0) (k' : ¬ (crd T t 2).val = 6) :=
  runB c (crd T t) (ms0_0 T t) (hs0_0 T t) (ms0_1 T t) (hs0_1 T t) (ms0_2 T t) (hs0_2 T t) T.te T.nv (iblk T m c (0 : Fin 3) t) (iblk T m c (1 : Fin 3) t) a (isB T u k k').1 (isB T u k k').2.1 (isB T u k k').2.2.1 (isB T u k k').2.2.2
noncomputable abbrev atC (c : Dev nD) (t : Pt (F := F) T) (a : Buf (Elt F) ((c : Thread nD τ).loc cc0_scratch0)) (u : Used T (crd T t)) (k : (crd T t 2).val = 6) :=
  runC c (crd T t) (ms0_0 T t) (hs0_0 T t) (ms0_1 T t) (hs0_1 T t) (ms0_2 T t) (hs0_2 T t) T.te T.nv (iblk T m c (0 : Fin 3) t) (iblk T m c (1 : Fin 3) t) a (isC T u k).1 (isC T u k).2.1 (isC T u k).2.2.1 (isC T u k).2.2.2
noncomputable abbrev atE (c : Dev nD) (t : Pt (F := F) T) (u : ¬ Used T (crd T t)) (k : (crd T t 2).val = 6) :=
  runE c (crd T t) (ms0_0 T t) (hs0_0 T t) (ms0_1 T t) (hs0_1 T t) (ms0_2 T t) (hs0_2 T t) T.te T.nv (iblk T m c (0 : Fin 3) t) (iblk T m c (1 : Fin 3) t) (isE T u k).1 (isE T u k).2.1 (isE T u k).2.2.1 (isE T u k).2.2.2

/-- The running sums after a point, from what they were before it. -/
def step (c : Dev nD) (t : Pt (F := F) T) (a : Buf (Elt F) ((c : Thread nD τ).loc cc0_scratch0)) : Buf (Elt F) ((c : Thread nD τ).loc cc0_scratch0) :=
  if u : Used T (crd T t) then
    if k : (crd T t 2).val = 0 then (atA T m c t u k).1
    else if k' : (crd T t 2).val = 6 then (atC T m c t a u k').2.1
    else (atB T m c t a u k k').1
  else a

/-- The running sums before each point; at the first one, whatever they were. -/
def acc (c : Dev nD) : Nat → Buf (Elt F) ((c : Thread nD τ).loc cc0_scratch0)
  | 0 => scM0_0.view.junk
  | n + 1 => if h : n < (cfgA (F := F) T).N then step T m c ⟨n, h⟩ (acc c n) else acc c n

/-- The output block after a point, where it is stored. -/
def left (c : Dev nD) (t : Pt (F := F) T) : S512x2048.Idx → Elt F .f32 :=
  if k : (crd T t 2).val = 6 then
    if u : Used T (crd T t) then
      outC c (crd T t) (ms0_0 T t) (hs0_0 T t) (ms0_1 T t) (hs0_1 T t) (ms0_2 T t) (hs0_2 T t) T.te T.nv (iblk T m c (0 : Fin 3) t) (iblk T m c (1 : Fin 3) t) (acc T m c t.val) (isC T u k).1 (isC T u k).2.1 (isC T u k).2.2.1 (isC T u k).2.2.2
    else outE c (crd T t) (ms0_0 T t) (hs0_0 T t) (ms0_1 T t) (hs0_1 T t) (ms0_2 T t) (hs0_2 T t) T.te T.nv (iblk T m c (0 : Fin 3) t) (iblk T m c (1 : Fin 3) t) (isE T u k).1 (isE T u k).2.1 (isE T u k).2.2.1 (isE T u k).2.2.2
  else VO0_2.read (Elt F) VO0_2.junk

/-- The invariant before point `n`: the running sums, and the body's halves of the tables. -/
def Phi (c : Dev nD) (n : Nat) : sProp 𝕄 :=
  iprop((∃ a, ⌜n ≠ 0 → a = acc T m c n⌝ ∗ (scM0_0.view.loc (c : Thread nD τ) ↦{fullShare} a))
    ∗ (tbM0_0.view.loc (c : Thread nD τ) ↦{fullShare.right} T.te) ∗ (tbM0_1.view.loc (c : Thread nD τ) ↦{fullShare.right} T.nv))

/-- The pipeline's proof data on core `c`. -/
def dats (_ : Fin 1) (c : Dev nD) : Dat τ (Elt F) Unit ℕ (UR sig nD τ) ℕ (cfgA (F := F) T) c where
  A w := V m c (Pipeline.arrRef spec0 w)
  after w t := match w with
    | ⟨0, _⟩ => iblk T m c (0 : Fin 3) t
    | ⟨1, _⟩ => iblk T m c (1 : Fin 3) t
    | ⟨2, _⟩ => left T m c t
  Φ t := Phi T m c t.val
  q _ := fullShare
  owed _ := 0

theorem after0_0 (c : Dev nD) (t : Pt (F := F) T) : (dats T m 0 c).after (0 : Fin 3) t = iblk T m c (0 : Fin 3) t := rfl
theorem after0_1 (c : Dev nD) (t : Pt (F := F) T) : (dats T m 0 c).after (1 : Fin 3) t = iblk T m c (1 : Fin 3) t := rfl
theorem after0_2 (c : Dev nD) (t : Pt (F := F) T) : (dats T m 0 c).after (2 : Fin 3) t = left T m c t := rfl

/-- An operand's staging buffer holds its block when the body runs. -/
theorem before0_0 (c : Dev nD) (t : Pt (F := F) T) (d) : (dats T m 0 c).before (0 : Fin 3) t d = iblk T m c (0 : Fin 3) t :=
  ((dats T m 0 c).before_in_eq_fetched (0 : Fin 3) rfl (fun _ => rfl) (fun _ _ _ => rfl) (fun t => by rw [after0_0]; unfold Dat.blockOf iblk; rfl) t d).trans
    (by unfold Dat.fetched Dat.blockOf iblk; rfl)
theorem before0_1 (c : Dev nD) (t : Pt (F := F) T) (d) : (dats T m 0 c).before (1 : Fin 3) t d = iblk T m c (1 : Fin 3) t :=
  ((dats T m 0 c).before_in_eq_fetched (1 : Fin 3) rfl (fun _ => rfl) (fun _ _ _ => rfl) (fun t => by rw [after0_1]; unfold Dat.blockOf iblk; rfl) t d).trans
    (by unfold Dat.fetched Dat.blockOf iblk; rfl)

theorem acc_succ (c : Dev nD) (t : Pt (F := F) T) : acc T m c (t.val + 1) = step T m c t (acc T m c t.val) := dif_pos t.isLt

/-- The first point's tile is in use and its lanes are the first. -/
theorem first_point (t : Pt (F := F) T) (h : t.val = 0) : Used T (crd T t) ∧ (crd T t 2).val = 0 := by
  have h1 : (crd T t 1).val = 0 := by
    refine (Pipeline.Grid.coords_val (G := grid0) t 1 (S := 7) (B := 74) (by decide) rfl).trans ?_
    rw [h]
  refine ⟨?_, by rw [coord2, h]⟩
  show (crd T t 1).val < count T
  rw [h1]
  exact T.nv_pos _

theorem step_A (c : Dev nD) (t : Pt (F := F) T) (a : Buf (Elt F) ((c : Thread nD τ).loc cc0_scratch0)) (u : Used T (crd T t)) (k : (crd T t 2).val = 0) : step T m c t a = (atA T m c t u k).1 := by
  unfold step; rw [dif_pos u, dif_pos k]
theorem step_B (c : Dev nD) (t : Pt (F := F) T) (a : Buf (Elt F) ((c : Thread nD τ).loc cc0_scratch0)) (u : Used T (crd T t)) (k : ¬ (crd T t 2).val = 0) (k' : ¬ (crd T t 2).val = 6) : step T m c t a = (atB T m c t a u k k').1 := by
  unfold step; rw [dif_pos u, dif_neg k, dif_neg k']
theorem step_C (c : Dev nD) (t : Pt (F := F) T) (a : Buf (Elt F) ((c : Thread nD τ).loc cc0_scratch0)) (u : Used T (crd T t)) (k : (crd T t 2).val = 6) : step T m c t a = (atC T m c t a u k).2.1 := by
  unfold step; rw [dif_pos u, dif_neg (by omega), dif_pos k]
theorem step_D (c : Dev nD) (t : Pt (F := F) T) (a : Buf (Elt F) ((c : Thread nD τ).loc cc0_scratch0)) (u : ¬ Used T (crd T t)) : step T m c t a = a := by
  unfold step; rw [dif_neg u]
theorem left_C (c : Dev nD) (t : Pt (F := F) T) (u : Used T (crd T t)) (k : (crd T t 2).val = 6) :
    left T m c t = outC c (crd T t) (ms0_0 T t) (hs0_0 T t) (ms0_1 T t) (hs0_1 T t) (ms0_2 T t) (hs0_2 T t) T.te T.nv (iblk T m c (0 : Fin 3) t) (iblk T m c (1 : Fin 3) t) (acc T m c t.val) (isC T u k).1 (isC T u k).2.1 (isC T u k).2.2.1 (isC T u k).2.2.2 := by
  unfold left; rw [dif_pos k, dif_pos u]
theorem left_E (c : Dev nD) (t : Pt (F := F) T) (u : ¬ Used T (crd T t)) (k : (crd T t 2).val = 6) :
    left T m c t = outE c (crd T t) (ms0_0 T t) (hs0_0 T t) (ms0_1 T t) (hs0_1 T t) (ms0_2 T t) (hs0_2 T t) T.te T.nv (iblk T m c (0 : Fin 3) t) (iblk T m c (1 : Fin 3) t) (isE T u k).1 (isE T u k).2.1 (isE T u k).2.2.1 (isE T u k).2.2.2 := by
  unfold left; rw [dif_pos k, dif_neg u]

/-- The first point's sums do not depend on what they were. -/
theorem step_acc (c : Dev nD) (t : Pt (F := F) T) (a : Buf (Elt F) ((c : Thread nD τ).loc cc0_scratch0)) (ha : t.val ≠ 0 → a = acc T m c t.val) : step T m c t a = acc T m c (t.val + 1) := by
  rw [acc_succ]
  by_cases h0 : t.val = 0
  · have h := first_point T t h0
    rw [step_A T m c t _ h.1 h.2, step_A T m c t _ h.1 h.2]
  · rw [← ha h0]

attribute [local irreducible] step acc left

theorem phi_at (c : Dev nD) (t : Fin ((cfgA (F := F) T).N + 1)) (n : Nat) (h : t.val = n) : (dats T m 0 c).Φ t = Phi T m c n := by
  subst h
  rfl

theorem phi_succ (c : Dev nD) (t : Pt (F := F) T) : (dats T m 0 c).Φ t.succ = Phi T m c (t.val + 1) := phi_at T m c _ _ (Fin.val_succ t)
theorem phi_cast (c : Dev nD) (t : Pt (F := F) T) : (dats T m 0 c).Φ t.castSucc = Phi T m c t.val := phi_at T m c _ _ (Fin.val_castSucc t)

/-! ## The body's obligation -/

/-- The body at point `t` on its staging buffers. -/
abbrev bodyAt0 (t : Pt (F := F) T) : Prog (TpuEff nD τ sig (Elt F) Λ₀ .tc) PUnit :=
  cc0_moe_down_kernel (crd T t) (Memref.whole main_arg2) (Memref.isWhole_whole _) (Memref.whole main_arg3) (Memref.isWhole_whole _) (ms0_0 T t) (hs0_0 T t) (ms0_1 T t) (hs0_1 T t) (ms0_2 T t) (hs0_2 T t) (Memref.whole cc0_scratch0) (Memref.isWhole_whole _)

set_option maxHeartbeats 1000000 in
theorem sound_body (c : Dev nD) (t : Pt (F := F) T) :
    iprop((dats T m 0 c).Φ t.castSucc ∗ (dats T m 0 c).owesAt () t.castSucc
        ∗ (∃ d, owns (c : Thread nD τ) (ms0_0 T t) fullShare ((dats T m 0 c).before (0 : Fin 3) t d))
        ∗ (∃ d, owns (c : Thread nD τ) (ms0_1 T t) fullShare ((dats T m 0 c).before (1 : Fin 3) t d))
        ∗ (∃ d, owns (c : Thread nD τ) (ms0_2 T t) fullShare ((dats T m 0 c).before (2 : Fin 3) t d)))
      ⊢ wp frame (wpE (defs₀ (F := F)) Variants.none c none) Set.univ (bodyAt0 T t) fun _ =>
          iprop((dats T m 0 c).Φ t.succ ∗ (dats T m 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T m 0 c).before w t d))
                  | true => owns (c : Thread nD τ) (((cfgA (F := F) T).win w).stage ((cfgA (F := F) T).slots t w)) fullShare ((dats T m 0 c).after w t)
                | false => owns (c : Thread nD τ) (((cfgA (F := F) T).win w).stage ((cfgA (F := F) T).slots t w)) fullShare ((dats T m 0 c).after w t)) := by
  rw [bigSep_W0]
  rewrite [idle_eq T t, flush_eq T t]
  simp only [before0_0, before0_1, after0_0, after0_1, after0_2]
  rewrite [phi_succ, phi_cast,
    show (dats T m 0 c).owesAt () t.succ = (dats T m 0 c).owesAt () t.castSucc from rfl]
  unfold Phi
  iintro ⟨⟨⟨%a, %ha, HS⟩, HT0, HT1⟩, Ho, ⟨%d0, H0⟩, ⟨%d1, H1⟩, ⟨%d2, H2⟩⟩
  have hsa : t.val + 1 ≠ 0 → step T m c t a = acc T m c (t.val + 1) := fun _ => step_acc T m c t a ha
  by_cases k : (crd T t 2).val = 6
  · rewrite [decide_eq_false (not_not.2 k)]
    by_cases u : Used T (crd T t)
    · rewrite [left_C T m c t u k]
      have k0 : ¬ (crd T t 2).val = 0 := by omega
      have h0 : t.val ≠ 0 := fun h => k0 (first_point T t h).2
      obtain rfl : a = acc T m c t.val := ha h0
      rewrite [step_C T m c t _ u k] at hsa
      iapply ((atC T m c t (acc T m c t.val) u k).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS]; · iexact HS
      iintro ⟨H0, H1, HT0, HT1, ⟨%e2, H2⟩, HS⟩
      isplitl [HS HT0 HT1]
      · isplitl [HS]
        · iexists _; isplitr; swap
          · iexact HS
          · ipureintro; exact hsa
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (coverC c _ _ _ _ _ _ _ _ _ _ _ _ _ _ _ _)
    · rewrite [left_E T m c t u k]
      rewrite [step_D T m c t a u] at hsa
      iapply ((atE T m c t u k).2 a _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS]; · iexact HS
      iintro ⟨H0, H1, HT0, HT1, ⟨%e2, H2⟩, HS⟩
      isplitl [HS HT0 HT1]
      · isplitl [HS]
        · iexists _; isplitr; swap
          · iexact HS
          · ipureintro; exact hsa
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (coverE c _ _ _ _ _ _ _ _ _ _ _ _ _ _ _)
  · rewrite [decide_eq_true k, decide_eq_false k]
    by_cases u : Used T (crd T t)
    · by_cases k0 : (crd T t 2).val = 0
      · rewrite [step_A T m c t a u k0] at hsa
        iapply ((atA T m c t u k0).2 a _ _)
        isplitl [H0]; · iapply rep_of_owns; iexact H0
        isplitl [H1]; · iapply rep_of_owns; iexact H1
        isplitl [HT0]; · iexact HT0
        isplitl [HT1]; · iexact HT1
        isplitl [H2]; · iexact H2
        isplitl [HS]; · iexact HS
        iintro ⟨H0, H1, HT0, HT1, H2, HS⟩
        isplitl [HS HT0 HT1]
        · isplitl [HS]
          · iexists _; isplitr; swap
            · iexact HS
            · ipureintro; exact hsa
          isplitl [HT0]
          · iexact HT0
          iexact HT1
        isplitl [Ho]; · iexact Ho
        isplitl [H0]
        · iapply owns_of_rep; iexact H0
        isplitl [H1]
        · iapply owns_of_rep; iexact H1
        iexists d2; iexact H2
      · rewrite [step_B T m c t a u k0 k] at hsa
        iapply ((atB T m c t a u k0 k).2 _ _)
        isplitl [H0]; · iapply rep_of_owns; iexact H0
        isplitl [H1]; · iapply rep_of_owns; iexact H1
        isplitl [HT0]; · iexact HT0
        isplitl [HT1]; · iexact HT1
        isplitl [H2]; · iexact H2
        isplitl [HS]; · iexact HS
        iintro ⟨H0, H1, HT0, HT1, H2, HS⟩
        isplitl [HS HT0 HT1]
        · isplitl [HS]
          · iexists _; isplitr; swap
            · iexact HS
            · ipureintro; exact hsa
          isplitl [HT0]
          · iexact HT0
          iexact HT1
        isplitl [Ho]; · iexact Ho
        isplitl [H0]
        · iapply owns_of_rep; iexact H0
        isplitl [H1]
        · iapply owns_of_rep; iexact H1
        iexists d2; iexact H2
    · rewrite [step_D T m c t a u] at hsa
      iapply (runD c (crd T t) (ms0_0 T t) (hs0_0 T t) (ms0_1 T t) (hs0_1 T t) (ms0_2 T t) (hs0_2 T t) T.te T.nv (iblk T m c (0 : Fin 3) t) (iblk T m c (1 : Fin 3) t) a (isD T u k).1 (isD T u k).2.1 (isD T u k).2.2.1 (isD T u k).2.2.2 _ _)
      isplitl [H0]; · iapply rep_of_owns; iexact H0
      isplitl [H1]; · iapply rep_of_owns; iexact H1
      isplitl [HT0]; · iexact HT0
      isplitl [HT1]; · iexact HT1
      isplitl [H2]; · iexact H2
      isplitl [HS]; · iexact HS
      iintro ⟨H0, H1, HT0, HT1, H2, HS⟩
      isplitl [HS HT0 HT1]
      · isplitl [HS]
        · iexists _; isplitr; swap
          · iexact HS
          · ipureintro; exact hsa
        isplitl [HT0]
        · iexact HT0
        iexact HT1
      isplitl [Ho]; · iexact Ho
      isplitl [H0]
      · iapply owns_of_rep; iexact H0
      isplitl [H1]
      · iapply owns_of_rep; iexact H1
      iexists d2; iexact H2

theorem body_obligation (c : Dev nD) : BodyObligation (dats T m 0 c) (defs₀ (F := F)) Variants.none () Set.univ := fun t => by
  rw [bigSep_W0]
  exact sound_body T m c t

/-! ## The launch -/

/-- The launch's element. -/
def u₀ : UR sig nD τ :=
  initOf (Pipeline.cells (pcs (F := F) T) ((launch0 (F := F)).cellOf_inj fun _ => adm T))
    (Pipeline.launchToks (pcs (F := F) T) ((launch0 (F := F)).cellOf_inj fun _ => adm T))

theorem share_eq (c : Dev nD) (w : Fin (cfgA (F := F) T).W) : (dats T m 0 c).share w = fullShare := by unfold Dat.share; split <;> rfl

/-- The tables one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm (F := F) T).1 ∗ Pipeline.scopedRest spec0 c) ⊢ (dats T m 0 c).Φ 0 := by
  rw [prefHeld_eq, scopedRest0_eq, phi_at T m c 0 0 rfl]
  unfold Phi
  iintro ⟨-, ⟨HT0, HT1⟩, ⟨%a, HS⟩⟩
  isplitl [HS]
  · iexists a; isplitr; swap
    · iexact HS
    · ipureintro; exact fun h => absurd rfl h
  isplitl [HT0]
  · iexact HT0
  iexact HT1

theorem phiN_exit (c : Dev nD) : (dats T m 0 c).Φ (Fin.last (cfgA (F := F) T).N) ⊢ iprop(BI.emp ∗ Pipeline.scopedRest spec0 c) := by
  rw [scopedRest0_eq, phi_at T m c _ _ (Fin.val_last _)]
  unfold Phi
  iintro ⟨⟨%a, -, HS⟩, -, -⟩
  isplitr; · iempintro
  iexists a; iexact HS

/-- What a final state holds: every window's array as computed, every table as it was, and the weights as they were. -/
def Final : PUnit × MemSt nD τ sig (Elt F) → Prop := fun r =>
  ∀ c : Dev nD, ((∀ w : Fin (cfgA (F := F) T).W, r.2.mem (((cfgA (F := F) T).win w).arr.view.loc (c : Thread nD τ)) = (dats T m 0 c).arrAt w (cfgA (F := F) T).N)
    ∧ ∀ j, r.2.mem ((c : Thread nD τ).loc (pre0.ref j)) = (adm (F := F) T).1 j)
    ∧ r.2.mem ((c : Thread nD τ).loc main_arg1) = m ((c : Thread nD τ).loc main_arg1)

/-- The launch memory holds the tables. -/
def Holds : Prop :=
  (∀ c : Dev nD, m ((c : Thread nD τ).loc main_arg2) = T.te) ∧ (∀ c : Dev nD, m ((c : Thread nD τ).loc main_arg3) = T.nv)

theorem V_pre (hp : Holds T m) (c : Dev nD) (j : Fin 2) : V m c (pre0.ref j) = (adm (F := F) T).1 j := by
  fin_cases j
  · exact (V_kept m c main_arg2 (by decide) (by decide)).trans (hp.1 c)
  · exact (V_kept m c main_arg3 (by decide) (by decide)).trans (hp.2 c)

set_option backward.isDefEq.respectTransparency.types false in
set_option maxHeartbeats 1000000 in
/-- Every execution ends, in such a state, with every counter at zero. -/
theorem run_quiescent (hp : Holds T m) : θ_run (defs (F := F)) (onTc (τ := τ) (main (F := F))) (s₀ m ρ) (fun r => Final T m r ∧ r.2.sem = fun _ => 0) :=
  Pipeline.θ_run_region_noSem_pf_quiescent pcfgs (fun _ => adm T) (dats T m) () ((launch0 (F := F)).cellOf_inj fun _ => adm T) (0 : Fin 1)
    (launch0 (F := F)).win.to₀ (launch0 (F := F)).pre emb₁ defs₀ Variants.none m ρ main
    (hbody := fun c => (body_obligation T m c).loose) (hne := (launch0 (F := F)).block_pos)
    (harr := (launch0 (F := F)).arr_whole) (hstage := (launch0 (F := F)).stage_whole) (howed := fun _ _ => rfl)
    (u₀ := u₀ (F := F) T) (hu₀ := .rfl)
    (V := V m)
    (hmain := Pipeline.hmainP_prefix pcfgs 0 defs₀ Variants.none m main hostOps0 hostOps0_sub hostOps0_fresh main_chain)
    (hsplit := fun c => Pipeline.arrays_split (pcs (F := F) T) (dats T m) 0 (launch0 (F := F)).win.arr_inj c (launch0 (F := F)).arr_whole
      (share_eq T m c) _ _ fun _ => rfl)
    (hpf := V_pre T m hp)
    (X := fun _ => iprop(emp)) (Y := fun _ => iprop(emp)) (Z := fun c => iprop(((c : Thread nD τ).loc main_arg1) ↦{fullShare} V m c main_arg1))
    (hX := fun c => by
      rw [unscopedRestP0_eq]
      iintro ⟨H1, -⟩
      isplitr; · iempintro
      iexact H1)
    (hin := phi0_intro T m)
    (hout := phiN_exit T m)
    (QY := fun c s => s.mem ((c : Thread nD τ).loc main_arg1) = V m c main_arg1)
    (hY := fun c s' => by
      iintro ⟨-, H1, HSI⟩
      icombine HSI H1 gives %h1
      imodintro
      isplitr; · ipureintro; exact Buf.eq_of_forall_mem_univ h1
      iexact HSI)
    (hQ := fun _ h hz => ⟨fun c => ⟨⟨(h c).1, (h c).2.1⟩, (h c).2.2.trans (V_kept m c main_arg1 (by decide) (by decide))⟩, hz⟩)

/-- The argument arrays end as they were, and every counter ends at zero. -/
theorem frame_of (hp : Holds T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1.1 (0 : Fin 3)).trans (((dats T m 0 c).arrAt_in (0 : Fin 3) rfl _).trans (V_kept m c main_arg0 (by decide) (by decide))),
    (h.1 c).2, ((h.1 c).1.2 0).trans (hp.1 c).symm, ((h.1 c).1.2 1).trans (hp.2 c).symm⟩, h.2⟩) (run_quiescent T m ρ hp)

end Cert.DownIdeal.Moe

end
-- ==== Proof.Moe.Down.Body.lean ====
module

public import proofs.«01_k».proof.Proof.Moe.Down.Frame
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.Pipeline.ReadBack

/-! The experts' second products at an element: what the body computes, and the array the pipeline leaves. -/

@[expose] public section

set_option maxRecDepth 16384

noncomputable section

namespace Cert.DownIdeal.Moe

open Cert.DownIdeal Cert.DownIdeal.Gen
open Idealize.ShloMosaic Idealize.ShloMosaic.TcCoe Idealize.SL.Sem

theorem pay1_at (a : S512x2048.Idx → EReal) (w : S1x2048x2048.Idx → EReal) (r : Fin 512) (e : Fin 2048) :
    k0_pay1 (F := Ideal) a w (ix2 r e) = ∑ k : Fin 2048, a (ix2 r k) * w (ix3 0 k e) := by
  unfold k0_pay1
  pointwise

theorem pay2_at (b : S512x2048.Idx → EReal) (a : S512x2048.Idx → EReal) (w : S1x2048x2048.Idx → EReal) (r : Fin 512) (e : Fin 2048) :
    k0_pay2 (F := Ideal) b a w (ix2 r e) = b (ix2 r e) + ∑ k : Fin 2048, a (ix2 r k) * w (ix3 0 k e) := by
  unfold k0_pay2
  pointwise

theorem pay3_at (r : Fin 512) (e : Fin 2048) : k0_pay3 (F := Ideal) (ix2 r e) = 0 := by
  unfold k0_pay3
  pointwise

variable (T : Tab)

theorem sum_A (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt Ideal .i32) (T1 : S1.Idx → Elt Ideal .i32)
    (x0 : S512x2048.Idx → Elt Ideal .bf16) (x1 : S1x2048x2048.Idx → Elt Ideal .bf16) (h1 h2 h3 h4) :
    (runA (F := Ideal) c i arg5 harg5 arg6 harg6 arg7 harg7 T0 T1 x0 x1 h1 h2 h3 h4).1 = k0_pay1 (F := Ideal) x0 x1 := by
  have h : scM0_0.view.read (Elt Ideal) (runA (F := Ideal) c i arg5 harg5 arg6 harg6 arg7 harg7 T0 T1 x0 x1 h1 h2 h3 h4).1 = k0_pay1 (F := Ideal) x0 x1 := by
    unfold runA
    frame_out
    rw [View.read_rep, View.read_rep]
  exact h

theorem sum_B (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt Ideal .i32) (T1 : S1.Idx → Elt Ideal .i32)
    (x0 : S512x2048.Idx → Elt Ideal .bf16) (x1 : S1x2048x2048.Idx → Elt Ideal .bf16) (xa0 : Buf (Elt Ideal) ((c : Thread nD τ).loc cc0_scratch0)) (h1 h2 h3 h4) :
    (runB (F := Ideal) c i arg5 harg5 arg6 harg6 arg7 harg7 T0 T1 x0 x1 xa0 h1 h2 h3 h4).1 = k0_pay2 (F := Ideal) xa0 x0 x1 := by
  have h : scM0_0.view.read (Elt Ideal) (runB (F := Ideal) c i arg5 harg5 arg6 harg6 arg7 harg7 T0 T1 x0 x1 xa0 h1 h2 h3 h4).1 = k0_pay2 (F := Ideal) xa0 x0 x1 := by
    unfold runB
    frame_out
    rw [View.read_rep, View.read_rep]
    rfl
  exact h

theorem sum_C (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt Ideal .i32) (T1 : S1.Idx → Elt Ideal .i32)
    (x0 : S512x2048.Idx → Elt Ideal .bf16) (x1 : S1x2048x2048.Idx → Elt Ideal .bf16) (xa0 : Buf (Elt Ideal) ((c : Thread nD τ).loc cc0_scratch0)) (h1 h2 h3 h4) :
    (runC (F := Ideal) c i arg5 harg5 arg6 harg6 arg7 harg7 T0 T1 x0 x1 xa0 h1 h2 h3 h4).2.1 = k0_pay2 (F := Ideal) xa0 x0 x1 := by
  have h : scM0_0.view.read (Elt Ideal) (runC (F := Ideal) c i arg5 harg5 arg6 harg6 arg7 harg7 T0 T1 x0 x1 xa0 h1 h2 h3 h4).2.1 = k0_pay2 (F := Ideal) xa0 x0 x1 := by
    unfold runC
    frame_out
    rw [View.read_rep, View.read_rep]
    rfl
  exact h

theorem out_C (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt Ideal .i32) (T1 : S1.Idx → Elt Ideal .i32)
    (x0 : S512x2048.Idx → Elt Ideal .bf16) (x1 : S1x2048x2048.Idx → Elt Ideal .bf16) (xa0 : Buf (Elt Ideal) ((c : Thread nD τ).loc cc0_scratch0)) (h1 h2 h3 h4) :
    outC (F := Ideal) c i arg5 harg5 arg6 harg6 arg7 harg7 T0 T1 x0 x1 xa0 h1 h2 h3 h4 = k0_pay2 (F := Ideal) xa0 x0 x1 := by
  frame_out
  rw [View.read_rep, View.read_rep]
  rfl

theorem out_E (c : Dev nD) (i : grid0.Coords) (arg5 : Memref sig .tc .vmem S512x2048 .bf16) (harg5 : arg5.IsWhole) (arg6 : Memref sig .tc .vmem S1x2048x2048 .bf16) (harg6 : arg6.IsWhole) (arg7 : Memref sig .tc .vmem S512x2048 .f32) (harg7 : arg7.IsWhole) (T0 : S74.Idx → Elt Ideal .i32) (T1 : S1.Idx → Elt Ideal .i32)
    (x0 : S512x2048.Idx → Elt Ideal .bf16) (x1 : S1x2048x2048.Idx → Elt Ideal .bf16) (h1 h2 h3 h4) :
    outE (F := Ideal) c i arg5 harg5 arg6 harg6 arg7 harg7 T0 T1 x0 x1 h1 h2 h3 h4 = k0_pay3 (F := Ideal) := by
  frame_out

theorem nblk_0 : ((cfgA (F := Ideal) T).win (2 : Fin 3)).nblk (0 : Fin 2) = 74 := by
  show (37888 + 512 - 1) / 512 = 74
  rfl
theorem nblk_1 : ((cfgA (F := Ideal) T).win (2 : Fin 3)).nblk (1 : Fin 2) = 2 := by
  show (4096 + 2048 - 1) / 2048 = 2
  rfl

theorem covers : ((cfgA (F := Ideal) T).win (2 : Fin 3)).Covers :=
  ((cfgA (F := Ideal) T).win (2 : Fin 3)).covers_of_indexMap_surj rfl (fun a => by fin_cases a; exact (by decide : 0 < 512); exact (by decide : 0 < 2048)) fun β =>
    have h0 : (β (0 : Fin 2)).val < 74 := lt_of_lt_of_eq (β (0 : Fin 2)).isLt (nblk_0 T)
    have h1 : (β (1 : Fin 2)).val < 2 := lt_of_lt_of_eq (β (1 : Fin 2)).isLt (nblk_1 T)
    ⟨fun | ⟨0, _⟩ => ⟨(β (1 : Fin 2)).val, h1⟩ | ⟨1, _⟩ => ⟨(β (0 : Fin 2)).val, h0⟩ | ⟨2, _⟩ => ⟨6, (by decide : 6 < 7)⟩, fun a => by
      fin_cases a
      · show (BitVec.ofNat 32 (β (0 : Fin 2)).val).toNat = (β (0 : Fin 2)).val
        rw [BitVec.toNat_ofNat]; omega
      · show (BitVec.ofNat 32 (β (1 : Fin 2)).val).toNat = (β (1 : Fin 2)).val
        rw [BitVec.toNat_ofNat]; omega⟩

end Cert.DownIdeal.Moe
end
-- ==== Proof.Moe.Down.Value.lean ====
module

public import proofs.«01_k».proof.Proof.Moe.Down.Body

/-! The array the experts' second products leave, at arbitrary tables. -/

@[expose] public section

set_option maxRecDepth 16384

noncomputable section

namespace Cert.DownIdeal.Moe

open Cert.DownIdeal Cert.DownIdeal.Gen
open Idealize.ShloMosaic Idealize.ShloMosaic.TcCoe Idealize.SL.Sem

variable (T : Tab) (m : (ℓ : Loc nD τ sig) → Buf (Elt Ideal) ℓ)

/-! ## The array -/

/-- One product of a row with a column of an expert's weights; past the last lane, zero. -/
def term (a : S37888x14336.Idx → EReal) (w : S1x8x14336x4096.Idx → EReal) (R : Fin 37888) (E : Fin 8) (C : Fin 4096) (n : Nat) : EReal :=
  if h : n < 14336 then a (ix2 R ⟨n, h⟩) * w (ix4 0 E ⟨n, h⟩ C) else 0

/-- The expert of a tile. -/
abbrev expert (i : Fin 74) : Fin 8 := ⟨(T.te (ix1 i)).toNat, T.te_lt _⟩

/-- The array: for a tile in use the products with the weights of its expert, for any other zeros. -/
def final (a : S37888x14336.Idx → EReal) (w : S1x8x14336x4096.Idx → EReal) (y : S37888x4096.Idx) : EReal :=
  if (y 0).val / 512 < count T then ∑ k : Fin 14336, a (ix2 (y 0) k) * w (ix4 0 (expert T ⟨(y 0).val / 512, by have : (y 0).val < 37888 := (y 0).isLt; omega⟩) k (y 1)) else 0

theorem final_at (a : S37888x14336.Idx → EReal) (w : S1x8x14336x4096.Idx → EReal) (R : Fin 37888) (C : Fin 4096) (i : Fin 74) (h : R.val / 512 = i.val) :
    final T a w (ix2 R C) = if i.val < count T then ∑ n ∈ Finset.range 14336, term a w R (expert T i) C n else 0 := by
  have hR : R.val / 512 < 74 := by clear h; omega
  obtain rfl : i = ⟨R.val / 512, hR⟩ := Fin.ext h.symm
  rw [Finset.sum_range]
  refine if_congr Iff.rfl (Finset.sum_congr rfl fun k _ => ?_) rfl
  show a (ix2 R k) * w (ix4 0 _ k C) = _
  unfold term
  rw [dif_pos k.isLt]
  rfl

/-! ## The blocks -/

theorem index_used (t : Pt (F := Ideal) T) (u : Used T (crd T t)) :
    ((cfgA (F := Ideal) T).win (0 : Fin 3)).index t = ![(crd T t 1).val, (crd T t 2).val]
    ∧ ((cfgA (F := Ideal) T).win (1 : Fin 3)).index t = ![(T.te (ix1 (crd T t 1))).toNat, (crd T t 2).val, (crd T t 0).val] := by
  have h1 : (crd T t 1).val < 74 := (crd T t 1).isLt
  have h0 : (crd T t 0).val < 2 := (crd T t 0).isLt
  have w1 : (BitVec.ofNat 32 (crd T t 1).val).toNat = (crd T t 1).val := by rw [BitVec.toNat_ofNat]; omega
  have w0 : (BitVec.ofNat 32 (crd T t 0).val).toNat = (crd T t 0).val := by rw [BitVec.toNat_ofNat]; omega
  have wt : ∀ x : S74.Idx, (x 0).val = (BitVec.ofNat 32 (crd T t 1).val).toNat → T.te x = T.te (ix1 (crd T t 1)) := fun x h =>
    congrArg T.te (funext fun a => Fin.ext (by fin_cases a; exact h.trans w1))
  refine ⟨funext fun a => ?_, funext fun a => ?_⟩
  · fin_cases a
    · exact (row_eq T (crd T t)).trans (if_pos u)
    · exact (lane_eq T (crd T t)).trans (if_pos u)
  · fin_cases a
    · exact congrArg BitVec.toNat (wt _ rfl)
    · exact (lane1_eq T (crd T t)).trans (if_pos u)
    · exact w0

theorem index_out (t : Pt (F := Ideal) T) :
    ((cfgA (F := Ideal) T).win (2 : Fin 3)).index t = ![(crd T t 1).val, (crd T t 0).val] := by
  have h1 : (crd T t 1).val < 74 := (crd T t 1).isLt
  have h0 : (crd T t 0).val < 2 := (crd T t 0).isLt
  have w1 : (BitVec.ofNat 32 (crd T t 1).val).toNat = (crd T t 1).val := by rw [BitVec.toNat_ofNat]; omega
  have w0 : (BitVec.ofNat 32 (crd T t 0).val).toNat = (crd T t 0).val := by rw [BitVec.toNat_ofNat]; omega
  refine funext fun a => ?_
  fin_cases a
  · exact w1
  · exact w0

theorem copy_at (w : FVec Ideal S1x8x14336x4096 .f32) (E : Fin 8) (k : Fin 14336) (C : Fin 4096) :
    truncf .bf16 (shapeCast S8x14336x4096 w shapeCasts_S1x8x14336x4096_S8x14336x4096) bitsLt_bf16_f32 (ix3 E k C) = w (ix4 0 E k C) := by
  pointwise

/-- The weights the pipeline is handed are the layer's, entry by entry. -/
theorem weights_at (c : Dev nD) (E : Fin 8) (k : Fin 14336) (C : Fin 4096) :
    (V m c main_v1 : S8x14336x4096.Idx → EReal) (ix3 E k C) = (m ((c : Thread nD τ).loc main_arg1) : S1x8x14336x4096.Idx → EReal) (ix4 0 E k C) := by
  have h : V m c main_v1 = truncf (F := Ideal) .bf16 (shapeCast S8x14336x4096 (m ((c : Thread nD τ).loc main_arg1) : FVec Ideal S1x8x14336x4096 .f32) shapeCasts_S1x8x14336x4096_S8x14336x4096) bitsLt_bf16_f32 := by
    unfold V
    after_results
    rfl
  exact (congrFun h _).trans (copy_at _ E k C)

/-- A point's lanes, summed: the stretch of the products from its first lane. -/
theorem lanes (c : Dev nD) (t : Pt (F := Ideal) T) (u : Used T (crd T t)) (r : Fin 512) (e : Fin 2048) (R : Fin 37888) (C : Fin 4096)
    (hR : R.val = (crd T t 1).val * 512 + r.val) (hC : C.val = (crd T t 0).val * 2048 + e.val) :
    ∑ k : Fin 2048, HMul.hMul (α := EReal) (β := EReal) (γ := EReal) (iblk T m c (0 : Fin 3) t (ix2 r k)) (iblk T m c (1 : Fin 3) t (ix3 0 k e))
      = ∑ n ∈ Finset.range 2048, term (m ((c : Thread nD τ).loc main_arg0)) (m ((c : Thread nD τ).loc main_arg1)) R (expert T (crd T t 1)) C ((crd T t 2).val * 2048 + n) := by
  have h2 : (crd T t 2).val < 7 := (crd T t 2).isLt
  rw [Finset.sum_range]
  refine Finset.sum_congr rfl fun k _ => ?_
  have hk : (crd T t 2).val * 2048 + k.val < 14336 := by omega
  refine Eq.trans ?_ (dif_pos hk).symm
  have ha : (iblk T m c (0 : Fin 3) t : S512x2048.Idx → EReal) (ix2 r k) = (V m c main_arg0 : S37888x14336.Idx → EReal) (ix2 R ⟨(crd T t 2).val * 2048 + k.val, hk⟩) := by
    blk_ext [iblk, index_used T t u]
  have hw : (iblk T m c (1 : Fin 3) t : S1x2048x2048.Idx → EReal) (ix3 0 k e) = (V m c main_v1 : S8x14336x4096.Idx → EReal) (ix3 (expert T (crd T t 1)) ⟨(crd T t 2).val * 2048 + k.val, hk⟩ C) := by
    blk_ext [iblk, index_used T t u]
  rw [ha, hw, weights_at, V_kept m c main_arg0 (by decide) (by decide)]

/-! ## The sums -/

theorem acc_first (c : Dev nD) (t : Pt (F := Ideal) T) (u : Used T (crd T t)) (k : (crd T t 2).val = 0) :
    acc T m c (t.val + 1) = k0_pay1 (F := Ideal) (iblk T m c (0 : Fin 3) t) (iblk T m c (1 : Fin 3) t) := by
  rw [acc_succ, step_A T m c t _ u k]
  exact sum_A _ _ _ _ _ _ _ _ _ _ _ _ _ _ _ _

theorem acc_next (c : Dev nD) (t : Pt (F := Ideal) T) (u : Used T (crd T t)) (k : ¬ (crd T t 2).val = 0) :
    acc T m c (t.val + 1) = k0_pay2 (F := Ideal) (acc T m c t.val) (iblk T m c (0 : Fin 3) t) (iblk T m c (1 : Fin 3) t) := by
  rw [acc_succ]
  by_cases k' : (crd T t 2).val = 6
  · rw [step_C T m c t _ u k']
    exact sum_C _ _ _ _ _ _ _ _ _ _ _ _ _ _ _ _ _
  · rw [step_B T m c t _ u k k']
    exact sum_B _ _ _ _ _ _ _ _ _ _ _ _ _ _ _ _ _

theorem coord1 (t : Pt (F := Ideal) T) : (crd T t 1).val = t.val / 7 % 74 :=
  Pipeline.Grid.coords_val (G := grid0) t 1 (S := 7) (B := 74) (by decide) rfl

theorem coord0 (t : Pt (F := Ideal) T) : (crd T t 0).val = t.val / 518 % 2 :=
  Pipeline.Grid.coords_val (G := grid0) t 0 (S := 518) (B := 2) (by decide) rfl

/-- After a point of a tile in use, the running sums are the products of every lane up to the point's last. -/
theorem sums (c : Dev nD) (r : Fin 512) (e : Fin 2048) (R : Fin 37888) (C : Fin 4096) (i : Fin 74) (hu : i.val < count T)
    (hR : R.val = i.val * 512 + r.val) (k : Nat) : ∀ t : Pt (F := Ideal) T, crd T t 1 = i → C.val = (crd T t 0).val * 2048 + e.val → (crd T t 2).val = k →
      Eq (α := EReal) (acc T m c (t.val + 1) (ix2 r e))
        (∑ n ∈ Finset.range ((k + 1) * 2048), term (m ((c : Thread nD τ).loc main_arg0)) (m ((c : Thread nD τ).loc main_arg1)) R (expert T i) C n) := by
  induction k with
  | zero =>
    intro t hi hC hk
    subst hi
    rw [acc_first T m c t hu hk, pay1_at, lanes T m c t hu r e R C hR hC, hk]
    refine Finset.sum_congr rfl fun n _ => ?_
    rw [Nat.zero_mul, Nat.zero_add]
  | succ k ih =>
    intro t hi hC hk
    have hN : t.val < 1036 := lt_of_lt_of_eq t.isLt N_0
    have h2 := coord2 T t
    have h1 := coord1 T t
    have h0 := coord0 T t
    have hp : t.val - 1 < (cfgA (F := Ideal) T).N := lt_of_le_of_lt (Nat.sub_le _ _) t.isLt
    have p2 := coord2 T ⟨t.val - 1, hp⟩
    have p1 := coord1 T ⟨t.val - 1, hp⟩
    have p0 := coord0 T ⟨t.val - 1, hp⟩
    have hi' : (crd T t 1).val = i.val := congrArg Fin.val hi
    have hprev := ih ⟨t.val - 1, hp⟩ (Fin.ext (by rw [p1, ← hi', h1]; show (t.val - 1) / 7 % 74 = _; omega))
      (by rw [p0, hC, h0]; show _ = (t.val - 1) / 518 % 2 * 2048 + _; omega) (by rw [p2]; show (t.val - 1) % 7 = _; omega)
    have hs : (t.val - 1) + 1 = t.val := by omega
    rw [show (⟨t.val - 1, hp⟩ : Pt (F := Ideal) T).val + 1 = t.val from hs] at hprev
    subst hi
    rw [acc_next T m c t hu (by omega), pay2_at, hprev, lanes T m c t hu r e R C hR hC, hk,
      show (k + 1 + 1) * 2048 = (k + 1) * 2048 + 2048 by omega, Finset.sum_range_add]

set_option maxHeartbeats 1000000 in
theorem arrAt_eq (c : Dev nD) : (dats T m 0 c).arrAt (2 : Fin 3) (cfgA (F := Ideal) T).N
    = final T (m ((c : Thread nD τ).loc main_arg0)) (m ((c : Thread nD τ).loc main_arg1)) := by
  refine (dats T m 0 c).arrAt_eq_of_covers (2 : Fin 3) _ (covers T) fun t hf y => ?_
  rw [after0_2]
  obtain ⟨r, e, rfl⟩ : ∃ (r : Fin 512) (e : Fin 2048), y = ix2 r e := ⟨y 0, y 1, eq_ix2 y⟩
  obtain ⟨I, hI⟩ : ∃ I : S37888x4096.Idx, I = (((cfgA (F := Ideal) T).win (2 : Fin 3)).blk t).view.emb (ix2 r e) := ⟨_, rfl⟩
  have e0 : (I 0).val = (crd T t 1).val * 512 + r.val := by
    rw [hI]
    blk_simp [index_out T t]
  have e1 : (I 1).val = (crd T t 0).val * 2048 + e.val := by
    rw [hI]
    blk_simp [index_out T t]
  rw [← hI]
  clear hI
  obtain ⟨R, C, rfl⟩ : ∃ (R : Fin 37888) (C : Fin 4096), I = ix2 R C := ⟨I 0, I 1, eq_ix2 I⟩
  have eR : R.val = (crd T t 1).val * 512 + r.val := e0
  have eC : C.val = (crd T t 0).val * 2048 + e.val := e1
  have h1 : R.val / 512 = (crd T t 1).val := by omega
  have k : (crd T t 2).val = 6 := (flush_iff T t).1 hf
  refine Eq.trans ?_ (final_at T _ _ R C (crd T t 1) h1).symm
  by_cases u : Used T (crd T t)
  · rw [left_C T m c t u k, out_C, if_pos u]
    blk_simp
    rw [← acc_next T m c t u (by omega)]
    exact sums T m c r e R C (crd T t 1) u eR 6 t rfl eC k
  · rw [left_E T m c t u k, out_E, if_neg u]
    blk_simp
    exact pay3_at r e

end Cert.DownIdeal.Moe
end
-- ==== Proof.Moe.Down.Ref.lean ====
module

public import proofs.«01_k».proof.Proof.Gen.DownRefIdeal.Run
public import Idealize.ShloMosaic.Lib.Pipeline.ValueKit
public import Idealize.ShloMosaic.Lib.Pointwise
public import Idealize.ShloMosaic.Lib.IdealHost
public import Idealize.ShloMosaic.Lib.KernelVsHost
public import proofs.«01_k».proof.Proof.Moe.Pick

/-! The reference of the experts' second products at an element. -/

@[expose] public section

set_option maxRecDepth 16384

noncomputable section

namespace Cert.DownRefIdeal.Moe

open Cert.DownRefIdeal Cert.DownRefIdeal.Gen Cert.DownRefIdeal.Value Idealize.ShloMosaic Idealize.ShloMosaic.TcCoe Idealize.SL.Sem

/-- The experts' numbers as the weights are looked up by them. -/
def pickIdx (te : IVec S74 32) : IVec S74x1 32 :=
  broadcastInDim S74x1 ![0] bcast_S74_S74x1_0 (select (cmpi .slt te (broadcastInDim S74 ![] bcast_S_S74 (constantI S_ 32 0#32))) (addi te (broadcastInDim S74 ![] bcast_S_S74 (constantI S_ 32 8#32))) te)

def picked (w : FVec Ideal S1x8x14336x4096 .f32) (te : IVec S74 32) : FVec Ideal S74x14336x4096 .f32 :=
  Host.gather gather_S8x14336x4096_S74x1_S74x14336x4096_12_0_n_n_0_1_1143364096 (shapeCast _ w shapeCasts_S1x8x14336x4096_S8x14336x4096) (pickIdx te)

def product (a : FVec Ideal S37888x14336 .bf16) (w : FVec Ideal S74x14336x4096 .f32) : FVec Ideal S74x512x4096 .f32 :=
  Host.dotGeneral dot_S74x512x14336_S74x14336x4096_S74x512x4096_2_1_1_2_0_0 none (shapeCast _ (extf .f32 a bitsLt_bf16_f32) shapeCasts_S37888x14336_S74x512x14336) w

def kept (nv : IVec S1 32) (y : FVec Ideal S74x512x4096 .f32) : FVec Ideal S37888x4096 .f32 :=
  shapeCast _ (select (broadcastInDim S74x512x4096 ![0, 1, 2] bcast_S74x1x1_S74x512x4096_0_1_2 (cmpi .slt (broadcastInDim S74x1x1 ![0] bcast_S74_S74x1x1_0 (iotaInDim S74 32 0)) (broadcastInDim S74x1x1 ![] bcast_S_S74x1x1 (shapeCast _ nv shapeCasts_S1_S_)))) y (broadcastInDim S74x512x4096 ![] bcast_S_S74x512x4096 (sitofp .f32 (constantI S_ 32 0#32)))) shapeCasts_S74x512x4096_S37888x4096

/-- The reference's result. -/
def result (a : FVec Ideal S37888x14336 .bf16) (w : FVec Ideal S1x8x14336x4096 .f32) (te : IVec S74 32) (nv : IVec S1 32) : FVec Ideal S37888x4096 .f32 :=
  kept nv (product a (picked w te))

theorem pickIdx_at (te : IVec S74 32) (h : ∀ x, (te x).toNat < 8) (t : Fin 74) : pickIdx te (ix2 t 0) = te (ix1 t) := by
  pointwise [pickIdx]
  exact Cert.Moe.wrap_eq _ (h _)

theorem picked_at (w : FVec Ideal S1x8x14336x4096 .f32) (te : IVec S74 32) (h : ∀ x, (te x).toNat < 8) (t : Fin 74) (d : Fin 14336) (f : Fin 4096) :
    picked w te (ix3 t d f) = w (ix4 0 ⟨(te (ix1 t)).toNat, h _⟩ d f) := by
  unfold picked
  rw [Cert.Moe.pick_at (by decide) _ rfl rfl rfl rfl rfl rfl rfl _ _ t d f ⟨(te (ix1 t)).toNat, h _⟩ (congrArg BitVec.toNat (pickIdx_at te h t)) (by have := h (ix1 t); show (te (ix1 t)).toNat < _; omega)]
  pointwise

theorem product_at (a : FVec Ideal S37888x14336 .bf16) (w : FVec Ideal S74x14336x4096 .f32) (t : Fin 74) (r : Fin 512) (f : Fin 4096) :
    product a w (ix3 t r f) = ∑ k : Fin 14336, a (ix2 ⟨t.val * 512 + r.val, by omega⟩ k) * w (ix3 t k f) := by
  pointwise [product]

theorem kept_at (nv : IVec S1 32) (hv : ∀ x, (nv x).toNat < 2 ^ 31) (y : FVec Ideal S74x512x4096 .f32) (R : Fin 37888) (C : Fin 4096) :
    kept nv y (ix2 R C) = if R.val / 512 < (nv (ix1 0)).toNat then y (ix3 ⟨R.val / 512, by omega⟩ ⟨R.val % 512, by omega⟩ C) else (0 : EReal) := by
  pointwise [kept]
  have h := Cert.Moe.below_iff (R.val / 512) (by omega) (nv (ix1 0)) (hv _)
  by_cases hc : R.val / 512 < (nv (ix1 0)).toNat
  · rw [if_pos hc]
    exact if_pos (h.2 hc)
  · rw [if_neg hc]
    refine (if_neg (mt h.1 hc)).trans ?_
    exact sitofp_zero

/-- The reference's result at row R, column C: for a tile in use, the row times the column of its expert's weights. -/
theorem result_at (a : FVec Ideal S37888x14336 .bf16) (w : FVec Ideal S1x8x14336x4096 .f32) (te : IVec S74 32) (nv : IVec S1 32)
    (h : ∀ x, (te x).toNat < 8) (hv : ∀ x, (nv x).toNat < 2 ^ 31) (R : Fin 37888) (C : Fin 4096) :
    result a w te nv (ix2 R C) = if R.val / 512 < (nv (ix1 0)).toNat then
      ∑ k : Fin 14336, a (ix2 R k) * w (ix4 0 ⟨(te (ix1 ⟨R.val / 512, by omega⟩)).toNat, h _⟩ k C) else 0 := by
  unfold result
  rw [kept_at nv hv, product_at]
  have hR : (⟨R.val / 512 * 512 + R.val % 512, by omega⟩ : Fin 37888) = R := Fin.ext (by show R.val / 512 * 512 + R.val % 512 = R.val; omega)
  simp only [picked_at _ te h, hR]

end Cert.DownRefIdeal.Moe
end
-- ==== Proof.Moe.Down.Claims.lean ====
module

public import proofs.«01_k».proof.Defs
public import proofs.«01_k».proof.Proof.Gen.Down
public import proofs.«01_k».proof.Proof.Gen.Pre_tables_down
public import proofs.«01_k».proof.Proof.Moe.Down.Value
public import proofs.«01_k».proof.Proof.Moe.Down.Ref

/-! The claims about the experts' second products: the frames, and the kernel's array is the reference's. -/

@[expose] public section

set_option maxRecDepth 16384

noncomputable section

namespace Cert.DownIdeal.Moe

open Cert.DownIdeal Cert.DownIdeal.Gen
open Idealize.ShloMosaic Idealize.ShloMosaic.TcCoe Idealize.SL.Sem

instance : Subsingleton Cert.Pre_tables_down.S_.Idx := ⟨fun _ _ => funext fun a => a.elim0⟩

/-- Tables of which the precondition holds are in range. -/
theorem in_range {F : FTy → Type} [FloatOps F] (a0 : FVec F S37888x14336 .bf16) (a1 : FVec F S1x8x14336x4096 .f32) (te : IVec S74 32) (nv : IVec S1 32)
    (h : Cert.Pre_tables_down.fn a0 a1 te nv = fun _ => 1#1) :
    (∀ x, (te x).toNat < 8) ∧ (∀ x, 1 ≤ (nv x).toNat) ∧ ∀ x, (nv x).toNat < 2 ^ 31 := by
  have h0 := congrFun h (fun a => a.elim0)
  simp only [Cert.Pre_tables_down.fn, andi] at h0
  obtain ⟨h1, h2⟩ := IntOp.andi_eq_one.1 h0
  have ht := fun x => IntOp.andi_eq_one.1 (Host.reduce_andi_all _ _ _ _ _ h1 x)
  have hn := fun x => Cert.Moe.count_pos (nv x) (Host.reduce_andi_all _ _ _ _ _ h2 x)
  exact ⟨fun x => Cert.Moe.entry_lt _ (ht x).1 (ht x).2, fun x => (hn x).1, fun x => (hn x).2⟩

/-- The tables the precondition admits. -/
def tabOf {F : FTy → Type} [FloatOps F] (a0 : FVec F S37888x14336 .bf16) (a1 : FVec F S1x8x14336x4096 .f32) (te : IVec S74 32) (nv : IVec S1 32)
    (h : Cert.Pre_tables_down.fn a0 a1 te nv = fun _ => 1#1) : Tab :=
  ⟨te, nv, (in_range a0 a1 te nv h).1, (in_range a0 a1 te nv h).2.1, (in_range a0 a1 te nv h).2.2⟩

/-- The program as printed and the idealized one call the same bodies. -/
theorem defs₀_eq : Cert.Down.defs₀ (F := Bits) = Cert.DownIdeal.defs₀ (F := Bits) := by
  unfold Cert.Down.defs₀ Cert.DownIdeal.defs₀
  congr 1
  funext l a
  match l, a with
  | 0, (t, s) => rfl

theorem defs_eq : Cert.Down.defs (F := Bits) = Cert.DownIdeal.defs (F := Bits) :=
  congrArg (Pipeline.defs (Cert.DownIdeal.pcfgs (F := Bits))) defs₀_eq

theorem frame_bits : Cert.quiescent_Down := fun m ρ h => by
  rw [defs_eq]
  exact frame_of (F := Bits) (tabOf _ _ _ _ (h 0)) m ρ
    ⟨fun c => by obtain rfl : c = 0 := Subsingleton.elim _ _; rfl, fun c => by obtain rfl : c = 0 := Subsingleton.elim _ _; rfl⟩

theorem frame_ideal : Cert.quiescent_DownIdeal := fun m ρ h =>
  frame_of (F := Ideal) (tabOf _ _ _ _ (h 0)) m ρ
    ⟨fun c => by obtain rfl : c = 0 := Subsingleton.elim _ _; rfl, fun c => by obtain rfl : c = 0 := Subsingleton.elim _ _; rfl⟩

theorem frame_ref : Cert.quiescent_DownRefIdeal := by
  intro m g _
  hlo_run
  · exact fun _ => ⟨trivial, trivial, trivial, trivial⟩
  exact sem_eq_zero_of_no_sems (sig := Cert.DownRefIdeal.sig) (by decide) _

/-- The kernel's array is the reference's result. -/
theorem final_eq (T : Tab) (a : S37888x14336.Idx → EReal) (w : S1x8x14336x4096.Idx → EReal) :
    final T a w = Cert.DownRefIdeal.Moe.result a w T.te T.nv := by
  funext I
  obtain ⟨R, C, rfl⟩ : ∃ (R : Fin 37888) (C : Fin 4096), I = ix2 R C := ⟨I 0, I 1, eq_ix2 I⟩
  exact (Cert.DownRefIdeal.Moe.result_at a w T.te T.nv T.te_lt T.nv_lt R C).symm

theorem algebraic : Cert.algebraic_DownIdeal_DownRefIdeal := by
  intro m g m' g' hpre hagree
  obtain ⟨T, ht, hn⟩ : ∃ T : Tab, T.te = m ((((0 : Dev nD) : Thread nD τ)).loc main_arg2) ∧ T.nv = m ((((0 : Dev nD) : Thread nD τ)).loc main_arg3) :=
    ⟨tabOf _ _ _ _ (hpre 0), rfl, rfl⟩
  have hp : Holds T m := ⟨fun c => by obtain rfl : c = 0 := Subsingleton.elim _ _; exact ht.symm,
    fun c => by obtain rfl : c = 0 := Subsingleton.elim _ _; exact hn.symm⟩
  refine ⟨fun c => final T (m ((c : Thread nD τ).loc main_arg0)) (m ((c : Thread nD τ).loc main_arg1)), ?_, ?_⟩
  · refine (θ_run _ _ _).mono (fun r h c => ?_) (run_quiescent (F := Ideal) T m g hp)
    exact ⟨((h.1 c).1.1 (2 : Fin 3)).trans (arrAt_eq T m c),
      ((h.1 c).1.1 (0 : Fin 3)).trans (((dats T m 0 c).arrAt_in (0 : Fin 3) rfl _).trans (V_kept m c main_arg0 (by decide) (by decide))),
      (h.1 c).2, ((h.1 c).1.2 0).trans (hp.1 c).symm, ((h.1 c).1.2 1).trans (hp.2 c).symm⟩
  · refine (θ_run _ _ _).mono (fun r h c => ?_) (Cert.DownRefIdeal.Value.run (F := Ideal) m' g')
    obtain ⟨h0, h1, h2, h3⟩ := hagree c
    refine ⟨(h c).1.trans ?_, (h c).2⟩
    refine Eq.trans (b := Cert.DownRefIdeal.Moe.result (m' (c.tc.loc Cert.DownRefIdeal.main_arg0)) (m' (c.tc.loc Cert.DownRefIdeal.main_arg1))
      (m' (c.tc.loc Cert.DownRefIdeal.main_arg2)) (m' (c.tc.loc Cert.DownRefIdeal.main_arg3))) rfl ?_
    rw [h0, h1, h2, h3]
    refine Eq.trans ?_ (final_eq T _ _).symm
    exact congrArg₂ (Cert.DownRefIdeal.Moe.result _ _) (hp.1 c) (hp.2 c)

end Cert.DownIdeal.Moe
end
-- ==== Proof.Dense.Value.lean ====
module

public import proofs.«01_k».proof.Proof.Gen.DenseIdeal.Value
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost
public import proofs.«01_k».proof.Proof.Moe.Gated

/-! The dense layer's first products at an element: the weights with their padding columns, what the body computes, and the
   array the pipeline leaves. -/

@[expose] public section

set_option maxRecDepth 16384

noncomputable section

namespace Cert.DenseIdeal.Ffn

open Cert.DenseIdeal Cert.DenseIdeal.Gen Cert.DenseIdeal.Value Idealize.ShloMosaic Idealize.ShloMosaic.TcCoe Idealize.SL.Sem

/-- The weights, continued by zero columns. -/
def wide (w : S1x4096x11008.Idx → EReal) (k : Fin 4096) (C : Fin 11264) : EReal :=
  if h : C.val < 11008 then w (ix3 0 k ⟨C.val, h⟩) else 0

theorem wide_at (w : S1x4096x11008.Idx → EReal) (k : Fin 4096) (C : Fin 11264) :
    pad (α := EReal) S4096x11264 ![0, 0] ![0, 256] ![0, 0] (truncf (F := Ideal) .bf16 (shapeCast S4096x11008 (w : FVec Ideal S1x4096x11008 .f32) shapeCasts_S1x4096x11008_S4096x11008) bitsLt_bf16_f32)
      (sitofp (F := Ideal) .bf16 (constantI S_ 32 0#32)) pads_S4096x11008_S4096x11264_000_02560 h_S_ (ix2 k C) = wide w k C := by
  unfold wide
  by_cases h : C.val < 11008
  · rw [dif_pos h, pad_apply_of_inside _ _ _ _ _ _ _ _ (ix2 k (⟨C.val, h⟩ : Fin 11008)) (fun a => by fin_cases a <;> simp)]
    pointwise
  · rw [dif_neg h, pad_apply_of_not_inside _ _ _ _ _ _ _ _ (1 : Fin 2) (fun ha => h (by simpa using ha.2.2))]
    exact sitofp_zero (φ := .bf16)

theorem pay1_at (a : S512x4096.Idx → EReal) (b d : S4096x512.Idx → EReal) (r : Fin 512) (e : Fin 512) :
    k0_pay1 (F := Ideal) a b d (ix2 r e)
      = Cert.Moe.gated (∑ k : Fin 4096, a (ix2 r k) * b (ix2 k e)) (∑ k : Fin 4096, a (ix2 r k) * d (ix2 k e)) := by
  unfold k0_pay1 Cert.Moe.gated
  pointwise

variable (m : (ℓ : Loc nD τ sig) → Buf (Elt Ideal) ℓ) (c : Dev nD)

theorem gate_entry (k : Fin 4096) (C : Fin 11264) : V m c main_v2 (ix2 k C) = wide (m ((c : Thread nD τ).loc main_arg1)) k C := by
  entry_read
  exact wide_at _ k C

theorem up_entry (k : Fin 4096) (C : Fin 11264) : V m c main_v5 (ix2 k C) = wide (m ((c : Thread nD τ).loc main_arg2)) k C := by
  entry_read
  exact wide_at _ k C

theorem index_eqs : ∀ t : Fin cfg0.N,
    (cfg0.win 0).index t = ![(grid0.coords t 1).val, 0]
    ∧ (cfg0.win 1).index t = ![0, (grid0.coords t 0).val]
    ∧ (cfg0.win 2).index t = ![0, (grid0.coords t 0).val]
    ∧ (cfg0.win 3).index t = ![(grid0.coords t 1).val, (grid0.coords t 0).val] := by decide +kernel

/-- The array: the gated products. -/
def final (a : S16896x4096.Idx → EReal) (b d : S1x4096x11008.Idx → EReal) (y : S16896x11264.Idx) : EReal :=
  Cert.Moe.gated (∑ k : Fin 4096, a (ix2 (y 0) k) * wide b k (y 1)) (∑ k : Fin 4096, a (ix2 (y 0) k) * wide d k (y 1))

theorem out_at (x0 : Vec Ideal S512x4096 .bf16) (x1 x2 : Vec Ideal S4096x512 .bf16) : out0_3 (F := Ideal) x0 x1 x2 = k0_pay1 (F := Ideal) x0 x1 x2 := by
  unfold out0_3
  frame_out

theorem nblk_0 : (cfg0.win (3 : Fin 4)).nblk (0 : Fin 2) = 33 := by
  show (16896 + 512 - 1) / 512 = 33
  rfl
theorem nblk_1 : (cfg0.win (3 : Fin 4)).nblk (1 : Fin 2) = 22 := by
  show (11264 + 512 - 1) / 512 = 22
  rfl

theorem covers : (cfg0.win (3 : Fin 4)).Covers :=
  (cfg0.win (3 : Fin 4)).covers_of_indexMap_surj rfl (fun a => by fin_cases a <;> exact (by decide : 0 < 512)) fun β =>
    have h0 : (β (0 : Fin 2)).val < 33 := lt_of_lt_of_eq (β (0 : Fin 2)).isLt nblk_0
    have h1 : (β (1 : Fin 2)).val < 22 := lt_of_lt_of_eq (β (1 : Fin 2)).isLt nblk_1
    ⟨fun | ⟨0, _⟩ => ⟨(β (1 : Fin 2)).val, h1⟩ | ⟨1, _⟩ => ⟨(β (0 : Fin 2)).val, h0⟩, fun a => by
      fin_cases a
      · show (BitVec.ofNat 32 (β (0 : Fin 2)).val).toNat = (β (0 : Fin 2)).val
        rw [BitVec.toNat_ofNat]; omega
      · show (BitVec.ofNat 32 (β (1 : Fin 2)).val).toNat = (β (1 : Fin 2)).val
        rw [BitVec.toNat_ofNat]; omega⟩

set_option maxHeartbeats 1000000 in
theorem arrAt_eq : (dats m 0 c).arrAt (3 : Fin 4) cfg0.N
    = final (m ((c : Thread nD τ).loc main_arg0)) (m ((c : Thread nD τ).loc main_arg1)) (m ((c : Thread nD τ).loc main_arg2)) := by
  refine (dats m 0 c).arrAt_eq_of_covers (3 : Fin 4) _ covers fun t hf y => ?_
  rw [after0_3, out_at]
  obtain ⟨r, e, rfl⟩ : ∃ (r : Fin 512) (e : Fin 512), y = ix2 r e := ⟨y 0, y 1, eq_ix2 y⟩
  obtain ⟨I, hI⟩ : ∃ I : S16896x11264.Idx, I = ((cfg0.win (3 : Fin 4)).blk t).view.emb (ix2 r e) := ⟨_, rfl⟩
  have e0 : (I 0).val = (grid0.coords t 1).val * 512 + r.val := by
    rw [hI]
    blk_simp [index_eqs t]
  have e1 : (I 1).val = (grid0.coords t 0).val * 512 + e.val := by
    rw [hI]
    blk_simp [index_eqs t]
  rw [← hI]
  clear hI
  obtain ⟨R, C, rfl⟩ : ∃ (R : Fin 16896) (C : Fin 11264), I = ix2 R C := ⟨I 0, I 1, eq_ix2 I⟩
  have eR : R.val = (grid0.coords t 1).val * 512 + r.val := e0
  have eC : C.val = (grid0.coords t 0).val * 512 + e.val := e1
  blk_simp
  rw [pay1_at]
  have hrow : ∀ k : Fin 4096, iblk m c 0 t (ix2 r k) = m ((c : Thread nD τ).loc main_arg0) (ix2 R k) := fun k => by
    blk_ext [iblk, V, index_eqs t]
  have hg : ∀ k : Fin 4096, iblk m c 1 t (ix2 k e) = wide (m ((c : Thread nD τ).loc main_arg1)) k C := fun k => by
    refine Eq.trans ?_ (gate_entry m c k C)
    blk_simp [iblk, index_eqs t]
    blk_ext [index_eqs t]
  have hu : ∀ k : Fin 4096, iblk m c 2 t (ix2 k e) = wide (m ((c : Thread nD τ).loc main_arg2)) k C := fun k => by
    refine Eq.trans ?_ (up_entry m c k C)
    blk_simp [iblk, index_eqs t]
    blk_ext [index_eqs t]
  exact congrArg₂ Cert.Moe.gated (Finset.sum_congr rfl fun k _ => congrArg₂ (· * ·) (hrow k) (hg k))
    (Finset.sum_congr rfl fun k _ => congrArg₂ (· * ·) (hrow k) (hu k))

end Cert.DenseIdeal.Ffn
end
-- ==== Proof.Dense.Ref.lean ====
module

public import proofs.«01_k».proof.Proof.Gen.DenseRefIdeal.Run
public import Idealize.ShloMosaic.Lib.Pipeline.ValueKit
public import Idealize.ShloMosaic.Lib.Pointwise
public import Idealize.ShloMosaic.Lib.IdealHost
public import Idealize.ShloMosaic.Lib.KernelVsHost
public import proofs.«01_k».proof.Proof.Moe.Gated

/-! The reference of the dense layer's first products at an element. -/

@[expose] public section

set_option maxRecDepth 16384

noncomputable section

namespace Cert.DenseRefIdeal.Ffn

open Cert.DenseRefIdeal Cert.DenseRefIdeal.Gen Cert.DenseRefIdeal.Value Idealize.ShloMosaic Idealize.ShloMosaic.TcCoe Idealize.SL.Sem

def product (a : FVec Ideal S16896x4096 .bf16) (w : FVec Ideal S1x4096x11008 .f32) : FVec Ideal S16896x11008 .f32 :=
  Host.dotGeneral dot_S16896x4096_S4096x11008_S16896x11008_1_0_0_1_n_n none (extf .f32 a bitsLt_bf16_f32) (shapeCast _ w shapeCasts_S1x4096x11008_S4096x11008)

def gate (g u : FVec Ideal S16896x11008 .f32) : FVec Ideal S16896x11008 .bf16 :=
  truncf .bf16 (mulf (mulf g (Host.divf (broadcastInDim S16896x11008 ![] bcast_S_S16896x11008 (constant S_ .f32 0x3F800000#32)) (addf (broadcastInDim S16896x11008 ![] bcast_S_S16896x11008 (constant S_ .f32 0x3F800000#32)) (Host.exp (Host.negf g))))) u) bitsLt_bf16_f32

def widen (y : FVec Ideal S16896x11008 .bf16) : FVec Ideal S16896x11264 .bf16 :=
  concatenate S16896x11264 1 [⟨S16896x11008, y⟩, ⟨S16896x256, broadcastInDim S16896x256 ![] bcast_S_S16896x256 (constant S_ .bf16 0x0000#16)⟩] concatenates_S16896x11008_S16896x256_S16896x11264_d1

/-- The reference's result. -/
def result (a : FVec Ideal S16896x4096 .bf16) (wg wu : FVec Ideal S1x4096x11008 .f32) : FVec Ideal S16896x11264 .bf16 :=
  widen (gate (product a wg) (product a wu))

theorem product_at (a : FVec Ideal S16896x4096 .bf16) (w : FVec Ideal S1x4096x11008 .f32) (R : Fin 16896) (C : Fin 11008) :
    product a w (ix2 R C) = ∑ k : Fin 4096, a (ix2 R k) * w (ix3 0 k C) := by
  pointwise [product]

theorem gate_at (g u : FVec Ideal S16896x11008 .f32) (I : S16896x11008.Idx) :
    gate g u I = g I * Ideal.div 1 (1 + Ideal.exp (- g I)) * u I := by
  pointwise [gate]

theorem widen_low (y : FVec Ideal S16896x11008 .bf16) (R : Fin 16896) (C : Fin 11264) (h : C.val < 11008) :
    widen y (ix2 R C) = y (ix2 R ⟨C.val, h⟩) := by
  pointwise [widen]
  exact dif_pos h

theorem widen_high (y : FVec Ideal S16896x11008 .bf16) (R : Fin 16896) (C : Fin 11264) (h : ¬ C.val < 11008) :
    widen y (ix2 R C) = (0 : EReal) := by
  pointwise [widen]
  exact dif_neg h

/-- The reference's result at a column of the weights. -/
theorem result_low (a : FVec Ideal S16896x4096 .bf16) (wg wu : FVec Ideal S1x4096x11008 .f32) (R : Fin 16896) (C : Fin 11264) (h : C.val < 11008) :
    result a wg wu (ix2 R C) = Cert.Moe.gated (∑ k : Fin 4096, a (ix2 R k) * wg (ix3 0 k ⟨C.val, h⟩)) (∑ k : Fin 4096, a (ix2 R k) * wu (ix3 0 k ⟨C.val, h⟩)) := by
  unfold result
  rw [widen_low _ _ _ h, gate_at, product_at, product_at, Cert.Moe.gated_eq]

theorem result_high (a : FVec Ideal S16896x4096 .bf16) (wg wu : FVec Ideal S1x4096x11008 .f32) (R : Fin 16896) (C : Fin 11264) (h : ¬ C.val < 11008) :
    result a wg wu (ix2 R C) = (0 : EReal) := widen_high _ _ _ h

end Cert.DenseRefIdeal.Ffn
end
-- ==== Proof.Dense.Claims.lean ====
module

public import proofs.«01_k».proof.Defs
public import proofs.«01_k».proof.Proof.Gen.Dense.Frame
public import proofs.«01_k».proof.Proof.Dense.Value
public import proofs.«01_k».proof.Proof.Dense.Ref
public import Idealize.ShloMosaic.Lib.Claim
public import Idealize.ShloMosaic.Lib.Quiescent

/-! The claims about the dense layer's first products: the reference's frame, and the kernel's array is the reference's. -/

@[expose] public section

set_option maxRecDepth 16384

noncomputable section

namespace Cert.DenseIdeal.Ffn

open Cert.DenseIdeal Cert.DenseIdeal.Gen
open Idealize.ShloMosaic Idealize.ShloMosaic.TcCoe Idealize.SL.Sem

theorem frame_bits : Cert.quiescent_Dense := fun m g _ => Cert.Dense.Gen.frame m g

theorem frame_ideal : Cert.quiescent_DenseIdeal := fun m g _ => Cert.DenseIdeal.Gen.frame m g

theorem frame_ref : Cert.quiescent_DenseRefIdeal := by
  intro m g _
  hlo_run
  · exact fun _ => ⟨trivial, trivial, trivial⟩
  exact sem_eq_zero_of_no_sems (sig := Cert.DenseRefIdeal.sig) (by decide) _

/-- A column of zeros gives zero. -/
theorem zero_sum (a w : Fin 4096 → EReal) (h : ∀ k, w k = 0) : ∑ k : Fin 4096, a k * w k = 0 :=
  Finset.sum_eq_zero fun k _ => by rw [h k, mul_zero]

/-- The kernel's array is the reference's result. -/
theorem final_eq (a : S16896x4096.Idx → EReal) (b d : S1x4096x11008.Idx → EReal) :
    final a b d = Cert.DenseRefIdeal.Ffn.result a b d := by
  funext I
  obtain ⟨R, C, rfl⟩ : ∃ (R : Fin 16896) (C : Fin 11264), I = ix2 R C := ⟨I 0, I 1, eq_ix2 I⟩
  show Cert.Moe.gated (∑ k : Fin 4096, a (ix2 R k) * wide b k C) (∑ k : Fin 4096, a (ix2 R k) * wide d k C) = _
  by_cases h : C.val < 11008
  · refine Eq.trans ?_ (Cert.DenseRefIdeal.Ffn.result_low a b d R C h).symm
    simp only [wide, dif_pos h]
  · refine Eq.trans ?_ (Cert.DenseRefIdeal.Ffn.result_high a b d R C h).symm
    rw [zero_sum (fun k => a (ix2 R k)) (fun k => wide b k C) (fun k => dif_neg h), zero_sum (fun k => a (ix2 R k)) (fun k => wide d k C) (fun k => dif_neg h)]
    unfold Cert.Moe.gated
    exact mul_zero _

theorem algebraic : Cert.algebraic_DenseIdeal_DenseRefIdeal := by
  intro m g m' g' _ hagree
  refine ⟨fun c => final (m ((c : Thread nD τ).loc main_arg0)) (m ((c : Thread nD τ).loc main_arg1)) (m ((c : Thread nD τ).loc main_arg2)), ?_, ?_⟩
  · exact (θ_run _ _ _).mono (fun r h c => ⟨(h c).1.trans (arrAt_eq m c), (h c).2⟩) (Cert.DenseIdeal.Value.run_blocks m g)
  · refine (θ_run _ _ _).mono (fun r h c => ?_) (Cert.DenseRefIdeal.Value.run (F := Ideal) m' g')
    obtain ⟨h0, h1, h2⟩ := hagree c
    refine ⟨(h c).1.trans ?_, (h c).2⟩
    refine Eq.trans (b := Cert.DenseRefIdeal.Ffn.result (m' (c.tc.loc Cert.DenseRefIdeal.main_arg0)) (m' (c.tc.loc Cert.DenseRefIdeal.main_arg1))
      (m' (c.tc.loc Cert.DenseRefIdeal.main_arg2))) rfl ?_
    rw [h0, h1, h2]
    exact (final_eq _ _ _).symm

end Cert.DenseIdeal.Ffn
end
-- ==== Proof.DenseDown.Body.lean ====
module

public import proofs.«01_k».proof.Proof.Gen.DenseDownIdeal.Value
public import Idealize.ShloMosaic.Lib.Pipeline.ValueKit
public import Idealize.ShloMosaic.Lib.Pipeline.Covers
public import Idealize.ShloMosaic.Lib.Pipeline.ReadBack
public import Idealize.ShloMosaic.Lib.Pointwise
public import Idealize.ShloMosaic.Lib.IdealHost
public import Idealize.ShloMosaic.Lib.KernelVsHost

/-! The dense layer's second products at an element: what the body computes at a point. -/

@[expose] public section

set_option maxRecDepth 16384

noncomputable section

namespace Cert.DenseDownIdeal.Ffn

open Cert.DenseDownIdeal Cert.DenseDownIdeal.Gen Cert.DenseDownIdeal.Value
open Idealize.ShloMosaic Idealize.ShloMosaic.TcCoe Idealize.SL.Sem

theorem pay2_at (a : S1536x1024.Idx → EReal) (w : S1x1024x1024.Idx → EReal) (r : Fin 1536) (e : Fin 1024) :
    k0_pay2 (F := Ideal) a w (ix2 r e) = ∑ k : Fin 1024, a (ix2 r k) * w (ix3 0 k e) := by
  unfold k0_pay2 k0_pay1
  pointwise

theorem pay3_at (a : S1536x1024.Idx → EReal) (w : S1x1024x1024.Idx → EReal) (b : S1536x1024.Idx → EReal) (r : Fin 1536) (e : Fin 1024) :
    k0_pay3 (F := Ideal) a w b (ix2 r e) = b (ix2 r e) + ∑ k : Fin 1024, a (ix2 r k) * w (ix3 0 k e) := by
  unfold k0_pay3 k0_pay1
  pointwise

theorem pay4_at (x : S1536x1024.Idx → EReal) (g : S48x1024.Idx → EReal) (b : S1536x1024.Idx → EReal) (r : Fin 1536) (e : Fin 1024) :
    k0_pay4 (F := Ideal) x g b (ix2 r e) = x (ix2 r e) + g (ix2 ⟨r.val / 32, by omega⟩ e) * b (ix2 r e) := by
  unfold k0_pay4
  pointwise

theorem sum_A (c : Dev nD) (i : grid0.Coords) (arg3 : Memref sig .tc .vmem S1536x1024 .bf16) (harg3 : arg3.IsWhole) (arg4 : Memref sig .tc .vmem S1x1024x1024 .bf16) (harg4 : arg4.IsWhole) (arg5 : Memref sig .tc .vmem S1536x1024 .f32) (harg5 : arg5.IsWhole) (arg6 : Memref sig .tc .vmem S48x1024 .f32) (harg6 : arg6.IsWhole) (arg7 : Memref sig .tc .vmem S1536x1024 .f32) (harg7 : arg7.IsWhole) (arg8 : Memref sig .tc .vmem S1536x1024 .f32) (harg8 : arg8.IsWhole) (h0 h1 h2)
    (x0 : Vec Ideal S1536x1024 .bf16) (x1 : Vec Ideal S1x1024x1024 .bf16) (x2 : Vec Ideal S1536x1024 .f32) (x3 : Vec Ideal S48x1024 .f32) :
    sout0_A_0 (F := Ideal) c i arg3 harg3 arg4 harg4 arg5 harg5 arg6 harg6 arg7 harg7 arg8 harg8 h0 h1 h2 x0 x1 x2 x3 = k0_pay2 (F := Ideal) x0 x1 := by
  unfold sout0_A_0 kernelRun0_A
  frame_out
  try rw [View.read_rep, View.read_rep]

theorem sum_B (c : Dev nD) (i : grid0.Coords) (arg3 : Memref sig .tc .vmem S1536x1024 .bf16) (harg3 : arg3.IsWhole) (arg4 : Memref sig .tc .vmem S1x1024x1024 .bf16) (harg4 : arg4.IsWhole) (arg5 : Memref sig .tc .vmem S1536x1024 .f32) (harg5 : arg5.IsWhole) (arg6 : Memref sig .tc .vmem S48x1024 .f32) (harg6 : arg6.IsWhole) (arg7 : Memref sig .tc .vmem S1536x1024 .f32) (harg7 : arg7.IsWhole) (arg8 : Memref sig .tc .vmem S1536x1024 .f32) (harg8 : arg8.IsWhole) (h0 h1 h2)
    (x0 : Vec Ideal S1536x1024 .bf16) (x1 : Vec Ideal S1x1024x1024 .bf16) (x2 : Vec Ideal S1536x1024 .f32) (x3 : Vec Ideal S48x1024 .f32) (xs0 : Vec Ideal S1536x1024 .f32) :
    sout0_B_0 (F := Ideal) c i arg3 harg3 arg4 harg4 arg5 harg5 arg6 harg6 arg7 harg7 arg8 harg8 h0 h1 h2 x0 x1 x2 x3 xs0 = k0_pay3 (F := Ideal) x0 x1 xs0 := by
  unfold sout0_B_0 kernelRun0_B
  frame_out
  try rw [View.read_rep, View.read_rep]
  try rfl

theorem sum_C (c : Dev nD) (i : grid0.Coords) (arg3 : Memref sig .tc .vmem S1536x1024 .bf16) (harg3 : arg3.IsWhole) (arg4 : Memref sig .tc .vmem S1x1024x1024 .bf16) (harg4 : arg4.IsWhole) (arg5 : Memref sig .tc .vmem S1536x1024 .f32) (harg5 : arg5.IsWhole) (arg6 : Memref sig .tc .vmem S48x1024 .f32) (harg6 : arg6.IsWhole) (arg7 : Memref sig .tc .vmem S1536x1024 .f32) (harg7 : arg7.IsWhole) (arg8 : Memref sig .tc .vmem S1536x1024 .f32) (harg8 : arg8.IsWhole) (h0 h1 h2)
    (x0 : Vec Ideal S1536x1024 .bf16) (x1 : Vec Ideal S1x1024x1024 .bf16) (x2 : Vec Ideal S1536x1024 .f32) (x3 : Vec Ideal S48x1024 .f32) (xs0 : Vec Ideal S1536x1024 .f32) :
    sout0_C_0 (F := Ideal) c i arg3 harg3 arg4 harg4 arg5 harg5 arg6 harg6 arg7 harg7 arg8 harg8 h0 h1 h2 x0 x1 x2 x3 xs0 = k0_pay3 (F := Ideal) x0 x1 xs0 := by
  unfold sout0_C_0 kernelRun0_C
  frame_out
  try rw [View.read_rep, View.read_rep]
  try rfl

theorem out_C (c : Dev nD) (i : grid0.Coords) (arg3 : Memref sig .tc .vmem S1536x1024 .bf16) (harg3 : arg3.IsWhole) (arg4 : Memref sig .tc .vmem S1x1024x1024 .bf16) (harg4 : arg4.IsWhole) (arg5 : Memref sig .tc .vmem S1536x1024 .f32) (harg5 : arg5.IsWhole) (arg6 : Memref sig .tc .vmem S48x1024 .f32) (harg6 : arg6.IsWhole) (arg7 : Memref sig .tc .vmem S1536x1024 .f32) (harg7 : arg7.IsWhole) (arg8 : Memref sig .tc .vmem S1536x1024 .f32) (harg8 : arg8.IsWhole) (h0 h1 h2)
    (x0 : Vec Ideal S1536x1024 .bf16) (x1 : Vec Ideal S1x1024x1024 .bf16) (x2 : Vec Ideal S1536x1024 .f32) (x3 : Vec Ideal S48x1024 .f32) (xs0 : Vec Ideal S1536x1024 .f32) :
    out0_C_4 (F := Ideal) c i arg3 harg3 arg4 harg4 arg5 harg5 arg6 harg6 arg7 harg7 arg8 harg8 h0 h1 h2 x0 x1 x2 x3 xs0 = k0_pay4 (F := Ideal) x2 x3 (k0_pay3 (F := Ideal) x0 x1 xs0) := by
  unfold out0_C_4 kernelRun0_C
  frame_out
  try rw [View.read_rep, View.read_rep]
  try rfl

end Cert.DenseDownIdeal.Ffn
end
-- ==== Proof.DenseDown.Value.lean ====
module

public import proofs.«01_k».proof.Proof.DenseDown.Body

/-! The array the dense layer's second products leave. -/

@[expose] public section

set_option maxRecDepth 16384

noncomputable section

namespace Cert.DenseDownIdeal.Ffn

open Cert.DenseDownIdeal Cert.DenseDownIdeal.Gen Cert.DenseDownIdeal.Value
open Idealize.ShloMosaic Idealize.ShloMosaic.TcCoe Idealize.SL.Sem

/-! ## The weights -/

/-- The weights, continued by zero rows. -/
def wide (w : S1x11008x4096.Idx → EReal) (K : Fin 11264) (C : Fin 4096) : EReal :=
  if h : K.val < 11008 then w (ix3 0 ⟨K.val, h⟩ C) else 0

theorem padded_at (w : S1x11008x4096.Idx → EReal) (K : Fin 11264) (C : Fin 4096) :
    pad (α := EReal) S11264x4096 ![0, 0] ![256, 0] ![0, 0] (truncf (F := Ideal) .bf16 (shapeCast S11008x4096 (w : FVec Ideal S1x11008x4096 .f32) shapeCasts_S1x11008x4096_S11008x4096) bitsLt_bf16_f32)
      (sitofp (F := Ideal) .bf16 (constantI S_ 32 0#32)) pads_S11008x4096_S11264x4096_02560_000 h_S_ (ix2 K C) = wide w K C := by
  unfold wide
  by_cases h : K.val < 11008
  · rw [dif_pos h, pad_apply_of_inside _ _ _ _ _ _ _ _ (ix2 (⟨K.val, h⟩ : Fin 11008) C) (fun a => by fin_cases a <;> simp)]
    pointwise
  · rw [dif_neg h, pad_apply_of_not_inside _ _ _ _ _ _ _ _ (0 : Fin 2) (fun ha => h (by simpa using ha.2.2))]
    exact sitofp_zero (φ := .bf16)

theorem broadcast_at (v : S11264x4096.Idx → EReal) (K : Fin 11264) (C : Fin 4096) :
    broadcastInDim S1x11264x4096 ![1, 2] bcast_S11264x4096_S1x11264x4096_1_2 v (ix3 0 K C) = v (ix2 K C) := by
  pointwise

variable (m : (ℓ : Loc nD τ sig) → Buf (Elt Ideal) ℓ) (c : Dev nD)

theorem entry (K : Fin 11264) (C : Fin 4096) : V m c main_v3 (ix3 0 K C) = wide (m ((c : Thread nD τ).loc main_arg1)) K C := by
  entry_read
  exact (broadcast_at _ K C).trans (padded_at _ K C)

/-- One product of a row with a column of the weights; past the last lane, zero. -/
def term (a : S16896x11264.Idx → EReal) (w : S1x11008x4096.Idx → EReal) (R : Fin 16896) (C : Fin 4096) (n : Nat) : EReal :=
  if h : n < 11264 then a (ix2 R ⟨n, h⟩) * wide w ⟨n, h⟩ C else 0

/-- The array: the residual and its gate's part of the products. -/
def final (a : S16896x11264.Idx → EReal) (w : S1x11008x4096.Idx → EReal) (x : S16896x4096.Idx → EReal) (g : S528x4096.Idx → EReal) (y : S16896x4096.Idx) : EReal :=
  x y + g (ix2 ⟨(y 0).val / 32, by have : (y 0).val < 16896 := (y 0).isLt; omega⟩ (y 1)) * ∑ n ∈ Finset.range 11264, term a w (y 0) (y 1) n

/-! ## The blocks -/

theorem index_eqs : ∀ t : Fin cfg0.N,
    (cfg0.win 0).index t = ![(grid0.coords t 1).val, (grid0.coords t 2).val]
    ∧ (cfg0.win 1).index t = ![0, (grid0.coords t 2).val, (grid0.coords t 0).val]
    ∧ (cfg0.win 2).index t = ![(grid0.coords t 1).val, (grid0.coords t 0).val]
    ∧ (cfg0.win 3).index t = ![(grid0.coords t 1).val, (grid0.coords t 0).val]
    ∧ (cfg0.win 4).index t = ![(grid0.coords t 1).val, (grid0.coords t 0).val] := by decide +kernel

theorem coord0 (t : Fin cfg0.N) : (grid0.coords t 0).val = t.val / 121 % 4 :=
  Pipeline.Grid.coords_val (G := grid0) t 0 (S := 121) (B := 4) (by decide) rfl

theorem coord1 (t : Fin cfg0.N) : (grid0.coords t 1).val = t.val / 11 % 11 :=
  Pipeline.Grid.coords_val (G := grid0) t 1 (S := 11) (B := 11) (by decide) rfl

theorem coord2 (t : Fin cfg0.N) : (grid0.coords t 2).val = t.val % 11 :=
  (Pipeline.Grid.coords_val (G := grid0) t 2 (S := 1) (B := 11) (by decide) rfl).trans (by rw [Nat.div_one])

theorem nblk_0 : (cfg0.win (4 : Fin 5)).nblk (0 : Fin 2) = 11 := by
  show (16896 + 1536 - 1) / 1536 = 11
  rfl

theorem nblk_1 : (cfg0.win (4 : Fin 5)).nblk (1 : Fin 2) = 4 := by
  show (4096 + 1024 - 1) / 1024 = 4
  rfl

theorem covers : (cfg0.win (4 : Fin 5)).Covers :=
  (cfg0.win (4 : Fin 5)).covers_of_indexMap_surj rfl (fun a => by fin_cases a <;> decide) fun β =>
    have h0 : (β (0 : Fin 2)).val < 11 := lt_of_lt_of_eq (β (0 : Fin 2)).isLt nblk_0
    have h1 : (β (1 : Fin 2)).val < 4 := lt_of_lt_of_eq (β (1 : Fin 2)).isLt nblk_1
    ⟨fun | ⟨0, _⟩ => ⟨(β (1 : Fin 2)).val, h1⟩ | ⟨1, _⟩ => ⟨(β (0 : Fin 2)).val, h0⟩ | ⟨2, _⟩ => ⟨10, (by decide : 10 < 11)⟩, fun a => by
      fin_cases a
      · show (BitVec.ofNat 32 (β (0 : Fin 2)).val).toNat = (β (0 : Fin 2)).val
        rw [BitVec.toNat_ofNat]; omega
      · show (BitVec.ofNat 32 (β (1 : Fin 2)).val).toNat = (β (1 : Fin 2)).val
        rw [BitVec.toNat_ofNat]; omega⟩

/-- A point's lanes, summed: the stretch of the products from its first lane. -/
theorem lanes (t : Fin cfg0.N) (r : Fin 1536) (e : Fin 1024) (R : Fin 16896) (C : Fin 4096)
    (hR : R.val = (grid0.coords t 1).val * 1536 + r.val) (hC : C.val = (grid0.coords t 0).val * 1024 + e.val) :
    ∑ k : Fin 1024, HMul.hMul (α := EReal) (β := EReal) (γ := EReal) (iblk m c 0 t (ix2 r k)) (iblk m c 1 t (ix3 0 k e))
      = ∑ n ∈ Finset.range 1024, term (m ((c : Thread nD τ).loc main_arg0)) (m ((c : Thread nD τ).loc main_arg1)) R C ((grid0.coords t 2).val * 1024 + n) := by
  have h2 : (grid0.coords t 2).val < 11 := (grid0.coords t 2).isLt
  rw [Finset.sum_range]
  refine Finset.sum_congr rfl fun k _ => ?_
  have hk : (grid0.coords t 2).val * 1024 + k.val < 11264 := by omega
  refine Eq.trans ?_ (dif_pos hk).symm
  have ha : iblk m c 0 t (ix2 r k) = m ((c : Thread nD τ).loc main_arg0) (ix2 R ⟨(grid0.coords t 2).val * 1024 + k.val, hk⟩) := by
    blk_ext [iblk, V, index_eqs t]
  have hw : iblk m c 1 t (ix3 0 k e) = wide (m ((c : Thread nD τ).loc main_arg1)) ⟨(grid0.coords t 2).val * 1024 + k.val, hk⟩ C := by
    refine Eq.trans ?_ (entry m c _ C)
    blk_simp [iblk, index_eqs t]
    blk_ext [index_eqs t]
  exact congrArg₂ (· * ·) ha hw

/-! ## The sums -/

/-- The running sums after a point. -/
def acc (t : Fin cfg0.N) : S1536x1024.Idx → EReal := (outsAt0 m c t.val t.isLt).2

theorem acc_first (t : Fin cfg0.N) (h : t.val % 11 = 0) :
    acc m c t = k0_pay2 (F := Ideal) (iblk m c 0 t) (iblk m c 1 t) := by
  unfold acc
  rw [outsAt0_A m c t h (by omega) (by omega)]
  dsimp only
  rw [sum_A]

theorem acc_next (t p : Fin cfg0.N) (h : ¬ t.val % 11 = 0) (hp : p.val = t.val - 1) :
    acc m c t = k0_pay3 (F := Ideal) (iblk m c 0 t) (iblk m c 1 t) (acc m c p) := by
  obtain rfl : p = ⟨t.val - 1, Nat.lt_of_le_of_lt (Nat.sub_le _ _) t.isLt⟩ := Fin.ext hp
  unfold acc
  by_cases h' : t.val % 11 = 10
  · rw [outsAt0_C m c t h (by omega) h']
    dsimp only
    rw [sum_C]
  · rw [outsAt0_B m c t h (by omega) h']
    dsimp only
    rw [sum_B]

theorem left (t : Fin cfg0.N) (h : t.val % 11 = 10) :
    (outsAt0 m c t.val t.isLt).1 = k0_pay4 (F := Ideal) (iblk m c 2 t) (iblk m c 3 t) (acc m c t) := by
  rw [acc_next m c t ⟨t.val - 1, Nat.lt_of_le_of_lt (Nat.sub_le _ _) t.isLt⟩ (by omega) rfl, outsAt0_C m c t (by omega) (by omega) h]
  dsimp only
  rw [out_C, acc]

/-- After a point, the running sums are the products of every lane up to the point's last. -/
theorem sums (r : Fin 1536) (e : Fin 1024) (R : Fin 16896) (C : Fin 4096) (k : Nat) : ∀ t : Fin cfg0.N,
    R.val = (grid0.coords t 1).val * 1536 + r.val → C.val = (grid0.coords t 0).val * 1024 + e.val → t.val % 11 = k →
      Eq (α := EReal) (acc m c t (ix2 r e))
        (∑ n ∈ Finset.range ((k + 1) * 1024), term (m ((c : Thread nD τ).loc main_arg0)) (m ((c : Thread nD τ).loc main_arg1)) R C n) := by
  induction k with
  | zero =>
    intro t hR hC hk
    rw [acc_first m c t hk, pay2_at, lanes m c t r e R C hR hC, coord2, hk]
    refine Finset.sum_congr rfl fun n _ => ?_
    rw [Nat.zero_mul, Nat.zero_add]
  | succ k ih =>
    intro t hR hC hk
    have hN : t.val < 484 := lt_of_lt_of_eq t.isLt N_0
    have hp : t.val - 1 < cfg0.N := lt_of_le_of_lt (Nat.sub_le _ _) t.isLt
    have h1 := coord1 t
    have h0 := coord0 t
    have p1 : (grid0.coords ⟨t.val - 1, hp⟩ 1).val = (t.val - 1) / 11 % 11 := coord1 ⟨t.val - 1, hp⟩
    have p0 : (grid0.coords ⟨t.val - 1, hp⟩ 0).val = (t.val - 1) / 121 % 4 := coord0 ⟨t.val - 1, hp⟩
    have hprev := ih ⟨t.val - 1, hp⟩ (by rw [p1, hR, h1]; omega) (by rw [p0, hC, h0]; omega)
      (by show (t.val - 1) % 11 = k; omega)
    rw [acc_next m c t ⟨t.val - 1, hp⟩ (by omega) rfl, pay3_at, hprev, lanes m c t r e R C hR hC, coord2, hk,
      show (k + 1 + 1) * 1024 = (k + 1) * 1024 + 1024 by omega, Finset.sum_range_add]

set_option maxHeartbeats 1000000 in
theorem arrAt_eq : (dats m 0 c).arrAt (4 : Fin 5) cfg0.N
    = final (m ((c : Thread nD τ).loc main_arg0)) (m ((c : Thread nD τ).loc main_arg1)) (m ((c : Thread nD τ).loc main_arg2)) (m ((c : Thread nD τ).loc main_arg3)) := by
  refine (dats m 0 c).arrAt_eq_of_covers (4 : Fin 5) _ covers fun t hf y => ?_
  have hk : t.val % 11 = 10 := (flush0_4 t).1 hf
  rw [after0_4, left m c t hk]
  obtain ⟨r, e, rfl⟩ : ∃ (r : Fin 1536) (e : Fin 1024), y = ix2 r e := ⟨y 0, y 1, eq_ix2 y⟩
  obtain ⟨I, hI⟩ : ∃ I : S16896x4096.Idx, I = ((cfg0.win (4 : Fin 5)).blk t).view.emb (ix2 r e) := ⟨_, rfl⟩
  have e0 : (I 0).val = (grid0.coords t 1).val * 1536 + r.val := by
    rw [hI]
    blk_simp [index_eqs t]
  have e1 : (I 1).val = (grid0.coords t 0).val * 1024 + e.val := by
    rw [hI]
    blk_simp [index_eqs t]
  rw [← hI]
  clear hI
  obtain ⟨R, C, rfl⟩ : ∃ (R : Fin 16896) (C : Fin 4096), I = ix2 R C := ⟨I 0, I 1, eq_ix2 I⟩
  have eR : R.val = (grid0.coords t 1).val * 1536 + r.val := e0
  have eC : C.val = (grid0.coords t 0).val * 1024 + e.val := e1
  blk_simp
  rw [pay4_at, sums m c r e R C 10 t eR eC hk]
  have hx : iblk m c 2 t (ix2 r e) = m ((c : Thread nD τ).loc main_arg2) (ix2 R C) := by
    blk_ext [iblk, V, index_eqs t]
  have hd : (grid0.coords t 1).val * 48 + r.val / 32 = R.val / 32 := by omega
  have hg : iblk m c 3 t (ix2 ⟨r.val / 32, by omega⟩ e) = m ((c : Thread nD τ).loc main_arg3) (ix2 ⟨R.val / 32, by omega⟩ C) := by
    blk_ext [iblk, V, index_eqs t]
  exact congrArg₂ (· + ·) hx (congrArg (· * _) hg)

end Cert.DenseDownIdeal.Ffn
end
-- ==== Proof.DenseDown.Ref.lean ====
module

public import proofs.«01_k».proof.Proof.Gen.DenseDownRefIdeal.Run
public import Idealize.ShloMosaic.Lib.Pipeline.ValueKit
public import Idealize.ShloMosaic.Lib.Pointwise
public import Idealize.ShloMosaic.Lib.IdealHost
public import Idealize.ShloMosaic.Lib.KernelVsHost

/-! The reference of the dense layer's second products at an element. -/

@[expose] public section

set_option maxRecDepth 16384

noncomputable section

namespace Cert.DenseDownRefIdeal.Ffn

open Cert.DenseDownRefIdeal Cert.DenseDownRefIdeal.Gen Cert.DenseDownRefIdeal.Value Idealize.ShloMosaic Idealize.ShloMosaic.TcCoe Idealize.SL.Sem

def product (a : FVec Ideal S16896x11264 .bf16) (w : FVec Ideal S1x11008x4096 .f32) : FVec Ideal S16896x4096 .f32 :=
  Host.dotGeneral dot_S16896x11008_S11008x4096_S16896x4096_1_0_0_1_n_n none (extf .f32 (extractStridedSlice S16896x11008 ![0, 0] a slices_S16896x11264_S16896x11008_0_0) bitsLt_bf16_f32) (shapeCast _ w shapeCasts_S1x11008x4096_S11008x4096)

def gate (g : FVec Ideal S528x4096 .f32) (y : FVec Ideal S16896x4096 .f32) : FVec Ideal S16896x4096 .f32 :=
  shapeCast _ (mulf (broadcastInDim S528x32x4096 ![0, 1, 2] bcast_S528x1x4096_S528x32x4096_0_1_2 (broadcastInDim S528x1x4096 ![0, 2] bcast_S528x4096_S528x1x4096_0_2 g)) (shapeCast _ y shapeCasts_S16896x4096_S528x32x4096)) shapeCasts_S528x32x4096_S16896x4096

/-- The reference's result. -/
def result (a : FVec Ideal S16896x11264 .bf16) (w : FVec Ideal S1x11008x4096 .f32) (x : FVec Ideal S16896x4096 .f32) (g : FVec Ideal S528x4096 .f32) : FVec Ideal S16896x4096 .f32 :=
  addf x (gate g (product a w))

theorem product_at (a : FVec Ideal S16896x11264 .bf16) (w : FVec Ideal S1x11008x4096 .f32) (R : Fin 16896) (C : Fin 4096) :
    product a w (ix2 R C) = ∑ k : Fin 11008, a (ix2 R ⟨k.val, by omega⟩) * w (ix3 0 k C) := by
  pointwise [product]

theorem gate_at (g : FVec Ideal S528x4096 .f32) (y : FVec Ideal S16896x4096 .f32) (R : Fin 16896) (C : Fin 4096) :
    gate g y (ix2 R C) = g (ix2 ⟨R.val / 32, by omega⟩ C) * y (ix2 R C) := by
  pointwise [gate]

/-- The reference's result at row R, column C. -/
theorem result_at (a : FVec Ideal S16896x11264 .bf16) (w : FVec Ideal S1x11008x4096 .f32) (x : FVec Ideal S16896x4096 .f32) (g : FVec Ideal S528x4096 .f32) (R : Fin 16896) (C : Fin 4096) :
    result a w x g (ix2 R C) = x (ix2 R C) + g (ix2 ⟨R.val / 32, by omega⟩ C) * ∑ k : Fin 11008, a (ix2 R ⟨k.val, by omega⟩) * w (ix3 0 k C) := by
  rw [← product_at, ← gate_at]
  rfl

end Cert.DenseDownRefIdeal.Ffn
end
-- ==== Proof.DenseDown.Claims.lean ====
module

public import proofs.«01_k».proof.Defs
public import proofs.«01_k».proof.Proof.Gen.DenseDown.Frame
public import proofs.«01_k».proof.Proof.DenseDown.Value
public import proofs.«01_k».proof.Proof.DenseDown.Ref
public import Idealize.ShloMosaic.Lib.Claim
public import Idealize.ShloMosaic.Lib.Quiescent

/-! The claims about the dense layer's second products: the reference's frame, and the kernel's array is the reference's. -/

@[expose] public section

set_option maxRecDepth 16384

noncomputable section

namespace Cert.DenseDownIdeal.Ffn

open Cert.DenseDownIdeal Cert.DenseDownIdeal.Gen
open Idealize.ShloMosaic Idealize.ShloMosaic.TcCoe Idealize.SL.Sem

theorem frame_bits : Cert.quiescent_DenseDown := fun m g _ => Cert.DenseDown.Gen.frame m g

theorem frame_ideal : Cert.quiescent_DenseDownIdeal := fun m g _ => Cert.DenseDownIdeal.Gen.frame m g

theorem frame_ref : Cert.quiescent_DenseDownRefIdeal := by
  intro m g _
  hlo_run
  · exact fun _ => ⟨trivial, trivial, trivial, trivial⟩
  exact sem_eq_zero_of_no_sems (sig := Cert.DenseDownRefIdeal.sig) (by decide) _

/-- The padding rows of the weights are zeros, so the lanes past the layer's own add nothing. -/
theorem sum_eq (a : S16896x11264.Idx → EReal) (w : S1x11008x4096.Idx → EReal) (R : Fin 16896) (C : Fin 4096) :
    ∑ n ∈ Finset.range 11264, term a w R C n = ∑ k : Fin 11008, a (ix2 R ⟨k.val, by omega⟩) * w (ix3 0 k C) := by
  refine (congrArg (fun N => ∑ n ∈ Finset.range N, term a w R C n) (show 11264 = 11008 + 256 from rfl)).trans ?_
  rw [Finset.sum_range_add,
    Finset.sum_eq_zero (s := Finset.range 256) (f := fun x => term a w R C (11008 + x)) fun n hn => ?_, add_zero, Finset.sum_range]
  · refine Finset.sum_congr rfl fun k _ => ?_
    have hk : k.val < 11264 := by omega
    refine (dif_pos hk).trans ?_
    exact congrArg (_ * ·) (dif_pos k.isLt)
  · have hn' : n < 256 := Finset.mem_range.1 hn
    have hk : 11008 + n < 11264 := by omega
    refine (dif_pos hk).trans ?_
    rw [show wide w ⟨11008 + n, hk⟩ C = 0 from dif_neg (by show ¬ 11008 + n < 11008; omega), mul_zero]

/-- The kernel's array is the reference's result. -/
theorem final_eq (a : S16896x11264.Idx → EReal) (w : S1x11008x4096.Idx → EReal) (x : S16896x4096.Idx → EReal) (g : S528x4096.Idx → EReal) :
    final a w x g = Cert.DenseDownRefIdeal.Ffn.result a w x g := by
  funext I
  obtain ⟨R, C, rfl⟩ : ∃ (R : Fin 16896) (C : Fin 4096), I = ix2 R C := ⟨I 0, I 1, eq_ix2 I⟩
  refine Eq.trans ?_ (Cert.DenseDownRefIdeal.Ffn.result_at a w x g R C).symm
  show x (ix2 R C) + g (ix2 ⟨R.val / 32, _⟩ C) * ∑ n ∈ Finset.range 11264, term a w R C n = _
  rw [sum_eq]

theorem algebraic : Cert.algebraic_DenseDownIdeal_DenseDownRefIdeal := by
  intro m g m' g' _ hagree
  refine ⟨fun c => final (m ((c : Thread nD τ).loc main_arg0)) (m ((c : Thread nD τ).loc main_arg1)) (m ((c : Thread nD τ).loc main_arg2))
    (m ((c : Thread nD τ).loc main_arg3)), ?_, ?_⟩
  · exact (θ_run _ _ _).mono (fun r h c => ⟨(h c).1.trans (arrAt_eq m c), (h c).2⟩) (Cert.DenseDownIdeal.Value.run_blocks m g)
  · refine (θ_run _ _ _).mono (fun r h c => ?_) (Cert.DenseDownRefIdeal.Value.run (F := Ideal) m' g')
    obtain ⟨h0, h1, h2, h3⟩ := hagree c
    refine ⟨(h c).1.trans ?_, (h c).2⟩
    refine Eq.trans (b := Cert.DenseDownRefIdeal.Ffn.result (m' (c.tc.loc Cert.DenseDownRefIdeal.main_arg0)) (m' (c.tc.loc Cert.DenseDownRefIdeal.main_arg1))
      (m' (c.tc.loc Cert.DenseDownRefIdeal.main_arg2)) (m' (c.tc.loc Cert.DenseDownRefIdeal.main_arg3))) rfl ?_
    rw [h0, h1, h2, h3]
    exact (final_eq _ _ _ _).symm

end Cert.DenseDownIdeal.Ffn
end
-- ==== Proof.ProjectAB.States.lean ====
module

public import proofs.«01_k».proof.Proof.Gen.ProjectABIdeal.Frame
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The parts of the even layer's projected rows that the kernel's host code makes into states. -/

@[expose] public section

set_option maxRecDepth 16384

noncomputable section

namespace Cert.ProjectABIdeal.Projection

open Cert.ProjectABIdeal Cert.ProjectABIdeal.Gen Idealize.ShloMosaic Idealize.ShloMosaic.TcCoe Idealize.SL.Sem

def keysA (z : FVec Ideal S16896x9216 .f32) : FVec Ideal S1x8x512x16x128 .f32 :=
  broadcastInDim S1x8x512x16x128 ![1, 2, 3, 4] bcast_S8x512x16x128_S1x8x512x16x128_1_2_3_4 (shapeCast S8x512x16x128 (extractStridedSlice S8x512x2048 ![0, 1536, 0] (extractStridedSlice S8x2048x2048 ![0, 0, 2048] (shapeCast S8x2048x9216 (extractStridedSlice S16384x9216 ![0, 0] z slices_S16896x9216_S16384x9216_0_0) shapeCasts_S16384x9216_S8x2048x9216) slices_S8x2048x9216_S8x2048x2048_0_0_2048) slices_S8x2048x2048_S8x512x2048_0_1536_0) shapeCasts_S8x512x2048_S8x512x16x128)

def valuesA (z : FVec Ideal S16896x9216 .f32) : FVec Ideal S1x8x512x16x128 .f32 :=
  broadcastInDim S1x8x512x16x128 ![1, 2, 3, 4] bcast_S8x512x16x128_S1x8x512x16x128_1_2_3_4 (shapeCast S8x512x16x128 (extractStridedSlice S8x512x2048 ![0, 1536, 0] (extractStridedSlice S8x2048x2048 ![0, 0, 4096] (shapeCast S8x2048x9216 (extractStridedSlice S16384x9216 ![0, 0] z slices_S16896x9216_S16384x9216_0_0) shapeCasts_S16384x9216_S8x2048x9216) slices_S8x2048x9216_S8x2048x2048_0_0_4096) slices_S8x2048x2048_S8x512x2048_0_1536_0) shapeCasts_S8x512x2048_S8x512x16x128)

def fresh_rolledKeysA (z : FVec Ideal S16896x9216 .f32) : FVec Ideal S16x32x16x128 .f32 :=
  shapeCast S16x32x16x128 (extractStridedSlice S16x32x2048 ![0, 0, 2048] (shapeCast S16x32x9216 (extractStridedSlice S512x9216 ![16384, 0] z slices_S16896x9216_S512x9216_16384_0) shapeCasts_S512x9216_S16x32x9216) slices_S16x32x9216_S16x32x2048_0_0_2048) shapeCasts_S16x32x2048_S16x32x16x128

def rolledKeysA (z : FVec Ideal S16896x9216 .f32) (cache : FVec Ideal S1x16x512x16x128 .f32) : FVec Ideal S1x16x512x16x128 .f32 :=
  broadcastInDim S1x16x512x16x128 ![1, 2, 3, 4] bcast_S16x512x16x128_S1x16x512x16x128_1_2_3_4 (extractStridedSlice S16x512x16x128 ![0, 32, 0, 0] (concatenate S16x544x16x128 1 [⟨S16x512x16x128, shapeCast S16x512x16x128 cache shapeCasts_S1x16x512x16x128_S16x512x16x128⟩, ⟨S16x32x16x128, fresh_rolledKeysA z⟩] concatenates_S16x512x16x128_S16x32x16x128_S16x544x16x128_d1) slices_S16x544x16x128_S16x512x16x128_0_32_0_0)

def fresh_rolledValuesA (z : FVec Ideal S16896x9216 .f32) : FVec Ideal S16x32x16x128 .f32 :=
  shapeCast S16x32x16x128 (extractStridedSlice S16x32x2048 ![0, 0, 4096] (shapeCast S16x32x9216 (extractStridedSlice S512x9216 ![16384, 0] z slices_S16896x9216_S512x9216_16384_0) shapeCasts_S512x9216_S16x32x9216) slices_S16x32x9216_S16x32x2048_0_0_4096) shapeCasts_S16x32x2048_S16x32x16x128

def rolledValuesA (z : FVec Ideal S16896x9216 .f32) (cache : FVec Ideal S1x16x512x16x128 .f32) : FVec Ideal S1x16x512x16x128 .f32 :=
  broadcastInDim S1x16x512x16x128 ![1, 2, 3, 4] bcast_S16x512x16x128_S1x16x512x16x128_1_2_3_4 (extractStridedSlice S16x512x16x128 ![0, 32, 0, 0] (concatenate S16x544x16x128 1 [⟨S16x512x16x128, shapeCast S16x512x16x128 cache shapeCasts_S1x16x512x16x128_S16x512x16x128⟩, ⟨S16x32x16x128, fresh_rolledValuesA z⟩] concatenates_S16x512x16x128_S16x32x16x128_S16x544x16x128_d1) slices_S16x544x16x128_S16x512x16x128_0_32_0_0)

def keysB (z : FVec Ideal S16896x9216 .f32) : FVec Ideal S1x8x128x4x128 .f32 :=
  broadcastInDim S1x8x128x4x128 ![1, 2, 3, 4] bcast_S8x128x4x128_S1x8x128x4x128_1_2_3_4 (shapeCast S8x128x4x128 (extractStridedSlice S8x128x512 ![0, 1920, 0] (extractStridedSlice S8x2048x512 ![0, 0, 8192] (shapeCast S8x2048x9216 (extractStridedSlice S16384x9216 ![0, 0] z slices_S16896x9216_S16384x9216_0_0) shapeCasts_S16384x9216_S8x2048x9216) slices_S8x2048x9216_S8x2048x512_0_0_8192) slices_S8x2048x512_S8x128x512_0_1920_0) shapeCasts_S8x128x512_S8x128x4x128)

def valuesB (z : FVec Ideal S16896x9216 .f32) : FVec Ideal S1x8x128x4x128 .f32 :=
  broadcastInDim S1x8x128x4x128 ![1, 2, 3, 4] bcast_S8x128x4x128_S1x8x128x4x128_1_2_3_4 (shapeCast S8x128x4x128 (extractStridedSlice S8x128x512 ![0, 1920, 0] (extractStridedSlice S8x2048x512 ![0, 0, 8704] (shapeCast S8x2048x9216 (extractStridedSlice S16384x9216 ![0, 0] z slices_S16896x9216_S16384x9216_0_0) shapeCasts_S16384x9216_S8x2048x9216) slices_S8x2048x9216_S8x2048x512_0_0_8704) slices_S8x2048x512_S8x128x512_0_1920_0) shapeCasts_S8x128x512_S8x128x4x128)

def fresh_rolledKeysB (z : FVec Ideal S16896x9216 .f32) : FVec Ideal S16x32x4x128 .f32 :=
  shapeCast S16x32x4x128 (extractStridedSlice S16x32x512 ![0, 0, 8192] (shapeCast S16x32x9216 (extractStridedSlice S512x9216 ![16384, 0] z slices_S16896x9216_S512x9216_16384_0) shapeCasts_S512x9216_S16x32x9216) slices_S16x32x9216_S16x32x512_0_0_8192) shapeCasts_S16x32x512_S16x32x4x128

def rolledKeysB (z : FVec Ideal S16896x9216 .f32) (cache : FVec Ideal S1x16x128x4x128 .f32) : FVec Ideal S1x16x128x4x128 .f32 :=
  broadcastInDim S1x16x128x4x128 ![1, 2, 3, 4] bcast_S16x128x4x128_S1x16x128x4x128_1_2_3_4 (extractStridedSlice S16x128x4x128 ![0, 32, 0, 0] (concatenate S16x160x4x128 1 [⟨S16x128x4x128, shapeCast S16x128x4x128 cache shapeCasts_S1x16x128x4x128_S16x128x4x128⟩, ⟨S16x32x4x128, fresh_rolledKeysB z⟩] concatenates_S16x128x4x128_S16x32x4x128_S16x160x4x128_d1) slices_S16x160x4x128_S16x128x4x128_0_32_0_0)

def fresh_rolledValuesB (z : FVec Ideal S16896x9216 .f32) : FVec Ideal S16x32x4x128 .f32 :=
  shapeCast S16x32x4x128 (extractStridedSlice S16x32x512 ![0, 0, 8704] (shapeCast S16x32x9216 (extractStridedSlice S512x9216 ![16384, 0] z slices_S16896x9216_S512x9216_16384_0) shapeCasts_S512x9216_S16x32x9216) slices_S16x32x9216_S16x32x512_0_0_8704) shapeCasts_S16x32x512_S16x32x4x128

def rolledValuesB (z : FVec Ideal S16896x9216 .f32) (cache : FVec Ideal S1x16x128x4x128 .f32) : FVec Ideal S1x16x128x4x128 .f32 :=
  broadcastInDim S1x16x128x4x128 ![1, 2, 3, 4] bcast_S16x128x4x128_S1x16x128x4x128_1_2_3_4 (extractStridedSlice S16x128x4x128 ![0, 32, 0, 0] (concatenate S16x160x4x128 1 [⟨S16x128x4x128, shapeCast S16x128x4x128 cache shapeCasts_S1x16x128x4x128_S16x128x4x128⟩, ⟨S16x32x4x128, fresh_rolledValuesB z⟩] concatenates_S16x128x4x128_S16x32x4x128_S16x160x4x128_d1) slices_S16x160x4x128_S16x128x4x128_0_32_0_0)

theorem keysA_at (z : FVec Ideal S16896x9216 .f32) (b : Fin 8) (t : Fin 512) (n : Fin 16) (d : Fin 128) :
    keysA z (ix5 0 b t n d) = z (ix2 ⟨b.val * 2048 + (1536 + t.val), by omega⟩ ⟨2048 + (n.val * 128 + d.val), by omega⟩) := by
  pointwise [keysA]

theorem valuesA_at (z : FVec Ideal S16896x9216 .f32) (b : Fin 8) (t : Fin 512) (n : Fin 16) (d : Fin 128) :
    valuesA z (ix5 0 b t n d) = z (ix2 ⟨b.val * 2048 + (1536 + t.val), by omega⟩ ⟨4096 + (n.val * 128 + d.val), by omega⟩) := by
  pointwise [valuesA]

theorem fresh_rolledKeysA_at (z : FVec Ideal S16896x9216 .f32) (b : Fin 16) (t : Fin 32) (n : Fin 16) (d : Fin 128) :
    fresh_rolledKeysA z (ix4 b t n d) = z (ix2 ⟨16384 + (b.val * 32 + t.val), by omega⟩ ⟨2048 + (n.val * 128 + d.val), by omega⟩) := by
  pointwise [fresh_rolledKeysA]

theorem fresh_rolledValuesA_at (z : FVec Ideal S16896x9216 .f32) (b : Fin 16) (t : Fin 32) (n : Fin 16) (d : Fin 128) :
    fresh_rolledValuesA z (ix4 b t n d) = z (ix2 ⟨16384 + (b.val * 32 + t.val), by omega⟩ ⟨4096 + (n.val * 128 + d.val), by omega⟩) := by
  pointwise [fresh_rolledValuesA]

theorem keysB_at (z : FVec Ideal S16896x9216 .f32) (b : Fin 8) (t : Fin 128) (n : Fin 4) (d : Fin 128) :
    keysB z (ix5 0 b t n d) = z (ix2 ⟨b.val * 2048 + (1920 + t.val), by omega⟩ ⟨8192 + (n.val * 128 + d.val), by omega⟩) := by
  pointwise [keysB]

theorem valuesB_at (z : FVec Ideal S16896x9216 .f32) (b : Fin 8) (t : Fin 128) (n : Fin 4) (d : Fin 128) :
    valuesB z (ix5 0 b t n d) = z (ix2 ⟨b.val * 2048 + (1920 + t.val), by omega⟩ ⟨8704 + (n.val * 128 + d.val), by omega⟩) := by
  pointwise [valuesB]

theorem fresh_rolledKeysB_at (z : FVec Ideal S16896x9216 .f32) (b : Fin 16) (t : Fin 32) (n : Fin 4) (d : Fin 128) :
    fresh_rolledKeysB z (ix4 b t n d) = z (ix2 ⟨16384 + (b.val * 32 + t.val), by omega⟩ ⟨8192 + (n.val * 128 + d.val), by omega⟩) := by
  pointwise [fresh_rolledKeysB]

theorem fresh_rolledValuesB_at (z : FVec Ideal S16896x9216 .f32) (b : Fin 16) (t : Fin 32) (n : Fin 4) (d : Fin 128) :
    fresh_rolledValuesB z (ix4 b t n d) = z (ix2 ⟨16384 + (b.val * 32 + t.val), by omega⟩ ⟨8704 + (n.val * 128 + d.val), by omega⟩) := by
  pointwise [fresh_rolledValuesB]

/-! ## The host operations after the pipeline -/

variable (W : Valuation τ sig (Elt Ideal))

theorem read_main_v37 : StableHlo.after [hostOps1].flatten W (Proc.devRef .tc main_v37) = keysA (W (Proc.devRef .tc main_v0)) := by
  rw [List.flatten_cons, List.flatten_nil, List.append_nil]
  after_results_simp <;> rfl

theorem read_main_v38 : StableHlo.after [hostOps1].flatten W (Proc.devRef .tc main_v38) = valuesA (W (Proc.devRef .tc main_v0)) := by
  rw [List.flatten_cons, List.flatten_nil, List.append_nil]
  after_results_simp <;> rfl

theorem read_main_v39 : StableHlo.after [hostOps1].flatten W (Proc.devRef .tc main_v39) = rolledKeysA (W (Proc.devRef .tc main_v0)) (W (Proc.devRef .tc main_arg2)) := by
  rw [List.flatten_cons, List.flatten_nil, List.append_nil]
  after_results_simp <;> rfl

theorem read_main_v40 : StableHlo.after [hostOps1].flatten W (Proc.devRef .tc main_v40) = rolledValuesA (W (Proc.devRef .tc main_v0)) (W (Proc.devRef .tc main_arg3)) := by
  rw [List.flatten_cons, List.flatten_nil, List.append_nil]
  after_results_simp <;> rfl

theorem read_main_v41 : StableHlo.after [hostOps1].flatten W (Proc.devRef .tc main_v41) = keysB (W (Proc.devRef .tc main_v0)) := by
  rw [List.flatten_cons, List.flatten_nil, List.append_nil]
  after_results_simp <;> rfl

theorem read_main_v42 : StableHlo.after [hostOps1].flatten W (Proc.devRef .tc main_v42) = valuesB (W (Proc.devRef .tc main_v0)) := by
  rw [List.flatten_cons, List.flatten_nil, List.append_nil]
  after_results_simp <;> rfl

theorem read_main_v43 : StableHlo.after [hostOps1].flatten W (Proc.devRef .tc main_v43) = rolledKeysB (W (Proc.devRef .tc main_v0)) (W (Proc.devRef .tc main_arg4)) := by
  rw [List.flatten_cons, List.flatten_nil, List.append_nil]
  after_results_simp <;> rfl

theorem read_main_v44 : StableHlo.after [hostOps1].flatten W (Proc.devRef .tc main_v44) = rolledValuesB (W (Proc.devRef .tc main_v0)) (W (Proc.devRef .tc main_arg5)) := by
  rw [List.flatten_cons, List.flatten_nil, List.append_nil]
  after_results_simp <;> rfl

end Cert.ProjectABIdeal.Projection
end
-- ==== Proof.ProjectAB.Value.lean ====
module

public import proofs.«01_k».proof.Proof.ProjectAB.States

/-! The even layer's projection: what the body computes at a point, the array the pipeline leaves, and what the host operations
   after it read. -/

@[expose] public section

set_option maxRecDepth 16384

noncomputable section

namespace Cert.ProjectABIdeal.Projection

open Cert.ProjectABIdeal Cert.ProjectABIdeal.Gen Idealize.ShloMosaic Idealize.ShloMosaic.TcCoe Idealize.SL.Sem

theorem pay1_at (a : S512x4096.Idx → EReal) (w : S1x4096x1024.Idx → EReal) (r : Fin 512) (e : Fin 1024) :
    k0_pay1 (F := Ideal) a w (ix2 r e) = ∑ k : Fin 4096, a (ix2 r k) * w (ix3 0 k e) := by
  unfold k0_pay1
  pointwise

theorem out_at (x0 : Vec Ideal S512x4096 .bf16) (x1 : Vec Ideal S1x4096x1024 .f32) : out0_2 (F := Ideal) x0 x1 = k0_pay1 (F := Ideal) x0 x1 := by
  unfold out0_2
  frame_out

/-- The projected rows. -/
def rows (a : S16896x4096.Idx → EReal) (w : S1x4096x9216.Idx → EReal) (y : S16896x9216.Idx) : EReal :=
  ∑ k : Fin 4096, a (ix2 (y 0) k) * w (ix3 0 k (y 1))

theorem index_eqs : ∀ t : Fin cfg0.N,
    (cfg0.win 0).index t = ![(grid0.coords t 1).val, 0]
    ∧ (cfg0.win 1).index t = ![0, 0, (grid0.coords t 0).val]
    ∧ (cfg0.win 2).index t = ![(grid0.coords t 1).val, (grid0.coords t 0).val] := by decide +kernel

theorem nblk_0 : (cfg0.win (2 : Fin 3)).nblk (0 : Fin 2) = 33 := by
  show (16896 + 512 - 1) / 512 = 33
  rfl

theorem nblk_1 : (cfg0.win (2 : Fin 3)).nblk (1 : Fin 2) = 9 := by
  show (9216 + 1024 - 1) / 1024 = 9
  rfl

theorem covers : (cfg0.win (2 : Fin 3)).Covers :=
  (cfg0.win (2 : Fin 3)).covers_of_indexMap_surj rfl (fun a => by fin_cases a <;> decide) fun β =>
    have h0 : (β (0 : Fin 2)).val < 33 := lt_of_lt_of_eq (β (0 : Fin 2)).isLt nblk_0
    have h1 : (β (1 : Fin 2)).val < 9 := lt_of_lt_of_eq (β (1 : Fin 2)).isLt nblk_1
    ⟨fun | ⟨0, _⟩ => ⟨(β (1 : Fin 2)).val, h1⟩ | ⟨1, _⟩ => ⟨(β (0 : Fin 2)).val, h0⟩, fun a => by
      fin_cases a
      · show (BitVec.ofNat 32 (β (0 : Fin 2)).val).toNat = (β (0 : Fin 2)).val
        rw [BitVec.toNat_ofNat]; omega
      · show (BitVec.ofNat 32 (β (1 : Fin 2)).val).toNat = (β (1 : Fin 2)).val
        rw [BitVec.toNat_ofNat]; omega⟩

variable (m : (ℓ : Loc nD τ sig) → Buf (Elt Ideal) ℓ) (c : Dev nD)

set_option maxHeartbeats 1000000 in
theorem arrAt_eq : (dats m 0 c).arrAt (2 : Fin 3) cfg0.N = rows (m ((c : Thread nD τ).loc main_arg0)) (m ((c : Thread nD τ).loc main_arg1)) := by
  refine (dats m 0 c).arrAt_eq_of_covers (2 : Fin 3) _ covers fun t hf y => ?_
  rw [after0_2, out_at]
  obtain ⟨r, e, rfl⟩ : ∃ (r : Fin 512) (e : Fin 1024), y = ix2 r e := ⟨y 0, y 1, eq_ix2 y⟩
  obtain ⟨I, hI⟩ : ∃ I : S16896x9216.Idx, I = ((cfg0.win (2 : Fin 3)).blk t).view.emb (ix2 r e) := ⟨_, rfl⟩
  have e0 : (I 0).val = (grid0.coords t 1).val * 512 + r.val := by
    rw [hI]
    blk_simp [index_eqs t]
  have e1 : (I 1).val = (grid0.coords t 0).val * 1024 + e.val := by
    rw [hI]
    blk_simp [index_eqs t]
  rw [← hI]
  clear hI
  obtain ⟨R, C, rfl⟩ : ∃ (R : Fin 16896) (C : Fin 9216), I = ix2 R C := ⟨I 0, I 1, eq_ix2 I⟩
  have eR : R.val = (grid0.coords t 1).val * 512 + r.val := e0
  have eC : C.val = (grid0.coords t 0).val * 1024 + e.val := e1
  blk_simp
  rw [pay1_at]
  have ha : ∀ k : Fin 4096, iblk m c 0 t (ix2 r k) = m ((c : Thread nD τ).loc main_arg0) (ix2 R k) := fun k => by
    blk_ext [iblk, V, index_eqs t]
  have hw : ∀ k : Fin 4096, iblk m c 1 t (ix3 0 k e) = m ((c : Thread nD τ).loc main_arg1) (ix3 0 k C) := fun k => by
    blk_ext [iblk, V, index_eqs t]
  exact (show Eq (α := EReal) _ _ from Finset.sum_congr rfl fun k _ => congrArg₂ (· * ·) (ha k) (hw k))

/-! ## After the host operations -/

/-- What the host operations after the pipeline start from. -/
def before : Valuation τ sig (Elt Ideal) :=
  Pipeline.withArrays (cfgs 0).spec c (V0 m c) fun w => (dats m 0 c).arrAt w (cfgs 0).N

theorem before_v0 : before m c (Proc.devRef .tc main_v0) = rows (m ((c : Thread nD τ).loc main_arg0)) (m ((c : Thread nD τ).loc main_arg1)) :=
  (Pipeline.withArrays_arr spec0 (by decide) c (V0 m c) (fun w => (dats m 0 c).arrAt w (cfgs 0).N) (2 : Fin 3)).trans (arrAt_eq m c)

theorem before_arg2 : before m c (Proc.devRef .tc main_arg2) = m ((c : Thread nD τ).loc main_arg2) :=
  (Pipeline.withArrays_of_ne spec0 c (V0 m c) (fun w => (dats m 0 c).arrAt w (cfgs 0).N) main_arg2 (by exact (by decide : ∀ w, Pipeline.arrRef spec0 w ≠ main_arg2))).trans (V_main_arg2 m c)

theorem before_arg3 : before m c (Proc.devRef .tc main_arg3) = m ((c : Thread nD τ).loc main_arg3) :=
  (Pipeline.withArrays_of_ne spec0 c (V0 m c) (fun w => (dats m 0 c).arrAt w (cfgs 0).N) main_arg3 (by exact (by decide : ∀ w, Pipeline.arrRef spec0 w ≠ main_arg3))).trans (V_main_arg3 m c)

theorem before_arg4 : before m c (Proc.devRef .tc main_arg4) = m ((c : Thread nD τ).loc main_arg4) :=
  (Pipeline.withArrays_of_ne spec0 c (V0 m c) (fun w => (dats m 0 c).arrAt w (cfgs 0).N) main_arg4 (by exact (by decide : ∀ w, Pipeline.arrRef spec0 w ≠ main_arg4))).trans (V_main_arg4 m c)

theorem before_arg5 : before m c (Proc.devRef .tc main_arg5) = m ((c : Thread nD τ).loc main_arg5) :=
  (Pipeline.withArrays_of_ne spec0 c (V0 m c) (fun w => (dats m 0 c).arrAt w (cfgs 0).N) main_arg5 (by exact (by decide : ∀ w, Pipeline.arrRef spec0 w ≠ main_arg5))).trans (V_main_arg5 m c)

theorem after_main_v37 : Pipeline.afterTail₀ cfgs (dats m) 0 (V0 m) [hostOps1] c main_v37
    = keysA (rows (m ((c : Thread nD τ).loc main_arg0)) (m ((c : Thread nD τ).loc main_arg1))) :=
  (read_main_v37 (before m c)).trans (by rw [before_v0])

theorem after_main_v38 : Pipeline.afterTail₀ cfgs (dats m) 0 (V0 m) [hostOps1] c main_v38
    = valuesA (rows (m ((c : Thread nD τ).loc main_arg0)) (m ((c : Thread nD τ).loc main_arg1))) :=
  (read_main_v38 (before m c)).trans (by rw [before_v0])

theorem after_main_v39 : Pipeline.afterTail₀ cfgs (dats m) 0 (V0 m) [hostOps1] c main_v39
    = rolledKeysA (rows (m ((c : Thread nD τ).loc main_arg0)) (m ((c : Thread nD τ).loc main_arg1))) (m ((c : Thread nD τ).loc main_arg2)) :=
  (read_main_v39 (before m c)).trans (by rw [before_v0, before_arg2])

theorem after_main_v40 : Pipeline.afterTail₀ cfgs (dats m) 0 (V0 m) [hostOps1] c main_v40
    = rolledValuesA (rows (m ((c : Thread nD τ).loc main_arg0)) (m ((c : Thread nD τ).loc main_arg1))) (m ((c : Thread nD τ).loc main_arg3)) :=
  (read_main_v40 (before m c)).trans (by rw [before_v0, before_arg3])

theorem after_main_v41 : Pipeline.afterTail₀ cfgs (dats m) 0 (V0 m) [hostOps1] c main_v41
    = keysB (rows (m ((c : Thread nD τ).loc main_arg0)) (m ((c : Thread nD τ).loc main_arg1))) :=
  (read_main_v41 (before m c)).trans (by rw [before_v0])

theorem after_main_v42 : Pipeline.afterTail₀ cfgs (dats m) 0 (V0 m) [hostOps1] c main_v42
    = valuesB (rows (m ((c : Thread nD τ).loc main_arg0)) (m ((c : Thread nD τ).loc main_arg1))) :=
  (read_main_v42 (before m c)).trans (by rw [before_v0])

theorem after_main_v43 : Pipeline.afterTail₀ cfgs (dats m) 0 (V0 m) [hostOps1] c main_v43
    = rolledKeysB (rows (m ((c : Thread nD τ).loc main_arg0)) (m ((c : Thread nD τ).loc main_arg1))) (m ((c : Thread nD τ).loc main_arg4)) :=
  (read_main_v43 (before m c)).trans (by rw [before_v0, before_arg4])

theorem after_main_v44 : Pipeline.afterTail₀ cfgs (dats m) 0 (V0 m) [hostOps1] c main_v44
    = rolledValuesB (rows (m ((c : Thread nD τ).loc main_arg0)) (m ((c : Thread nD τ).loc main_arg1))) (m ((c : Thread nD τ).loc main_arg5)) :=
  (read_main_v44 (before m c)).trans (by rw [before_v0, before_arg5])

end Cert.ProjectABIdeal.Projection
end
-- ==== Proof.ProjectAB.Ref.lean ====
module

public import proofs.«01_k».proof.Proof.Gen.ProjectABRefIdeal.Run
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The reference of the even layer's projection: the product at an element, and the parts of it that become states. -/

@[expose] public section

set_option maxRecDepth 16384

noncomputable section

namespace Cert.ProjectABRefIdeal.Projection

open Cert.ProjectABRefIdeal Cert.ProjectABRefIdeal.Gen Cert.ProjectABRefIdeal.Value Idealize.ShloMosaic Idealize.ShloMosaic.TcCoe Idealize.SL.Sem

/-- The projected rows. -/
def product (a : FVec Ideal S16896x4096 .bf16) (w : FVec Ideal S1x4096x9216 .f32) : FVec Ideal S16896x9216 .f32 :=
  Host.dotGeneral dot_S16896x4096_S4096x9216_S16896x9216_1_0_0_1_n_n none (extf .f32 a bitsLt_bf16_f32) (shapeCast _ w shapeCasts_S1x4096x9216_S4096x9216)

theorem product_at (a : FVec Ideal S16896x4096 .bf16) (w : FVec Ideal S1x4096x9216 .f32) (R : Fin 16896) (C : Fin 9216) :
    product a w (ix2 R C) = ∑ k : Fin 4096, a (ix2 R k) * w (ix3 0 k C) := by
  pointwise [product]

/-! ## The states: keys and values of the last positions, and the caches rolled by the sample -/

def keysA (z : FVec Ideal S16896x9216 .f32) : FVec Ideal S1x8x512x16x128 .f32 :=
  broadcastInDim S1x8x512x16x128 ![1, 2, 3, 4] bcast_S8x512x16x128_S1x8x512x16x128_1_2_3_4 (extractStridedSlice S8x512x16x128 ![0, 1536, 0, 0] (shapeCast _ (extractStridedSlice S16384x2048 ![0, 0] (extractStridedSlice S16896x2048 ![0, 2048] z slices_S16896x9216_S16896x2048_0_2048) slices_S16896x2048_S16384x2048_0_0) shapeCasts_S16384x2048_S8x2048x16x128) slices_S8x2048x16x128_S8x512x16x128_0_1536_0_0)

def valuesA (z : FVec Ideal S16896x9216 .f32) : FVec Ideal S1x8x512x16x128 .f32 :=
  broadcastInDim S1x8x512x16x128 ![1, 2, 3, 4] bcast_S8x512x16x128_S1x8x512x16x128_1_2_3_4 (extractStridedSlice S8x512x16x128 ![0, 1536, 0, 0] (shapeCast _ (extractStridedSlice S16384x2048 ![0, 0] (extractStridedSlice S16896x2048 ![0, 4096] z slices_S16896x9216_S16896x2048_0_4096) slices_S16896x2048_S16384x2048_0_0) shapeCasts_S16384x2048_S8x2048x16x128) slices_S8x2048x16x128_S8x512x16x128_0_1536_0_0)

def fresh_rolledKeysA (z : FVec Ideal S16896x9216 .f32) : FVec Ideal S16x32x16x128 .f32 :=
  (shapeCast _ (extractStridedSlice S512x2048 ![16384, 0] (extractStridedSlice S16896x2048 ![0, 2048] z slices_S16896x9216_S16896x2048_0_2048) slices_S16896x2048_S512x2048_16384_0) shapeCasts_S512x2048_S16x32x16x128)

def rolledKeysA (z : FVec Ideal S16896x9216 .f32) (cache : FVec Ideal S1x16x512x16x128 .f32) : FVec Ideal S1x16x512x16x128 .f32 :=
  broadcastInDim S1x16x512x16x128 ![1, 2, 3, 4] bcast_S16x512x16x128_S1x16x512x16x128_1_2_3_4 (extractStridedSlice S16x512x16x128 ![0, 32, 0, 0] (concatenate S16x544x16x128 1 [⟨S16x512x16x128, (shapeCast _ cache shapeCasts_S1x16x512x16x128_S16x512x16x128)⟩, ⟨S16x32x16x128, fresh_rolledKeysA z⟩] concatenates_S16x512x16x128_S16x32x16x128_S16x544x16x128_d1) slices_S16x544x16x128_S16x512x16x128_0_32_0_0)

def fresh_rolledValuesA (z : FVec Ideal S16896x9216 .f32) : FVec Ideal S16x32x16x128 .f32 :=
  (shapeCast _ (extractStridedSlice S512x2048 ![16384, 0] (extractStridedSlice S16896x2048 ![0, 4096] z slices_S16896x9216_S16896x2048_0_4096) slices_S16896x2048_S512x2048_16384_0) shapeCasts_S512x2048_S16x32x16x128)

def rolledValuesA (z : FVec Ideal S16896x9216 .f32) (cache : FVec Ideal S1x16x512x16x128 .f32) : FVec Ideal S1x16x512x16x128 .f32 :=
  broadcastInDim S1x16x512x16x128 ![1, 2, 3, 4] bcast_S16x512x16x128_S1x16x512x16x128_1_2_3_4 (extractStridedSlice S16x512x16x128 ![0, 32, 0, 0] (concatenate S16x544x16x128 1 [⟨S16x512x16x128, (shapeCast _ cache shapeCasts_S1x16x512x16x128_S16x512x16x128)⟩, ⟨S16x32x16x128, fresh_rolledValuesA z⟩] concatenates_S16x512x16x128_S16x32x16x128_S16x544x16x128_d1) slices_S16x544x16x128_S16x512x16x128_0_32_0_0)

def keysB (z : FVec Ideal S16896x9216 .f32) : FVec Ideal S1x8x128x4x128 .f32 :=
  broadcastInDim S1x8x128x4x128 ![1, 2, 3, 4] bcast_S8x128x4x128_S1x8x128x4x128_1_2_3_4 (extractStridedSlice S8x128x4x128 ![0, 1920, 0, 0] (shapeCast _ (extractStridedSlice S16384x512 ![0, 0] (extractStridedSlice S16896x512 ![0, 8192] z slices_S16896x9216_S16896x512_0_8192) slices_S16896x512_S16384x512_0_0) shapeCasts_S16384x512_S8x2048x4x128) slices_S8x2048x4x128_S8x128x4x128_0_1920_0_0)

def valuesB (z : FVec Ideal S16896x9216 .f32) : FVec Ideal S1x8x128x4x128 .f32 :=
  broadcastInDim S1x8x128x4x128 ![1, 2, 3, 4] bcast_S8x128x4x128_S1x8x128x4x128_1_2_3_4 (extractStridedSlice S8x128x4x128 ![0, 1920, 0, 0] (shapeCast _ (extractStridedSlice S16384x512 ![0, 0] (extractStridedSlice S16896x512 ![0, 8704] z slices_S16896x9216_S16896x512_0_8704) slices_S16896x512_S16384x512_0_0) shapeCasts_S16384x512_S8x2048x4x128) slices_S8x2048x4x128_S8x128x4x128_0_1920_0_0)

def fresh_rolledKeysB (z : FVec Ideal S16896x9216 .f32) : FVec Ideal S16x32x4x128 .f32 :=
  (shapeCast _ (extractStridedSlice S512x512 ![16384, 0] (extractStridedSlice S16896x512 ![0, 8192] z slices_S16896x9216_S16896x512_0_8192) slices_S16896x512_S512x512_16384_0) shapeCasts_S512x512_S16x32x4x128)

def rolledKeysB (z : FVec Ideal S16896x9216 .f32) (cache : FVec Ideal S1x16x128x4x128 .f32) : FVec Ideal S1x16x128x4x128 .f32 :=
  broadcastInDim S1x16x128x4x128 ![1, 2, 3, 4] bcast_S16x128x4x128_S1x16x128x4x128_1_2_3_4 (extractStridedSlice S16x128x4x128 ![0, 32, 0, 0] (concatenate S16x160x4x128 1 [⟨S16x128x4x128, (shapeCast _ cache shapeCasts_S1x16x128x4x128_S16x128x4x128)⟩, ⟨S16x32x4x128, fresh_rolledKeysB z⟩] concatenates_S16x128x4x128_S16x32x4x128_S16x160x4x128_d1) slices_S16x160x4x128_S16x128x4x128_0_32_0_0)

def fresh_rolledValuesB (z : FVec Ideal S16896x9216 .f32) : FVec Ideal S16x32x4x128 .f32 :=
  (shapeCast _ (extractStridedSlice S512x512 ![16384, 0] (extractStridedSlice S16896x512 ![0, 8704] z slices_S16896x9216_S16896x512_0_8704) slices_S16896x512_S512x512_16384_0) shapeCasts_S512x512_S16x32x4x128)

def rolledValuesB (z : FVec Ideal S16896x9216 .f32) (cache : FVec Ideal S1x16x128x4x128 .f32) : FVec Ideal S1x16x128x4x128 .f32 :=
  broadcastInDim S1x16x128x4x128 ![1, 2, 3, 4] bcast_S16x128x4x128_S1x16x128x4x128_1_2_3_4 (extractStridedSlice S16x128x4x128 ![0, 32, 0, 0] (concatenate S16x160x4x128 1 [⟨S16x128x4x128, (shapeCast _ cache shapeCasts_S1x16x128x4x128_S16x128x4x128)⟩, ⟨S16x32x4x128, fresh_rolledValuesB z⟩] concatenates_S16x128x4x128_S16x32x4x128_S16x160x4x128_d1) slices_S16x160x4x128_S16x128x4x128_0_32_0_0)

theorem keysA_at (z : FVec Ideal S16896x9216 .f32) (b : Fin 8) (t : Fin 512) (n : Fin 16) (d : Fin 128) :
    keysA z (ix5 0 b t n d) = z (ix2 ⟨b.val * 2048 + (1536 + t.val), by omega⟩ ⟨2048 + (n.val * 128 + d.val), by omega⟩) := by
  pointwise [keysA]

theorem valuesA_at (z : FVec Ideal S16896x9216 .f32) (b : Fin 8) (t : Fin 512) (n : Fin 16) (d : Fin 128) :
    valuesA z (ix5 0 b t n d) = z (ix2 ⟨b.val * 2048 + (1536 + t.val), by omega⟩ ⟨4096 + (n.val * 128 + d.val), by omega⟩) := by
  pointwise [valuesA]

theorem fresh_rolledKeysA_at (z : FVec Ideal S16896x9216 .f32) (b : Fin 16) (t : Fin 32) (n : Fin 16) (d : Fin 128) :
    fresh_rolledKeysA z (ix4 b t n d) = z (ix2 ⟨16384 + (b.val * 32 + t.val), by omega⟩ ⟨2048 + (n.val * 128 + d.val), by omega⟩) := by
  pointwise [fresh_rolledKeysA]

theorem fresh_rolledValuesA_at (z : FVec Ideal S16896x9216 .f32) (b : Fin 16) (t : Fin 32) (n : Fin 16) (d : Fin 128) :
    fresh_rolledValuesA z (ix4 b t n d) = z (ix2 ⟨16384 + (b.val * 32 + t.val), by omega⟩ ⟨4096 + (n.val * 128 + d.val), by omega⟩) := by
  pointwise [fresh_rolledValuesA]

theorem keysB_at (z : FVec Ideal S16896x9216 .f32) (b : Fin 8) (t : Fin 128) (n : Fin 4) (d : Fin 128) :
    keysB z (ix5 0 b t n d) = z (ix2 ⟨b.val * 2048 + (1920 + t.val), by omega⟩ ⟨8192 + (n.val * 128 + d.val), by omega⟩) := by
  pointwise [keysB]

theorem valuesB_at (z : FVec Ideal S16896x9216 .f32) (b : Fin 8) (t : Fin 128) (n : Fin 4) (d : Fin 128) :
    valuesB z (ix5 0 b t n d) = z (ix2 ⟨b.val * 2048 + (1920 + t.val), by omega⟩ ⟨8704 + (n.val * 128 + d.val), by omega⟩) := by
  pointwise [valuesB]

theorem fresh_rolledKeysB_at (z : FVec Ideal S16896x9216 .f32) (b : Fin 16) (t : Fin 32) (n : Fin 4) (d : Fin 128) :
    fresh_rolledKeysB z (ix4 b t n d) = z (ix2 ⟨16384 + (b.val * 32 + t.val), by omega⟩ ⟨8192 + (n.val * 128 + d.val), by omega⟩) := by
  pointwise [fresh_rolledKeysB]

theorem fresh_rolledValuesB_at (z : FVec Ideal S16896x9216 .f32) (b : Fin 16) (t : Fin 32) (n : Fin 4) (d : Fin 128) :
    fresh_rolledValuesB z (ix4 b t n d) = z (ix2 ⟨16384 + (b.val * 32 + t.val), by omega⟩ ⟨8704 + (n.val * 128 + d.val), by omega⟩) := by
  pointwise [fresh_rolledValuesB]

end Cert.ProjectABRefIdeal.Projection
end
-- ==== Proof.ProjectAB.Claims.lean ====
module

public import proofs.«01_k».proof.Defs
public import proofs.«01_k».proof.Proof.Gen.ProjectAB.Frame
public import proofs.«01_k».proof.Proof.ProjectAB.Value
public import proofs.«01_k».proof.Proof.ProjectAB.Ref
public import Idealize.ShloMosaic.Lib.Claim
public import Idealize.ShloMosaic.Lib.Quiescent

/-! The claims about the even layer's projection: the reference's frame, and the kernel's results are the reference's. -/

@[expose] public section

set_option maxRecDepth 16384

noncomputable section

namespace Cert.ProjectABIdeal.Projection

open Cert.ProjectABIdeal Cert.ProjectABIdeal.Gen
open Idealize.ShloMosaic Idealize.ShloMosaic.TcCoe Idealize.SL.Sem

theorem frame_bits : Cert.quiescent_ProjectAB := fun m g _ => Cert.ProjectAB.Gen.frame m g

theorem frame_ideal : Cert.quiescent_ProjectABIdeal := fun m g _ => Cert.ProjectABIdeal.Gen.frame m g

theorem frame_ref : Cert.quiescent_ProjectABRefIdeal := by
  intro m g _
  hlo_run
  · exact fun _ => ⟨trivial, trivial, trivial, trivial, trivial, trivial⟩
  exact sem_eq_zero_of_no_sems (sig := Cert.ProjectABRefIdeal.sig) (by decide) _

/-- The kernel's rows are the reference's product. -/
theorem rows_eq (a : S16896x4096.Idx → EReal) (w : S1x4096x9216.Idx → EReal) : rows a w = Cert.ProjectABRefIdeal.Projection.product a w := by
  funext I
  obtain ⟨R, C, rfl⟩ : ∃ (R : Fin 16896) (C : Fin 9216), I = ix2 R C := ⟨I 0, I 1, eq_ix2 I⟩
  exact (Cert.ProjectABRefIdeal.Projection.product_at a w R C).symm

theorem keysA_eq (z : S16896x9216.Idx → EReal) : keysA z = Cert.ProjectABRefIdeal.Projection.keysA z := by
  funext I
  obtain ⟨u, b, t, n, d, rfl⟩ : ∃ (u : Fin 1) (b : Fin 8) (t : Fin 512) (n : Fin 16) (d : Fin 128), I = ix5 u b t n d := ⟨I 0, I 1, I 2, I 3, I 4, eq_ix5 I⟩
  obtain rfl : u = 0 := Fin.fin_one_eq_zero u
  exact (keysA_at z b t n d).trans (Cert.ProjectABRefIdeal.Projection.keysA_at z b t n d).symm

theorem valuesA_eq (z : S16896x9216.Idx → EReal) : valuesA z = Cert.ProjectABRefIdeal.Projection.valuesA z := by
  funext I
  obtain ⟨u, b, t, n, d, rfl⟩ : ∃ (u : Fin 1) (b : Fin 8) (t : Fin 512) (n : Fin 16) (d : Fin 128), I = ix5 u b t n d := ⟨I 0, I 1, I 2, I 3, I 4, eq_ix5 I⟩
  obtain rfl : u = 0 := Fin.fin_one_eq_zero u
  exact (valuesA_at z b t n d).trans (Cert.ProjectABRefIdeal.Projection.valuesA_at z b t n d).symm

theorem fresh_rolledKeysA_eq (z : S16896x9216.Idx → EReal) : fresh_rolledKeysA z = Cert.ProjectABRefIdeal.Projection.fresh_rolledKeysA z := by
  funext I
  obtain ⟨b, t, n, d, rfl⟩ : ∃ (b : Fin 16) (t : Fin 32) (n : Fin 16) (d : Fin 128), I = ix4 b t n d := ⟨I 0, I 1, I 2, I 3, eq_ix4 I⟩
  exact (fresh_rolledKeysA_at z b t n d).trans (Cert.ProjectABRefIdeal.Projection.fresh_rolledKeysA_at z b t n d).symm

theorem rolledKeysA_eq (z : S16896x9216.Idx → EReal) (cache : S1x16x512x16x128.Idx → EReal) : rolledKeysA z cache = Cert.ProjectABRefIdeal.Projection.rolledKeysA z cache := by
  unfold rolledKeysA Cert.ProjectABRefIdeal.Projection.rolledKeysA
  rw [fresh_rolledKeysA_eq]

theorem fresh_rolledValuesA_eq (z : S16896x9216.Idx → EReal) : fresh_rolledValuesA z = Cert.ProjectABRefIdeal.Projection.fresh_rolledValuesA z := by
  funext I
  obtain ⟨b, t, n, d, rfl⟩ : ∃ (b : Fin 16) (t : Fin 32) (n : Fin 16) (d : Fin 128), I = ix4 b t n d := ⟨I 0, I 1, I 2, I 3, eq_ix4 I⟩
  exact (fresh_rolledValuesA_at z b t n d).trans (Cert.ProjectABRefIdeal.Projection.fresh_rolledValuesA_at z b t n d).symm

theorem rolledValuesA_eq (z : S16896x9216.Idx → EReal) (cache : S1x16x512x16x128.Idx → EReal) : rolledValuesA z cache = Cert.ProjectABRefIdeal.Projection.rolledValuesA z cache := by
  unfold rolledValuesA Cert.ProjectABRefIdeal.Projection.rolledValuesA
  rw [fresh_rolledValuesA_eq]

theorem keysB_eq (z : S16896x9216.Idx → EReal) : keysB z = Cert.ProjectABRefIdeal.Projection.keysB z := by
  funext I
  obtain ⟨u, b, t, n, d, rfl⟩ : ∃ (u : Fin 1) (b : Fin 8) (t : Fin 128) (n : Fin 4) (d : Fin 128), I = ix5 u b t n d := ⟨I 0, I 1, I 2, I 3, I 4, eq_ix5 I⟩
  obtain rfl : u = 0 := Fin.fin_one_eq_zero u
  exact (keysB_at z b t n d).trans (Cert.ProjectABRefIdeal.Projection.keysB_at z b t n d).symm

theorem valuesB_eq (z : S16896x9216.Idx → EReal) : valuesB z = Cert.ProjectABRefIdeal.Projection.valuesB z := by
  funext I
  obtain ⟨u, b, t, n, d, rfl⟩ : ∃ (u : Fin 1) (b : Fin 8) (t : Fin 128) (n : Fin 4) (d : Fin 128), I = ix5 u b t n d := ⟨I 0, I 1, I 2, I 3, I 4, eq_ix5 I⟩
  obtain rfl : u = 0 := Fin.fin_one_eq_zero u
  exact (valuesB_at z b t n d).trans (Cert.ProjectABRefIdeal.Projection.valuesB_at z b t n d).symm

theorem fresh_rolledKeysB_eq (z : S16896x9216.Idx → EReal) : fresh_rolledKeysB z = Cert.ProjectABRefIdeal.Projection.fresh_rolledKeysB z := by
  funext I
  obtain ⟨b, t, n, d, rfl⟩ : ∃ (b : Fin 16) (t : Fin 32) (n : Fin 4) (d : Fin 128), I = ix4 b t n d := ⟨I 0, I 1, I 2, I 3, eq_ix4 I⟩
  exact (fresh_rolledKeysB_at z b t n d).trans (Cert.ProjectABRefIdeal.Projection.fresh_rolledKeysB_at z b t n d).symm

theorem rolledKeysB_eq (z : S16896x9216.Idx → EReal) (cache : S1x16x128x4x128.Idx → EReal) : rolledKeysB z cache = Cert.ProjectABRefIdeal.Projection.rolledKeysB z cache := by
  unfold rolledKeysB Cert.ProjectABRefIdeal.Projection.rolledKeysB
  rw [fresh_rolledKeysB_eq]

theorem fresh_rolledValuesB_eq (z : S16896x9216.Idx → EReal) : fresh_rolledValuesB z = Cert.ProjectABRefIdeal.Projection.fresh_rolledValuesB z := by
  funext I
  obtain ⟨b, t, n, d, rfl⟩ : ∃ (b : Fin 16) (t : Fin 32) (n : Fin 4) (d : Fin 128), I = ix4 b t n d := ⟨I 0, I 1, I 2, I 3, eq_ix4 I⟩
  exact (fresh_rolledValuesB_at z b t n d).trans (Cert.ProjectABRefIdeal.Projection.fresh_rolledValuesB_at z b t n d).symm

theorem rolledValuesB_eq (z : S16896x9216.Idx → EReal) (cache : S1x16x128x4x128.Idx → EReal) : rolledValuesB z cache = Cert.ProjectABRefIdeal.Projection.rolledValuesB z cache := by
  unfold rolledValuesB Cert.ProjectABRefIdeal.Projection.rolledValuesB
  rw [fresh_rolledValuesB_eq]

theorem algebraic : Cert.algebraic_ProjectABIdeal_ProjectABRefIdeal := by
  intro m g m' g' _ hagree
  refine ⟨fun c => rows (m ((c : Thread nD τ).loc main_arg0)) (m ((c : Thread nD τ).loc main_arg1)),
    fun c => keysA (rows (m ((c : Thread nD τ).loc main_arg0)) (m ((c : Thread nD τ).loc main_arg1))),
    fun c => valuesA (rows (m ((c : Thread nD τ).loc main_arg0)) (m ((c : Thread nD τ).loc main_arg1))),
    fun c => rolledKeysA (rows (m ((c : Thread nD τ).loc main_arg0)) (m ((c : Thread nD τ).loc main_arg1))) (m ((c : Thread nD τ).loc main_arg2)),
    fun c => rolledValuesA (rows (m ((c : Thread nD τ).loc main_arg0)) (m ((c : Thread nD τ).loc main_arg1))) (m ((c : Thread nD τ).loc main_arg3)),
    fun c => keysB (rows (m ((c : Thread nD τ).loc main_arg0)) (m ((c : Thread nD τ).loc main_arg1))),
    fun c => valuesB (rows (m ((c : Thread nD τ).loc main_arg0)) (m ((c : Thread nD τ).loc main_arg1))),
    fun c => rolledKeysB (rows (m ((c : Thread nD τ).loc main_arg0)) (m ((c : Thread nD τ).loc main_arg1))) (m ((c : Thread nD τ).loc main_arg4)),
    fun c => rolledValuesB (rows (m ((c : Thread nD τ).loc main_arg0)) (m ((c : Thread nD τ).loc main_arg1))) (m ((c : Thread nD τ).loc main_arg5)), ?_, ?_⟩
  · refine (θ_run _ _ _).mono (fun r h c => ?_) (Cert.ProjectABIdeal.Gen.run_main m g)
    refine ⟨((h c).1 2).trans (arrAt_eq m c),
      ((h c).2 main_v37 (Pipeline.mem_restRefs_of main_v37 (by decide) (by decide))).trans (after_main_v37 m c),
      ((h c).2 main_v38 (Pipeline.mem_restRefs_of main_v38 (by decide) (by decide))).trans (after_main_v38 m c),
      ((h c).2 main_v39 (Pipeline.mem_restRefs_of main_v39 (by decide) (by decide))).trans (after_main_v39 m c),
      ((h c).2 main_v40 (Pipeline.mem_restRefs_of main_v40 (by decide) (by decide))).trans (after_main_v40 m c),
      ((h c).2 main_v41 (Pipeline.mem_restRefs_of main_v41 (by decide) (by decide))).trans (after_main_v41 m c),
      ((h c).2 main_v42 (Pipeline.mem_restRefs_of main_v42 (by decide) (by decide))).trans (after_main_v42 m c),
      ((h c).2 main_v43 (Pipeline.mem_restRefs_of main_v43 (by decide) (by decide))).trans (after_main_v43 m c),
      ((h c).2 main_v44 (Pipeline.mem_restRefs_of main_v44 (by decide) (by decide))).trans (after_main_v44 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩
  · refine (θ_run _ _ _).mono (fun r h c => ?_) (Cert.ProjectABRefIdeal.Value.run (F := Ideal) m' g')
    obtain ⟨h0, h1, h2, h3, h4, h5⟩ := hagree c
    obtain ⟨r0, r1, r2, r3, r4, r5, r6, r7, r8, rest⟩ := h c
    have hz : Cert.ProjectABRefIdeal.Projection.product (m' (c.tc.loc Cert.ProjectABRefIdeal.main_arg0)) (m' (c.tc.loc Cert.ProjectABRefIdeal.main_arg1)) = rows (m ((c : Thread nD τ).loc main_arg0)) (m ((c : Thread nD τ).loc main_arg1)) := by
      rw [h0, h1]
      exact (rows_eq _ _).symm
    refine ⟨r0.trans hz, r1.trans ?_, r2.trans ?_, r3.trans ?_, r4.trans ?_, r5.trans ?_, r6.trans ?_, r7.trans ?_, r8.trans ?_, rest⟩
    · exact Eq.trans (b := Cert.ProjectABRefIdeal.Projection.keysA (Cert.ProjectABRefIdeal.Projection.product (m' (c.tc.loc Cert.ProjectABRefIdeal.main_arg0)) (m' (c.tc.loc Cert.ProjectABRefIdeal.main_arg1)))) rfl (by rw [hz]; exact (keysA_eq _).symm)
    · exact Eq.trans (b := Cert.ProjectABRefIdeal.Projection.valuesA (Cert.ProjectABRefIdeal.Projection.product (m' (c.tc.loc Cert.ProjectABRefIdeal.main_arg0)) (m' (c.tc.loc Cert.ProjectABRefIdeal.main_arg1)))) rfl (by rw [hz]; exact (valuesA_eq _).symm)
    · exact Eq.trans (b := Cert.ProjectABRefIdeal.Projection.rolledKeysA (Cert.ProjectABRefIdeal.Projection.product (m' (c.tc.loc Cert.ProjectABRefIdeal.main_arg0)) (m' (c.tc.loc Cert.ProjectABRefIdeal.main_arg1))) (m' (c.tc.loc Cert.ProjectABRefIdeal.main_arg2))) rfl (by rw [hz, h2]; exact (rolledKeysA_eq _ _).symm)
    · exact Eq.trans (b := Cert.ProjectABRefIdeal.Projection.rolledValuesA (Cert.ProjectABRefIdeal.Projection.product (m' (c.tc.loc Cert.ProjectABRefIdeal.main_arg0)) (m' (c.tc.loc Cert.ProjectABRefIdeal.main_arg1))) (m' (c.tc.loc Cert.ProjectABRefIdeal.main_arg3))) rfl (by rw [hz, h3]; exact (rolledValuesA_eq _ _).symm)
    · exact Eq.trans (b := Cert.ProjectABRefIdeal.Projection.keysB (Cert.ProjectABRefIdeal.Projection.product (m' (c.tc.loc Cert.ProjectABRefIdeal.main_arg0)) (m' (c.tc.loc Cert.ProjectABRefIdeal.main_arg1)))) rfl (by rw [hz]; exact (keysB_eq _).symm)
    · exact Eq.trans (b := Cert.ProjectABRefIdeal.Projection.valuesB (Cert.ProjectABRefIdeal.Projection.product (m' (c.tc.loc Cert.ProjectABRefIdeal.main_arg0)) (m' (c.tc.loc Cert.ProjectABRefIdeal.main_arg1)))) rfl (by rw [hz]; exact (valuesB_eq _).symm)
    · exact Eq.trans (b := Cert.ProjectABRefIdeal.Projection.rolledKeysB (Cert.ProjectABRefIdeal.Projection.product (m' (c.tc.loc Cert.ProjectABRefIdeal.main_arg0)) (m' (c.tc.loc Cert.ProjectABRefIdeal.main_arg1))) (m' (c.tc.loc Cert.ProjectABRefIdeal.main_arg4))) rfl (by rw [hz, h4]; exact (rolledKeysB_eq _ _).symm)
    · exact Eq.trans (b := Cert.ProjectABRefIdeal.Projection.rolledValuesB (Cert.ProjectABRefIdeal.Projection.product (m' (c.tc.loc Cert.ProjectABRefIdeal.main_arg0)) (m' (c.tc.loc Cert.ProjectABRefIdeal.main_arg1))) (m' (c.tc.loc Cert.ProjectABRefIdeal.main_arg5))) rfl (by rw [hz, h5]; exact (rolledValuesB_eq _ _).symm)

end Cert.ProjectABIdeal.Projection
end
-- ==== Proof.Out.Value.lean ====
module

public import proofs.«01_k».proof.Proof.Gen.OutIdeal.Value
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The output projection: what the body computes at a point, and the array the pipeline leaves. -/

@[expose] public section

set_option maxRecDepth 16384

noncomputable section

namespace Cert.OutIdeal.Projection

open Cert.OutIdeal Cert.OutIdeal.Gen Cert.OutIdeal.Value Idealize.ShloMosaic Idealize.ShloMosaic.TcCoe Idealize.SL.Sem

theorem pay1_at (a : S512x4096.Idx → EReal) (w : S1x4096x1024.Idx → EReal) (x : S512x1024.Idx → EReal) (g : S16x1024.Idx → EReal) (r : Fin 512) (e : Fin 1024) :
    k0_pay1 (F := Ideal) a w x g (ix2 r e)
      = x (ix2 r e) + g (ix2 ⟨r.val / 32, by omega⟩ e) * ∑ k : Fin 4096, a (ix2 r k) * w (ix3 0 k e) := by
  unfold k0_pay1
  pointwise

theorem out_at (x0 : Vec Ideal S512x4096 .bf16) (x1 : Vec Ideal S1x4096x1024 .f32) (x2 : Vec Ideal S512x1024 .f32) (x3 : Vec Ideal S16x1024 .f32) :
    out0_4 (F := Ideal) x0 x1 x2 x3 = k0_pay1 (F := Ideal) x0 x1 x2 x3 := by
  unfold out0_4
  frame_out

/-- The array: the residual and its gate's part of the projected rows. -/
def final (a : S16896x4096.Idx → EReal) (w : S1x4096x4096.Idx → EReal) (x : S16896x4096.Idx → EReal) (g : S528x4096.Idx → EReal) (y : S16896x4096.Idx) : EReal :=
  x y + g (ix2 ⟨(y 0).val / 32, by have : (y 0).val < 16896 := (y 0).isLt; omega⟩ (y 1)) * ∑ k : Fin 4096, a (ix2 (y 0) k) * w (ix3 0 k (y 1))

theorem index_eqs : ∀ t : Fin cfg0.N,
    (cfg0.win 0).index t = ![(grid0.coords t 1).val, 0]
    ∧ (cfg0.win 1).index t = ![0, 0, (grid0.coords t 0).val]
    ∧ (cfg0.win 2).index t = ![(grid0.coords t 1).val, (grid0.coords t 0).val]
    ∧ (cfg0.win 3).index t = ![(grid0.coords t 1).val, (grid0.coords t 0).val]
    ∧ (cfg0.win 4).index t = ![(grid0.coords t 1).val, (grid0.coords t 0).val] := by decide +kernel

theorem nblk_0 : (cfg0.win (4 : Fin 5)).nblk (0 : Fin 2) = 33 := by
  show (16896 + 512 - 1) / 512 = 33
  rfl

theorem nblk_1 : (cfg0.win (4 : Fin 5)).nblk (1 : Fin 2) = 4 := by
  show (4096 + 1024 - 1) / 1024 = 4
  rfl

theorem covers : (cfg0.win (4 : Fin 5)).Covers :=
  (cfg0.win (4 : Fin 5)).covers_of_indexMap_surj rfl (fun a => by fin_cases a <;> decide) fun β =>
    have h0 : (β (0 : Fin 2)).val < 33 := lt_of_lt_of_eq (β (0 : Fin 2)).isLt nblk_0
    have h1 : (β (1 : Fin 2)).val < 4 := lt_of_lt_of_eq (β (1 : Fin 2)).isLt nblk_1
    ⟨fun | ⟨0, _⟩ => ⟨(β (1 : Fin 2)).val, h1⟩ | ⟨1, _⟩ => ⟨(β (0 : Fin 2)).val, h0⟩ | ⟨2, _⟩ => ⟨0, (by decide : 0 < 1)⟩, fun a => by
      fin_cases a
      · show (BitVec.ofNat 32 (β (0 : Fin 2)).val).toNat = (β (0 : Fin 2)).val
        rw [BitVec.toNat_ofNat]; omega
      · show (BitVec.ofNat 32 (β (1 : Fin 2)).val).toNat = (β (1 : Fin 2)).val
        rw [BitVec.toNat_ofNat]; omega⟩

variable (m : (ℓ : Loc nD τ sig) → Buf (Elt Ideal) ℓ) (c : Dev nD)

set_option maxHeartbeats 1000000 in
theorem arrAt_eq : (dats m 0 c).arrAt (4 : Fin 5) cfg0.N
    = final (m ((c : Thread nD τ).loc main_arg0)) (m ((c : Thread nD τ).loc main_arg1)) (m ((c : Thread nD τ).loc main_arg2)) (m ((c : Thread nD τ).loc main_arg3)) := by
  refine (dats m 0 c).arrAt_eq_of_covers (4 : Fin 5) _ covers fun t hf y => ?_
  rw [after0_4, out_at]
  obtain ⟨r, e, rfl⟩ : ∃ (r : Fin 512) (e : Fin 1024), y = ix2 r e := ⟨y 0, y 1, eq_ix2 y⟩
  obtain ⟨I, hI⟩ : ∃ I : S16896x4096.Idx, I = ((cfg0.win (4 : Fin 5)).blk t).view.emb (ix2 r e) := ⟨_, rfl⟩
  have e0 : (I 0).val = (grid0.coords t 1).val * 512 + r.val := by
    rw [hI]
    blk_simp [index_eqs t]
  have e1 : (I 1).val = (grid0.coords t 0).val * 1024 + e.val := by
    rw [hI]
    blk_simp [index_eqs t]
  rw [← hI]
  clear hI
  obtain ⟨R, C, rfl⟩ : ∃ (R : Fin 16896) (C : Fin 4096), I = ix2 R C := ⟨I 0, I 1, eq_ix2 I⟩
  have eR : R.val = (grid0.coords t 1).val * 512 + r.val := e0
  have eC : C.val = (grid0.coords t 0).val * 1024 + e.val := e1
  blk_simp
  rw [pay1_at]
  have ha : ∀ k : Fin 4096, iblk m c 0 t (ix2 r k) = m ((c : Thread nD τ).loc main_arg0) (ix2 R k) := fun k => by
    blk_ext [iblk, V, index_eqs t]
  have hw : ∀ k : Fin 4096, iblk m c 1 t (ix3 0 k e) = m ((c : Thread nD τ).loc main_arg1) (ix3 0 k C) := fun k => by
    blk_ext [iblk, V, index_eqs t]
  have hx : iblk m c 2 t (ix2 r e) = m ((c : Thread nD τ).loc main_arg2) (ix2 R C) := by
    blk_ext [iblk, V, index_eqs t]
  have hd : (grid0.coords t 1).val * 16 + r.val / 32 = R.val / 32 := by omega
  have hg : iblk m c 3 t (ix2 ⟨r.val / 32, by omega⟩ e) = m ((c : Thread nD τ).loc main_arg3) (ix2 ⟨R.val / 32, by omega⟩ C) := by
    blk_ext [iblk, V, index_eqs t]
  exact congrArg₂ (· + ·) hx (congrArg₂ (· * ·) hg (Finset.sum_congr rfl fun k _ => congrArg₂ (· * ·) (ha k) (hw k)))

end Cert.OutIdeal.Projection
end
-- ==== Proof.Out.Ref.lean ====
module

public import proofs.«01_k».proof.Proof.Gen.OutRefIdeal.Run
public import Idealize.ShloMosaic.Lib.Pipeline.ValueKit
public import Idealize.ShloMosaic.Lib.Pointwise
public import Idealize.ShloMosaic.Lib.IdealHost
public import Idealize.ShloMosaic.Lib.KernelVsHost

/-! The reference of the output projection at an element. -/

@[expose] public section

set_option maxRecDepth 16384

noncomputable section

namespace Cert.OutRefIdeal.Projection

open Cert.OutRefIdeal Cert.OutRefIdeal.Gen Cert.OutRefIdeal.Value Idealize.ShloMosaic Idealize.ShloMosaic.TcCoe Idealize.SL.Sem

def product (a : FVec Ideal S16896x4096 .bf16) (w : FVec Ideal S1x4096x4096 .f32) : FVec Ideal S16896x4096 .f32 :=
  Host.dotGeneral dot_S16896x4096_S4096x4096_S16896x4096_1_0_0_1_n_n none (extf .f32 a bitsLt_bf16_f32) (shapeCast _ w shapeCasts_S1x4096x4096_S4096x4096)

def gate (g : FVec Ideal S528x4096 .f32) (y : FVec Ideal S16896x4096 .f32) : FVec Ideal S16896x4096 .f32 :=
  shapeCast _ (mulf (broadcastInDim S528x32x4096 ![0, 1, 2] bcast_S528x1x4096_S528x32x4096_0_1_2 (broadcastInDim S528x1x4096 ![0, 2] bcast_S528x4096_S528x1x4096_0_2 g)) (shapeCast _ y shapeCasts_S16896x4096_S528x32x4096)) shapeCasts_S528x32x4096_S16896x4096

/-- The reference's result. -/
def result (a : FVec Ideal S16896x4096 .bf16) (w : FVec Ideal S1x4096x4096 .f32) (x : FVec Ideal S16896x4096 .f32) (g : FVec Ideal S528x4096 .f32) : FVec Ideal S16896x4096 .f32 :=
  addf x (gate g (product a w))

theorem product_at (a : FVec Ideal S16896x4096 .bf16) (w : FVec Ideal S1x4096x4096 .f32) (R : Fin 16896) (C : Fin 4096) :
    product a w (ix2 R C) = ∑ k : Fin 4096, a (ix2 R k) * w (ix3 0 k C) := by
  pointwise [product]

theorem gate_at (g : FVec Ideal S528x4096 .f32) (y : FVec Ideal S16896x4096 .f32) (R : Fin 16896) (C : Fin 4096) :
    gate g y (ix2 R C) = g (ix2 ⟨R.val / 32, by omega⟩ C) * y (ix2 R C) := by
  pointwise [gate]

/-- The reference's result at row R, column C. -/
theorem result_at (a : FVec Ideal S16896x4096 .bf16) (w : FVec Ideal S1x4096x4096 .f32) (x : FVec Ideal S16896x4096 .f32) (g : FVec Ideal S528x4096 .f32) (R : Fin 16896) (C : Fin 4096) :
    result a w x g (ix2 R C) = x (ix2 R C) + g (ix2 ⟨R.val / 32, by omega⟩ C) * ∑ k : Fin 4096, a (ix2 R k) * w (ix3 0 k C) := by
  rw [← product_at, ← gate_at]
  rfl

end Cert.OutRefIdeal.Projection
end
-- ==== Proof.Out.Claims.lean ====
module

public import proofs.«01_k».proof.Defs
public import proofs.«01_k».proof.Proof.Gen.Out.Frame
public import proofs.«01_k».proof.Proof.Out.Value
public import proofs.«01_k».proof.Proof.Out.Ref
public import Idealize.ShloMosaic.Lib.Claim
public import Idealize.ShloMosaic.Lib.Quiescent

/-! The claims about the output projection: the reference's frame, and the kernel's array is the reference's. -/

@[expose] public section

set_option maxRecDepth 16384

noncomputable section

namespace Cert.OutIdeal.Projection

open Cert.OutIdeal Cert.OutIdeal.Gen
open Idealize.ShloMosaic Idealize.ShloMosaic.TcCoe Idealize.SL.Sem

theorem frame_bits : Cert.quiescent_Out := fun m g _ => Cert.Out.Gen.frame m g

theorem frame_ideal : Cert.quiescent_OutIdeal := fun m g _ => Cert.OutIdeal.Gen.frame m g

theorem frame_ref : Cert.quiescent_OutRefIdeal := by
  intro m g _
  hlo_run
  · exact fun _ => ⟨trivial, trivial, trivial, trivial⟩
  exact sem_eq_zero_of_no_sems (sig := Cert.OutRefIdeal.sig) (by decide) _

/-- The kernel's array is the reference's result. -/
theorem final_eq (a : S16896x4096.Idx → EReal) (w : S1x4096x4096.Idx → EReal) (x : S16896x4096.Idx → EReal) (g : S528x4096.Idx → EReal) :
    final a w x g = Cert.OutRefIdeal.Projection.result a w x g := by
  funext I
  obtain ⟨R, C, rfl⟩ : ∃ (R : Fin 16896) (C : Fin 4096), I = ix2 R C := ⟨I 0, I 1, eq_ix2 I⟩
  exact (Cert.OutRefIdeal.Projection.result_at a w x g R C).symm

theorem algebraic : Cert.algebraic_OutIdeal_OutRefIdeal := by
  intro m g m' g' _ hagree
  refine ⟨fun c => final (m ((c : Thread nD τ).loc main_arg0)) (m ((c : Thread nD τ).loc main_arg1)) (m ((c : Thread nD τ).loc main_arg2))
    (m ((c : Thread nD τ).loc main_arg3)), ?_, ?_⟩
  · exact (θ_run _ _ _).mono (fun r h c => ⟨(h c).1.trans (arrAt_eq m c), (h c).2⟩) (Cert.OutIdeal.Value.run_blocks m g)
  · refine (θ_run _ _ _).mono (fun r h c => ?_) (Cert.OutRefIdeal.Value.run (F := Ideal) m' g')
    obtain ⟨h0, h1, h2, h3⟩ := hagree c
    refine ⟨(h c).1.trans ?_, (h c).2⟩
    refine Eq.trans (b := Cert.OutRefIdeal.Projection.result (m' (c.tc.loc Cert.OutRefIdeal.main_arg0)) (m' (c.tc.loc Cert.OutRefIdeal.main_arg1))
      (m' (c.tc.loc Cert.OutRefIdeal.main_arg2)) (m' (c.tc.loc Cert.OutRefIdeal.main_arg3))) rfl ?_
    rw [h0, h1, h2, h3]
    exact (final_eq _ _ _ _).symm

end Cert.OutIdeal.Projection
end
-- ==== Proof.Queries.Value.lean ====
module

public import proofs.«01_k».proof.Proof.Gen.QueriesIdeal.Value
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The odd layer's projection, queries of the prompt: what the body computes at a point, and the array the pipeline leaves. -/

@[expose] public section

set_option maxRecDepth 16384

noncomputable section

namespace Cert.QueriesIdeal.Projection

open Cert.QueriesIdeal Cert.QueriesIdeal.Gen Idealize.ShloMosaic Idealize.ShloMosaic.TcCoe Idealize.SL.Sem

theorem pay1_at (a : S512x4096.Idx → EReal) (w : S1x4096x1024.Idx → EReal) (r : Fin 512) (e : Fin 1024) :
    k0_pay1 (F := Ideal) a w (ix2 r e) = ∑ k : Fin 4096, a (ix2 r k) * w (ix3 0 k e) := by
  unfold k0_pay1
  pointwise

/-- The projected rows. -/
def rows (a : S16896x4096.Idx → EReal) (w : S1x4096x12320.Idx → EReal) (y : S16384x4096.Idx) : EReal :=
  ∑ k : Fin 4096, a (ix2 ⟨(y 0).val, by have : (y 0).val < 16384 := (y 0).isLt; omega⟩ k)
    * w (ix3 0 k ⟨(y 1).val, by have : (y 1).val < 4096 := (y 1).isLt; omega⟩)

theorem index_eqs : ∀ t : Fin cfg0.N,
    (cfg0.win 0).index t = ![(grid0.coords t 1).val, 0]
    ∧ (cfg0.win 1).index t = ![0, 0, (grid0.coords t 0).val]
    ∧ (cfg0.win 2).index t = ![(grid0.coords t 1).val, (grid0.coords t 0).val] := by decide +kernel

theorem nblk_0 : (cfg0.win (2 : Fin 3)).nblk (0 : Fin 2) = 32 := by
  show (16384 + 512 - 1) / 512 = 32
  rfl

theorem nblk_1 : (cfg0.win (2 : Fin 3)).nblk (1 : Fin 2) = 4 := by
  show (4096 + 1024 - 1) / 1024 = 4
  rfl

theorem covers : (cfg0.win (2 : Fin 3)).Covers :=
  (cfg0.win (2 : Fin 3)).covers_of_indexMap_surj rfl (fun a => by fin_cases a <;> decide) fun β =>
    have h0 : (β (0 : Fin 2)).val < 32 := lt_of_lt_of_eq (β (0 : Fin 2)).isLt nblk_0
    have h1 : (β (1 : Fin 2)).val < 4 := lt_of_lt_of_eq (β (1 : Fin 2)).isLt nblk_1
    ⟨fun | ⟨0, _⟩ => ⟨(β (1 : Fin 2)).val, h1⟩ | ⟨1, _⟩ => ⟨(β (0 : Fin 2)).val, h0⟩, fun a => by
      fin_cases a
      · show (BitVec.ofNat 32 (β (0 : Fin 2)).val).toNat = (β (0 : Fin 2)).val
        rw [BitVec.toNat_ofNat]; omega
      · show (BitVec.ofNat 32 (β (1 : Fin 2)).val).toNat = (β (1 : Fin 2)).val
        rw [BitVec.toNat_ofNat]; omega⟩

variable (m : (ℓ : Loc nD τ sig) → Buf (Elt Ideal) ℓ) (c : Dev nD)

theorem left (t : Fin cfg0.N) : outsAt0 m c t = k0_pay1 (F := Ideal) (iblk m c 0 t) (X0_1 m c t) := by
  unfold outsAt0 out0_A_2 kernelRun0_A
  frame_out
  try rw [View.read_rep, View.read_rep]
  try rfl

/-- The block of the weights at a point lies within them, so it is read whole. -/
theorem weights (t : Fin cfg0.N) (k : Fin 4096) (e : Fin 1024) (C : Fin 12320) (hC : C.val = ((grid0.coords t 0).val) * 1024 + e.val) :
    X0_1 m c t (ix3 0 k e) = m ((c : Thread nD τ).loc main_arg1) (ix3 0 k C) := by
  unfold X0_1 Pipeline.Window.fill
  rw [dif_pos (moved0_1 t _)]
  blk_ext [iblk, V, index_eqs t]

set_option maxHeartbeats 1000000 in
theorem arrAt_eq : (dats m 0 c).arrAt (2 : Fin 3) cfg0.N = rows (m ((c : Thread nD τ).loc main_arg0)) (m ((c : Thread nD τ).loc main_arg1)) := by
  refine (dats m 0 c).arrAt_eq_of_covers (2 : Fin 3) _ covers fun t hf y => ?_
  rw [after0_2, left]
  obtain ⟨r, e, rfl⟩ : ∃ (r : Fin 512) (e : Fin 1024), y = ix2 r e := ⟨y 0, y 1, eq_ix2 y⟩
  obtain ⟨I, hI⟩ : ∃ I : S16384x4096.Idx, I = ((cfg0.win (2 : Fin 3)).blk t).view.emb (ix2 r e) := ⟨_, rfl⟩
  have e0 : (I 0).val = (grid0.coords t 1).val * 512 + r.val := by
    rw [hI]
    blk_simp [index_eqs t]
  have e1 : (I 1).val = (grid0.coords t 0).val * 1024 + e.val := by
    rw [hI]
    blk_simp [index_eqs t]
  rw [← hI]
  clear hI
  obtain ⟨R, C, rfl⟩ : ∃ (R : Fin 16384) (C : Fin 4096), I = ix2 R C := ⟨I 0, I 1, eq_ix2 I⟩
  have eR : R.val = (grid0.coords t 1).val * 512 + r.val := e0
  have eC : C.val = (grid0.coords t 0).val * 1024 + e.val := e1
  blk_simp
  rw [pay1_at]
  have ha : ∀ k : Fin 4096, iblk m c 0 t (ix2 r k) = m ((c : Thread nD τ).loc main_arg0) (ix2 ⟨R.val, by omega⟩ k) := fun k => by
    blk_ext [iblk, V, index_eqs t]
  have hw : ∀ k : Fin 4096, X0_1 m c t (ix3 0 k e) = m ((c : Thread nD τ).loc main_arg1) (ix3 0 k ⟨C.val, by omega⟩) := fun k =>
    weights m c t k e _ (by show C.val = _; omega)
  exact (show Eq (α := EReal) _ _ from Finset.sum_congr rfl fun k _ => congrArg₂ (· * ·) (ha k) (hw k))

end Cert.QueriesIdeal.Projection
end
-- ==== Proof.Queries.Ref.lean ====
module

public import proofs.«01_k».proof.Proof.Gen.QueriesRefIdeal.Run
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The reference of the odd layer's projection, queries of the prompt, at an element. -/

@[expose] public section

set_option maxRecDepth 16384

noncomputable section

namespace Cert.QueriesRefIdeal.Projection

open Cert.QueriesRefIdeal Cert.QueriesRefIdeal.Gen Cert.QueriesRefIdeal.Value Idealize.ShloMosaic Idealize.ShloMosaic.TcCoe Idealize.SL.Sem

/-- The projected rows, every column. -/
def product (a : FVec Ideal S16896x4096 .bf16) (w : FVec Ideal S1x4096x12320 .f32) : FVec Ideal S16384x12320 .f32 :=
  Host.dotGeneral dot_S16384x4096_S4096x12320_S16384x12320_1_0_0_1_n_n none (extf .f32 (extractStridedSlice S16384x4096 ![0, 0] a slices_S16896x4096_S16384x4096_0_0) bitsLt_bf16_f32) (shapeCast _ w shapeCasts_S1x4096x12320_S4096x12320)

/-- The columns that are the queries of the prompt. -/
def part (a : FVec Ideal S16896x4096 .bf16) (w : FVec Ideal S1x4096x12320 .f32) : FVec Ideal S16384x4096 .f32 :=
  extractStridedSlice S16384x4096 ![0, 0] (product a w) slices_S16384x12320_S16384x4096_0_0

theorem product_at (a : FVec Ideal S16896x4096 .bf16) (w : FVec Ideal S1x4096x12320 .f32) (R : Fin 16384) (C : Fin 12320) :
    product a w (ix2 R C) = ∑ k : Fin 4096, a (ix2 ⟨R.val, by omega⟩ k) * w (ix3 0 k C) := by
  pointwise [product]

theorem part_at (a : FVec Ideal S16896x4096 .bf16) (w : FVec Ideal S1x4096x12320 .f32) (R : Fin 16384) (C : Fin 4096) :
    part a w (ix2 R C) = ∑ k : Fin 4096, a (ix2 ⟨R.val, by omega⟩ k) * w (ix3 0 k ⟨C.val, by omega⟩) := by
  rw [← product_at a w R ⟨C.val, by omega⟩]
  unfold part
  generalize product a w = z
  pointwise

end Cert.QueriesRefIdeal.Projection
end
-- ==== Proof.Queries.Claims.lean ====
module

public import proofs.«01_k».proof.Defs
public import proofs.«01_k».proof.Proof.Gen.Queries.Frame
public import proofs.«01_k».proof.Proof.Queries.Value
public import proofs.«01_k».proof.Proof.Queries.Ref
public import Idealize.ShloMosaic.Lib.Claim
public import Idealize.ShloMosaic.Lib.Quiescent

/-! The claims about the odd layer's projection, queries of the prompt: the reference's frame, and the kernel's array is the reference's. -/

@[expose] public section

set_option maxRecDepth 16384

noncomputable section

namespace Cert.QueriesIdeal.Projection

open Cert.QueriesIdeal Cert.QueriesIdeal.Gen
open Idealize.ShloMosaic Idealize.ShloMosaic.TcCoe Idealize.SL.Sem

theorem frame_bits : Cert.quiescent_Queries := fun m g _ => Cert.Queries.Gen.frame m g

theorem frame_ideal : Cert.quiescent_QueriesIdeal := fun m g _ => Cert.QueriesIdeal.Gen.frame m g

theorem frame_ref : Cert.quiescent_QueriesRefIdeal := by
  intro m g _
  hlo_run
  · exact fun _ => ⟨trivial, trivial⟩
  exact sem_eq_zero_of_no_sems (sig := Cert.QueriesRefIdeal.sig) (by decide) _

/-- The kernel's rows are the reference's columns. -/
theorem rows_eq (a : S16896x4096.Idx → EReal) (w : S1x4096x12320.Idx → EReal) : rows a w = Cert.QueriesRefIdeal.Projection.part a w := by
  funext I
  obtain ⟨R, C, rfl⟩ : ∃ (R : Fin 16384) (C : Fin 4096), I = ix2 R C := ⟨I 0, I 1, eq_ix2 I⟩
  exact (Cert.QueriesRefIdeal.Projection.part_at a w R C).symm

theorem algebraic : Cert.algebraic_QueriesIdeal_QueriesRefIdeal := by
  intro m g m' g' _ hagree
  refine ⟨fun c => rows (m ((c : Thread nD τ).loc main_arg0)) (m ((c : Thread nD τ).loc main_arg1)), ?_, ?_⟩
  · exact (θ_run _ _ _).mono (fun r h c => ⟨(h c).1.trans (arrAt_eq m c), (h c).2⟩) (Cert.QueriesIdeal.Value.run_blocks m g)
  · refine (θ_run _ _ _).mono (fun r h c => ?_) (Cert.QueriesRefIdeal.Value.run (F := Ideal) m' g')
    obtain ⟨h0, h1⟩ := hagree c
    refine ⟨(h c).1.trans ?_, (h c).2⟩
    have hz : Cert.QueriesRefIdeal.Projection.part (m' (c.tc.loc Cert.QueriesRefIdeal.main_arg0)) (m' (c.tc.loc Cert.QueriesRefIdeal.main_arg1)) = rows (m ((c : Thread nD τ).loc main_arg0)) (m ((c : Thread nD τ).loc main_arg1)) := by
      rw [h0, h1]
      exact (rows_eq _ _).symm
    exact Eq.trans (b := Cert.QueriesRefIdeal.Projection.part (m' (c.tc.loc Cert.QueriesRefIdeal.main_arg0)) (m' (c.tc.loc Cert.QueriesRefIdeal.main_arg1))) rfl hz

end Cert.QueriesIdeal.Projection
end
-- ==== Proof.Keys.Value.lean ====
module

public import proofs.«01_k».proof.Proof.Gen.KeysIdeal.Frame
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The odd layer's projection, keys of the prompt: what the body computes at a point, and the array the pipeline leaves. -/

@[expose] public section

set_option maxRecDepth 16384

noncomputable section

namespace Cert.KeysIdeal.Projection

open Cert.KeysIdeal Cert.KeysIdeal.Gen Idealize.ShloMosaic Idealize.ShloMosaic.TcCoe Idealize.SL.Sem

theorem pay1_at (a : S512x4096.Idx → EReal) (w : S1x4096x1024.Idx → EReal) (r : Fin 512) (e : Fin 1024) :
    k0_pay1 (F := Ideal) a w (ix2 r e) = ∑ k : Fin 4096, a (ix2 r k) * w (ix3 0 k e) := by
  unfold k0_pay1
  pointwise

/-- The projected rows. -/
def rows (a : S16896x4096.Idx → EReal) (w : S1x4096x12320.Idx → EReal) (y : S16384x4096.Idx) : EReal :=
  ∑ k : Fin 4096, a (ix2 ⟨(y 0).val, by have : (y 0).val < 16384 := (y 0).isLt; omega⟩ k)
    * w (ix3 0 k ⟨4096 + (y 1).val, by have : (y 1).val < 4096 := (y 1).isLt; omega⟩)

theorem index_eqs : ∀ t : Fin cfg0.N,
    (cfg0.win 0).index t = ![(grid0.coords t 1).val, 0]
    ∧ (cfg0.win 1).index t = ![0, 0, 4 + (grid0.coords t 0).val]
    ∧ (cfg0.win 2).index t = ![(grid0.coords t 1).val, (grid0.coords t 0).val] := by decide +kernel

theorem nblk_0 : (cfg0.win (2 : Fin 3)).nblk (0 : Fin 2) = 32 := by
  show (16384 + 512 - 1) / 512 = 32
  rfl

theorem nblk_1 : (cfg0.win (2 : Fin 3)).nblk (1 : Fin 2) = 4 := by
  show (4096 + 1024 - 1) / 1024 = 4
  rfl

theorem covers : (cfg0.win (2 : Fin 3)).Covers :=
  (cfg0.win (2 : Fin 3)).covers_of_indexMap_surj rfl (fun a => by fin_cases a <;> decide) fun β =>
    have h0 : (β (0 : Fin 2)).val < 32 := lt_of_lt_of_eq (β (0 : Fin 2)).isLt nblk_0
    have h1 : (β (1 : Fin 2)).val < 4 := lt_of_lt_of_eq (β (1 : Fin 2)).isLt nblk_1
    ⟨fun | ⟨0, _⟩ => ⟨(β (1 : Fin 2)).val, h1⟩ | ⟨1, _⟩ => ⟨(β (0 : Fin 2)).val, h0⟩, fun a => by
      fin_cases a
      · show (BitVec.ofNat 32 (β (0 : Fin 2)).val).toNat = (β (0 : Fin 2)).val
        rw [BitVec.toNat_ofNat]; omega
      · show (BitVec.ofNat 32 (β (1 : Fin 2)).val).toNat = (β (1 : Fin 2)).val
        rw [BitVec.toNat_ofNat]; omega⟩

variable (m : (ℓ : Loc nD τ sig) → Buf (Elt Ideal) ℓ) (c : Dev nD)

theorem left (t : Fin cfg0.N) : outsAt0 m c t = k0_pay1 (F := Ideal) (iblk m c 0 t) (X0_1 m c t) := by
  unfold outsAt0 out0_A_2 kernelRun0_A
  frame_out
  try rw [View.read_rep, View.read_rep]
  try rfl

/-- The block of the weights at a point lies within them, so it is read whole. -/
theorem weights (t : Fin cfg0.N) (k : Fin 4096) (e : Fin 1024) (C : Fin 12320) (hC : C.val = (4 + (grid0.coords t 0).val) * 1024 + e.val) :
    X0_1 m c t (ix3 0 k e) = m ((c : Thread nD τ).loc main_arg1) (ix3 0 k C) := by
  unfold X0_1 Pipeline.Window.fill
  rw [dif_pos (moved0_1 t _)]
  blk_ext [iblk, V, index_eqs t]

set_option maxHeartbeats 1000000 in
theorem arrAt_eq : (dats m 0 c).arrAt (2 : Fin 3) cfg0.N = rows (m ((c : Thread nD τ).loc main_arg0)) (m ((c : Thread nD τ).loc main_arg1)) := by
  refine (dats m 0 c).arrAt_eq_of_covers (2 : Fin 3) _ covers fun t hf y => ?_
  rw [after0_2, left]
  obtain ⟨r, e, rfl⟩ : ∃ (r : Fin 512) (e : Fin 1024), y = ix2 r e := ⟨y 0, y 1, eq_ix2 y⟩
  obtain ⟨I, hI⟩ : ∃ I : S16384x4096.Idx, I = ((cfg0.win (2 : Fin 3)).blk t).view.emb (ix2 r e) := ⟨_, rfl⟩
  have e0 : (I 0).val = (grid0.coords t 1).val * 512 + r.val := by
    rw [hI]
    blk_simp [index_eqs t]
  have e1 : (I 1).val = (grid0.coords t 0).val * 1024 + e.val := by
    rw [hI]
    blk_simp [index_eqs t]
  rw [← hI]
  clear hI
  obtain ⟨R, C, rfl⟩ : ∃ (R : Fin 16384) (C : Fin 4096), I = ix2 R C := ⟨I 0, I 1, eq_ix2 I⟩
  have eR : R.val = (grid0.coords t 1).val * 512 + r.val := e0
  have eC : C.val = (grid0.coords t 0).val * 1024 + e.val := e1
  blk_simp
  rw [pay1_at]
  have ha : ∀ k : Fin 4096, iblk m c 0 t (ix2 r k) = m ((c : Thread nD τ).loc main_arg0) (ix2 ⟨R.val, by omega⟩ k) := fun k => by
    blk_ext [iblk, V, index_eqs t]
  have hw : ∀ k : Fin 4096, X0_1 m c t (ix3 0 k e) = m ((c : Thread nD τ).loc main_arg1) (ix3 0 k ⟨4096 + C.val, by omega⟩) := fun k =>
    weights m c t k e _ (by show 4096 + C.val = _; omega)
  exact (show Eq (α := EReal) _ _ from Finset.sum_congr rfl fun k _ => congrArg₂ (· * ·) (ha k) (hw k))

/-! ## After the host operations -/

/-- The rows as batch, position and head. -/
def byHead (z : FVec Ideal S16384x4096 .f32) : FVec Ideal S1x8x2048x32x128 .f32 :=
  broadcastInDim S1x8x2048x32x128 ![1, 2, 3, 4] bcast_S8x2048x32x128_S1x8x2048x32x128_1_2_3_4 (shapeCast S8x2048x32x128 z shapeCasts_S16384x4096_S8x2048x32x128)

theorem byHead_at (z : FVec Ideal S16384x4096 .f32) (b : Fin 8) (t : Fin 2048) (n : Fin 32) (d : Fin 128) :
    byHead z (ix5 0 b t n d) = z (ix2 ⟨b.val * 2048 + t.val, by omega⟩ ⟨n.val * 128 + d.val, by omega⟩) := by
  pointwise [byHead]

theorem read_v2 (W : Valuation τ sig (Elt Ideal)) : StableHlo.after [hostOps1].flatten W (Proc.devRef .tc main_v2) = byHead (W (Proc.devRef .tc main_v0)) := by
  rw [List.flatten_cons, List.flatten_nil, List.append_nil]
  after_results <;> rfl

theorem after_v2 : Pipeline.afterTail₀ cfgs (dats m) 0 (V0 m) [hostOps1] c main_v2
    = byHead (rows (m ((c : Thread nD τ).loc main_arg0)) (m ((c : Thread nD τ).loc main_arg1))) :=
  (read_v2 (Pipeline.withArrays (cfgs 0).spec c (V0 m c) fun w => (dats m 0 c).arrAt w (cfgs 0).N)).trans
    (congrArg byHead ((Pipeline.withArrays_arr spec0 (by decide) c (V0 m c) (fun w => (dats m 0 c).arrAt w (cfgs 0).N) (2 : Fin 3)).trans (arrAt_eq m c)))

end Cert.KeysIdeal.Projection
end
-- ==== Proof.Keys.Ref.lean ====
module

public import proofs.«01_k».proof.Proof.Gen.KeysRefIdeal.Run
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The reference of the odd layer's projection, keys of the prompt, at an element. -/

@[expose] public section

set_option maxRecDepth 16384

noncomputable section

namespace Cert.KeysRefIdeal.Projection

open Cert.KeysRefIdeal Cert.KeysRefIdeal.Gen Cert.KeysRefIdeal.Value Idealize.ShloMosaic Idealize.ShloMosaic.TcCoe Idealize.SL.Sem

/-- The projected rows, every column. -/
def product (a : FVec Ideal S16896x4096 .bf16) (w : FVec Ideal S1x4096x12320 .f32) : FVec Ideal S16384x12320 .f32 :=
  Host.dotGeneral dot_S16384x4096_S4096x12320_S16384x12320_1_0_0_1_n_n none (extf .f32 (extractStridedSlice S16384x4096 ![0, 0] a slices_S16896x4096_S16384x4096_0_0) bitsLt_bf16_f32) (shapeCast _ w shapeCasts_S1x4096x12320_S4096x12320)

/-- The columns that are the keys of the prompt. -/
def part (a : FVec Ideal S16896x4096 .bf16) (w : FVec Ideal S1x4096x12320 .f32) : FVec Ideal S16384x4096 .f32 :=
  extractStridedSlice S16384x4096 ![0, 4096] (product a w) slices_S16384x12320_S16384x4096_0_4096

theorem product_at (a : FVec Ideal S16896x4096 .bf16) (w : FVec Ideal S1x4096x12320 .f32) (R : Fin 16384) (C : Fin 12320) :
    product a w (ix2 R C) = ∑ k : Fin 4096, a (ix2 ⟨R.val, by omega⟩ k) * w (ix3 0 k C) := by
  pointwise [product]

theorem part_at (a : FVec Ideal S16896x4096 .bf16) (w : FVec Ideal S1x4096x12320 .f32) (R : Fin 16384) (C : Fin 4096) :
    part a w (ix2 R C) = ∑ k : Fin 4096, a (ix2 ⟨R.val, by omega⟩ k) * w (ix3 0 k ⟨4096 + C.val, by omega⟩) := by
  rw [← product_at a w R ⟨4096 + C.val, by omega⟩]
  unfold part
  generalize product a w = z
  pointwise

/-- The rows as batch, position and head. -/
def byHead (z : FVec Ideal S16384x4096 .f32) : FVec Ideal S1x8x2048x32x128 .f32 :=
  shapeCast _ z shapeCasts_S16384x4096_S1x8x2048x32x128

theorem byHead_at (z : FVec Ideal S16384x4096 .f32) (b : Fin 8) (t : Fin 2048) (n : Fin 32) (d : Fin 128) :
    byHead z (ix5 0 b t n d) = z (ix2 ⟨b.val * 2048 + t.val, by omega⟩ ⟨n.val * 128 + d.val, by omega⟩) := by
  pointwise [byHead]

end Cert.KeysRefIdeal.Projection
end
-- ==== Proof.Keys.Claims.lean ====
module

public import proofs.«01_k».proof.Defs
public import proofs.«01_k».proof.Proof.Gen.Keys.Frame
public import proofs.«01_k».proof.Proof.Keys.Value
public import proofs.«01_k».proof.Proof.Keys.Ref
public import Idealize.ShloMosaic.Lib.Claim
public import Idealize.ShloMosaic.Lib.Quiescent

/-! The claims about the odd layer's projection, keys of the prompt: the reference's frame, and the kernel's array is the reference's. -/

@[expose] public section

set_option maxRecDepth 16384

noncomputable section

namespace Cert.KeysIdeal.Projection

open Cert.KeysIdeal Cert.KeysIdeal.Gen
open Idealize.ShloMosaic Idealize.ShloMosaic.TcCoe Idealize.SL.Sem

theorem frame_bits : Cert.quiescent_Keys := fun m g _ => Cert.Keys.Gen.frame m g

theorem frame_ideal : Cert.quiescent_KeysIdeal := fun m g _ => Cert.KeysIdeal.Gen.frame m g

theorem frame_ref : Cert.quiescent_KeysRefIdeal := by
  intro m g _
  hlo_run
  · exact fun _ => ⟨trivial, trivial⟩
  exact sem_eq_zero_of_no_sems (sig := Cert.KeysRefIdeal.sig) (by decide) _

/-- The kernel's rows are the reference's columns. -/
theorem rows_eq (a : S16896x4096.Idx → EReal) (w : S1x4096x12320.Idx → EReal) : rows a w = Cert.KeysRefIdeal.Projection.part a w := by
  funext I
  obtain ⟨R, C, rfl⟩ : ∃ (R : Fin 16384) (C : Fin 4096), I = ix2 R C := ⟨I 0, I 1, eq_ix2 I⟩
  exact (Cert.KeysRefIdeal.Projection.part_at a w R C).symm

theorem byHead_eq (z : S16384x4096.Idx → EReal) : byHead z = Cert.KeysRefIdeal.Projection.byHead z := by
  funext I
  obtain ⟨u, b, t, n, d, rfl⟩ : ∃ (u : Fin 1) (b : Fin 8) (t : Fin 2048) (n : Fin 32) (d : Fin 128), I = ix5 u b t n d := ⟨I 0, I 1, I 2, I 3, I 4, eq_ix5 I⟩
  obtain rfl : u = 0 := Fin.fin_one_eq_zero u
  exact (byHead_at z b t n d).trans (Cert.KeysRefIdeal.Projection.byHead_at z b t n d).symm

theorem algebraic : Cert.algebraic_KeysIdeal_KeysRefIdeal := by
  intro m g m' g' _ hagree
  refine ⟨fun c => byHead (rows (m ((c : Thread nD τ).loc main_arg0)) (m ((c : Thread nD τ).loc main_arg1))), ?_, ?_⟩
  · refine (θ_run _ _ _).mono (fun r h c => ?_) (Cert.KeysIdeal.Gen.run_main m g)
    exact ⟨((h c).2 main_v2 (Pipeline.mem_restRefs_of main_v2 (by decide) (by decide))).trans (after_v2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run _ _ _).mono (fun r h c => ?_) (Cert.KeysRefIdeal.Value.run (F := Ideal) m' g')
    obtain ⟨h0, h1⟩ := hagree c
    refine ⟨(h c).1.trans ?_, (h c).2⟩
    have hz : Cert.KeysRefIdeal.Projection.part (m' (c.tc.loc Cert.KeysRefIdeal.main_arg0)) (m' (c.tc.loc Cert.KeysRefIdeal.main_arg1)) = rows (m ((c : Thread nD τ).loc main_arg0)) (m ((c : Thread nD τ).loc main_arg1)) := by
      rw [h0, h1]
      exact (rows_eq _ _).symm
    exact Eq.trans (b := Cert.KeysRefIdeal.Projection.byHead (Cert.KeysRefIdeal.Projection.part (m' (c.tc.loc Cert.KeysRefIdeal.main_arg0)) (m' (c.tc.loc Cert.KeysRefIdeal.main_arg1)))) rfl (by rw [hz]; exact (byHead_eq _).symm)

end Cert.KeysIdeal.Projection
end
-- ==== Proof.Values.Value.lean ====
module

public import proofs.«01_k».proof.Proof.Gen.ValuesIdeal.Frame
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The odd layer's projection, values of the prompt: what the body computes at a point, and the array the pipeline leaves. -/

@[expose] public section

set_option maxRecDepth 16384

noncomputable section

namespace Cert.ValuesIdeal.Projection

open Cert.ValuesIdeal Cert.ValuesIdeal.Gen Idealize.ShloMosaic Idealize.ShloMosaic.TcCoe Idealize.SL.Sem

theorem pay1_at (a : S512x4096.Idx → EReal) (w : S1x4096x1024.Idx → EReal) (r : Fin 512) (e : Fin 1024) :
    k0_pay1 (F := Ideal) a w (ix2 r e) = ∑ k : Fin 4096, a (ix2 r k) * w (ix3 0 k e) := by
  unfold k0_pay1
  pointwise

/-- The projected rows. -/
def rows (a : S16896x4096.Idx → EReal) (w : S1x4096x12320.Idx → EReal) (y : S16384x4096.Idx) : EReal :=
  ∑ k : Fin 4096, a (ix2 ⟨(y 0).val, by have : (y 0).val < 16384 := (y 0).isLt; omega⟩ k)
    * w (ix3 0 k ⟨8192 + (y 1).val, by have : (y 1).val < 4096 := (y 1).isLt; omega⟩)

theorem index_eqs : ∀ t : Fin cfg0.N,
    (cfg0.win 0).index t = ![(grid0.coords t 1).val, 0]
    ∧ (cfg0.win 1).index t = ![0, 0, 8 + (grid0.coords t 0).val]
    ∧ (cfg0.win 2).index t = ![(grid0.coords t 1).val, (grid0.coords t 0).val] := by decide +kernel

theorem nblk_0 : (cfg0.win (2 : Fin 3)).nblk (0 : Fin 2) = 32 := by
  show (16384 + 512 - 1) / 512 = 32
  rfl

theorem nblk_1 : (cfg0.win (2 : Fin 3)).nblk (1 : Fin 2) = 4 := by
  show (4096 + 1024 - 1) / 1024 = 4
  rfl

theorem covers : (cfg0.win (2 : Fin 3)).Covers :=
  (cfg0.win (2 : Fin 3)).covers_of_indexMap_surj rfl (fun a => by fin_cases a <;> decide) fun β =>
    have h0 : (β (0 : Fin 2)).val < 32 := lt_of_lt_of_eq (β (0 : Fin 2)).isLt nblk_0
    have h1 : (β (1 : Fin 2)).val < 4 := lt_of_lt_of_eq (β (1 : Fin 2)).isLt nblk_1
    ⟨fun | ⟨0, _⟩ => ⟨(β (1 : Fin 2)).val, h1⟩ | ⟨1, _⟩ => ⟨(β (0 : Fin 2)).val, h0⟩, fun a => by
      fin_cases a
      · show (BitVec.ofNat 32 (β (0 : Fin 2)).val).toNat = (β (0 : Fin 2)).val
        rw [BitVec.toNat_ofNat]; omega
      · show (BitVec.ofNat 32 (β (1 : Fin 2)).val).toNat = (β (1 : Fin 2)).val
        rw [BitVec.toNat_ofNat]; omega⟩

variable (m : (ℓ : Loc nD τ sig) → Buf (Elt Ideal) ℓ) (c : Dev nD)

theorem left (t : Fin cfg0.N) : outsAt0 m c t = k0_pay1 (F := Ideal) (iblk m c 0 t) (X0_1 m c t) := by
  unfold outsAt0 out0_A_2 kernelRun0_A
  frame_out
  try rw [View.read_rep, View.read_rep]
  try rfl

/-- The block of the weights at a point lies within them, so it is read whole. -/
theorem weights (t : Fin cfg0.N) (k : Fin 4096) (e : Fin 1024) (C : Fin 12320) (hC : C.val = (8 + (grid0.coords t 0).val) * 1024 + e.val) :
    X0_1 m c t (ix3 0 k e) = m ((c : Thread nD τ).loc main_arg1) (ix3 0 k C) := by
  unfold X0_1 Pipeline.Window.fill
  rw [dif_pos (moved0_1 t _)]
  blk_ext [iblk, V, index_eqs t]

set_option maxHeartbeats 1000000 in
theorem arrAt_eq : (dats m 0 c).arrAt (2 : Fin 3) cfg0.N = rows (m ((c : Thread nD τ).loc main_arg0)) (m ((c : Thread nD τ).loc main_arg1)) := by
  refine (dats m 0 c).arrAt_eq_of_covers (2 : Fin 3) _ covers fun t hf y => ?_
  rw [after0_2, left]
  obtain ⟨r, e, rfl⟩ : ∃ (r : Fin 512) (e : Fin 1024), y = ix2 r e := ⟨y 0, y 1, eq_ix2 y⟩
  obtain ⟨I, hI⟩ : ∃ I : S16384x4096.Idx, I = ((cfg0.win (2 : Fin 3)).blk t).view.emb (ix2 r e) := ⟨_, rfl⟩
  have e0 : (I 0).val = (grid0.coords t 1).val * 512 + r.val := by
    rw [hI]
    blk_simp [index_eqs t]
  have e1 : (I 1).val = (grid0.coords t 0).val * 1024 + e.val := by
    rw [hI]
    blk_simp [index_eqs t]
  rw [← hI]
  clear hI
  obtain ⟨R, C, rfl⟩ : ∃ (R : Fin 16384) (C : Fin 4096), I = ix2 R C := ⟨I 0, I 1, eq_ix2 I⟩
  have eR : R.val = (grid0.coords t 1).val * 512 + r.val := e0
  have eC : C.val = (grid0.coords t 0).val * 1024 + e.val := e1
  blk_simp
  rw [pay1_at]
  have ha : ∀ k : Fin 4096, iblk m c 0 t (ix2 r k) = m ((c : Thread nD τ).loc main_arg0) (ix2 ⟨R.val, by omega⟩ k) := fun k => by
    blk_ext [iblk, V, index_eqs t]
  have hw : ∀ k : Fin 4096, X0_1 m c t (ix3 0 k e) = m ((c : Thread nD τ).loc main_arg1) (ix3 0 k ⟨8192 + C.val, by omega⟩) := fun k =>
    weights m c t k e _ (by show 8192 + C.val = _; omega)
  exact (show Eq (α := EReal) _ _ from Finset.sum_congr rfl fun k _ => congrArg₂ (· * ·) (ha k) (hw k))

/-! ## After the host operations -/

/-- The rows as batch, position and head. -/
def byHead (z : FVec Ideal S16384x4096 .f32) : FVec Ideal S1x8x2048x32x128 .f32 :=
  broadcastInDim S1x8x2048x32x128 ![1, 2, 3, 4] bcast_S8x2048x32x128_S1x8x2048x32x128_1_2_3_4 (shapeCast S8x2048x32x128 z shapeCasts_S16384x4096_S8x2048x32x128)

theorem byHead_at (z : FVec Ideal S16384x4096 .f32) (b : Fin 8) (t : Fin 2048) (n : Fin 32) (d : Fin 128) :
    byHead z (ix5 0 b t n d) = z (ix2 ⟨b.val * 2048 + t.val, by omega⟩ ⟨n.val * 128 + d.val, by omega⟩) := by
  pointwise [byHead]

theorem read_v2 (W : Valuation τ sig (Elt Ideal)) : StableHlo.after [hostOps1].flatten W (Proc.devRef .tc main_v2) = byHead (W (Proc.devRef .tc main_v0)) := by
  rw [List.flatten_cons, List.flatten_nil, List.append_nil]
  after_results <;> rfl

theorem after_v2 : Pipeline.afterTail₀ cfgs (dats m) 0 (V0 m) [hostOps1] c main_v2
    = byHead (rows (m ((c : Thread nD τ).loc main_arg0)) (m ((c : Thread nD τ).loc main_arg1))) :=
  (read_v2 (Pipeline.withArrays (cfgs 0).spec c (V0 m c) fun w => (dats m 0 c).arrAt w (cfgs 0).N)).trans
    (congrArg byHead ((Pipeline.withArrays_arr spec0 (by decide) c (V0 m c) (fun w => (dats m 0 c).arrAt w (cfgs 0).N) (2 : Fin 3)).trans (arrAt_eq m c)))

end Cert.ValuesIdeal.Projection
end
-- ==== Proof.Values.Ref.lean ====
module

public import proofs.«01_k».proof.Proof.Gen.ValuesRefIdeal.Run
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The reference of the odd layer's projection, values of the prompt, at an element. -/

@[expose] public section

set_option maxRecDepth 16384

noncomputable section

namespace Cert.ValuesRefIdeal.Projection

open Cert.ValuesRefIdeal Cert.ValuesRefIdeal.Gen Cert.ValuesRefIdeal.Value Idealize.ShloMosaic Idealize.ShloMosaic.TcCoe Idealize.SL.Sem

/-- The projected rows, every column. -/
def product (a : FVec Ideal S16896x4096 .bf16) (w : FVec Ideal S1x4096x12320 .f32) : FVec Ideal S16384x12320 .f32 :=
  Host.dotGeneral dot_S16384x4096_S4096x12320_S16384x12320_1_0_0_1_n_n none (extf .f32 (extractStridedSlice S16384x4096 ![0, 0] a slices_S16896x4096_S16384x4096_0_0) bitsLt_bf16_f32) (shapeCast _ w shapeCasts_S1x4096x12320_S4096x12320)

/-- The columns that are the values of the prompt. -/
def part (a : FVec Ideal S16896x4096 .bf16) (w : FVec Ideal S1x4096x12320 .f32) : FVec Ideal S16384x4096 .f32 :=
  extractStridedSlice S16384x4096 ![0, 8192] (product a w) slices_S16384x12320_S16384x4096_0_8192

theorem product_at (a : FVec Ideal S16896x4096 .bf16) (w : FVec Ideal S1x4096x12320 .f32) (R : Fin 16384) (C : Fin 12320) :
    product a w (ix2 R C) = ∑ k : Fin 4096, a (ix2 ⟨R.val, by omega⟩ k) * w (ix3 0 k C) := by
  pointwise [product]

theorem part_at (a : FVec Ideal S16896x4096 .bf16) (w : FVec Ideal S1x4096x12320 .f32) (R : Fin 16384) (C : Fin 4096) :
    part a w (ix2 R C) = ∑ k : Fin 4096, a (ix2 ⟨R.val, by omega⟩ k) * w (ix3 0 k ⟨8192 + C.val, by omega⟩) := by
  rw [← product_at a w R ⟨8192 + C.val, by omega⟩]
  unfold part
  generalize product a w = z
  pointwise

/-- The rows as batch, position and head. -/
def byHead (z : FVec Ideal S16384x4096 .f32) : FVec Ideal S1x8x2048x32x128 .f32 :=
  shapeCast _ z shapeCasts_S16384x4096_S1x8x2048x32x128

theorem byHead_at (z : FVec Ideal S16384x4096 .f32) (b : Fin 8) (t : Fin 2048) (n : Fin 32) (d : Fin 128) :
    byHead z (ix5 0 b t n d) = z (ix2 ⟨b.val * 2048 + t.val, by omega⟩ ⟨n.val * 128 + d.val, by omega⟩) := by
  pointwise [byHead]

end Cert.ValuesRefIdeal.Projection
end
-- ==== Proof.Values.Claims.lean ====
module

public import proofs.«01_k».proof.Defs
public import proofs.«01_k».proof.Proof.Gen.Values.Frame
public import proofs.«01_k».proof.Proof.Values.Value
public import proofs.«01_k».proof.Proof.Values.Ref
public import Idealize.ShloMosaic.Lib.Claim
public import Idealize.ShloMosaic.Lib.Quiescent

/-! The claims about the odd layer's projection, values of the prompt: the reference's frame, and the kernel's array is the reference's. -/

@[expose] public section

set_option maxRecDepth 16384

noncomputable section

namespace Cert.ValuesIdeal.Projection

open Cert.ValuesIdeal Cert.ValuesIdeal.Gen
open Idealize.ShloMosaic Idealize.ShloMosaic.TcCoe Idealize.SL.Sem

theorem frame_bits : Cert.quiescent_Values := fun m g _ => Cert.Values.Gen.frame m g

theorem frame_ideal : Cert.quiescent_ValuesIdeal := fun m g _ => Cert.ValuesIdeal.Gen.frame m g

theorem frame_ref : Cert.quiescent_ValuesRefIdeal := by
  intro m g _
  hlo_run
  · exact fun _ => ⟨trivial, trivial⟩
  exact sem_eq_zero_of_no_sems (sig := Cert.ValuesRefIdeal.sig) (by decide) _

/-- The kernel's rows are the reference's columns. -/
theorem rows_eq (a : S16896x4096.Idx → EReal) (w : S1x4096x12320.Idx → EReal) : rows a w = Cert.ValuesRefIdeal.Projection.part a w := by
  funext I
  obtain ⟨R, C, rfl⟩ : ∃ (R : Fin 16384) (C : Fin 4096), I = ix2 R C := ⟨I 0, I 1, eq_ix2 I⟩
  exact (Cert.ValuesRefIdeal.Projection.part_at a w R C).symm

theorem byHead_eq (z : S16384x4096.Idx → EReal) : byHead z = Cert.ValuesRefIdeal.Projection.byHead z := by
  funext I
  obtain ⟨u, b, t, n, d, rfl⟩ : ∃ (u : Fin 1) (b : Fin 8) (t : Fin 2048) (n : Fin 32) (d : Fin 128), I = ix5 u b t n d := ⟨I 0, I 1, I 2, I 3, I 4, eq_ix5 I⟩
  obtain rfl : u = 0 := Fin.fin_one_eq_zero u
  exact (byHead_at z b t n d).trans (Cert.ValuesRefIdeal.Projection.byHead_at z b t n d).symm

theorem algebraic : Cert.algebraic_ValuesIdeal_ValuesRefIdeal := by
  intro m g m' g' _ hagree
  refine ⟨fun c => byHead (rows (m ((c : Thread nD τ).loc main_arg0)) (m ((c : Thread nD τ).loc main_arg1))), ?_, ?_⟩
  · refine (θ_run _ _ _).mono (fun r h c => ?_) (Cert.ValuesIdeal.Gen.run_main m g)
    exact ⟨((h c).2 main_v2 (Pipeline.mem_restRefs_of main_v2 (by decide) (by decide))).trans (after_v2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run _ _ _).mono (fun r h c => ?_) (Cert.ValuesRefIdeal.Value.run (F := Ideal) m' g')
    obtain ⟨h0, h1⟩ := hagree c
    refine ⟨(h c).1.trans ?_, (h c).2⟩
    have hz : Cert.ValuesRefIdeal.Projection.part (m' (c.tc.loc Cert.ValuesRefIdeal.main_arg0)) (m' (c.tc.loc Cert.ValuesRefIdeal.main_arg1)) = rows (m ((c : Thread nD τ).loc main_arg0)) (m ((c : Thread nD τ).loc main_arg1)) := by
      rw [h0, h1]
      exact (rows_eq _ _).symm
    exact Eq.trans (b := Cert.ValuesRefIdeal.Projection.byHead (Cert.ValuesRefIdeal.Projection.part (m' (c.tc.loc Cert.ValuesRefIdeal.main_arg0)) (m' (c.tc.loc Cert.ValuesRefIdeal.main_arg1)))) rfl (by rw [hz]; exact (byHead_eq _).symm)

end Cert.ValuesIdeal.Projection
end
-- ==== Proof.KeysNew.Value.lean ====
module

public import proofs.«01_k».proof.Proof.Gen.KeysNewIdeal.Frame
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The odd layer's projection, keys of the sample: what the body computes at a point, and the array the pipeline leaves. -/

@[expose] public section

set_option maxRecDepth 16384

noncomputable section

namespace Cert.KeysNewIdeal.Projection

open Cert.KeysNewIdeal Cert.KeysNewIdeal.Gen Idealize.ShloMosaic Idealize.ShloMosaic.TcCoe Idealize.SL.Sem

theorem pay1_at (a : S512x4096.Idx → EReal) (w : S1x4096x1024.Idx → EReal) (r : Fin 512) (e : Fin 1024) :
    k0_pay1 (F := Ideal) a w (ix2 r e) = ∑ k : Fin 4096, a (ix2 r k) * w (ix3 0 k e) := by
  unfold k0_pay1
  pointwise

/-- The projected rows. -/
def rows (a : S16896x4096.Idx → EReal) (w : S1x4096x12320.Idx → EReal) (y : S512x4096.Idx) : EReal :=
  ∑ k : Fin 4096, a (ix2 ⟨16384 + (y 0).val, by have : (y 0).val < 512 := (y 0).isLt; omega⟩ k)
    * w (ix3 0 k ⟨4096 + (y 1).val, by have : (y 1).val < 4096 := (y 1).isLt; omega⟩)

theorem index_eqs : ∀ t : Fin cfg0.N,
    (cfg0.win 0).index t = ![32 + (grid0.coords t 1).val, 0]
    ∧ (cfg0.win 1).index t = ![0, 0, 4 + (grid0.coords t 0).val]
    ∧ (cfg0.win 2).index t = ![(grid0.coords t 1).val, (grid0.coords t 0).val] := by decide +kernel

theorem nblk_0 : (cfg0.win (2 : Fin 3)).nblk (0 : Fin 2) = 1 := by
  show (512 + 512 - 1) / 512 = 1
  rfl

theorem nblk_1 : (cfg0.win (2 : Fin 3)).nblk (1 : Fin 2) = 4 := by
  show (4096 + 1024 - 1) / 1024 = 4
  rfl

theorem covers : (cfg0.win (2 : Fin 3)).Covers :=
  (cfg0.win (2 : Fin 3)).covers_of_indexMap_surj rfl (fun a => by fin_cases a <;> decide) fun β =>
    have h0 : (β (0 : Fin 2)).val < 1 := lt_of_lt_of_eq (β (0 : Fin 2)).isLt nblk_0
    have h1 : (β (1 : Fin 2)).val < 4 := lt_of_lt_of_eq (β (1 : Fin 2)).isLt nblk_1
    ⟨fun | ⟨0, _⟩ => ⟨(β (1 : Fin 2)).val, h1⟩ | ⟨1, _⟩ => ⟨(β (0 : Fin 2)).val, h0⟩, fun a => by
      fin_cases a
      · show (BitVec.ofNat 32 (β (0 : Fin 2)).val).toNat = (β (0 : Fin 2)).val
        rw [BitVec.toNat_ofNat]; omega
      · show (BitVec.ofNat 32 (β (1 : Fin 2)).val).toNat = (β (1 : Fin 2)).val
        rw [BitVec.toNat_ofNat]; omega⟩

variable (m : (ℓ : Loc nD τ sig) → Buf (Elt Ideal) ℓ) (c : Dev nD)

theorem left (t : Fin cfg0.N) : outsAt0 m c t = k0_pay1 (F := Ideal) (iblk m c 0 t) (X0_1 m c t) := by
  unfold outsAt0 out0_A_2 kernelRun0_A
  frame_out
  try rw [View.read_rep, View.read_rep]
  try rfl

/-- The block of the weights at a point lies within them, so it is read whole. -/
theorem weights (t : Fin cfg0.N) (k : Fin 4096) (e : Fin 1024) (C : Fin 12320) (hC : C.val = (4 + (grid0.coords t 0).val) * 1024 + e.val) :
    X0_1 m c t (ix3 0 k e) = m ((c : Thread nD τ).loc main_arg1) (ix3 0 k C) := by
  unfold X0_1 Pipeline.Window.fill
  rw [dif_pos (moved0_1 t _)]
  blk_ext [iblk, V, index_eqs t]

set_option maxHeartbeats 1000000 in
theorem arrAt_eq : (dats m 0 c).arrAt (2 : Fin 3) cfg0.N = rows (m ((c : Thread nD τ).loc main_arg0)) (m ((c : Thread nD τ).loc main_arg1)) := by
  refine (dats m 0 c).arrAt_eq_of_covers (2 : Fin 3) _ covers fun t hf y => ?_
  rw [after0_2, left]
  obtain ⟨r, e, rfl⟩ : ∃ (r : Fin 512) (e : Fin 1024), y = ix2 r e := ⟨y 0, y 1, eq_ix2 y⟩
  obtain ⟨I, hI⟩ : ∃ I : S512x4096.Idx, I = ((cfg0.win (2 : Fin 3)).blk t).view.emb (ix2 r e) := ⟨_, rfl⟩
  have e0 : (I 0).val = (grid0.coords t 1).val * 512 + r.val := by
    rw [hI]
    blk_simp [index_eqs t]
  have e1 : (I 1).val = (grid0.coords t 0).val * 1024 + e.val := by
    rw [hI]
    blk_simp [index_eqs t]
  rw [← hI]
  clear hI
  obtain ⟨R, C, rfl⟩ : ∃ (R : Fin 512) (C : Fin 4096), I = ix2 R C := ⟨I 0, I 1, eq_ix2 I⟩
  have eR : R.val = (grid0.coords t 1).val * 512 + r.val := e0
  have eC : C.val = (grid0.coords t 0).val * 1024 + e.val := e1
  blk_simp
  rw [pay1_at]
  have ha : ∀ k : Fin 4096, iblk m c 0 t (ix2 r k) = m ((c : Thread nD τ).loc main_arg0) (ix2 ⟨16384 + R.val, by omega⟩ k) := fun k => by
    blk_ext [iblk, V, index_eqs t]
  have hw : ∀ k : Fin 4096, X0_1 m c t (ix3 0 k e) = m ((c : Thread nD τ).loc main_arg1) (ix3 0 k ⟨4096 + C.val, by omega⟩) := fun k =>
    weights m c t k e _ (by show 4096 + C.val = _; omega)
  exact (show Eq (α := EReal) _ _ from Finset.sum_congr rfl fun k _ => congrArg₂ (· * ·) (ha k) (hw k))

/-! ## After the host operations -/

/-- The rows as batch, position and head. -/
def byHead (z : FVec Ideal S512x4096 .f32) : FVec Ideal S1x16x32x32x128 .f32 :=
  broadcastInDim S1x16x32x32x128 ![1, 2, 3, 4] bcast_S16x32x32x128_S1x16x32x32x128_1_2_3_4 (shapeCast S16x32x32x128 z shapeCasts_S512x4096_S16x32x32x128)

theorem byHead_at (z : FVec Ideal S512x4096 .f32) (b : Fin 16) (t : Fin 32) (n : Fin 32) (d : Fin 128) :
    byHead z (ix5 0 b t n d) = z (ix2 ⟨b.val * 32 + t.val, by omega⟩ ⟨n.val * 128 + d.val, by omega⟩) := by
  pointwise [byHead]

theorem read_v2 (W : Valuation τ sig (Elt Ideal)) : StableHlo.after [hostOps1].flatten W (Proc.devRef .tc main_v2) = byHead (W (Proc.devRef .tc main_v0)) := by
  rw [List.flatten_cons, List.flatten_nil, List.append_nil]
  after_results <;> rfl

theorem after_v2 : Pipeline.afterTail₀ cfgs (dats m) 0 (V0 m) [hostOps1] c main_v2
    = byHead (rows (m ((c : Thread nD τ).loc main_arg0)) (m ((c : Thread nD τ).loc main_arg1))) :=
  (read_v2 (Pipeline.withArrays (cfgs 0).spec c (V0 m c) fun w => (dats m 0 c).arrAt w (cfgs 0).N)).trans
    (congrArg byHead ((Pipeline.withArrays_arr spec0 (by decide) c (V0 m c) (fun w => (dats m 0 c).arrAt w (cfgs 0).N) (2 : Fin 3)).trans (arrAt_eq m c)))

end Cert.KeysNewIdeal.Projection
end
-- ==== Proof.KeysNew.Ref.lean ====
module

public import proofs.«01_k».proof.Proof.Gen.KeysNewRefIdeal.Run
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The reference of the odd layer's projection, keys of the sample, at an element. -/

@[expose] public section

set_option maxRecDepth 16384

noncomputable section

namespace Cert.KeysNewRefIdeal.Projection

open Cert.KeysNewRefIdeal Cert.KeysNewRefIdeal.Gen Cert.KeysNewRefIdeal.Value Idealize.ShloMosaic Idealize.ShloMosaic.TcCoe Idealize.SL.Sem

/-- The projected rows, every column. -/
def product (a : FVec Ideal S16896x4096 .bf16) (w : FVec Ideal S1x4096x12320 .f32) : FVec Ideal S512x12320 .f32 :=
  Host.dotGeneral dot_S512x4096_S4096x12320_S512x12320_1_0_0_1_n_n none (extf .f32 (extractStridedSlice S512x4096 ![16384, 0] a slices_S16896x4096_S512x4096_16384_0) bitsLt_bf16_f32) (shapeCast _ w shapeCasts_S1x4096x12320_S4096x12320)

/-- The columns that are the keys of the sample. -/
def part (a : FVec Ideal S16896x4096 .bf16) (w : FVec Ideal S1x4096x12320 .f32) : FVec Ideal S512x4096 .f32 :=
  extractStridedSlice S512x4096 ![0, 4096] (product a w) slices_S512x12320_S512x4096_0_4096

theorem product_at (a : FVec Ideal S16896x4096 .bf16) (w : FVec Ideal S1x4096x12320 .f32) (R : Fin 512) (C : Fin 12320) :
    product a w (ix2 R C) = ∑ k : Fin 4096, a (ix2 ⟨16384 + R.val, by omega⟩ k) * w (ix3 0 k C) := by
  pointwise [product]

theorem part_at (a : FVec Ideal S16896x4096 .bf16) (w : FVec Ideal S1x4096x12320 .f32) (R : Fin 512) (C : Fin 4096) :
    part a w (ix2 R C) = ∑ k : Fin 4096, a (ix2 ⟨16384 + R.val, by omega⟩ k) * w (ix3 0 k ⟨4096 + C.val, by omega⟩) := by
  rw [← product_at a w R ⟨4096 + C.val, by omega⟩]
  unfold part
  generalize product a w = z
  pointwise

/-- The rows as batch, position and head. -/
def byHead (z : FVec Ideal S512x4096 .f32) : FVec Ideal S1x16x32x32x128 .f32 :=
  shapeCast _ z shapeCasts_S512x4096_S1x16x32x32x128

theorem byHead_at (z : FVec Ideal S512x4096 .f32) (b : Fin 16) (t : Fin 32) (n : Fin 32) (d : Fin 128) :
    byHead z (ix5 0 b t n d) = z (ix2 ⟨b.val * 32 + t.val, by omega⟩ ⟨n.val * 128 + d.val, by omega⟩) := by
  pointwise [byHead]

end Cert.KeysNewRefIdeal.Projection
end
-- ==== Proof.KeysNew.Claims.lean ====
module

public import proofs.«01_k».proof.Defs
public import proofs.«01_k».proof.Proof.Gen.KeysNew.Frame
public import proofs.«01_k».proof.Proof.KeysNew.Value
public import proofs.«01_k».proof.Proof.KeysNew.Ref
public import Idealize.ShloMosaic.Lib.Claim
public import Idealize.ShloMosaic.Lib.Quiescent

/-! The claims about the odd layer's projection, keys of the sample: the reference's frame, and the kernel's array is the reference's. -/

@[expose] public section

set_option maxRecDepth 16384

noncomputable section

namespace Cert.KeysNewIdeal.Projection

open Cert.KeysNewIdeal Cert.KeysNewIdeal.Gen
open Idealize.ShloMosaic Idealize.ShloMosaic.TcCoe Idealize.SL.Sem

theorem frame_bits : Cert.quiescent_KeysNew := fun m g _ => Cert.KeysNew.Gen.frame m g

theorem frame_ideal : Cert.quiescent_KeysNewIdeal := fun m g _ => Cert.KeysNewIdeal.Gen.frame m g

theorem frame_ref : Cert.quiescent_KeysNewRefIdeal := by
  intro m g _
  hlo_run
  · exact fun _ => ⟨trivial, trivial⟩
  exact sem_eq_zero_of_no_sems (sig := Cert.KeysNewRefIdeal.sig) (by decide) _

/-- The kernel's rows are the reference's columns. -/
theorem rows_eq (a : S16896x4096.Idx → EReal) (w : S1x4096x12320.Idx → EReal) : rows a w = Cert.KeysNewRefIdeal.Projection.part a w := by
  funext I
  obtain ⟨R, C, rfl⟩ : ∃ (R : Fin 512) (C : Fin 4096), I = ix2 R C := ⟨I 0, I 1, eq_ix2 I⟩
  exact (Cert.KeysNewRefIdeal.Projection.part_at a w R C).symm

theorem byHead_eq (z : S512x4096.Idx → EReal) : byHead z = Cert.KeysNewRefIdeal.Projection.byHead z := by
  funext I
  obtain ⟨u, b, t, n, d, rfl⟩ : ∃ (u : Fin 1) (b : Fin 16) (t : Fin 32) (n : Fin 32) (d : Fin 128), I = ix5 u b t n d := ⟨I 0, I 1, I 2, I 3, I 4, eq_ix5 I⟩
  obtain rfl : u = 0 := Fin.fin_one_eq_zero u
  exact (byHead_at z b t n d).trans (Cert.KeysNewRefIdeal.Projection.byHead_at z b t n d).symm

theorem algebraic : Cert.algebraic_KeysNewIdeal_KeysNewRefIdeal := by
  intro m g m' g' _ hagree
  refine ⟨fun c => byHead (rows (m ((c : Thread nD τ).loc main_arg0)) (m ((c : Thread nD τ).loc main_arg1))), ?_, ?_⟩
  · refine (θ_run _ _ _).mono (fun r h c => ?_) (Cert.KeysNewIdeal.Gen.run_main m g)
    exact ⟨((h c).2 main_v2 (Pipeline.mem_restRefs_of main_v2 (by decide) (by decide))).trans (after_v2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run _ _ _).mono (fun r h c => ?_) (Cert.KeysNewRefIdeal.Value.run (F := Ideal) m' g')
    obtain ⟨h0, h1⟩ := hagree c
    refine ⟨(h c).1.trans ?_, (h c).2⟩
    have hz : Cert.KeysNewRefIdeal.Projection.part (m' (c.tc.loc Cert.KeysNewRefIdeal.main_arg0)) (m' (c.tc.loc Cert.KeysNewRefIdeal.main_arg1)) = rows (m ((c : Thread nD τ).loc main_arg0)) (m ((c : Thread nD τ).loc main_arg1)) := by
      rw [h0, h1]
      exact (rows_eq _ _).symm
    exact Eq.trans (b := Cert.KeysNewRefIdeal.Projection.byHead (Cert.KeysNewRefIdeal.Projection.part (m' (c.tc.loc Cert.KeysNewRefIdeal.main_arg0)) (m' (c.tc.loc Cert.KeysNewRefIdeal.main_arg1)))) rfl (by rw [hz]; exact (byHead_eq _).symm)

end Cert.KeysNewIdeal.Projection
end
-- ==== Proof.ValuesNew.Value.lean ====
module

public import proofs.«01_k».proof.Proof.Gen.ValuesNewIdeal.Frame
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The odd layer's projection, values of the sample: what the body computes at a point, and the array the pipeline leaves. -/

@[expose] public section

set_option maxRecDepth 16384

noncomputable section

namespace Cert.ValuesNewIdeal.Projection

open Cert.ValuesNewIdeal Cert.ValuesNewIdeal.Gen Idealize.ShloMosaic Idealize.ShloMosaic.TcCoe Idealize.SL.Sem

theorem pay1_at (a : S512x4096.Idx → EReal) (w : S1x4096x1024.Idx → EReal) (r : Fin 512) (e : Fin 1024) :
    k0_pay1 (F := Ideal) a w (ix2 r e) = ∑ k : Fin 4096, a (ix2 r k) * w (ix3 0 k e) := by
  unfold k0_pay1
  pointwise

/-- The projected rows. -/
def rows (a : S16896x4096.Idx → EReal) (w : S1x4096x12320.Idx → EReal) (y : S512x4096.Idx) : EReal :=
  ∑ k : Fin 4096, a (ix2 ⟨16384 + (y 0).val, by have : (y 0).val < 512 := (y 0).isLt; omega⟩ k)
    * w (ix3 0 k ⟨8192 + (y 1).val, by have : (y 1).val < 4096 := (y 1).isLt; omega⟩)

theorem index_eqs : ∀ t : Fin cfg0.N,
    (cfg0.win 0).index t = ![32 + (grid0.coords t 1).val, 0]
    ∧ (cfg0.win 1).index t = ![0, 0, 8 + (grid0.coords t 0).val]
    ∧ (cfg0.win 2).index t = ![(grid0.coords t 1).val, (grid0.coords t 0).val] := by decide +kernel

theorem nblk_0 : (cfg0.win (2 : Fin 3)).nblk (0 : Fin 2) = 1 := by
  show (512 + 512 - 1) / 512 = 1
  rfl

theorem nblk_1 : (cfg0.win (2 : Fin 3)).nblk (1 : Fin 2) = 4 := by
  show (4096 + 1024 - 1) / 1024 = 4
  rfl

theorem covers : (cfg0.win (2 : Fin 3)).Covers :=
  (cfg0.win (2 : Fin 3)).covers_of_indexMap_surj rfl (fun a => by fin_cases a <;> decide) fun β =>
    have h0 : (β (0 : Fin 2)).val < 1 := lt_of_lt_of_eq (β (0 : Fin 2)).isLt nblk_0
    have h1 : (β (1 : Fin 2)).val < 4 := lt_of_lt_of_eq (β (1 : Fin 2)).isLt nblk_1
    ⟨fun | ⟨0, _⟩ => ⟨(β (1 : Fin 2)).val, h1⟩ | ⟨1, _⟩ => ⟨(β (0 : Fin 2)).val, h0⟩, fun a => by
      fin_cases a
      · show (BitVec.ofNat 32 (β (0 : Fin 2)).val).toNat = (β (0 : Fin 2)).val
        rw [BitVec.toNat_ofNat]; omega
      · show (BitVec.ofNat 32 (β (1 : Fin 2)).val).toNat = (β (1 : Fin 2)).val
        rw [BitVec.toNat_ofNat]; omega⟩

variable (m : (ℓ : Loc nD τ sig) → Buf (Elt Ideal) ℓ) (c : Dev nD)

theorem left (t : Fin cfg0.N) : outsAt0 m c t = k0_pay1 (F := Ideal) (iblk m c 0 t) (X0_1 m c t) := by
  unfold outsAt0 out0_A_2 kernelRun0_A
  frame_out
  try rw [View.read_rep, View.read_rep]
  try rfl

/-- The block of the weights at a point lies within them, so it is read whole. -/
theorem weights (t : Fin cfg0.N) (k : Fin 4096) (e : Fin 1024) (C : Fin 12320) (hC : C.val = (8 + (grid0.coords t 0).val) * 1024 + e.val) :
    X0_1 m c t (ix3 0 k e) = m ((c : Thread nD τ).loc main_arg1) (ix3 0 k C) := by
  unfold X0_1 Pipeline.Window.fill
  rw [dif_pos (moved0_1 t _)]
  blk_ext [iblk, V, index_eqs t]

set_option maxHeartbeats 1000000 in
theorem arrAt_eq : (dats m 0 c).arrAt (2 : Fin 3) cfg0.N = rows (m ((c : Thread nD τ).loc main_arg0)) (m ((c : Thread nD τ).loc main_arg1)) := by
  refine (dats m 0 c).arrAt_eq_of_covers (2 : Fin 3) _ covers fun t hf y => ?_
  rw [after0_2, left]
  obtain ⟨r, e, rfl⟩ : ∃ (r : Fin 512) (e : Fin 1024), y = ix2 r e := ⟨y 0, y 1, eq_ix2 y⟩
  obtain ⟨I, hI⟩ : ∃ I : S512x4096.Idx, I = ((cfg0.win (2 : Fin 3)).blk t).view.emb (ix2 r e) := ⟨_, rfl⟩
  have e0 : (I 0).val = (grid0.coords t 1).val * 512 + r.val := by
    rw [hI]
    blk_simp [index_eqs t]
  have e1 : (I 1).val = (grid0.coords t 0).val * 1024 + e.val := by
    rw [hI]
    blk_simp [index_eqs t]
  rw [← hI]
  clear hI
  obtain ⟨R, C, rfl⟩ : ∃ (R : Fin 512) (C : Fin 4096), I = ix2 R C := ⟨I 0, I 1, eq_ix2 I⟩
  have eR : R.val = (grid0.coords t 1).val * 512 + r.val := e0
  have eC : C.val = (grid0.coords t 0).val * 1024 + e.val := e1
  blk_simp
  rw [pay1_at]
  have ha : ∀ k : Fin 4096, iblk m c 0 t (ix2 r k) = m ((c : Thread nD τ).loc main_arg0) (ix2 ⟨16384 + R.val, by omega⟩ k) := fun k => by
    blk_ext [iblk, V, index_eqs t]
  have hw : ∀ k : Fin 4096, X0_1 m c t (ix3 0 k e) = m ((c : Thread nD τ).loc main_arg1) (ix3 0 k ⟨8192 + C.val, by omega⟩) := fun k =>
    weights m c t k e _ (by show 8192 + C.val = _; omega)
  exact (show Eq (α := EReal) _ _ from Finset.sum_congr rfl fun k _ => congrArg₂ (· * ·) (ha k) (hw k))

/-! ## After the host operations -/

/-- The rows as batch, position and head. -/
def byHead (z : FVec Ideal S512x4096 .f32) : FVec Ideal S1x16x32x32x128 .f32 :=
  broadcastInDim S1x16x32x32x128 ![1, 2, 3, 4] bcast_S16x32x32x128_S1x16x32x32x128_1_2_3_4 (shapeCast S16x32x32x128 z shapeCasts_S512x4096_S16x32x32x128)

theorem byHead_at (z : FVec Ideal S512x4096 .f32) (b : Fin 16) (t : Fin 32) (n : Fin 32) (d : Fin 128) :
    byHead z (ix5 0 b t n d) = z (ix2 ⟨b.val * 32 + t.val, by omega⟩ ⟨n.val * 128 + d.val, by omega⟩) := by
  pointwise [byHead]

theorem read_v2 (W : Valuation τ sig (Elt Ideal)) : StableHlo.after [hostOps1].flatten W (Proc.devRef .tc main_v2) = byHead (W (Proc.devRef .tc main_v0)) := by
  rw [List.flatten_cons, List.flatten_nil, List.append_nil]
  after_results <;> rfl

theorem after_v2 : Pipeline.afterTail₀ cfgs (dats m) 0 (V0 m) [hostOps1] c main_v2
    = byHead (rows (m ((c : Thread nD τ).loc main_arg0)) (m ((c : Thread nD τ).loc main_arg1))) :=
  (read_v2 (Pipeline.withArrays (cfgs 0).spec c (V0 m c) fun w => (dats m 0 c).arrAt w (cfgs 0).N)).trans
    (congrArg byHead ((Pipeline.withArrays_arr spec0 (by decide) c (V0 m c) (fun w => (dats m 0 c).arrAt w (cfgs 0).N) (2 : Fin 3)).trans (arrAt_eq m c)))

end Cert.ValuesNewIdeal.Projection
end
-- ==== Proof.ValuesNew.Ref.lean ====
module

public import proofs.«01_k».proof.Proof.Gen.ValuesNewRefIdeal.Run
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The reference of the odd layer's projection, values of the sample, at an element. -/

@[expose] public section

set_option maxRecDepth 16384

noncomputable section

namespace Cert.ValuesNewRefIdeal.Projection

open Cert.ValuesNewRefIdeal Cert.ValuesNewRefIdeal.Gen Cert.ValuesNewRefIdeal.Value Idealize.ShloMosaic Idealize.ShloMosaic.TcCoe Idealize.SL.Sem

/-- The projected rows, every column. -/
def product (a : FVec Ideal S16896x4096 .bf16) (w : FVec Ideal S1x4096x12320 .f32) : FVec Ideal S512x12320 .f32 :=
  Host.dotGeneral dot_S512x4096_S4096x12320_S512x12320_1_0_0_1_n_n none (extf .f32 (extractStridedSlice S512x4096 ![16384, 0] a slices_S16896x4096_S512x4096_16384_0) bitsLt_bf16_f32) (shapeCast _ w shapeCasts_S1x4096x12320_S4096x12320)

/-- The columns that are the values of the sample. -/
def part (a : FVec Ideal S16896x4096 .bf16) (w : FVec Ideal S1x4096x12320 .f32) : FVec Ideal S512x4096 .f32 :=
  extractStridedSlice S512x4096 ![0, 8192] (product a w) slices_S512x12320_S512x4096_0_8192

theorem product_at (a : FVec Ideal S16896x4096 .bf16) (w : FVec Ideal S1x4096x12320 .f32) (R : Fin 512) (C : Fin 12320) :
    product a w (ix2 R C) = ∑ k : Fin 4096, a (ix2 ⟨16384 + R.val, by omega⟩ k) * w (ix3 0 k C) := by
  pointwise [product]

theorem part_at (a : FVec Ideal S16896x4096 .bf16) (w : FVec Ideal S1x4096x12320 .f32) (R : Fin 512) (C : Fin 4096) :
    part a w (ix2 R C) = ∑ k : Fin 4096, a (ix2 ⟨16384 + R.val, by omega⟩ k) * w (ix3 0 k ⟨8192 + C.val, by omega⟩) := by
  rw [← product_at a w R ⟨8192 + C.val, by omega⟩]
  unfold part
  generalize product a w = z
  pointwise

/-- The rows as batch, position and head. -/
def byHead (z : FVec Ideal S512x4096 .f32) : FVec Ideal S1x16x32x32x128 .f32 :=
  shapeCast _ z shapeCasts_S512x4096_S1x16x32x32x128

theorem byHead_at (z : FVec Ideal S512x4096 .f32) (b : Fin 16) (t : Fin 32) (n : Fin 32) (d : Fin 128) :
    byHead z (ix5 0 b t n d) = z (ix2 ⟨b.val * 32 + t.val, by omega⟩ ⟨n.val * 128 + d.val, by omega⟩) := by
  pointwise [byHead]

end Cert.ValuesNewRefIdeal.Projection
end
-- ==== Proof.ValuesNew.Claims.lean ====
module

public import proofs.«01_k».proof.Defs
public import proofs.«01_k».proof.Proof.Gen.ValuesNew.Frame
public import proofs.«01_k».proof.Proof.ValuesNew.Value
public import proofs.«01_k».proof.Proof.ValuesNew.Ref
public import Idealize.ShloMosaic.Lib.Claim
public import Idealize.ShloMosaic.Lib.Quiescent

/-! The claims about the odd layer's projection, values of the sample: the reference's frame, and the kernel's array is the reference's. -/

@[expose] public section

set_option maxRecDepth 16384

noncomputable section

namespace Cert.ValuesNewIdeal.Projection

open Cert.ValuesNewIdeal Cert.ValuesNewIdeal.Gen
open Idealize.ShloMosaic Idealize.ShloMosaic.TcCoe Idealize.SL.Sem

theorem frame_bits : Cert.quiescent_ValuesNew := fun m g _ => Cert.ValuesNew.Gen.frame m g

theorem frame_ideal : Cert.quiescent_ValuesNewIdeal := fun m g _ => Cert.ValuesNewIdeal.Gen.frame m g

theorem frame_ref : Cert.quiescent_ValuesNewRefIdeal := by
  intro m g _
  hlo_run
  · exact fun _ => ⟨trivial, trivial⟩
  exact sem_eq_zero_of_no_sems (sig := Cert.ValuesNewRefIdeal.sig) (by decide) _

/-- The kernel's rows are the reference's columns. -/
theorem rows_eq (a : S16896x4096.Idx → EReal) (w : S1x4096x12320.Idx → EReal) : rows a w = Cert.ValuesNewRefIdeal.Projection.part a w := by
  funext I
  obtain ⟨R, C, rfl⟩ : ∃ (R : Fin 512) (C : Fin 4096), I = ix2 R C := ⟨I 0, I 1, eq_ix2 I⟩
  exact (Cert.ValuesNewRefIdeal.Projection.part_at a w R C).symm

theorem byHead_eq (z : S512x4096.Idx → EReal) : byHead z = Cert.ValuesNewRefIdeal.Projection.byHead z := by
  funext I
  obtain ⟨u, b, t, n, d, rfl⟩ : ∃ (u : Fin 1) (b : Fin 16) (t : Fin 32) (n : Fin 32) (d : Fin 128), I = ix5 u b t n d := ⟨I 0, I 1, I 2, I 3, I 4, eq_ix5 I⟩
  obtain rfl : u = 0 := Fin.fin_one_eq_zero u
  exact (byHead_at z b t n d).trans (Cert.ValuesNewRefIdeal.Projection.byHead_at z b t n d).symm

theorem algebraic : Cert.algebraic_ValuesNewIdeal_ValuesNewRefIdeal := by
  intro m g m' g' _ hagree
  refine ⟨fun c => byHead (rows (m ((c : Thread nD τ).loc main_arg0)) (m ((c : Thread nD τ).loc main_arg1))), ?_, ?_⟩
  · refine (θ_run _ _ _).mono (fun r h c => ?_) (Cert.ValuesNewIdeal.Gen.run_main m g)
    exact ⟨((h c).2 main_v2 (Pipeline.mem_restRefs_of main_v2 (by decide) (by decide))).trans (after_v2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run _ _ _).mono (fun r h c => ?_) (Cert.ValuesNewRefIdeal.Value.run (F := Ideal) m' g')
    obtain ⟨h0, h1⟩ := hagree c
    refine ⟨(h c).1.trans ?_, (h c).2⟩
    have hz : Cert.ValuesNewRefIdeal.Projection.part (m' (c.tc.loc Cert.ValuesNewRefIdeal.main_arg0)) (m' (c.tc.loc Cert.ValuesNewRefIdeal.main_arg1)) = rows (m ((c : Thread nD τ).loc main_arg0)) (m ((c : Thread nD τ).loc main_arg1)) := by
      rw [h0, h1]
      exact (rows_eq _ _).symm
    exact Eq.trans (b := Cert.ValuesNewRefIdeal.Projection.byHead (Cert.ValuesNewRefIdeal.Projection.part (m' (c.tc.loc Cert.ValuesNewRefIdeal.main_arg0)) (m' (c.tc.loc Cert.ValuesNewRefIdeal.main_arg1)))) rfl (by rw [hz]; exact (byHead_eq _).symm)

end Cert.ValuesNewIdeal.Projection
end
-- ==== Proof.Logf.Value.lean ====
module

public import proofs.«01_k».proof.Proof.Gen.LogfIdeal.Frame
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost
public import Idealize.ShloMosaic.Lib.Routing.OpsSet

/-! The log gates: what the body computes at a point, and the array the pipeline leaves. -/

@[expose] public section

set_option maxRecDepth 16384

noncomputable section

namespace Cert.LogfIdeal.Gates

open Cert.LogfIdeal Cert.LogfIdeal.Gen Idealize.ShloMosaic Idealize.ShloMosaic.TcCoe Idealize.SL.Sem

/-- The log of the sigmoid as the body computes it. -/
def logSig (z : EReal) : EReal := min z 0 - Ideal.log1p (Ideal.exp (0 - FloatOps.absf (F := Ideal) (φ := .f32) z))

theorem pay1_at (a : S512x4096.Idx → EReal) (w : S4096x128.Idx → EReal) (b : S1x128.Idx → EReal) (r : Fin 512) (e : Fin 128) :
    k0_pay1 (F := Ideal) a w b (ix2 r e) = logSig ((∑ k : Fin 4096, a (ix2 r k) * w (ix2 k e)) + b (ix2 0 e)) := by
  unfold k0_pay1 logSig
  pointwise

theorem out_at (a : Vec Ideal S512x4096 .bf16) (w : Vec Ideal S4096x128 .bf16) (b : Vec Ideal S1x128 .f32) :
    out0_3 (F := Ideal) a w b = k0_pay1 (F := Ideal) a w b := by
  unfold out0_3
  frame_out

/-- The array, every lane. -/
def rows (a : S16896x4096.Idx → EReal) (w : S4096x128.Idx → EReal) (b : S1x128.Idx → EReal) (y : S16896x128.Idx) : EReal :=
  logSig ((∑ k : Fin 4096, a (ix2 (y 0) k) * w (ix2 k (y 1))) + b (ix2 0 (y 1)))

theorem index_eqs : ∀ t : Fin cfg0.N,
    (cfg0.win 0).index t = ![(grid0.coords t 0).val, 0]
    ∧ (cfg0.win 1).index t = ![0, 0]
    ∧ (cfg0.win 2).index t = ![0, 0]
    ∧ (cfg0.win 3).index t = ![(grid0.coords t 0).val, 0] := by decide +kernel

theorem nblk_0 : (cfg0.win (3 : Fin 4)).nblk (0 : Fin 2) = 33 := by
  show (16896 + 512 - 1) / 512 = 33
  rfl

theorem nblk_1 : (cfg0.win (3 : Fin 4)).nblk (1 : Fin 2) = 1 := by
  show (128 + 128 - 1) / 128 = 1
  rfl

theorem covers : (cfg0.win (3 : Fin 4)).Covers :=
  (cfg0.win (3 : Fin 4)).covers_of_indexMap_surj rfl (fun a => by fin_cases a <;> decide) fun β =>
    have h0 : (β (0 : Fin 2)).val < 33 := lt_of_lt_of_eq (β (0 : Fin 2)).isLt nblk_0
    have h1 : (β (1 : Fin 2)).val < 1 := lt_of_lt_of_eq (β (1 : Fin 2)).isLt nblk_1
    ⟨fun | ⟨0, _⟩ => ⟨(β (0 : Fin 2)).val, h0⟩, fun a => by
      fin_cases a
      · show (BitVec.ofNat 32 (β (0 : Fin 2)).val).toNat = (β (0 : Fin 2)).val
        rw [BitVec.toNat_ofNat]; omega
      · show (0#32).toNat = (β (1 : Fin 2)).val
        rw [Nat.lt_one_iff.mp h1]; rfl⟩

/-- Each point reads the whole of the weights, whatever they are. -/
theorem weights_read (t : Fin cfg0.N) (X : S4096x128.Idx → EReal) (k : Fin 4096) (e : Fin 128) :
    ((cfg0.win 1).blk t).view.read (Elt Ideal) X (ix2 k e) = X (ix2 k e) := by
  blk_ext [index_eqs t]

/-- And the whole row of biases. -/
theorem biases_read (t : Fin cfg0.N) (X : S1x128.Idx → EReal) (e : Fin 128) :
    ((cfg0.win 2).blk t).view.read (Elt Ideal) X (ix2 0 e) = X (ix2 0 e) := by
  blk_ext [index_eqs t]

variable (m : (ℓ : Loc nD τ sig) → Buf (Elt Ideal) ℓ) (c : Dev nD)

set_option maxHeartbeats 1000000 in
theorem arrAt_eq : (dats m 0 c).arrAt (3 : Fin 4) cfg0.N = rows (m ((c : Thread nD τ).loc main_arg0)) (V m c main_v5) (V m c main_v11) := by
  refine (dats m 0 c).arrAt_eq_of_covers (3 : Fin 4) _ covers fun t hf y => ?_
  rw [after0_3, out_at]
  obtain ⟨r, e, rfl⟩ : ∃ (r : Fin 512) (e : Fin 128), y = ix2 r e := ⟨y 0, y 1, eq_ix2 y⟩
  obtain ⟨I, hI⟩ : ∃ I : S16896x128.Idx, I = ((cfg0.win (3 : Fin 4)).blk t).view.emb (ix2 r e) := ⟨_, rfl⟩
  have e0 : (I 0).val = (grid0.coords t 0).val * 512 + r.val := by
    rw [hI]
    blk_simp [index_eqs t]
  have e1 : (I 1).val = e.val := by
    rw [hI]
    blk_simp [index_eqs t]
  rw [← hI]
  clear hI
  obtain ⟨R, C, rfl⟩ : ∃ (R : Fin 16896) (C : Fin 128), I = ix2 R C := ⟨I 0, I 1, eq_ix2 I⟩
  have eR : R.val = (grid0.coords t 0).val * 512 + r.val := e0
  obtain rfl : C = e := Fin.ext e1
  blk_simp
  rw [pay1_at]
  have ha : ∀ k : Fin 4096, iblk m c 0 t (ix2 r k) = m ((c : Thread nD τ).loc main_arg0) (ix2 R k) := fun k => by
    blk_ext [iblk, V_main_arg0, index_eqs t]
  have hw : ∀ k : Fin 4096, iblk m c 1 t (ix2 k C) = V m c main_v5 (ix2 k C) := fun k => weights_read t (V m c main_v5) k C
  have hb : iblk m c 2 t (ix2 0 C) = V m c main_v11 (ix2 0 C) := biases_read t (V m c main_v11) C
  exact congrArg logSig (congrArg₂ (· + ·) (show Eq (α := EReal) _ _ from Finset.sum_congr rfl fun k _ => congrArg₂ (· * ·) (ha k) (hw k)) hb)

end Cert.LogfIdeal.Gates
end
-- ==== Proof.Logf.Host.lean ====
module

public import proofs.«01_k».proof.Proof.Logf.Value

/-! The log gates: the padded weights and biases that the region finds, and the results after it. -/

@[expose] public section

set_option maxRecDepth 16384

noncomputable section

namespace Cert.LogfIdeal.Gates

open Cert.LogfIdeal Cert.LogfIdeal.Gen Idealize.ShloMosaic Idealize.ShloMosaic.TcCoe Idealize.SL.Sem

/-- The index words of both scatters are zeros. -/
def zeros1 : IVec S1 32 := broadcastInDim S1 ![] bcast_S_S1 (constantI S_ 32 0#32)

def zeros2 : IVec S2 32 := concatenate S2 0 [⟨S1, zeros1⟩, ⟨S1, zeros1⟩] concatenates_S1_S1_S2_d0

theorem zeros2_at (i : S2.Idx) : zeros2 i = 0#32 := by
  obtain ⟨j, rfl⟩ : ∃ j : Fin 2, i = ix1 j := ⟨i 0, eq_ix1 i⟩
  fin_cases j <;> rfl

/-- The gates' columns of the weights, with columns of zeros after them. -/
def padW (w : FVec Ideal S1x4096x12320 .f32) : FVec Ideal S4096x128 .bf16 :=
  Host.scatter scatter_S4096x128_S1_S4096x32_01_n_1_0 (fun _ b => b) (broadcastInDim S4096x128 ![] bcast_S_S4096x128 (constant S_ .bf16 0x0000#16)) zeros1
    (truncf .bf16 (extractStridedSlice S4096x32 ![0, 12288] (shapeCast S4096x12320 w shapeCasts_S1x4096x12320_S4096x12320) slices_S4096x12320_S4096x32_0_12288) bitsLt_bf16_f32)

/-- The biases, with zeros after them. -/
def padB (b : FVec Ideal S1x32 .f32) : FVec Ideal S1x128 .f32 :=
  Host.scatter scatter_S1x128_S2_S32_0_0_01_0 (fun _ b => b) (broadcastInDim S1x128 ![] bcast_S_S1x128 (constant S_ .f32 0x00000000#32)) zeros2
    (shapeCast S32 b shapeCasts_S1x32_S32)

theorem lands_w (j : S4096x32.Idx) (k : Fin 4096) (e : Fin 128) :
    scatter_S4096x128_S1_S4096x32_01_n_1_0.resultIdx? j zeros1 = some (ix2 k e) ↔ (j 0).val = k.val ∧ (j 1).val = e.val := by
  have h0 : scatter_S4096x128_S1_S4096x32_01_n_1_0.start j zeros1 0 = 0 := rfl
  have h1 : scatter_S4096x128_S1_S4096x32_01_n_1_0.start j zeros1 1 = 0 := rfl
  have w0 : scatter_S4096x128_S1_S4096x32_01_n_1_0.window j 0 = (j 0).val := rfl
  have w1 : scatter_S4096x128_S1_S4096x32_01_n_1_0.window j 1 = (j 1).val := rfl
  refine (Routing.resultIdx?_ix2 _ j zeros1 k e).trans ?_
  rw [h0, h1, w0, w1]
  omega

theorem lands_b (j : S32.Idx) (e : Fin 128) :
    scatter_S1x128_S2_S32_0_0_01_0.resultIdx? j zeros2 = some (ix2 0 e) ↔ (j 0).val = e.val := by
  have h0 : scatter_S1x128_S2_S32_0_0_01_0.start j zeros2 0 = 0 := by
    rw [funext zeros2_at]
    rfl
  have h1 : scatter_S1x128_S2_S32_0_0_01_0.start j zeros2 1 = 0 := by
    rw [funext zeros2_at]
    rfl
  have w0 : scatter_S1x128_S2_S32_0_0_01_0.window j 0 = 0 := rfl
  have w1 : scatter_S1x128_S2_S32_0_0_01_0.window j 1 = (j 0).val := rfl
  refine (Routing.resultIdx?_ix2 _ j zeros2 0 e).trans ?_
  rw [h0, h1, w0, w1]
  simp only [Fin.val_zero]
  omega

theorem columns_at (w : FVec Ideal S1x4096x12320 .f32) (k : Fin 4096) (h : Fin 32) :
    truncf .bf16 (extractStridedSlice S4096x32 ![0, 12288] (shapeCast S4096x12320 w shapeCasts_S1x4096x12320_S4096x12320) slices_S4096x12320_S4096x32_0_12288) bitsLt_bf16_f32 (ix2 k h)
      = w (ix3 0 k ⟨12288 + h.val, by omega⟩) := by
  pointwise

theorem padW_at (w : FVec Ideal S1x4096x12320 .f32) (k : Fin 4096) (h : Fin 32) :
    padW w (ix2 k ⟨h.val, by omega⟩) = w (ix3 0 k ⟨12288 + h.val, by omega⟩) := by
  unfold padW
  refine Routing.scatter_set_hit _ _ zeros1 _ (ix2 k ⟨h.val, by omega⟩) _ (fun j hj => ?_) (ix2 k h) ((lands_w (ix2 k h) k ⟨h.val, by omega⟩).2 ⟨rfl, rfl⟩)
  have hl := (lands_w j k ⟨h.val, by omega⟩).1 hj
  obtain ⟨x, y, rfl⟩ : ∃ (x : Fin 4096) (y : Fin 32), j = ix2 x y := ⟨j 0, j 1, eq_ix2 j⟩
  obtain rfl : x = k := Fin.ext hl.1
  obtain rfl : y = h := Fin.ext hl.2
  exact columns_at w x y

theorem flat_at (b : FVec Ideal S1x32 .f32) (h : Fin 32) : shapeCast S32 b shapeCasts_S1x32_S32 (ix1 h) = b (ix2 0 h) := by
  pointwise

theorem padB_at (b : FVec Ideal S1x32 .f32) (h : Fin 32) : padB b (ix2 0 ⟨h.val, by omega⟩) = b (ix2 0 h) := by
  unfold padB
  refine Routing.scatter_set_hit _ _ zeros2 _ (ix2 0 ⟨h.val, by omega⟩) _ (fun j hj => ?_) (ix1 h) ((lands_b (ix1 h) ⟨h.val, by omega⟩).2 rfl)
  have hl := (lands_b j ⟨h.val, by omega⟩).1 hj
  obtain ⟨x, rfl⟩ : ∃ x : Fin 32, j = ix1 x := ⟨j 0, eq_ix1 j⟩
  obtain rfl : x = h := Fin.ext hl
  exact flat_at b x

variable (m : (ℓ : Loc nD τ sig) → Buf (Elt Ideal) ℓ) (c : Dev nD)

theorem V_v5 : V m c main_v5 = padW (m ((c : Thread nD τ).loc main_arg1)) := by
  show StableHlo.after (List.flatten [hostOps0]) (fun b => m (c, b)) (Proc.devRef .tc main_v5) = _
  rw [List.flatten_cons, List.flatten_nil, List.append_nil]
  after_results <;> rfl

theorem V_v11 : V m c main_v11 = padB (m ((c : Thread nD τ).loc main_arg2)) := by
  show StableHlo.after (List.flatten [hostOps0]) (fun b => m (c, b)) (Proc.devRef .tc main_v11) = _
  rw [List.flatten_cons, List.flatten_nil, List.append_nil]
  after_results <;> rfl

/-! ## After the region -/

/-- The log gates of the prompt, by batch and position. -/
def prompt (z : FVec Ideal S16896x128 .f32) : FVec Ideal S1x8x2048x32 .f32 :=
  broadcastInDim S1x8x2048x32 ![1, 2, 3] bcast_S8x2048x32_S1x8x2048x32_1_2_3 (extractStridedSlice S8x2048x32 ![0, 0, 0]
    (shapeCast S8x2048x128 (extractStridedSlice S16384x128 ![0, 0] z slices_S16896x128_S16384x128_0_0) shapeCasts_S16384x128_S8x2048x128) slices_S8x2048x128_S8x2048x32_0_0_0)

/-- The log gates of the sample, by batch and position. -/
def sample (z : FVec Ideal S16896x128 .f32) : FVec Ideal S1x16x32x32 .f32 :=
  broadcastInDim S1x16x32x32 ![1, 2, 3] bcast_S16x32x32_S1x16x32x32_1_2_3 (extractStridedSlice S16x32x32 ![0, 0, 0]
    (shapeCast S16x32x128 (extractStridedSlice S512x128 ![16384, 0] z slices_S16896x128_S512x128_16384_0) shapeCasts_S512x128_S16x32x128) slices_S16x32x128_S16x32x32_0_0_0)

theorem prompt_at (z : FVec Ideal S16896x128 .f32) (b : Fin 8) (t : Fin 2048) (h : Fin 32) :
    prompt z (ix4 0 b t h) = z (ix2 ⟨b.val * 2048 + t.val, by omega⟩ ⟨h.val, by omega⟩) := by
  pointwise [prompt]

theorem sample_at (z : FVec Ideal S16896x128 .f32) (b : Fin 16) (t : Fin 32) (h : Fin 32) :
    sample z (ix4 0 b t h) = z (ix2 ⟨16384 + (b.val * 32 + t.val), by omega⟩ ⟨h.val, by omega⟩) := by
  pointwise [sample]

theorem read_v18 (W : Valuation τ sig (Elt Ideal)) : StableHlo.after [hostOps1].flatten W (Proc.devRef .tc main_v18) = prompt (W (Proc.devRef .tc main_v12)) := by
  rw [List.flatten_cons, List.flatten_nil, List.append_nil]
  after_results <;> rfl

theorem read_v20 (W : Valuation τ sig (Elt Ideal)) : StableHlo.after [hostOps1].flatten W (Proc.devRef .tc main_v20) = sample (W (Proc.devRef .tc main_v12)) := by
  rw [List.flatten_cons, List.flatten_nil, List.append_nil]
  after_results <;> rfl

/-- The array that the region leaves, of the arguments. -/
def left (a : S16896x4096.Idx → EReal) (w : S1x4096x12320.Idx → EReal) (b : S1x32.Idx → EReal) : S16896x128.Idx → EReal := rows a (padW w) (padB b)

theorem left_at (a : S16896x4096.Idx → EReal) (w : S1x4096x12320.Idx → EReal) (b : S1x32.Idx → EReal) (R : Fin 16896) (h : Fin 32) :
    left a w b (ix2 R ⟨h.val, by omega⟩) = logSig ((∑ k : Fin 4096, a (ix2 R k) * w (ix3 0 k ⟨12288 + h.val, by omega⟩)) + b (ix2 0 h)) := by
  show logSig ((∑ k : Fin 4096, a (ix2 R k) * padW w (ix2 k ⟨h.val, by omega⟩)) + padB b (ix2 0 ⟨h.val, by omega⟩)) = _
  rw [padB_at b h]
  refine congrArg (fun s : EReal => logSig (s + b (ix2 0 h))) ?_
  exact (show Eq (α := EReal) _ _ from Finset.sum_congr rfl fun k _ => congrArg (a (ix2 R k) * ·) (padW_at w k h))

theorem left_eq : Pipeline.withArrays (cfgs 0).spec c (V0 m c) (fun w => (dats m 0 c).arrAt w (cfgs 0).N) (Proc.devRef .tc main_v12)
    = left (m ((c : Thread nD τ).loc main_arg0)) (m ((c : Thread nD τ).loc main_arg1)) (m ((c : Thread nD τ).loc main_arg2)) :=
  (Pipeline.withArrays_arr spec0 (by decide) c (V0 m c) (fun w => (dats m 0 c).arrAt w (cfgs 0).N) (3 : Fin 4)).trans
    ((arrAt_eq m c).trans (by rw [V_v5, V_v11]; rfl))

theorem after_v18 : Pipeline.afterTail₀ cfgs (dats m) 0 (V0 m) [hostOps1] c main_v18
    = prompt (left (m ((c : Thread nD τ).loc main_arg0)) (m ((c : Thread nD τ).loc main_arg1)) (m ((c : Thread nD τ).loc main_arg2))) :=
  (read_v18 _).trans (congrArg prompt (left_eq m c))

theorem after_v20 : Pipeline.afterTail₀ cfgs (dats m) 0 (V0 m) [hostOps1] c main_v20
    = sample (left (m ((c : Thread nD τ).loc main_arg0)) (m ((c : Thread nD τ).loc main_arg1)) (m ((c : Thread nD τ).loc main_arg2))) :=
  (read_v20 _).trans (congrArg sample (left_eq m c))

end Cert.LogfIdeal.Gates
end
-- ==== Proof.Logf.Ref.lean ====
module

public import proofs.«01_k».proof.Proof.Gen.LogfRefIdeal.Run
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The reference of the log gates, at an element. -/

@[expose] public section

set_option maxRecDepth 16384

noncomputable section

namespace Cert.LogfRefIdeal.Gates

open Cert.LogfRefIdeal Cert.LogfRefIdeal.Gen Cert.LogfRefIdeal.Value Idealize.ShloMosaic Idealize.ShloMosaic.TcCoe Idealize.SL.Sem

/-- The gates before the sigmoid. -/
def gates (a : FVec Ideal S16896x4096 .bf16) (w : FVec Ideal S1x4096x12320 .f32) (b : FVec Ideal S1x32 .f32) : FVec Ideal S16896x32 .f32 :=
  addf (Host.dotGeneral dot_S16896x4096_S4096x32_S16896x32_1_0_0_1_n_n none (extf .f32 a bitsLt_bf16_f32) (shapeCast _ (extractStridedSlice S1x4096x32 ![0, 0, 12288] w slices_S1x4096x12320_S1x4096x32_0_0_12288) shapeCasts_S1x4096x32_S4096x32))
    (broadcastInDim S16896x32 ![0, 1] bcast_S1x32_S16896x32_0_1 (broadcastInDim S1x32 ![1] bcast_S32_S1x32_1 (shapeCast _ b shapeCasts_S1x32_S32)))

def zero : FVec Ideal S16896x32 .f32 := broadcastInDim S16896x32 ![] bcast_S_S16896x32 (constant S_ .f32 0x00000000#32)

/-- The log of the sigmoid as the host computes it. -/
def logSigmoid (z : FVec Ideal S16896x32 .f32) : FVec Ideal S16896x32 .f32 :=
  Host.negf (select (cmpf .une (subf (Host.negf z) zero) (subf (Host.negf z) zero)) (addf (Host.negf z) zero)
    (addf (maximumf (Host.negf z) zero) (Host.log1p (Host.exp (Host.negf (Host.absf (subf (Host.negf z) zero)))))))

theorem gates_at (a : FVec Ideal S16896x4096 .bf16) (w : FVec Ideal S1x4096x12320 .f32) (b : FVec Ideal S1x32 .f32) (R : Fin 16896) (h : Fin 32) :
    gates a w b (ix2 R h) = (∑ k : Fin 4096, a (ix2 R k) * w (ix3 0 k ⟨12288 + h.val, by omega⟩)) + b (ix2 0 h) := by
  pointwise [gates]

theorem logSigmoid_at (z : FVec Ideal S16896x32 .f32) (R : Fin 16896) (h : Fin 32) :
    logSigmoid z (ix2 R h) = -(max (-(z (ix2 R h))) 0 + Ideal.log1p (Ideal.exp (-(FloatOps.absf (F := Ideal) (φ := .f32) (-(z (ix2 R h))))))) := by
  unfold logSigmoid zero
  pointwise
  exact congrArg (fun v : EReal => -v) (if_neg (fun h => h rfl))

/-- The log gates of the prompt, by batch and position. -/
def prompt (z : FVec Ideal S16896x32 .f32) : FVec Ideal S1x8x2048x32 .f32 :=
  shapeCast _ (extractStridedSlice S16384x32 ![0, 0] z slices_S16896x32_S16384x32_0_0) shapeCasts_S16384x32_S1x8x2048x32

/-- The log gates of the sample, by batch and position. -/
def sample (z : FVec Ideal S16896x32 .f32) : FVec Ideal S1x16x32x32 .f32 :=
  shapeCast _ (extractStridedSlice S512x32 ![16384, 0] z slices_S16896x32_S512x32_16384_0) shapeCasts_S512x32_S1x16x32x32

theorem prompt_at (z : FVec Ideal S16896x32 .f32) (b : Fin 8) (t : Fin 2048) (h : Fin 32) :
    prompt z (ix4 0 b t h) = z (ix2 ⟨b.val * 2048 + t.val, by omega⟩ h) := by
  pointwise [prompt]

theorem sample_at (z : FVec Ideal S16896x32 .f32) (b : Fin 16) (t : Fin 32) (h : Fin 32) :
    sample z (ix4 0 b t h) = z (ix2 ⟨16384 + (b.val * 32 + t.val), by omega⟩ h) := by
  pointwise [sample]

end Cert.LogfRefIdeal.Gates
end
-- ==== Proof.Logf.Claims.lean ====
module

public import proofs.«01_k».proof.Defs
public import proofs.«01_k».proof.Proof.Gen.Logf.Frame
public import proofs.«01_k».proof.Proof.Logf.Host
public import proofs.«01_k».proof.Proof.Logf.Ref
public import Idealize.ShloMosaic.Lib.Claim
public import Idealize.ShloMosaic.Lib.Quiescent

/-! The claims about the log gates: the reference's frame, and the kernel's results are the reference's. -/

@[expose] public section

set_option maxRecDepth 16384

noncomputable section

namespace Cert.LogfIdeal.Gates

open Cert.LogfIdeal Cert.LogfIdeal.Gen
open Idealize.ShloMosaic Idealize.ShloMosaic.TcCoe Idealize.SL.Sem

theorem frame_bits : Cert.quiescent_Logf := fun m g _ => Cert.Logf.Gen.frame m g

theorem frame_ideal : Cert.quiescent_LogfIdeal := fun m g _ => Cert.LogfIdeal.Gen.frame m g

theorem frame_ref : Cert.quiescent_LogfRefIdeal := by
  intro m g _
  hlo_run
  · exact fun _ => ⟨trivial, trivial, trivial⟩
  exact sem_eq_zero_of_no_sems (sig := Cert.LogfRefIdeal.sig) (by decide) _

theorem log_real_ne_bot {r : ℝ} (h : 0 < r) : Ideal.log (r : EReal) ≠ ⊥ := by
  show (if r ≤ 0 then (⊥ : EReal) else (Real.log r : EReal)) ≠ ⊥
  rw [if_neg (not_le.2 h)]
  exact EReal.coe_ne_bot _

/-- One plus an exponential has a log above minus infinity. -/
theorem log1p_exp_ne_bot (y : EReal) : Ideal.log1p (Ideal.exp y) ≠ ⊥ := by
  induction y with
  | bot =>
    show Ideal.log ((1 : EReal) + 0) ≠ ⊥
    rw [add_zero]
    exact log_real_ne_bot one_pos
  | top =>
    show Ideal.log ((1 : EReal) + ⊤) ≠ ⊥
    rw [EReal.add_top_of_ne_bot (by decide)]
    exact (top_ne_bot : (⊤ : EReal) ≠ ⊥)
  | coe r =>
    show Ideal.log (((1 : ℝ) : EReal) + ((Real.exp r : ℝ) : EReal)) ≠ ⊥
    rw [← EReal.coe_add]
    exact log_real_ne_bot (add_pos one_pos (Real.exp_pos r))

theorem neg_max_neg (z : EReal) : -(max (-z) 0) = min z 0 := by
  rcases le_total z 0 with h | h
  · rw [max_eq_left (EReal.neg_nonneg.2 h), min_eq_left h, neg_neg]
  · rw [max_eq_right (EReal.neg_le.2 (by rwa [neg_zero])), min_eq_right h, neg_zero]

/-- The two ways of writing the log of the sigmoid agree. -/
theorem logSig_eq (z : EReal) :
    logSig z = -(max (-z) 0 + Ideal.log1p (Ideal.exp (-(FloatOps.absf (F := Ideal) (φ := .f32) (-z))))) := by
  have hb : (max (-z) 0 : EReal) ≠ ⊥ := ne_of_gt (lt_of_lt_of_le EReal.bot_lt_zero (le_max_right _ _))
  rw [EReal.neg_add (Or.inl hb) (Or.inr (log1p_exp_ne_bot _)), neg_max_neg]
  have ha : (0 : EReal) - FloatOps.absf (F := Ideal) (φ := .f32) z = -(FloatOps.absf (F := Ideal) (φ := .f32) (-z)) := by
    show (0 : EReal) - max z (-z) = -(max (-z) (-(-z)))
    rw [zero_sub, neg_neg, max_comm]
  exact congrArg (fun y : EReal => min z 0 - Ideal.log1p (Ideal.exp y)) ha

theorem lane_eq (a : S16896x4096.Idx → EReal) (w : S1x4096x12320.Idx → EReal) (b : S1x32.Idx → EReal) (R : Fin 16896) (h : Fin 32) :
    left a w b (ix2 R ⟨h.val, by omega⟩) = Cert.LogfRefIdeal.Gates.logSigmoid (Cert.LogfRefIdeal.Gates.gates a w b) (ix2 R h) := by
  refine (left_at a w b R h).trans ((logSig_eq _).trans (Eq.symm ?_))
  refine (Cert.LogfRefIdeal.Gates.logSigmoid_at _ R h).trans ?_
  rw [Cert.LogfRefIdeal.Gates.gates_at]

theorem prompt_eq (a : S16896x4096.Idx → EReal) (w : S1x4096x12320.Idx → EReal) (b : S1x32.Idx → EReal) :
    prompt (left a w b) = Cert.LogfRefIdeal.Gates.prompt (Cert.LogfRefIdeal.Gates.logSigmoid (Cert.LogfRefIdeal.Gates.gates a w b)) := by
  funext I
  obtain ⟨u, n, t, h, rfl⟩ : ∃ (u : Fin 1) (n : Fin 8) (t : Fin 2048) (h : Fin 32), I = ix4 u n t h := ⟨I 0, I 1, I 2, I 3, eq_ix4 I⟩
  obtain rfl : u = 0 := Fin.fin_one_eq_zero u
  exact (prompt_at _ n t h).trans ((lane_eq a w b _ h).trans (Cert.LogfRefIdeal.Gates.prompt_at _ n t h).symm)

theorem sample_eq (a : S16896x4096.Idx → EReal) (w : S1x4096x12320.Idx → EReal) (b : S1x32.Idx → EReal) :
    sample (left a w b) = Cert.LogfRefIdeal.Gates.sample (Cert.LogfRefIdeal.Gates.logSigmoid (Cert.LogfRefIdeal.Gates.gates a w b)) := by
  funext I
  obtain ⟨u, n, t, h, rfl⟩ : ∃ (u : Fin 1) (n : Fin 16) (t : Fin 32) (h : Fin 32), I = ix4 u n t h := ⟨I 0, I 1, I 2, I 3, eq_ix4 I⟩
  obtain rfl : u = 0 := Fin.fin_one_eq_zero u
  exact (sample_at _ n t h).trans ((lane_eq a w b _ h).trans (Cert.LogfRefIdeal.Gates.sample_at _ n t h).symm)

theorem algebraic : Cert.algebraic_LogfIdeal_LogfRefIdeal := by
  intro m g m' g' _ hagree
  refine ⟨fun c => prompt (left (m ((c : Thread nD τ).loc main_arg0)) (m ((c : Thread nD τ).loc main_arg1)) (m ((c : Thread nD τ).loc main_arg2))), fun c => sample (left (m ((c : Thread nD τ).loc main_arg0)) (m ((c : Thread nD τ).loc main_arg1)) (m ((c : Thread nD τ).loc main_arg2))), ?_, ?_⟩
  · refine (θ_run _ _ _).mono (fun r h c => ?_) (Cert.LogfIdeal.Gen.run_main m g)
    exact ⟨((h c).2 main_v18 (Pipeline.mem_restRefs_of main_v18 (by decide) (by decide))).trans (after_v18 m c),
      ((h c).2 main_v20 (Pipeline.mem_restRefs_of main_v20 (by decide) (by decide))).trans (after_v20 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩
  · refine (θ_run _ _ _).mono (fun r h c => ?_) (Cert.LogfRefIdeal.Value.run (F := Ideal) m' g')
    obtain ⟨h0, h1, h2⟩ := hagree c
    obtain ⟨r0, r1, rest⟩ := h c
    refine ⟨r0.trans ?_, r1.trans ?_, rest⟩
    · refine Eq.trans (b := Cert.LogfRefIdeal.Gates.prompt (Cert.LogfRefIdeal.Gates.logSigmoid (Cert.LogfRefIdeal.Gates.gates (m' (c.tc.loc Cert.LogfRefIdeal.main_arg0)) (m' (c.tc.loc Cert.LogfRefIdeal.main_arg1)) (m' (c.tc.loc Cert.LogfRefIdeal.main_arg2))))) rfl ?_
      rw [h0, h1, h2]
      exact (prompt_eq _ _ _).symm
    · refine Eq.trans (b := Cert.LogfRefIdeal.Gates.sample (Cert.LogfRefIdeal.Gates.logSigmoid (Cert.LogfRefIdeal.Gates.gates (m' (c.tc.loc Cert.LogfRefIdeal.main_arg0)) (m' (c.tc.loc Cert.LogfRefIdeal.main_arg1)) (m' (c.tc.loc Cert.LogfRefIdeal.main_arg2))))) rfl ?_
      rw [h0, h1, h2]
      exact (sample_eq _ _ _).symm

end Cert.LogfIdeal.Gates
end
-- ==== Proof.Norm.Row.lean ====
module

public import Idealize.ShloMosaic.Lib.IdealHost

/-! The norm of a row: each element over the root of the mean of the squares, times its weight. -/

@[expose] public section

set_option maxRecDepth 16384

noncomputable section

namespace Cert.Norm

open Idealize.ShloMosaic

/-- The normed row at d: the row's mean of the squares has 4096 as its divisor and a small constant added. -/
def row (x g : Fin 4096 → EReal) (d : Fin 4096) : EReal :=
  x d * Ideal.rsqrt (Ideal.div (∑ k, x k * x k) (Ideal.ofBits FTy.f32 0x45800000#32) + Ideal.ofBits FTy.f32 0x358637BD#32) * g d

end Cert.Norm
end
-- ==== Proof.YPrompt.Value.lean ====
module

public import proofs.«01_k».proof.Proof.Gen.YPromptIdeal.Frame
public import proofs.«01_k».proof.Proof.Norm.Row
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The final norm of the prompt: what the body computes at a point, the array the pipeline leaves, and its rows by batch. -/

@[expose] public section

set_option maxRecDepth 16384

noncomputable section

namespace Cert.YPromptIdeal.Norm

open Cert.YPromptIdeal Cert.YPromptIdeal.Gen Idealize.ShloMosaic Idealize.ShloMosaic.TcCoe Idealize.SL.Sem

theorem pay1_at (x : S256x4096.Idx → EReal) (g : S1x4096.Idx → EReal) (r : Fin 256) (e : Fin 4096) :
    k0_pay1 (F := Ideal) x g (ix2 r e) = Cert.Norm.row (fun k => x (ix2 r k)) (fun k => g (ix2 0 k)) e := by
  unfold k0_pay1 Cert.Norm.row
  pointwise

theorem out_at (x : Vec Ideal S256x4096 .f32) (g : Vec Ideal S1x4096 .f32) : out0_2 (F := Ideal) x g = k0_pay1 (F := Ideal) x g := by
  unfold out0_2
  frame_out

/-- The normed rows. -/
def rows (x : S16896x4096.Idx → EReal) (g : S4096.Idx → EReal) (y : S16384x4096.Idx) : EReal :=
  Cert.Norm.row (fun k => x (ix2 ⟨(y 0).val, by have : (y 0).val < 16384 := (y 0).isLt; omega⟩ k)) (fun k => g (ix1 k)) (y 1)

theorem index_eqs : ∀ t : Fin cfg0.N,
    (cfg0.win 0).index t = ![(grid0.coords t 0).val, 0]
    ∧ (cfg0.win 1).index t = ![0, 0]
    ∧ (cfg0.win 2).index t = ![(grid0.coords t 0).val, 0] := by decide +kernel

theorem nblk_0 : (cfg0.win (2 : Fin 3)).nblk (0 : Fin 2) = 64 := by
  show (16384 + 256 - 1) / 256 = 64
  rfl

theorem nblk_1 : (cfg0.win (2 : Fin 3)).nblk (1 : Fin 2) = 1 := by
  show (4096 + 4096 - 1) / 4096 = 1
  rfl

theorem covers : (cfg0.win (2 : Fin 3)).Covers :=
  (cfg0.win (2 : Fin 3)).covers_of_indexMap_surj rfl (fun a => by fin_cases a <;> decide) fun β =>
    have h0 : (β (0 : Fin 2)).val < 64 := lt_of_lt_of_eq (β (0 : Fin 2)).isLt nblk_0
    have h1 : (β (1 : Fin 2)).val < 1 := lt_of_lt_of_eq (β (1 : Fin 2)).isLt nblk_1
    ⟨fun | ⟨0, _⟩ => ⟨(β (0 : Fin 2)).val, h0⟩, fun a => by
      fin_cases a
      · show (BitVec.ofNat 32 (β (0 : Fin 2)).val).toNat = (β (0 : Fin 2)).val
        rw [BitVec.toNat_ofNat]; omega
      · show (0#32).toNat = (β (1 : Fin 2)).val
        rw [Nat.lt_one_iff.mp h1]; rfl⟩

theorem asRow_at (g : FVec Ideal S4096 .f32) (k : Fin 4096) : shapeCast S1x4096 g shapeCasts_S4096_S1x4096 (ix2 0 k) = g (ix1 k) := by
  pointwise

variable (m : (ℓ : Loc nD τ sig) → Buf (Elt Ideal) ℓ) (c : Dev nD)

/-- The weights as the region finds them. -/
theorem V_v0 : V m c main_v0 = shapeCast S1x4096 (m ((c : Thread nD τ).loc main_arg1)) shapeCasts_S4096_S1x4096 := by
  show StableHlo.after (List.flatten [hostOps0]) (fun b => m (c, b)) (Proc.devRef .tc main_v0) = _
  rw [List.flatten_cons, List.flatten_nil, List.append_nil]
  after_results <;> rfl

theorem weights (k : Fin 4096) : V m c main_v0 (ix2 0 k) = m ((c : Thread nD τ).loc main_arg1) (ix1 k) := by
  rw [V_v0]
  exact asRow_at _ k

set_option maxHeartbeats 1000000 in
theorem arrAt_eq : (dats m 0 c).arrAt (2 : Fin 3) cfg0.N = rows (m ((c : Thread nD τ).loc main_arg0)) (m ((c : Thread nD τ).loc main_arg1)) := by
  refine (dats m 0 c).arrAt_eq_of_covers (2 : Fin 3) _ covers fun t hf y => ?_
  rw [after0_2, out_at]
  obtain ⟨r, e, rfl⟩ : ∃ (r : Fin 256) (e : Fin 4096), y = ix2 r e := ⟨y 0, y 1, eq_ix2 y⟩
  obtain ⟨I, hI⟩ : ∃ I : S16384x4096.Idx, I = ((cfg0.win (2 : Fin 3)).blk t).view.emb (ix2 r e) := ⟨_, rfl⟩
  have e0 : (I 0).val = (grid0.coords t 0).val * 256 + r.val := by
    rw [hI]
    blk_simp [index_eqs t]
  have e1 : (I 1).val = e.val := by
    rw [hI]
    blk_simp [index_eqs t]
  rw [← hI]
  clear hI
  obtain ⟨R, C, rfl⟩ : ∃ (R : Fin 16384) (C : Fin 4096), I = ix2 R C := ⟨I 0, I 1, eq_ix2 I⟩
  have eR : R.val = (grid0.coords t 0).val * 256 + r.val := e0
  obtain rfl : C = e := Fin.ext e1
  blk_simp
  rw [pay1_at]
  have hx : ∀ k : Fin 4096, iblk m c 0 t (ix2 r k) = m ((c : Thread nD τ).loc main_arg0) (ix2 ⟨R.val, by omega⟩ k) := fun k => by
    blk_ext [iblk, V_main_arg0, index_eqs t]
  have hg : ∀ k : Fin 4096, iblk m c 1 t (ix2 0 k) = m ((c : Thread nD τ).loc main_arg1) (ix1 k) := fun k =>
    Eq.trans (b := V m c main_v0 (ix2 0 k)) (by blk_ext [iblk, index_eqs t]) (weights m c k)
  show Cert.Norm.row _ _ C = Cert.Norm.row _ _ C
  rw [funext hx, funext hg]
  rfl

/-! ## After the host operations -/

/-- The rows as batch and position. -/
def byBatch (z : FVec Ideal S16384x4096 .f32) : FVec Ideal S8x2048x4096 .f32 := shapeCast _ z shapeCasts_S16384x4096_S8x2048x4096

theorem byBatch_at (z : FVec Ideal S16384x4096 .f32) (b : Fin 8) (t : Fin 2048) (d : Fin 4096) :
    byBatch z (ix3 b t d) = z (ix2 ⟨b.val * 2048 + t.val, by omega⟩ d) := by
  pointwise [byBatch]

theorem read_v2 (W : Valuation τ sig (Elt Ideal)) : StableHlo.after [hostOps1].flatten W (Proc.devRef .tc main_v2) = byBatch (W (Proc.devRef .tc main_v1)) := by
  rw [List.flatten_cons, List.flatten_nil, List.append_nil]
  after_results <;> rfl

theorem after_v2 : Pipeline.afterTail₀ cfgs (dats m) 0 (V0 m) [hostOps1] c main_v2
    = byBatch (rows (m ((c : Thread nD τ).loc main_arg0)) (m ((c : Thread nD τ).loc main_arg1))) :=
  (read_v2 (Pipeline.withArrays (cfgs 0).spec c (V0 m c) fun w => (dats m 0 c).arrAt w (cfgs 0).N)).trans
    (congrArg byBatch ((Pipeline.withArrays_arr spec0 (by decide) c (V0 m c) (fun w => (dats m 0 c).arrAt w (cfgs 0).N) (2 : Fin 3)).trans (arrAt_eq m c)))

end Cert.YPromptIdeal.Norm
end
-- ==== Proof.YPrompt.Ref.lean ====
module

public import proofs.«01_k».proof.Proof.Gen.YPromptRefIdeal.Run
public import proofs.«01_k».proof.Proof.Norm.Row
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The reference of the final norm of the prompt, at an element. -/

@[expose] public section

set_option maxRecDepth 16384

noncomputable section

namespace Cert.YPromptRefIdeal.Norm

open Cert.YPromptRefIdeal Cert.YPromptRefIdeal.Gen Cert.YPromptRefIdeal.Value Idealize.ShloMosaic Idealize.ShloMosaic.TcCoe Idealize.SL.Sem

/-- The rows of the prompt, as batch and position. -/
def rows (x : FVec Ideal S16896x4096 .f32) : FVec Ideal S8x2048x4096 .f32 :=
  shapeCast _ (extractStridedSlice S16384x4096 ![0, 0] x slices_S16896x4096_S16384x4096_0_0) shapeCasts_S16384x4096_S8x2048x4096

/-- One over the root of each row's mean of the squares. -/
def scale (z : FVec Ideal S8x2048x4096 .f32) : FVec Ideal S8x2048x1 .f32 :=
  Host.rsqrt (addf (Host.divf (broadcastInDim S8x2048x1 ![0, 1] bcast_S8x2048_S8x2048x1_0_1 (Host.reduceAdd (mulf z z) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))

/-- The reference's result. -/
def result (x : FVec Ideal S16896x4096 .f32) (g : FVec Ideal S4096 .f32) : FVec Ideal S8x2048x4096 .f32 :=
  mulf (mulf (rows x) (broadcastInDim S8x2048x4096 ![0, 1, 2] bcast_S8x2048x1_S8x2048x4096_0_1_2 (scale (rows x)))) (broadcastInDim S8x2048x4096 ![0, 1, 2] bcast_S1x1x4096_S8x2048x4096_0_1_2 (broadcastInDim S1x1x4096 ![2] bcast_S4096_S1x1x4096_2 g))

theorem rows_at (x : FVec Ideal S16896x4096 .f32) (b : Fin 8) (t : Fin 2048) (d : Fin 4096) :
    rows x (ix3 b t d) = x (ix2 ⟨b.val * 2048 + t.val, by omega⟩ d) := by
  pointwise [rows]

theorem result_at (x : FVec Ideal S16896x4096 .f32) (g : FVec Ideal S4096 .f32) (b : Fin 8) (t : Fin 2048) (d : Fin 4096) :
    result x g (ix3 b t d) = Cert.Norm.row (fun k => x (ix2 ⟨b.val * 2048 + t.val, by omega⟩ k)) (fun k => g (ix1 k)) d := by
  have hr := fun k => rows_at x b t k
  unfold result scale Cert.Norm.row
  generalize rows x = z at hr ⊢
  simp only [← hr]
  pointwise

end Cert.YPromptRefIdeal.Norm
end
-- ==== Proof.YPrompt.Claims.lean ====
module

public import proofs.«01_k».proof.Defs
public import proofs.«01_k».proof.Proof.Gen.YPrompt.Frame
public import proofs.«01_k».proof.Proof.YPrompt.Value
public import proofs.«01_k».proof.Proof.YPrompt.Ref
public import Idealize.ShloMosaic.Lib.Claim
public import Idealize.ShloMosaic.Lib.Quiescent

/-! The claims about the final norm of the prompt: the reference's frame, and the kernel's array is the reference's. -/

@[expose] public section

set_option maxRecDepth 16384

noncomputable section

namespace Cert.YPromptIdeal.Norm

open Cert.YPromptIdeal Cert.YPromptIdeal.Gen
open Idealize.ShloMosaic Idealize.ShloMosaic.TcCoe Idealize.SL.Sem

theorem frame_bits : Cert.quiescent_YPrompt := fun m g _ => Cert.YPrompt.Gen.frame m g

theorem frame_ideal : Cert.quiescent_YPromptIdeal := fun m g _ => Cert.YPromptIdeal.Gen.frame m g

theorem frame_ref : Cert.quiescent_YPromptRefIdeal := by
  intro m g _
  hlo_run
  · exact fun _ => ⟨trivial, trivial⟩
  exact sem_eq_zero_of_no_sems (sig := Cert.YPromptRefIdeal.sig) (by decide) _

/-- The kernel's rows by batch are the reference's result. -/
theorem final_eq (x : S16896x4096.Idx → EReal) (g : S4096.Idx → EReal) : byBatch (rows x g) = Cert.YPromptRefIdeal.Norm.result x g := by
  funext I
  obtain ⟨b, t, d, rfl⟩ : ∃ (b : Fin 8) (t : Fin 2048) (d : Fin 4096), I = ix3 b t d := ⟨I 0, I 1, I 2, eq_ix3 I⟩
  exact (byBatch_at (rows x g) b t d).trans (Cert.YPromptRefIdeal.Norm.result_at x g b t d).symm

theorem algebraic : Cert.algebraic_YPromptIdeal_YPromptRefIdeal := by
  intro m g m' g' _ hagree
  refine ⟨fun c => byBatch (rows (m ((c : Thread nD τ).loc main_arg0)) (m ((c : Thread nD τ).loc main_arg1))), ?_, ?_⟩
  · refine (θ_run _ _ _).mono (fun r h c => ?_) (Cert.YPromptIdeal.Gen.run_main m g)
    exact ⟨((h c).2 main_v2 (Pipeline.mem_restRefs_of main_v2 (by decide) (by decide))).trans (after_v2 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩
  · refine (θ_run _ _ _).mono (fun r h c => ?_) (Cert.YPromptRefIdeal.Value.run (F := Ideal) m' g')
    obtain ⟨h0, h1⟩ := hagree c
    refine ⟨(h c).1.trans ?_, (h c).2⟩
    refine Eq.trans (b := Cert.YPromptRefIdeal.Norm.result (m' (c.tc.loc Cert.YPromptRefIdeal.main_arg0)) (m' (c.tc.loc Cert.YPromptRefIdeal.main_arg1))) rfl ?_
    rw [h0, h1]
    exact (final_eq _ _).symm

end Cert.YPromptIdeal.Norm
end
-- ==== Proof.YSample.Value.lean ====
module

public import proofs.«01_k».proof.Proof.Gen.YSampleIdeal.Frame
public import proofs.«01_k».proof.Proof.Norm.Row
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The final norm of the sample: what the body computes at a point, the array the pipeline leaves, and its rows by batch. -/

@[expose] public section

set_option maxRecDepth 16384

noncomputable section

namespace Cert.YSampleIdeal.Norm

open Cert.YSampleIdeal Cert.YSampleIdeal.Gen Idealize.ShloMosaic Idealize.ShloMosaic.TcCoe Idealize.SL.Sem

theorem pay1_at (x : S256x4096.Idx → EReal) (g : S1x4096.Idx → EReal) (r : Fin 256) (e : Fin 4096) :
    k0_pay1 (F := Ideal) x g (ix2 r e) = Cert.Norm.row (fun k => x (ix2 r k)) (fun k => g (ix2 0 k)) e := by
  unfold k0_pay1 Cert.Norm.row
  pointwise

theorem out_at (x : Vec Ideal S256x4096 .f32) (g : Vec Ideal S1x4096 .f32) : out0_2 (F := Ideal) x g = k0_pay1 (F := Ideal) x g := by
  unfold out0_2
  frame_out

/-- The normed rows. -/
def rows (x : S16896x4096.Idx → EReal) (g : S4096.Idx → EReal) (y : S512x4096.Idx) : EReal :=
  Cert.Norm.row (fun k => x (ix2 ⟨16384 + (y 0).val, by have : (y 0).val < 512 := (y 0).isLt; omega⟩ k)) (fun k => g (ix1 k)) (y 1)

theorem index_eqs : ∀ t : Fin cfg0.N,
    (cfg0.win 0).index t = ![64 + (grid0.coords t 0).val, 0]
    ∧ (cfg0.win 1).index t = ![0, 0]
    ∧ (cfg0.win 2).index t = ![(grid0.coords t 0).val, 0] := by decide +kernel

theorem nblk_0 : (cfg0.win (2 : Fin 3)).nblk (0 : Fin 2) = 2 := by
  show (512 + 256 - 1) / 256 = 2
  rfl

theorem nblk_1 : (cfg0.win (2 : Fin 3)).nblk (1 : Fin 2) = 1 := by
  show (4096 + 4096 - 1) / 4096 = 1
  rfl

theorem covers : (cfg0.win (2 : Fin 3)).Covers :=
  (cfg0.win (2 : Fin 3)).covers_of_indexMap_surj rfl (fun a => by fin_cases a <;> decide) fun β =>
    have h0 : (β (0 : Fin 2)).val < 2 := lt_of_lt_of_eq (β (0 : Fin 2)).isLt nblk_0
    have h1 : (β (1 : Fin 2)).val < 1 := lt_of_lt_of_eq (β (1 : Fin 2)).isLt nblk_1
    ⟨fun | ⟨0, _⟩ => ⟨(β (0 : Fin 2)).val, h0⟩, fun a => by
      fin_cases a
      · show (BitVec.ofNat 32 (β (0 : Fin 2)).val).toNat = (β (0 : Fin 2)).val
        rw [BitVec.toNat_ofNat]; omega
      · show (0#32).toNat = (β (1 : Fin 2)).val
        rw [Nat.lt_one_iff.mp h1]; rfl⟩

theorem asRow_at (g : FVec Ideal S4096 .f32) (k : Fin 4096) : shapeCast S1x4096 g shapeCasts_S4096_S1x4096 (ix2 0 k) = g (ix1 k) := by
  pointwise

variable (m : (ℓ : Loc nD τ sig) → Buf (Elt Ideal) ℓ) (c : Dev nD)

/-- The weights as the region finds them. -/
theorem V_v0 : V m c main_v0 = shapeCast S1x4096 (m ((c : Thread nD τ).loc main_arg1)) shapeCasts_S4096_S1x4096 := by
  show StableHlo.after (List.flatten [hostOps0]) (fun b => m (c, b)) (Proc.devRef .tc main_v0) = _
  rw [List.flatten_cons, List.flatten_nil, List.append_nil]
  after_results <;> rfl

theorem weights (k : Fin 4096) : V m c main_v0 (ix2 0 k) = m ((c : Thread nD τ).loc main_arg1) (ix1 k) := by
  rw [V_v0]
  exact asRow_at _ k

set_option maxHeartbeats 1000000 in
theorem arrAt_eq : (dats m 0 c).arrAt (2 : Fin 3) cfg0.N = rows (m ((c : Thread nD τ).loc main_arg0)) (m ((c : Thread nD τ).loc main_arg1)) := by
  refine (dats m 0 c).arrAt_eq_of_covers (2 : Fin 3) _ covers fun t hf y => ?_
  rw [after0_2, out_at]
  obtain ⟨r, e, rfl⟩ : ∃ (r : Fin 256) (e : Fin 4096), y = ix2 r e := ⟨y 0, y 1, eq_ix2 y⟩
  obtain ⟨I, hI⟩ : ∃ I : S512x4096.Idx, I = ((cfg0.win (2 : Fin 3)).blk t).view.emb (ix2 r e) := ⟨_, rfl⟩
  have e0 : (I 0).val = (grid0.coords t 0).val * 256 + r.val := by
    rw [hI]
    blk_simp [index_eqs t]
  have e1 : (I 1).val = e.val := by
    rw [hI]
    blk_simp [index_eqs t]
  rw [← hI]
  clear hI
  obtain ⟨R, C, rfl⟩ : ∃ (R : Fin 512) (C : Fin 4096), I = ix2 R C := ⟨I 0, I 1, eq_ix2 I⟩
  have eR : R.val = (grid0.coords t 0).val * 256 + r.val := e0
  obtain rfl : C = e := Fin.ext e1
  blk_simp
  rw [pay1_at]
  have hx : ∀ k : Fin 4096, iblk m c 0 t (ix2 r k) = m ((c : Thread nD τ).loc main_arg0) (ix2 ⟨16384 + R.val, by omega⟩ k) := fun k => by
    blk_ext [iblk, V_main_arg0, index_eqs t]
  have hg : ∀ k : Fin 4096, iblk m c 1 t (ix2 0 k) = m ((c : Thread nD τ).loc main_arg1) (ix1 k) := fun k =>
    Eq.trans (b := V m c main_v0 (ix2 0 k)) (by blk_ext [iblk, index_eqs t]) (weights m c k)
  show Cert.Norm.row _ _ C = Cert.Norm.row _ _ C
  rw [funext hx, funext hg]
  rfl

/-! ## After the host operations -/

/-- The rows as batch and position. -/
def byBatch (z : FVec Ideal S512x4096 .f32) : FVec Ideal S16x32x4096 .f32 := shapeCast _ z shapeCasts_S512x4096_S16x32x4096

theorem byBatch_at (z : FVec Ideal S512x4096 .f32) (b : Fin 16) (t : Fin 32) (d : Fin 4096) :
    byBatch z (ix3 b t d) = z (ix2 ⟨b.val * 32 + t.val, by omega⟩ d) := by
  pointwise [byBatch]

theorem read_v2 (W : Valuation τ sig (Elt Ideal)) : StableHlo.after [hostOps1].flatten W (Proc.devRef .tc main_v2) = byBatch (W (Proc.devRef .tc main_v1)) := by
  rw [List.flatten_cons, List.flatten_nil, List.append_nil]
  after_results <;> rfl

theorem after_v2 : Pipeline.afterTail₀ cfgs (dats m) 0 (V0 m) [hostOps1] c main_v2
    = byBatch (rows (m ((c : Thread nD τ).loc main_arg0)) (m ((c : Thread nD τ).loc main_arg1))) :=
  (read_v2 (Pipeline.withArrays (cfgs 0).spec c (V0 m c) fun w => (dats m 0 c).arrAt w (cfgs 0).N)).trans
    (congrArg byBatch ((Pipeline.withArrays_arr spec0 (by decide) c (V0 m c) (fun w => (dats m 0 c).arrAt w (cfgs 0).N) (2 : Fin 3)).trans (arrAt_eq m c)))

end Cert.YSampleIdeal.Norm
end
-- ==== Proof.YSample.Ref.lean ====
module

public import proofs.«01_k».proof.Proof.Gen.YSampleRefIdeal.Run
public import proofs.«01_k».proof.Proof.Norm.Row
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.KernelVsHost

/-! The reference of the final norm of the sample, at an element. -/

@[expose] public section

set_option maxRecDepth 16384

noncomputable section

namespace Cert.YSampleRefIdeal.Norm

open Cert.YSampleRefIdeal Cert.YSampleRefIdeal.Gen Cert.YSampleRefIdeal.Value Idealize.ShloMosaic Idealize.ShloMosaic.TcCoe Idealize.SL.Sem

/-- The rows of the sample, as batch and position. -/
def rows (x : FVec Ideal S16896x4096 .f32) : FVec Ideal S16x32x4096 .f32 :=
  shapeCast _ (extractStridedSlice S512x4096 ![16384, 0] x slices_S16896x4096_S512x4096_16384_0) shapeCasts_S512x4096_S16x32x4096

/-- One over the root of each row's mean of the squares. -/
def scale (z : FVec Ideal S16x32x4096 .f32) : FVec Ideal S16x32x1 .f32 :=
  Host.rsqrt (addf (Host.divf (broadcastInDim S16x32x1 ![0, 1] bcast_S16x32_S16x32x1_0_1 (Host.reduceAdd (mulf z z) (constant S_ .f32 0x00000000#32) reducesTo_S16x32x4096_S16x32_d2 h_S_)) (broadcastInDim S16x32x1 ![] bcast_S_S16x32x1 (constant S_ .f32 0x45800000#32))) (broadcastInDim S16x32x1 ![] bcast_S_S16x32x1 (constant S_ .f32 0x358637BD#32)))

/-- The reference's result. -/
def result (x : FVec Ideal S16896x4096 .f32) (g : FVec Ideal S4096 .f32) : FVec Ideal S16x32x4096 .f32 :=
  mulf (mulf (rows x) (broadcastInDim S16x32x4096 ![0, 1, 2] bcast_S16x32x1_S16x32x4096_0_1_2 (scale (rows x)))) (broadcastInDim S16x32x4096 ![0, 1, 2] bcast_S1x1x4096_S16x32x4096_0_1_2 (broadcastInDim S1x1x4096 ![2] bcast_S4096_S1x1x4096_2 g))

theorem rows_at (x : FVec Ideal S16896x4096 .f32) (b : Fin 16) (t : Fin 32) (d : Fin 4096) :
    rows x (ix3 b t d) = x (ix2 ⟨16384 + (b.val * 32 + t.val), by omega⟩ d) := by
  pointwise [rows]

theorem result_at (x : FVec Ideal S16896x4096 .f32) (g : FVec Ideal S4096 .f32) (b : Fin 16) (t : Fin 32) (d : Fin 4096) :
    result x g (ix3 b t d) = Cert.Norm.row (fun k => x (ix2 ⟨16384 + (b.val * 32 + t.val), by omega⟩ k)) (fun k => g (ix1 k)) d := by
  have hr := fun k => rows_at x b t k
  unfold result scale Cert.Norm.row
  generalize rows x = z at hr ⊢
  simp only [← hr]
  pointwise

end Cert.YSampleRefIdeal.Norm
end
-- ==== Proof.YSample.Claims.lean ====
module

public import proofs.«01_k».proof.Defs
public import proofs.«01_k».proof.Proof.Gen.YSample.Frame
public import proofs.«01_k».proof.Proof.YSample.Value
public import proofs.«01_k».proof.Proof.YSample.Ref
public import Idealize.ShloMosaic.Lib.Claim
public import Idealize.ShloMosaic.Lib.Quiescent

/-! The claims about the final norm of the sample: the reference's frame, and the kernel's array is the reference's. -/

@[expose] public section

set_option maxRecDepth 16384

noncomputable section

namespace Cert.YSampleIdeal.Norm

open Cert.YSampleIdeal Cert.YSampleIdeal.Gen
open Idealize.ShloMosaic Idealize.ShloMosaic.TcCoe Idealize.SL.Sem

theorem frame_bits : Cert.quiescent_YSample := fun m g _ => Cert.YSample.Gen.frame m g

theorem frame_ideal : Cert.quiescent_YSampleIdeal := fun m g _ => Cert.YSampleIdeal.Gen.frame m g

theorem frame_ref : Cert.quiescent_YSampleRefIdeal := by
  intro m g _
  hlo_run
  · exact fun _ => ⟨trivial, trivial⟩
  exact sem_eq_zero_of_no_sems (sig := Cert.YSampleRefIdeal.sig) (by decide) _

/-- The kernel's rows by batch are the reference's result. -/
theorem final_eq (x : S16896x4096.Idx → EReal) (g : S4096.Idx → EReal) : byBatch (rows x g) = Cert.YSampleRefIdeal.Norm.result x g := by
  funext I
  obtain ⟨b, t, d, rfl⟩ : ∃ (b : Fin 16) (t : Fin 32) (d : Fin 4096), I = ix3 b t d := ⟨I 0, I 1, I 2, eq_ix3 I⟩
  exact (byBatch_at (rows x g) b t d).trans (Cert.YSampleRefIdeal.Norm.result_at x g b t d).symm

theorem algebraic : Cert.algebraic_YSampleIdeal_YSampleRefIdeal := by
  intro m g m' g' _ hagree
  refine ⟨fun c => byBatch (rows (m ((c : Thread nD τ).loc main_arg0)) (m ((c : Thread nD τ).loc main_arg1))), ?_, ?_⟩
  · refine (θ_run _ _ _).mono (fun r h c => ?_) (Cert.YSampleIdeal.Gen.run_main m g)
    exact ⟨((h c).2 main_v2 (Pipeline.mem_restRefs_of main_v2 (by decide) (by decide))).trans (after_v2 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩
  · refine (θ_run _ _ _).mono (fun r h c => ?_) (Cert.YSampleRefIdeal.Value.run (F := Ideal) m' g')
    obtain ⟨h0, h1⟩ := hagree c
    refine ⟨(h c).1.trans ?_, (h c).2⟩
    refine Eq.trans (b := Cert.YSampleRefIdeal.Norm.result (m' (c.tc.loc Cert.YSampleRefIdeal.main_arg0)) (m' (c.tc.loc Cert.YSampleRefIdeal.main_arg1))) rfl ?_
    rw [h0, h1]
    exact (final_eq _ _).symm

end Cert.YSampleIdeal.Norm
end
-- ==== Proof.lean ====
/- The claims of this certificate, each from the two programs' runs: the frames from the generated runs, and the equality of
   the results from the kernel's array (Proof.Fox.Point) and the reference's term (Proof.Fox.Ref), both read as the attention
   of Proof.Math.Attend. Those of the experts' products are in Proof.Moe.Gateup.Claims and Proof.Moe.Down.Claims,
   those of the dense products in Proof.Dense.Claims and Proof.DenseDown.Claims, those of the projections in Proof.ProjectAB.Claims,
   Proof.Out.Claims and, for each output of the odd layer's, in a module Claims of its own; so are those
   of the log gates and of the final norms. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Fox.Point
public import proofs.«01_k».proof.Proof.Fox.Ref
public import proofs.«01_k».proof.Proof.Fox.Finite
public import proofs.«01_k».proof.Proof.Moe.Gateup.Claims
public import proofs.«01_k».proof.Proof.Moe.Down.Claims
public import proofs.«01_k».proof.Proof.Dense.Claims
public import proofs.«01_k».proof.Proof.DenseDown.Claims
public import proofs.«01_k».proof.Proof.ProjectAB.Claims
public import proofs.«01_k».proof.Proof.Out.Claims
public import proofs.«01_k».proof.Proof.Queries.Claims
public import proofs.«01_k».proof.Proof.Keys.Claims
public import proofs.«01_k».proof.Proof.Values.Claims
public import proofs.«01_k».proof.Proof.KeysNew.Claims
public import proofs.«01_k».proof.Proof.ValuesNew.Claims
public import proofs.«01_k».proof.Proof.Logf.Claims
public import proofs.«01_k».proof.Proof.YPrompt.Claims
public import proofs.«01_k».proof.Proof.YSample.Claims
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_reference : Cert.quiescent_ReferenceIdeal := by
  intro m g _
  hlo_run
  · exact fun _ => ⟨trivial, trivial, trivial, trivial⟩
  exact sem_eq_zero_of_no_sems (sig := Cert.ReferenceIdeal.sig) (by decide) _

theorem preserves : Cert.preserves_Kernel_KernelIdeal :=
  IdealRules.named_const.statement Cert.KernelIdeal.κ "mask" .f32 0xF149F2CA#32 ⊥ (by simp [Cert.KernelIdeal.κ])

/-- The kernel's array is the reference's term: row by row the same attention, and zero below the rows of the sequences. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_out0 (F := Ideal) m' c = (Cert.KernelIdeal.Gen.dats m 0 c).arrAt 5 Cert.KernelIdeal.cfg0.N := by
  rw [Cert.KernelIdeal.Fox.out_eq m c (Cert.Fox.real_of_pre _ _ _ _ (hpre c))]
  funext I
  obtain ⟨R, C, rfl⟩ : ∃ (R : Fin 16896) (C : Fin 4096), I = ix2 R C := ⟨I 0, I 1, eq_ix2 I⟩
  by_cases h : R.val < 16384
  · have eR : R.val = 2048 * (R.val / 2048) + R.val % 2048 := by omega
    have eC : C.val = 128 * (C.val / 128) + C.val % 128 := by omega
    rw [Cert.ReferenceIdeal.Fox.res_low m' c R C ⟨R.val / 2048, by omega⟩ ⟨R.val % 2048, by omega⟩ ⟨C.val / 128, by omega⟩ ⟨C.val % 128, by omega⟩ eR eC,
      h0, h1, h2, h3]
    exact (Cert.KernelIdeal.Fox.result_low _ _ _ _ (ix2 R C) ⟨R.val / 2048, by omega⟩ ⟨R.val % 2048, by omega⟩ ⟨C.val / 128, by omega⟩ ⟨C.val % 128, by omega⟩ eR eC).symm
  · rw [Cert.ReferenceIdeal.Fox.res_high m' c R C (by omega)]
    exact (Cert.KernelIdeal.Fox.result_high _ _ _ _ (ix2 R C) (by show 16384 ≤ R.val; omega)).symm

theorem algebraic : Cert.algebraic_KernelIdeal_ReferenceIdeal_pre_finite := by
  intro m g m' g' hpre hagree
  refine ⟨fun c => (Cert.KernelIdeal.Gen.dats m 0 c).arrAt 5 Cert.KernelIdeal.cfg0.N, Cert.KernelIdeal.Value.run_blocks m g, ?_⟩
  refine (θ_run _ _ _).mono (fun r h c => ?_) (Cert.ReferenceIdeal.Value.run (F := Ideal) m' g')
  obtain ⟨h0, h1, h2, h3⟩ := hagree c
  exact ⟨(h c).1.trans (same m m' c hpre h0 h1 h2 h3), (h c).2⟩

theorem claim : Cert.Claim :=
  ⟨Cert.Kernel.Gen.facts, Cert.KernelIdeal.Gen.facts, Cert.ReferenceIdeal.Gen.facts,
    Cert.Gateup.Gen.facts, Cert.GateupIdeal.Gen.facts, Cert.GateupRefIdeal.Gen.facts,
    Cert.Down.Gen.facts, Cert.DownIdeal.Gen.facts, Cert.DownRefIdeal.Gen.facts,
    Cert.Dense.Gen.facts, Cert.DenseIdeal.Gen.facts, Cert.DenseRefIdeal.Gen.facts,
    Cert.DenseDown.Gen.facts, Cert.DenseDownIdeal.Gen.facts, Cert.DenseDownRefIdeal.Gen.facts,
    Cert.ProjectAB.Gen.facts, Cert.ProjectABIdeal.Gen.facts, Cert.ProjectABRefIdeal.Gen.facts,
    Cert.Out.Gen.facts, Cert.OutIdeal.Gen.facts, Cert.OutRefIdeal.Gen.facts,
    Cert.Queries.Gen.facts, Cert.QueriesIdeal.Gen.facts, Cert.QueriesRefIdeal.Gen.facts,
    Cert.Keys.Gen.facts, Cert.KeysIdeal.Gen.facts, Cert.KeysRefIdeal.Gen.facts,
    Cert.Values.Gen.facts, Cert.ValuesIdeal.Gen.facts, Cert.ValuesRefIdeal.Gen.facts,
    Cert.KeysNew.Gen.facts, Cert.KeysNewIdeal.Gen.facts, Cert.KeysNewRefIdeal.Gen.facts,
    Cert.ValuesNew.Gen.facts, Cert.ValuesNewIdeal.Gen.facts, Cert.ValuesNewRefIdeal.Gen.facts,
    Cert.Logf.Gen.facts, Cert.LogfIdeal.Gen.facts, Cert.LogfRefIdeal.Gen.facts,
    Cert.YPrompt.Gen.facts, Cert.YPromptIdeal.Gen.facts, Cert.YPromptRefIdeal.Gen.facts,
    Cert.YSample.Gen.facts, Cert.YSampleIdeal.Gen.facts, Cert.YSampleRefIdeal.Gen.facts,
    Cert.Fox.preFacts, Cert.Pre_tables.Gen.facts, Cert.Pre_tables_down.Gen.facts,
    fun m g _ => Cert.Kernel.Gen.frame m g, fun m g _ => Cert.KernelIdeal.Gen.frame m g, fun m g _ => Cert.KernelIdeal.Gen.frame m g,
    frame_reference, fun m g _ => frame_reference m g trivial,
    Cert.GateupIdeal.Moe.frame_bits, Cert.GateupIdeal.Moe.frame_ideal, Cert.GateupIdeal.Moe.frame_ref,
    fun m g _ => Cert.GateupIdeal.Moe.frame_ref m g trivial,
    Cert.DownIdeal.Moe.frame_bits, Cert.DownIdeal.Moe.frame_ideal, Cert.DownIdeal.Moe.frame_ref,
    fun m g _ => Cert.DownIdeal.Moe.frame_ref m g trivial,
    Cert.DenseIdeal.Ffn.frame_bits, Cert.DenseIdeal.Ffn.frame_ideal, Cert.DenseIdeal.Ffn.frame_ref,
    Cert.DenseDownIdeal.Ffn.frame_bits, Cert.DenseDownIdeal.Ffn.frame_ideal, Cert.DenseDownIdeal.Ffn.frame_ref,
    Cert.ProjectABIdeal.Projection.frame_bits, Cert.ProjectABIdeal.Projection.frame_ideal, Cert.ProjectABIdeal.Projection.frame_ref,
    Cert.OutIdeal.Projection.frame_bits, Cert.OutIdeal.Projection.frame_ideal, Cert.OutIdeal.Projection.frame_ref,
    Cert.QueriesIdeal.Projection.frame_bits, Cert.QueriesIdeal.Projection.frame_ideal, Cert.QueriesIdeal.Projection.frame_ref,
    Cert.KeysIdeal.Projection.frame_bits, Cert.KeysIdeal.Projection.frame_ideal, Cert.KeysIdeal.Projection.frame_ref,
    Cert.ValuesIdeal.Projection.frame_bits, Cert.ValuesIdeal.Projection.frame_ideal, Cert.ValuesIdeal.Projection.frame_ref,
    Cert.KeysNewIdeal.Projection.frame_bits, Cert.KeysNewIdeal.Projection.frame_ideal, Cert.KeysNewIdeal.Projection.frame_ref,
    Cert.ValuesNewIdeal.Projection.frame_bits, Cert.ValuesNewIdeal.Projection.frame_ideal, Cert.ValuesNewIdeal.Projection.frame_ref,
    Cert.LogfIdeal.Gates.frame_bits, Cert.LogfIdeal.Gates.frame_ideal, Cert.LogfIdeal.Gates.frame_ref,
    Cert.YPromptIdeal.Norm.frame_bits, Cert.YPromptIdeal.Norm.frame_ideal, Cert.YPromptIdeal.Norm.frame_ref,
    Cert.YSampleIdeal.Norm.frame_bits, Cert.YSampleIdeal.Norm.frame_ideal, Cert.YSampleIdeal.Norm.frame_ref,
    preserves, algebraic, trivial, Cert.GateupIdeal.Moe.algebraic, trivial, Cert.DownIdeal.Moe.algebraic,
    trivial, Cert.DenseIdeal.Ffn.algebraic, trivial, Cert.DenseDownIdeal.Ffn.algebraic,
    trivial, Cert.ProjectABIdeal.Projection.algebraic,
    trivial, Cert.OutIdeal.Projection.algebraic,
    trivial, Cert.QueriesIdeal.Projection.algebraic,
    trivial, Cert.KeysIdeal.Projection.algebraic,
    trivial, Cert.ValuesIdeal.Projection.algebraic,
    trivial, Cert.KeysNewIdeal.Projection.algebraic,
    trivial, Cert.ValuesNewIdeal.Projection.algebraic,
    trivial, Cert.LogfIdeal.Gates.algebraic,
    trivial, Cert.YPromptIdeal.Norm.algebraic,
    trivial, Cert.YSampleIdeal.Norm.algebraic⟩

end Cert.Proof

end
